-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "score_log2e" .f32 0x3E0293EE#32 (((Real.sqrt 128)⁻¹ * (Real.log 2)⁻¹ : ℝ) : EReal)

def preserves_Reference_ReferenceIdeal : Prop :=
  IdealRules.named_const.Statement Cert.ReferenceIdeal.κ "ln2" .f32 0x3F317218#32 ((Real.log 2 : ℝ) : EReal)
  ∧ IdealRules.named_const.Statement Cert.ReferenceIdeal.κ "score_scale" .f32 0x3DB504F3#32 (((Real.sqrt 128)⁻¹ : ℝ) : EReal)

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v17_1) = v1 c
          ∧ r.2.mem ((c.tc : Thread Cert.ReferenceIdeal.nD Cert.ReferenceIdeal.τ).loc Cert.ReferenceIdeal.main_v17_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_scales_nonneg : Cert.Pre_scales_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ quiescent_Reference (hReference := hReference)
    ∧ preserves_Kernel_KernelIdeal
    ∧ preserves_Reference_ReferenceIdeal
    ∧ algebraic_KernelIdeal_ReferenceIdeal_pre_scales_nonneg (hKernelIdeal := hKernelIdeal) (hReferenceIdeal := hReferenceIdeal) (hPre_scales_nonneg := hPre_scales_nonneg)
-- ==== Pre_scales_nonneg.lean ====
abbrev S2x896x5120 : Shape := ⟨3, ![2, 896, 5120]⟩
abbrev S2x8x128x896 : Shape := ⟨4, ![2, 8, 128, 896]⟩
abbrev S2x8x896 : Shape := ⟨3, ![2, 8, 896]⟩
abbrev S2x8x896x128 : Shape := ⟨4, ![2, 8, 896, 128]⟩
abbrev S40 : Shape := ⟨1, ![40]⟩
abbrev S_ : Shape := ⟨0, ![]⟩

class Facts : Prop where
  bcast_S_S2x8x896 : S_.BroadcastsInDim S2x8x896 (![] : Fin 0 → Fin S2x8x896.rank)

variable [Facts]

def fn {F : FTy → Type} [FloatOps F] (main_arg0 : FVec F S2x896x5120 .bf16) (main_arg1 : FVec F S2x8x128x896 .fp8e4m3) (main_arg2 : FVec F S2x8x896 .f32) (main_arg3 : FVec F S2x8x896x128 .fp8e4m3) (main_arg4 : FVec F S2x8x896 .f32) (main_arg5 : FVec F S40 .f32) : IVec S2x8x896 1 :=
  let main_cst : FVec F S_ .f32 := constant S_ .f32 0x00000000#32
  let main_v0 : FVec F S2x8x896 .f32 := broadcastInDim S2x8x896 ![] bcast_S_S2x8x896 main_cst
  let main_v1 : IVec S2x8x896 1 := cmpf .oge main_arg4 main_v0
  main_v1
-- ==== Kernel.lean ====
abbrev S2x896x5120 : Shape := ⟨3, ![2, 896, 5120]⟩
abbrev S2x8x128x896 : Shape := ⟨4, ![2, 8, 128, 896]⟩
abbrev S2x8x896 : Shape := ⟨3, ![2, 8, 896]⟩
abbrev S2x8x896x128 : Shape := ⟨4, ![2, 8, 896, 128]⟩
abbrev S40 : Shape := ⟨1, ![40]⟩
abbrev S2x40x896 : Shape := ⟨3, ![2, 40, 896]⟩
abbrev S1x128x5120 : Shape := ⟨3, ![1, 128, 5120]⟩
abbrev S1x8x128x896 : Shape := ⟨4, ![1, 8, 128, 896]⟩
abbrev S1x8x896 : Shape := ⟨3, ![1, 8, 896]⟩
abbrev S1x8x896x128 : Shape := ⟨4, ![1, 8, 896, 128]⟩
abbrev S1x40x128 : Shape := ⟨3, ![1, 40, 128]⟩
abbrev S8x896x128 : Shape := ⟨3, ![8, 896, 128]⟩
abbrev S8x128x896 : Shape := ⟨3, ![8, 128, 896]⟩
abbrev S5120x128 : Shape := ⟨2, ![5120, 128]⟩
abbrev S128x128 : Shape := ⟨2, ![128, 128]⟩
abbrev S1x1x128x128 : Shape := ⟨4, ![1, 1, 128, 128]⟩
abbrev S1x128x128 : Shape := ⟨3, ![1, 128, 128]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩
abbrev S40x128 : Shape := ⟨2, ![40, 128]⟩
abbrev S640x128 : Shape := ⟨2, ![640, 128]⟩
abbrev S128x640 : Shape := ⟨2, ![128, 640]⟩
abbrev S1 : Shape := ⟨1, ![1]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S256x640 : Shape := ⟨2, ![256, 640]⟩
abbrev S1x384x128 : Shape := ⟨3, ![1, 384, 128]⟩
abbrev S384x128 : Shape := ⟨2, ![384, 128]⟩
abbrev S1x128x384 : Shape := ⟨3, ![1, 128, 384]⟩
abbrev S128x384 : Shape := ⟨2, ![128, 384]⟩
abbrev S384x640 : Shape := ⟨2, ![384, 640]⟩
abbrev S1x512x128 : Shape := ⟨3, ![1, 512, 128]⟩
abbrev S512x128 : Shape := ⟨2, ![512, 128]⟩
abbrev S1x128x512 : Shape := ⟨3, ![1, 128, 512]⟩
abbrev S128x512 : Shape := ⟨2, ![128, 512]⟩
abbrev S512x640 : Shape := ⟨2, ![512, 640]⟩

abbrev nBuf : Space → Nat
  | .hbm => 9
  | .vmem => 22
  | .smem => 1
  | _ => 0

abbrev bufTy : (tb : Table) → Fin (tcTables nBuf tb) → BufTy
  | .hbm, ⟨0, _⟩ => ⟨S2x896x5120, .bf16⟩
  | .hbm, ⟨1, _⟩ => ⟨S2x8x128x896, .fp8e4m3⟩
  | .hbm, ⟨2, _⟩ => ⟨S2x8x896, .f32⟩
  | .hbm, ⟨3, _⟩ => ⟨S2x8x896x128, .fp8e4m3⟩
  | .hbm, ⟨4, _⟩ => ⟨S2x8x896, .f32⟩
  | .hbm, ⟨5, _⟩ => ⟨S40, .f32⟩
  | .hbm, ⟨6, _⟩ => ⟨S2x896x5120, .bf16⟩
  | .hbm, ⟨7, _⟩ => ⟨S2x896x5120, .fp8e4m3⟩
  | .hbm, ⟨8, _⟩ => ⟨S2x40x896, .f32⟩
  | .local _ .vmem, ⟨0, _⟩ => ⟨S1x128x5120, .bf16⟩
  | .local _ .vmem, ⟨1, _⟩ => ⟨S1x128x5120, .bf16⟩
  | .local _ .vmem, ⟨2, _⟩ => ⟨S1x8x128x896, .fp8e4m3⟩
  | .local _ .vmem, ⟨3, _⟩ => ⟨S1x8x128x896, .fp8e4m3⟩
  | .local _ .vmem, ⟨4, _⟩ => ⟨S1x8x896, .f32⟩
  | .local _ .vmem, ⟨5, _⟩ => ⟨S1x8x896, .f32⟩
  | .local _ .vmem, ⟨6, _⟩ => ⟨S1x8x896x128, .fp8e4m3⟩
  | .local _ .vmem, ⟨7, _⟩ => ⟨S1x8x896x128, .fp8e4m3⟩
  | .local _ .vmem, ⟨8, _⟩ => ⟨S1x8x896, .f32⟩
  | .local _ .vmem, ⟨9, _⟩ => ⟨S1x8x896, .f32⟩
  | .local _ .vmem, ⟨10, _⟩ => ⟨S1x128x5120, .bf16⟩
  | .local _ .vmem, ⟨11, _⟩ => ⟨S1x128x5120, .bf16⟩
  | .local _ .vmem, ⟨12, _⟩ => ⟨S1x128x5120, .fp8e4m3⟩
  | .local _ .vmem, ⟨13, _⟩ => ⟨S1x128x5120, .fp8e4m3⟩
  | .local _ .vmem, ⟨14, _⟩ => ⟨S1x40x128, .f32⟩
  | .local _ .vmem, ⟨15, _⟩ => ⟨S1x40x128, .f32⟩
  | .local _ .vmem, ⟨16, _⟩ => ⟨S8x896x128, .fp8e4m3⟩
  | .local _ .vmem, ⟨17, _⟩ => ⟨S8x128x896, .fp8e4m3⟩
  | .local _ .vmem, ⟨18, _⟩ => ⟨S8x896x128, .f32⟩
  | .local _ .vmem, ⟨19, _⟩ => ⟨S8x896x128, .f32⟩
  | .local _ .vmem, ⟨20, _⟩ => ⟨S5120x128, .fp8e4m3⟩
  | .local _ .vmem, ⟨21, _⟩ => ⟨S128x128, .f32⟩
  | .local _ .smem, ⟨0, _⟩ => ⟨S40, .f32⟩
  | _, _ => ⟨S2x896x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 7], ![false, false]⟩

def k0_cond2 (i : grid0.Coords) : BitVec 1 :=
  let arg1 : BitVec 32 := BitVec.ofNat 32 (i 1).val
  let c0_i32_776 : BitVec 32 := 0#32
  let v2123 : BitVec 1 := Scalar.cmpi .eq arg1 c0_i32_776
  let v2124 : BitVec 32 := Scalar.extui v2123
  let c0_i32_777 : BitVec 32 := 0#32
  let v2125 : BitVec 1 := Scalar.cmpi .ne v2124 c0_i32_777
  v2125

@[reducible] def k0_t1_loop : Scf.Loop 32 :=
  let c0_i32_784 : BitVec 32 := 0#32
  let c8_i32_785 : BitVec 32 := 8#32
  let v2135 : BitVec 32 := Scalar.addi c0_i32_784 c8_i32_785
  let c1_i32_786 : BitVec 32 := 1#32
  ⟨c0_i32_784, v2135, c1_i32_786⟩
def k0_off1 (k0_t1 : Fin k0_t1_loop.trips) : Fin 3 → Nat :=
  let c0_i32_784 : BitVec 32 := 0#32
  let c1_i32_786 : BitVec 32 := 1#32
  let arg17 : BitVec 32 := Scf.iv c0_i32_784 c1_i32_786 k0_t1
  let v2136 : Index := Scalar.indexCast arg17
  let c0_788 : Index := 0#32
  let c0_789 : Index := 0#32
  ![v2136.toNat, 0, 0]
def k0_off2 (k0_t1 : Fin k0_t1_loop.trips) : Fin 3 → Nat :=
  let c0_i32_784 : BitVec 32 := 0#32
  let c1_i32_786 : BitVec 32 := 1#32
  let arg17 : BitVec 32 := Scf.iv c0_i32_784 c1_i32_786 k0_t1
  let v2139 : Index := Scalar.indexCast arg17
  let c0_790 : Index := 0#32
  let c0_791 : Index := 0#32
  ![v2139.toNat, 0, 0]
def k0_off3 (k0_t1 : Fin k0_t1_loop.trips) : Fin 2 → Nat :=
  let c0_i32_784 : BitVec 32 := 0#32
  let c1_i32_786 : BitVec 32 := 1#32
  let arg17 : BitVec 32 := Scf.iv c0_i32_784 c1_i32_786 k0_t1
  let c640_i32 : BitVec 32 := 640#32
  let v2148 : BitVec 32 := Scalar.muli arg17 c640_i32
  let v2149 : Index := Scalar.indexCast v2148
  let c0_796 : Index := 0#32
  ![v2149.toNat, 0]
def k0_off4 (k0_t1 : Fin k0_t1_loop.trips) (c0_i32_799 : BitVec 32) : Fin 2 → Nat :=
  let c0_i32_784 : BitVec 32 := 0#32
  let c1_i32_786 : BitVec 32 := 1#32
  let arg17 : BitVec 32 := Scf.iv c0_i32_784 c1_i32_786 k0_t1
  let c5_i32_798 : BitVec 32 := 5#32
  let v2152 : BitVec 32 := Scalar.muli arg17 c5_i32_798
  let v2153 : BitVec 32 := Scalar.addi v2152 c0_i32_799
  let v2158 : Index := Scalar.indexCast v2153
  let c0_801 : Index := 0#32
  ![v2158.toNat, 0]
def k0_off5 (k0_t1 : Fin k0_t1_loop.trips) (c0_i32_799 : BitVec 32) : Fin 1 → Nat :=
  let c0_i32_784 : BitVec 32 := 0#32
  let c1_i32_786 : BitVec 32 := 1#32
  let arg17 : BitVec 32 := Scf.iv c0_i32_784 c1_i32_786 k0_t1
  let c5_i32_798 : BitVec 32 := 5#32
  let v2152 : BitVec 32 := Scalar.muli arg17 c5_i32_798
  let v2153 : BitVec 32 := Scalar.addi v2152 c0_i32_799
  let v2160 : Index := Scalar.indexCast v2153
  ![v2160.toNat]
def k0_mult1 (k0_t1 : Fin k0_t1_loop.trips) : BitVec 32 :=
  let c0_i32_784 : BitVec 32 := 0#32
  let c1_i32_786 : BitVec 32 := 1#32
  let arg17 : BitVec 32 := Scf.iv c0_i32_784 c1_i32_786 k0_t1
  let c5_i32_899 : BitVec 32 := 5#32
  let v2494 : BitVec 32 := Scalar.muli arg17 c5_i32_899
  let c0_i32_900 : BitVec 32 := 0#32
  let v2495 : BitVec 32 := Scalar.addi v2494 c0_i32_900
  let c128_i32 : BitVec 32 := 128#32
  let v2496 : BitVec 32 := Scalar.muli v2495 c128_i32
  v2496
def k0_off6 (k0_t1 : Fin k0_t1_loop.trips) (c0_i32_900 : BitVec 32) : Fin 3 → Nat :=
  let c0_901 : Index := 0#32
  let c0_902 : Index := 0#32
  let c0_i32_784 : BitVec 32 := 0#32
  let c1_i32_786 : BitVec 32 := 1#32
  let arg17 : BitVec 32 := Scf.iv c0_i32_784 c1_i32_786 k0_t1
  let c5_i32_899 : BitVec 32 := 5#32
  let v2494 : BitVec 32 := Scalar.muli arg17 c5_i32_899
  let v2495 : BitVec 32 := Scalar.addi v2494 c0_i32_900
  let c128_i32 : BitVec 32 := 128#32
  let v2496 : BitVec 32 := Scalar.muli v2495 c128_i32
  let v2497 : BitVec 32 := v2496
  let v2498 : Index := Scalar.indexCast v2497
  ![0, 0, v2498.toNat]
def k0_mult2 (k0_t1 : Fin k0_t1_loop.trips) : BitVec 32 :=
  let c0_i32_784 : BitVec 32 := 0#32
  let c1_i32_786 : BitVec 32 := 1#32
  let arg17 : BitVec 32 := Scf.iv c0_i32_784 c1_i32_786 k0_t1
  let c5_i32_903 : BitVec 32 := 5#32
  let v2507 : BitVec 32 := Scalar.muli arg17 c5_i32_903
  let c1_i32_904 : BitVec 32 := 1#32
  let v2508 : BitVec 32 := Scalar.addi v2507 c1_i32_904
  let c128_i32_905 : BitVec 32 := 128#32
  let v2509 : BitVec 32 := Scalar.muli v2508 c128_i32_905
  v2509
def k0_mult3 (k0_t1 : Fin k0_t1_loop.trips) : BitVec 32 :=
  let c0_i32_784 : BitVec 32 := 0#32
  let c1_i32_786 : BitVec 32 := 1#32
  let arg17 : BitVec 32 := Scf.iv c0_i32_784 c1_i32_786 k0_t1
  let c5_i32_908 : BitVec 32 := 5#32
  let v2520 : BitVec 32 := Scalar.muli arg17 c5_i32_908
  let c2_i32_909 : BitVec 32 := 2#32
  let v2521 : BitVec 32 := Scalar.addi v2520 c2_i32_909
  let c128_i32_910 : BitVec 32 := 128#32
  let v2522 : BitVec 32 := Scalar.muli v2521 c128_i32_910
  v2522
def k0_mult4 (k0_t1 : Fin k0_t1_loop.trips) : BitVec 32 :=
  let c0_i32_784 : BitVec 32 := 0#32
  let c1_i32_786 : BitVec 32 := 1#32
  let arg17 : BitVec 32 := Scf.iv c0_i32_784 c1_i32_786 k0_t1
  let c5_i32_913 : BitVec 32 := 5#32
  let v2533 : BitVec 32 := Scalar.muli arg17 c5_i32_913
  let c3_i32_914 : BitVec 32 := 3#32
  let v2534 : BitVec 32 := Scalar.addi v2533 c3_i32_914
  let c128_i32_915 : BitVec 32 := 128#32
  let v2535 : BitVec 32 := Scalar.muli v2534 c128_i32_915
  v2535
def k0_mult5 (k0_t1 : Fin k0_t1_loop.trips) : BitVec 32 :=
  let c0_i32_784 : BitVec 32 := 0#32
  let c1_i32_786 : BitVec 32 := 1#32
  let arg17 : BitVec 32 := Scf.iv c0_i32_784 c1_i32_786 k0_t1
  let c5_i32_918 : BitVec 32 := 5#32
  let v2546 : BitVec 32 := Scalar.muli arg17 c5_i32_918
  let c4_i32_919 : BitVec 32 := 4#32
  let v2547 : BitVec 32 := Scalar.addi v2546 c4_i32_919
  let c128_i32_920 : BitVec 32 := 128#32
  let v2548 : BitVec 32 := Scalar.muli v2547 c128_i32_920
  v2548
def k0_cond3 (i : grid0.Coords) : BitVec 1 :=
  let arg1 : BitVec 32 := BitVec.ofNat 32 (i 1).val
  let c1_i32_778 : BitVec 32 := 1#32
  let v2126 : BitVec 1 := Scalar.cmpi .eq arg1 c1_i32_778
  let v2127 : BitVec 32 := Scalar.extui v2126
  let c0_i32_779 : BitVec 32 := 0#32
  let v2128 : BitVec 1 := Scalar.cmpi .ne v2127 c0_i32_779
  v2128

@[reducible] def k0_t2_loop : Scf.Loop 32 :=
  let c0_i32_784 : BitVec 32 := 0#32
  let c8_i32_785 : BitVec 32 := 8#32
  let v2135 : BitVec 32 := Scalar.addi c0_i32_784 c8_i32_785
  let c1_i32_786 : BitVec 32 := 1#32
  ⟨c0_i32_784, v2135, c1_i32_786⟩
def k0_off7 (k0_t2 : Fin k0_t2_loop.trips) : Fin 3 → Nat :=
  let c0_i32_784 : BitVec 32 := 0#32
  let c1_i32_786 : BitVec 32 := 1#32
  let arg17 : BitVec 32 := Scf.iv c0_i32_784 c1_i32_786 k0_t2
  let v2136 : Index := Scalar.indexCast arg17
  let c0_788 : Index := 0#32
  let c0_789 : Index := 0#32
  ![v2136.toNat, 0, 0]
def k0_off8 (k0_t2 : Fin k0_t2_loop.trips) : Fin 3 → Nat :=
  let c0_i32_784 : BitVec 32 := 0#32
  let c1_i32_786 : BitVec 32 := 1#32
  let arg17 : BitVec 32 := Scf.iv c0_i32_784 c1_i32_786 k0_t2
  let v2139 : Index := Scalar.indexCast arg17
  let c0_790 : Index := 0#32
  let c0_791 : Index := 0#32
  ![v2139.toNat, 0, 0]
def k0_off9 (k0_t2 : Fin k0_t2_loop.trips) : Fin 2 → Nat :=
  let c0_i32_784 : BitVec 32 := 0#32
  let c1_i32_786 : BitVec 32 := 1#32
  let arg17 : BitVec 32 := Scf.iv c0_i32_784 c1_i32_786 k0_t2
  let c640_i32 : BitVec 32 := 640#32
  let v2148 : BitVec 32 := Scalar.muli arg17 c640_i32
  let v2149 : Index := Scalar.indexCast v2148
  let c0_796 : Index := 0#32
  ![v2149.toNat, 0]
def k0_off10 (k0_t2 : Fin k0_t2_loop.trips) (c0_i32_799 : BitVec 32) : Fin 2 → Nat :=
  let c0_i32_784 : BitVec 32 := 0#32
  let c1_i32_786 : BitVec 32 := 1#32
  let arg17 : BitVec 32 := Scf.iv c0_i32_784 c1_i32_786 k0_t2
  let c5_i32_798 : BitVec 32 := 5#32
  let v2152 : BitVec 32 := Scalar.muli arg17 c5_i32_798
  let v2153 : BitVec 32 := Scalar.addi v2152 c0_i32_799
  let v2161 : Index := Scalar.indexCast v2153
  let c0_801 : Index := 0#32
  ![v2161.toNat, 0]
def k0_off11 (k0_t2 : Fin k0_t2_loop.trips) (c0_i32_799 : BitVec 32) : Fin 1 → Nat :=
  let c0_i32_784 : BitVec 32 := 0#32
  let c1_i32_786 : BitVec 32 := 1#32
  let arg17 : BitVec 32 := Scf.iv c0_i32_784 c1_i32_786 k0_t2
  let c5_i32_798 : BitVec 32 := 5#32
  let v2152 : BitVec 32 := Scalar.muli arg17 c5_i32_798
  let v2153 : BitVec 32 := Scalar.addi v2152 c0_i32_799
  let v2163 : Index := Scalar.indexCast v2153
  ![v2163.toNat]
def k0_mult6 (k0_t2 : Fin k0_t2_loop.trips) : BitVec 32 :=
  let c0_i32_784 : BitVec 32 := 0#32
  let c1_i32_786 : BitVec 32 := 1#32
  let arg17 : BitVec 32 := Scf.iv c0_i32_784 c1_i32_786 k0_t2
  let c5_i32_899 : BitVec 32 := 5#32
  let v2509 : BitVec 32 := Scalar.muli arg17 c5_i32_899
  let c0_i32_900 : BitVec 32 := 0#32
  let v2510 : BitVec 32 := Scalar.addi v2509 c0_i32_900
  let c128_i32 : BitVec 32 := 128#32
  let v2511 : BitVec 32 := Scalar.muli v2510 c128_i32
  v2511
def k0_off12 (k0_t2 : Fin k0_t2_loop.trips) (c0_i32_900 : BitVec 32) : Fin 3 → Nat :=
  let c0_901 : Index := 0#32
  let c0_902 : Index := 0#32
  let c0_i32_784 : BitVec 32 := 0#32
  let c1_i32_786 : BitVec 32 := 1#32
  let arg17 : BitVec 32 := Scf.iv c0_i32_784 c1_i32_786 k0_t2
  let c5_i32_899 : BitVec 32 := 5#32
  let v2509 : BitVec 32 := Scalar.muli arg17 c5_i32_899
  let v2510 : BitVec 32 := Scalar.addi v2509 c0_i32_900
  let c128_i32 : BitVec 32 := 128#32
  let v2511 : BitVec 32 := Scalar.muli v2510 c128_i32
  let v2512 : BitVec 32 := v2511
  let v2513 : Index := Scalar.indexCast v2512
  ![0, 0, v2513.toNat]
def k0_mult7 (k0_t2 : Fin k0_t2_loop.trips) : BitVec 32 :=
  let c0_i32_784 : BitVec 32 := 0#32
  let c1_i32_786 : BitVec 32 := 1#32
  let arg17 : BitVec 32 := Scf.iv c0_i32_784 c1_i32_786 k0_t2
  let c5_i32_903 : BitVec 32 := 5#32
  let v2522 : BitVec 32 := Scalar.muli arg17 c5_i32_903
  let c1_i32_904 : BitVec 32 := 1#32
  let v2523 : BitVec 32 := Scalar.addi v2522 c1_i32_904
  let c128_i32_905 : BitVec 32 := 128#32
  let v2524 : BitVec 32 := Scalar.muli v2523 c128_i32_905
  v2524
def k0_mult8 (k0_t2 : Fin k0_t2_loop.trips) : BitVec 32 :=
  let c0_i32_784 : BitVec 32 := 0#32
  let c1_i32_786 : BitVec 32 := 1#32
  let arg17 : BitVec 32 := Scf.iv c0_i32_784 c1_i32_786 k0_t2
  let c5_i32_908 : BitVec 32 := 5#32
  let v2535 : BitVec 32 := Scalar.muli arg17 c5_i32_908
  let c2_i32_909 : BitVec 32 := 2#32
  let v2536 : BitVec 32 := Scalar.addi v2535 c2_i32_909
  let c128_i32_910 : BitVec 32 := 128#32
  let v2537 : BitVec 32 := Scalar.muli v2536 c128_i32_910
  v2537
def k0_mult9 (k0_t2 : Fin k0_t2_loop.trips) : BitVec 32 :=
  let c0_i32_784 : BitVec 32 := 0#32
  let c1_i32_786 : BitVec 32 := 1#32
  let arg17 : BitVec 32 := Scf.iv c0_i32_784 c1_i32_786 k0_t2
  let c5_i32_913 : BitVec 32 := 5#32
  let v2548 : BitVec 32 := Scalar.muli arg17 c5_i32_913
  let c3_i32_914 : BitVec 32 := 3#32
  let v2549 : BitVec 32 := Scalar.addi v2548 c3_i32_914
  let c128_i32_915 : BitVec 32 := 128#32
  let v2550 : BitVec 32 := Scalar.muli v2549 c128_i32_915
  v2550
def k0_mult10 (k0_t2 : Fin k0_t2_loop.trips) : BitVec 32 :=
  let c0_i32_784 : BitVec 32 := 0#32
  let c1_i32_786 : BitVec 32 := 1#32
  let arg17 : BitVec 32 := Scf.iv c0_i32_784 c1_i32_786 k0_t2
  let c5_i32_918 : BitVec 32 := 5#32
  let v2561 : BitVec 32 := Scalar.muli arg17 c5_i32_918
  let c4_i32_919 : BitVec 32 := 4#32
  let v2562 : BitVec 32 := Scalar.addi v2561 c4_i32_919
  let c128_i32_920 : BitVec 32 := 128#32
  let v2563 : BitVec 32 := Scalar.muli v2562 c128_i32_920
  v2563
def k0_cond4 (i : grid0.Coords) : BitVec 1 :=
  let arg1 : BitVec 32 := BitVec.ofNat 32 (i 1).val
  let c2_i32_780 : BitVec 32 := 2#32
  let v2129 : BitVec 1 := Scalar.cmpi .eq arg1 c2_i32_780
  let v2130 : BitVec 32 := Scalar.extui v2129
  let c0_i32_781 : BitVec 32 := 0#32
  let v2131 : BitVec 1 := Scalar.cmpi .ne v2130 c0_i32_781
  v2131

@[reducible] def k0_t3_loop : Scf.Loop 32 :=
  let c0_i32_784 : BitVec 32 := 0#32
  let c8_i32_785 : BitVec 32 := 8#32
  let v2135 : BitVec 32 := Scalar.addi c0_i32_784 c8_i32_785
  let c1_i32_786 : BitVec 32 := 1#32
  ⟨c0_i32_784, v2135, c1_i32_786⟩
def k0_off13 (k0_t3 : Fin k0_t3_loop.trips) : Fin 3 → Nat :=
  let c0_i32_784 : BitVec 32 := 0#32
  let c1_i32_786 : BitVec 32 := 1#32
  let arg17 : BitVec 32 := Scf.iv c0_i32_784 c1_i32_786 k0_t3
  let v2136 : Index := Scalar.indexCast arg17
  let c0_788 : Index := 0#32
  let c0_789 : Index := 0#32
  ![v2136.toNat, 0, 0]
def k0_off14 (k0_t3 : Fin k0_t3_loop.trips) : Fin 3 → Nat :=
  let c0_i32_784 : BitVec 32 := 0#32
  let c1_i32_786 : BitVec 32 := 1#32
  let arg17 : BitVec 32 := Scf.iv c0_i32_784 c1_i32_786 k0_t3
  let v2139 : Index := Scalar.indexCast arg17
  let c0_790 : Index := 0#32
  let c0_791 : Index := 0#32
  ![v2139.toNat, 0, 0]
def k0_off15 (k0_t3 : Fin k0_t3_loop.trips) : Fin 2 → Nat :=
  let c0_i32_784 : BitVec 32 := 0#32
  let c1_i32_786 : BitVec 32 := 1#32
  let arg17 : BitVec 32 := Scf.iv c0_i32_784 c1_i32_786 k0_t3
  let c640_i32 : BitVec 32 := 640#32
  let v2148 : BitVec 32 := Scalar.muli arg17 c640_i32
  let v2149 : Index := Scalar.indexCast v2148
  let c0_796 : Index := 0#32
  ![v2149.toNat, 0]
def k0_off16 (k0_t3 : Fin k0_t3_loop.trips) (c0_i32_799 : BitVec 32) : Fin 2 → Nat :=
  let c0_i32_784 : BitVec 32 := 0#32
  let c1_i32_786 : BitVec 32 := 1#32
  let arg17 : BitVec 32 := Scf.iv c0_i32_784 c1_i32_786 k0_t3
  let c5_i32_798 : BitVec 32 := 5#32
  let v2152 : BitVec 32 := Scalar.muli arg17 c5_i32_798
  let v2153 : BitVec 32 := Scalar.addi v2152 c0_i32_799
  let v2161 : Index := Scalar.indexCast v2153
  let c0_801 : Index := 0#32
  ![v2161.toNat, 0]
def k0_off17 (k0_t3 : Fin k0_t3_loop.trips) (c0_i32_799 : BitVec 32) : Fin 1 → Nat :=
  let c0_i32_784 : BitVec 32 := 0#32
  let c1_i32_786 : BitVec 32 := 1#32
  let arg17 : BitVec 32 := Scf.iv c0_i32_784 c1_i32_786 k0_t3
  let c5_i32_798 : BitVec 32 := 5#32
  let v2152 : BitVec 32 := Scalar.muli arg17 c5_i32_798
  let v2153 : BitVec 32 := Scalar.addi v2152 c0_i32_799
  let v2163 : Index := Scalar.indexCast v2153
  ![v2163.toNat]
def k0_mult11 (k0_t3 : Fin k0_t3_loop.trips) : BitVec 32 :=
  let c0_i32_784 : BitVec 32 := 0#32
  let c1_i32_786 : BitVec 32 := 1#32
  let arg17 : BitVec 32 := Scf.iv c0_i32_784 c1_i32_786 k0_t3
  let c5_i32_899 : BitVec 32 := 5#32
  let v2509 : BitVec 32 := Scalar.muli arg17 c5_i32_899
  let c0_i32_900 : BitVec 32 := 0#32
  let v2510 : BitVec 32 := Scalar.addi v2509 c0_i32_900
  let c128_i32 : BitVec 32 := 128#32
  let v2511 : BitVec 32 := Scalar.muli v2510 c128_i32
  v2511
def k0_off18 (k0_t3 : Fin k0_t3_loop.trips) (c0_i32_900 : BitVec 32) : Fin 3 → Nat :=
  let c0_901 : Index := 0#32
  let c0_902 : Index := 0#32
  let c0_i32_784 : BitVec 32 := 0#32
  let c1_i32_786 : BitVec 32 := 1#32
  let arg17 : BitVec 32 := Scf.iv c0_i32_784 c1_i32_786 k0_t3
  let c5_i32_899 : BitVec 32 := 5#32
  let v2509 : BitVec 32 := Scalar.muli arg17 c5_i32_899
  let v2510 : BitVec 32 := Scalar.addi v2509 c0_i32_900
  let c128_i32 : BitVec 32 := 128#32
  let v2511 : BitVec 32 := Scalar.muli v2510 c128_i32
  let v2512 : BitVec 32 := v2511
  let v2513 : Index := Scalar.indexCast v2512
  ![0, 0, v2513.toNat]
def k0_mult12 (k0_t3 : Fin k0_t3_loop.trips) : BitVec 32 :=
  let c0_i32_784 : BitVec 32 := 0#32
  let c1_i32_786 : BitVec 32 := 1#32
  let arg17 : BitVec 32 := Scf.iv c0_i32_784 c1_i32_786 k0_t3
  let c5_i32_903 : BitVec 32 := 5#32
  let v2522 : BitVec 32 := Scalar.muli arg17 c5_i32_903
  let c1_i32_904 : BitVec 32 := 1#32
  let v2523 : BitVec 32 := Scalar.addi v2522 c1_i32_904
  let c128_i32_905 : BitVec 32 := 128#32
  let v2524 : BitVec 32 := Scalar.muli v2523 c128_i32_905
  v2524
def k0_mult13 (k0_t3 : Fin k0_t3_loop.trips) : BitVec 32 :=
  let c0_i32_784 : BitVec 32 := 0#32
  let c1_i32_786 : BitVec 32 := 1#32
  let arg17 : BitVec 32 := Scf.iv c0_i32_784 c1_i32_786 k0_t3
  let c5_i32_908 : BitVec 32 := 5#32
  let v2535 : BitVec 32 := Scalar.muli arg17 c5_i32_908
  let c2_i32_909 : BitVec 32 := 2#32
  let v2536 : BitVec 32 := Scalar.addi v2535 c2_i32_909
  let c128_i32_910 : BitVec 32 := 128#32
  let v2537 : BitVec 32 := Scalar.muli v2536 c128_i32_910
  v2537
def k0_mult14 (k0_t3 : Fin k0_t3_loop.trips) : BitVec 32 :=
  let c0_i32_784 : BitVec 32 := 0#32
  let c1_i32_786 : BitVec 32 := 1#32
  let arg17 : BitVec 32 := Scf.iv c0_i32_784 c1_i32_786 k0_t3
  let c5_i32_913 : BitVec 32 := 5#32
  let v2548 : BitVec 32 := Scalar.muli arg17 c5_i32_913
  let c3_i32_914 : BitVec 32 := 3#32
  let v2549 : BitVec 32 := Scalar.addi v2548 c3_i32_914
  let c128_i32_915 : BitVec 32 := 128#32
  let v2550 : BitVec 32 := Scalar.muli v2549 c128_i32_915
  v2550
def k0_mult15 (k0_t3 : Fin k0_t3_loop.trips) : BitVec 32 :=
  let c0_i32_784 : BitVec 32 := 0#32
  let c1_i32_786 : BitVec 32 := 1#32
  let arg17 : BitVec 32 := Scf.iv c0_i32_784 c1_i32_786 k0_t3
  let c5_i32_918 : BitVec 32 := 5#32
  let v2561 : BitVec 32 := Scalar.muli arg17 c5_i32_918
  let c4_i32_919 : BitVec 32 := 4#32
  let v2562 : BitVec 32 := Scalar.addi v2561 c4_i32_919
  let c128_i32_920 : BitVec 32 := 128#32
  let v2563 : BitVec 32 := Scalar.muli v2562 c128_i32_920
  v2563
def k0_cond5 (i : grid0.Coords) : BitVec 1 :=
  let arg1 : BitVec 32 := BitVec.ofNat 32 (i 1).val
  let c3_i32_782 : BitVec 32 := 3#32
  let v2132 : BitVec 1 := Scalar.cmpi .sge arg1 c3_i32_782
  let v2133 : BitVec 32 := Scalar.extui v2132
  let c0_i32_783 : BitVec 32 := 0#32
  let v2134 : BitVec 1 := Scalar.cmpi .ne v2133 c0_i32_783
  v2134

def k0_mult16 (i : grid0.Coords) : BitVec 32 :=
  let arg1 : BitVec 32 := BitVec.ofNat 32 (i 1).val
  let c3_i32_784 : BitVec 32 := 3#32
  let v2135 : BitVec 32 := Scalar.subi arg1 c3_i32_784
  let c128_i32 : BitVec 32 := 128#32
  let v2136 : BitVec 32 := Scalar.muli v2135 c128_i32
  v2136
@[reducible] def k0_t4_loop : Scf.Loop 32 :=
  let c0_i32_785 : BitVec 32 := 0#32
  let c8_i32_786 : BitVec 32 := 8#32
  let v2138 : BitVec 32 := Scalar.addi c0_i32_785 c8_i32_786
  let c1_i32_787 : BitVec 32 := 1#32
  ⟨c0_i32_785, v2138, c1_i32_787⟩
def k0_off19 (i : grid0.Coords) (k0_t4 : Fin k0_t4_loop.trips) : Fin 3 → Nat :=
  let c0_i32_785 : BitVec 32 := 0#32
  let c1_i32_787 : BitVec 32 := 1#32
  let arg17 : BitVec 32 := Scf.iv c0_i32_785 c1_i32_787 k0_t4
  let v2139 : Index := Scalar.indexCast arg17
  let arg1 : BitVec 32 := BitVec.ofNat 32 (i 1).val
  let c3_i32_784 : BitVec 32 := 3#32
  let v2135 : BitVec 32 := Scalar.subi arg1 c3_i32_784
  let c128_i32 : BitVec 32 := 128#32
  let v2136 : BitVec 32 := Scalar.muli v2135 c128_i32
  let v2137 : BitVec 32 := v2136
  let v2140 : Index := Scalar.indexCast v2137
  let c0_789 : Index := 0#32
  ![v2139.toNat, v2140.toNat, 0]
def k0_off20 (i : grid0.Coords) (k0_t4 : Fin k0_t4_loop.trips) : Fin 3 → Nat :=
  let c0_i32_785 : BitVec 32 := 0#32
  let c1_i32_787 : BitVec 32 := 1#32
  let arg17 : BitVec 32 := Scf.iv c0_i32_785 c1_i32_787 k0_t4
  let v2143 : Index := Scalar.indexCast arg17
  let c0_790 : Index := 0#32
  let arg1 : BitVec 32 := BitVec.ofNat 32 (i 1).val
  let c3_i32_784 : BitVec 32 := 3#32
  let v2135 : BitVec 32 := Scalar.subi arg1 c3_i32_784
  let c128_i32 : BitVec 32 := 128#32
  let v2136 : BitVec 32 := Scalar.muli v2135 c128_i32
  let v2137 : BitVec 32 := v2136
  let v2144 : Index := Scalar.indexCast v2137
  ![v2143.toNat, 0, v2144.toNat]
def k0_off21 (k0_t4 : Fin k0_t4_loop.trips) : Fin 2 → Nat :=
  let c0_i32_785 : BitVec 32 := 0#32
  let c1_i32_787 : BitVec 32 := 1#32
  let arg17 : BitVec 32 := Scf.iv c0_i32_785 c1_i32_787 k0_t4
  let c640_i32 : BitVec 32 := 640#32
  let v2165 : BitVec 32 := Scalar.muli arg17 c640_i32
  let v2166 : Index := Scalar.indexCast v2165
  let c0_793 : Index := 0#32
  ![v2166.toNat, 0]
def k0_off22 (k0_t4 : Fin k0_t4_loop.trips) (c0_i32_796 : BitVec 32) : Fin 2 → Nat :=
  let c0_i32_785 : BitVec 32 := 0#32
  let c1_i32_787 : BitVec 32 := 1#32
  let arg17 : BitVec 32 := Scf.iv c0_i32_785 c1_i32_787 k0_t4
  let c5_i32_795 : BitVec 32 := 5#32
  let v2169 : BitVec 32 := Scalar.muli arg17 c5_i32_795
  let v2170 : BitVec 32 := Scalar.addi v2169 c0_i32_796
  let v2178 : Index := Scalar.indexCast v2170
  let c0_797 : Index := 0#32
  ![v2178.toNat, 0]
def k0_off23 (k0_t4 : Fin k0_t4_loop.trips) (c0_i32_796 : BitVec 32) : Fin 1 → Nat :=
  let c0_i32_785 : BitVec 32 := 0#32
  let c1_i32_787 : BitVec 32 := 1#32
  let arg17 : BitVec 32 := Scf.iv c0_i32_785 c1_i32_787 k0_t4
  let c5_i32_795 : BitVec 32 := 5#32
  let v2169 : BitVec 32 := Scalar.muli arg17 c5_i32_795
  let v2170 : BitVec 32 := Scalar.addi v2169 c0_i32_796
  let v2180 : Index := Scalar.indexCast v2170
  ![v2180.toNat]
def k0_mult17 (k0_t4 : Fin k0_t4_loop.trips) : BitVec 32 :=
  let c0_i32_785 : BitVec 32 := 0#32
  let c1_i32_787 : BitVec 32 := 1#32
  let arg17 : BitVec 32 := Scf.iv c0_i32_785 c1_i32_787 k0_t4
  let c5_i32_901 : BitVec 32 := 5#32
  let v2561 : BitVec 32 := Scalar.muli arg17 c5_i32_901
  let c0_i32_902 : BitVec 32 := 0#32
  let v2562 : BitVec 32 := Scalar.addi v2561 c0_i32_902
  let c128_i32_903 : BitVec 32 := 128#32
  let v2563 : BitVec 32 := Scalar.muli v2562 c128_i32_903
  v2563
def k0_off24 (k0_t4 : Fin k0_t4_loop.trips) (c0_i32_902 : BitVec 32) : Fin 3 → Nat :=
  let c0_904 : Index := 0#32
  let c0_905 : Index := 0#32
  let c0_i32_785 : BitVec 32 := 0#32
  let c1_i32_787 : BitVec 32 := 1#32
  let arg17 : BitVec 32 := Scf.iv c0_i32_785 c1_i32_787 k0_t4
  let c5_i32_901 : BitVec 32 := 5#32
  let v2561 : BitVec 32 := Scalar.muli arg17 c5_i32_901
  let v2562 : BitVec 32 := Scalar.addi v2561 c0_i32_902
  let c128_i32_903 : BitVec 32 := 128#32
  let v2563 : BitVec 32 := Scalar.muli v2562 c128_i32_903
  let v2564 : BitVec 32 := v2563
  let v2565 : Index := Scalar.indexCast v2564
  ![0, 0, v2565.toNat]
def k0_mult18 (k0_t4 : Fin k0_t4_loop.trips) : BitVec 32 :=
  let c0_i32_785 : BitVec 32 := 0#32
  let c1_i32_787 : BitVec 32 := 1#32
  let arg17 : BitVec 32 := Scf.iv c0_i32_785 c1_i32_787 k0_t4
  let c5_i32_906 : BitVec 32 := 5#32
  let v2574 : BitVec 32 := Scalar.muli arg17 c5_i32_906
  let c1_i32_907 : BitVec 32 := 1#32
  let v2575 : BitVec 32 := Scalar.addi v2574 c1_i32_907
  let c128_i32_908 : BitVec 32 := 128#32
  let v2576 : BitVec 32 := Scalar.muli v2575 c128_i32_908
  v2576
def k0_mult19 (k0_t4 : Fin k0_t4_loop.trips) : BitVec 32 :=
  let c0_i32_785 : BitVec 32 := 0#32
  let c1_i32_787 : BitVec 32 := 1#32
  let arg17 : BitVec 32 := Scf.iv c0_i32_785 c1_i32_787 k0_t4
  let c5_i32_911 : BitVec 32 := 5#32
  let v2587 : BitVec 32 := Scalar.muli arg17 c5_i32_911
  let c2_i32_912 : BitVec 32 := 2#32
  let v2588 : BitVec 32 := Scalar.addi v2587 c2_i32_912
  let c128_i32_913 : BitVec 32 := 128#32
  let v2589 : BitVec 32 := Scalar.muli v2588 c128_i32_913
  v2589
def k0_mult20 (k0_t4 : Fin k0_t4_loop.trips) : BitVec 32 :=
  let c0_i32_785 : BitVec 32 := 0#32
  let c1_i32_787 : BitVec 32 := 1#32
  let arg17 : BitVec 32 := Scf.iv c0_i32_785 c1_i32_787 k0_t4
  let c5_i32_916 : BitVec 32 := 5#32
  let v2600 : BitVec 32 := Scalar.muli arg17 c5_i32_916
  let c3_i32_917 : BitVec 32 := 3#32
  let v2601 : BitVec 32 := Scalar.addi v2600 c3_i32_917
  let c128_i32_918 : BitVec 32 := 128#32
  let v2602 : BitVec 32 := Scalar.muli v2601 c128_i32_918
  v2602
def k0_mult21 (k0_t4 : Fin k0_t4_loop.trips) : BitVec 32 :=
  let c0_i32_785 : BitVec 32 := 0#32
  let c1_i32_787 : BitVec 32 := 1#32
  let arg17 : BitVec 32 := Scf.iv c0_i32_785 c1_i32_787 k0_t4
  let c5_i32_921 : BitVec 32 := 5#32
  let v2613 : BitVec 32 := Scalar.muli arg17 c5_i32_921
  let c4_i32_922 : BitVec 32 := 4#32
  let v2614 : BitVec 32 := Scalar.addi v2613 c4_i32_922
  let c128_i32_923 : BitVec 32 := 128#32
  let v2615 : BitVec 32 := Scalar.muli v2614 c128_i32_923
  v2615
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x896 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x896x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x40x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "score_log2e" => some (((Real.sqrt 128)⁻¹ * (Real.log 2)⁻¹ : ℝ) : EReal)
  | _ => none
-- ==== ReferenceIdeal.lean ====
variable {F : FTy → Type} [FloatOps F] [Named F]
def κ : String → Option EReal := fun
  | "ln2" => some ((Real.log 2 : ℝ) : EReal)
  | "score_scale" => some (((Real.sqrt 128)⁻¹ : ℝ) : EReal)
  | _ => none
-- ==== Reference.lean ====
abbrev S2x896x5120 : Shape := ⟨3, ![2, 896, 5120]⟩
abbrev S2x8x128x896 : Shape := ⟨4, ![2, 8, 128, 896]⟩
abbrev S2x8x896 : Shape := ⟨3, ![2, 8, 896]⟩
abbrev S2x8x896x128 : Shape := ⟨4, ![2, 8, 896, 128]⟩
abbrev S40 : Shape := ⟨1, ![40]⟩
abbrev S2x896x40x128 : Shape := ⟨4, ![2, 896, 40, 128]⟩
abbrev S2x40x896x128 : Shape := ⟨4, ![2, 40, 896, 128]⟩
abbrev S2x8x5x128x896 : Shape := ⟨5, ![2, 8, 5, 128, 896]⟩
abbrev S2x40x128x896 : Shape := ⟨4, ![2, 40, 128, 896]⟩
abbrev S80x128x896 : Shape := ⟨3, ![80, 128, 896]⟩
abbrev S2x8x5x896 : Shape := ⟨4, ![2, 8, 5, 896]⟩
abbrev S2x40x896 : Shape := ⟨3, ![2, 40, 896]⟩
abbrev S80x1x896 : Shape := ⟨3, ![80, 1, 896]⟩
abbrev S2x8x5x896x128 : Shape := ⟨5, ![2, 8, 5, 896, 128]⟩
abbrev S80x896x128 : Shape := ⟨3, ![80, 896, 128]⟩
abbrev S1x40 : Shape := ⟨2, ![1, 40]⟩
abbrev S2x40 : Shape := ⟨2, ![2, 40]⟩
abbrev S80x1x1 : Shape := ⟨3, ![80, 1, 1]⟩
abbrev S2x40x896x1 : Shape := ⟨4, ![2, 40, 896, 1]⟩
abbrev S80x896x896 : Shape := ⟨3, ![80, 896, 896]⟩
abbrev S80x896x1 : Shape := ⟨3, ![80, 896, 1]⟩
abbrev S80x896 : Shape := ⟨2, ![80, 896]⟩

abbrev nBuf : Space → Nat
  | .hbm => 26
  | .vmem => 9
  | .smem => 0
  | _ => 0

abbrev bufTy : (tb : Table) → Fin (tcTables nBuf tb) → BufTy
  | .hbm, ⟨0, _⟩ => ⟨S2x896x5120, .bf16⟩
  | .hbm, ⟨1, _⟩ => ⟨S2x8x128x896, .fp8e4m3⟩
  | .hbm, ⟨2, _⟩ => ⟨S2x8x896, .f32⟩
  | .hbm, ⟨3, _⟩ => ⟨S2x8x896x128, .fp8e4m3⟩
  | .hbm, ⟨4, _⟩ => ⟨S2x8x896, .f32⟩
  | .hbm, ⟨5, _⟩ => ⟨S40, .f32⟩
  | .hbm, ⟨6, _⟩ => ⟨S2x896x40x128, .bf16⟩
  | .hbm, ⟨7, _⟩ => ⟨S2x40x896x128, .bf16⟩
  | .hbm, ⟨8, _⟩ => ⟨S2x8x5x128x896, .fp8e4m3⟩
  | .hbm, ⟨9, _⟩ => ⟨S2x40x128x896, .fp8e4m3⟩
  | .hbm, ⟨10, _⟩ => ⟨S80x128x896, .fp8e4m3⟩
  | .hbm, ⟨11, _⟩ => ⟨S2x8x5x896, .f32⟩
  | .hbm, ⟨12, _⟩ => ⟨S2x40x896, .f32⟩
  | .hbm, ⟨13, _⟩ => ⟨S80x1x896, .f32⟩
  | .hbm, ⟨14, _⟩ => ⟨S2x8x5x896x128, .fp8e4m3⟩
  | .hbm, ⟨15, _⟩ => ⟨S2x40x896x128, .fp8e4m3⟩
  | .hbm, ⟨16, _⟩ => ⟨S80x896x128, .fp8e4m3⟩
  | .hbm, ⟨17, _⟩ => ⟨S2x8x5x896, .f32⟩
  | .hbm, ⟨18, _⟩ => ⟨S2x40x896, .f32⟩
  | .hbm, ⟨19, _⟩ => ⟨S80x1x896, .f32⟩
  | .hbm, ⟨20, _⟩ => ⟨S1x40, .f32⟩
  | .hbm, ⟨21, _⟩ => ⟨S2x40, .f32⟩
  | .hbm, ⟨22, _⟩ => ⟨S80x1x1, .f32⟩
  | .hbm, ⟨23, _⟩ => ⟨S2x896x5120, .bf16⟩
  | .hbm, ⟨24, _⟩ => ⟨S2x896x5120, .fp8e4m3⟩
  | .hbm, ⟨25, _⟩ => ⟨S2x40x896, .f32⟩
  | .local _ .vmem, ⟨0, _⟩ => ⟨S2x40x896x128, .bf16⟩
  | .local _ .vmem, ⟨1, _⟩ => ⟨S80x128x896, .fp8e4m3⟩
  | .local _ .vmem, ⟨2, _⟩ => ⟨S80x1x896, .f32⟩
  | .local _ .vmem, ⟨3, _⟩ => ⟨S80x896x128, .fp8e4m3⟩
  | .local _ .vmem, ⟨4, _⟩ => ⟨S80x1x896, .f32⟩
  | .local _ .vmem, ⟨5, _⟩ => ⟨S80x1x1, .f32⟩
  | .local _ .vmem, ⟨6, _⟩ => ⟨S2x896x5120, .bf16⟩
  | .local _ .vmem, ⟨7, _⟩ => ⟨S2x896x5120, .fp8e4m3⟩
  | .local _ .vmem, ⟨8, _⟩ => ⟨S2x40x896, .f32⟩
  | _, _ => ⟨S2x896x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x40x896x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x128x896 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S80x896x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S80x1x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x896x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x40x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
/- The power-of-two scale of the two programs, over the extended reals.

   The kernel computes the scale of a row whose greatest magnitude is `a` as a power of two found by a logarithm and
   corrected by one step up or down; the reference computes the exponent and takes the power. Both are functions of `a`
   alone, and for `0 ≤ a` they agree: over the reals neither correction ever fires. -/
module

public import Idealize.ShloMosaic.Lib.Pointwise

@[expose] public section

noncomputable section

namespace Cert.Pure

open Idealize.ShloMosaic

/-- The constant `1 / 448` both programs multiply by, as the real number its pattern denotes. -/
abbrev C : EReal := Ideal.ofBits .f32 0x3B124925#32

/-- The pattern of `2.0`. -/
abbrev Two : EReal := Ideal.ofBits .f32 0x40000000#32

/-- The pattern of `0.5`. -/
abbrev Half : EReal := Ideal.ofBits .f32 0x3F000000#32

/-- `1 / log 2`, the value the kernel's constant is named to have. -/
abbrev L : EReal := (((Real.log 2)⁻¹ : ℝ) : EReal)

/-- `log 2`, the value the reference's constant is named to have. -/
abbrev Ln2 : EReal := ((Real.log 2 : ℝ) : EReal)

theorem C_eq : ∃ r : ℝ, 0 < r ∧ C = (r : EReal) := by
  refine ⟨(9586981 : ℝ) * (2 : ℝ) ^ (-32 : ℤ), by positivity, ?_⟩
  simp [C, Ideal.ofBits, Ideal.ieee]

theorem Two_eq : Two = ((2 : ℝ) : EReal) := by
  simp [Two, Ideal.ofBits, Ideal.ieee]
  norm_num
  rw [← EReal.coe_mul]
  norm_num

/-- The kernel's power of two above `x`: the guess, then the two corrections. -/
def up0 (x : EReal) : EReal := Ideal.exp2 (Ideal.liftRound Int.floor (Ideal.log x * L) + 1)
def up1 (x : EReal) : EReal := if up0 x ≤ x then Two * up0 x else up0 x
def up2 (x : EReal) : EReal := if Two * x < up1 x then Half * up1 x else up1 x

/-- The kernel's scale and its inverse, from a row's greatest magnitude. -/
def kScale (a : EReal) : EReal := if a * C = 0 then 1 else up2 (a * C)
def kInv (a : EReal) : EReal := if a * C = 0 then 1 else Ideal.div 1 (up2 (a * C))

/-- The reference's exponent. -/
def rExp (a : EReal) : EReal := if a = 0 then 0 else Ideal.liftRound Int.floor (Ideal.div (Ideal.log (a * C)) Ln2) + 1
def rScale (a : EReal) : EReal := Ideal.exp2 (rExp a)
def rInv (a : EReal) : EReal := Ideal.exp2 (-(rExp a))

theorem log2_pos : 0 < Real.log 2 := Real.log_pos (by norm_num)

theorem exp2_coe (r : ℝ) : Ideal.exp2 (r : EReal) = (((2 : ℝ) ^ r : ℝ) : EReal) := rfl
theorem exp_coe (r : ℝ) : Ideal.exp (r : EReal) = ((Real.exp r : ℝ) : EReal) := rfl

theorem exp2_pos_of_ne_bot (x : EReal) (h : x ≠ ⊥) : 0 < Ideal.exp2 x := by
  induction x using EReal.rec with
  | bot => exact absurd rfl h
  | top => exact EReal.zero_lt_top
  | coe r => rw [exp2_coe]; exact EReal.coe_pos.2 (Real.rpow_pos_of_pos (by norm_num) r)

/-- Above a positive real: the power of two one past the floor of its binary logarithm, with no correction. -/
theorem up2_coe (r : ℝ) (hr : 0 < r) :
    up2 (r : EReal) = (((2 : ℝ) ^ (((⌊Real.log r * (Real.log 2)⁻¹⌋ : ℤ) : ℝ) + 1) : ℝ) : EReal) := by
  set n : ℤ := ⌊Real.log r * (Real.log 2)⁻¹⌋ with hn
  have h2 := log2_pos
  have hlo : (n : ℝ) ≤ Real.log r * (Real.log 2)⁻¹ := Int.floor_le _
  have hhi : Real.log r * (Real.log 2)⁻¹ < (n : ℝ) + 1 := Int.lt_floor_add_one _
  have hr2 : (2 : ℝ) ^ (Real.log r * (Real.log 2)⁻¹) = r := by
    rw [Real.rpow_def_of_pos (by norm_num)]
    rw [show Real.log 2 * (Real.log r * (Real.log 2)⁻¹) = Real.log r by field_simp]
    exact Real.exp_log hr
  have h0 : up0 (r : EReal) = (((2 : ℝ) ^ ((n : ℝ) + 1) : ℝ) : EReal) := by
    unfold up0
    have hl : Ideal.log (r : EReal) = ((Real.log r : ℝ) : EReal) := by
      show (if r ≤ 0 then (⊥ : EReal) else _) = _
      rw [if_neg (not_le.2 hr)]
    rw [hl, ← EReal.coe_mul, Ideal.liftRound_coe, ← hn, ← EReal.coe_one, ← EReal.coe_add, exp2_coe]
  have hlt : r < (2 : ℝ) ^ ((n : ℝ) + 1) := by
    rw [← hr2]; exact Real.rpow_lt_rpow_of_exponent_lt (by norm_num) hhi
  have hge : (2 : ℝ) ^ ((n : ℝ) + 1) ≤ 2 * r := by
    rw [Real.rpow_add (by norm_num), Real.rpow_one, mul_comm]
    refine mul_le_mul_of_nonneg_left ?_ (by norm_num)
    rw [← hr2]; exact Real.rpow_le_rpow_of_exponent_le (by norm_num) hlo
  have h1 : up1 (r : EReal) = (((2 : ℝ) ^ ((n : ℝ) + 1) : ℝ) : EReal) := by
    unfold up1
    rw [h0, if_neg (not_le.2 (EReal.coe_lt_coe_iff.2 hlt))]
  unfold up2
  rw [h1, Two_eq, ← EReal.coe_mul, if_neg (not_lt.2 (EReal.coe_le_coe_iff.2 hge))]

theorem up2_top : up2 ⊤ = ⊤ := by
  have h0 : up0 ⊤ = ⊤ := by
    unfold up0
    show Ideal.exp2 (Ideal.liftRound Int.floor ((⊤ : EReal) * L) + 1) = ⊤
    rw [EReal.top_mul_coe_of_pos (inv_pos.2 log2_pos), Ideal.liftRound_top, show (⊤ : EReal) + 1 = ⊤ from EReal.top_add_of_ne_bot (EReal.coe_ne_bot 1)]
    rfl
  have h1 : up1 ⊤ = ⊤ := by
    unfold up1
    rw [h0, if_pos le_rfl, Two_eq, EReal.coe_mul_top_of_pos (by norm_num)]
  unfold up2
  rw [h1, Two_eq, EReal.coe_mul_top_of_pos (by norm_num), if_neg (lt_irrefl _)]

/-- The cases of a magnitude. -/
theorem cases_nonneg (a : EReal) (ha : 0 ≤ a) : a = 0 ∨ a = ⊤ ∨ ∃ r : ℝ, 0 < r ∧ a = (r : EReal) := by
  induction a using EReal.rec with
  | bot => exact absurd ha (by simp)
  | top => exact .inr (.inl rfl)
  | coe r =>
    rcases eq_or_lt_of_le (EReal.coe_nonneg.1 ha) with h | h
    · left; rw [← h]; rfl
    · exact .inr (.inr ⟨r, h, rfl⟩)

/-- The two programs' scales, and their inverses, agree. -/
theorem scale_eq (a : EReal) (ha : 0 ≤ a) : kScale a = rScale a ∧ kInv a = rInv a := by
  obtain ⟨c, hc, hC⟩ := C_eq
  rcases cases_nonneg a ha with rfl | rfl | ⟨r, hr, rfl⟩
  · simp only [kScale, kInv, rScale, rInv, rExp, zero_mul, if_true]
    rw [neg_zero, ← EReal.coe_zero, exp2_coe, Real.rpow_zero]
    exact ⟨rfl, rfl⟩
  · have hx : (⊤ : EReal) * C = ⊤ := by rw [hC]; exact EReal.top_mul_coe_of_pos hc
    have ht : (⊤ : EReal) ≠ 0 := by simp
    have he : rExp ⊤ = ⊤ := by
      unfold rExp
      rw [if_neg ht, hx]
      show Ideal.liftRound Int.floor (Ideal.div ⊤ Ln2) + 1 = ⊤
      unfold Ideal.div
      rw [if_neg (by simpa using log2_pos.ne'), ← EReal.coe_inv, EReal.top_mul_coe_of_pos (inv_pos.2 log2_pos),
        Ideal.liftRound_top, show (⊤ : EReal) + 1 = ⊤ from EReal.top_add_of_ne_bot (EReal.coe_ne_bot 1)]
    simp only [kScale, kInv, rScale, rInv, he, hx, if_neg ht, up2_top]
    refine ⟨rfl, ?_⟩
    unfold Ideal.div
    rw [if_neg ht, EReal.inv_top, mul_zero]
    rfl
  · have hrc : 0 < r * c := mul_pos hr hc
    have hx : (r : EReal) * C = ((r * c : ℝ) : EReal) := by rw [hC, EReal.coe_mul]
    have hr0 : (r : EReal) ≠ 0 := by simpa using hr.ne'
    have hx0 : ((r * c : ℝ) : EReal) ≠ 0 := by simpa using ⟨hr.ne', hc.ne'⟩
    have he : rExp (r : EReal) = (((⌊Real.log (r * c) * (Real.log 2)⁻¹⌋ : ℤ) : ℝ) + 1 : ℝ) := by
      unfold rExp
      rw [if_neg hr0, hx]
      have hl : Ideal.log ((r * c : ℝ) : EReal) = ((Real.log (r * c) : ℝ) : EReal) := by
        show (if r * c ≤ 0 then (⊥ : EReal) else _) = _
        rw [if_neg (not_le.2 hrc)]
      rw [hl]
      unfold Ideal.div
      rw [if_neg (by simpa using log2_pos.ne'), ← EReal.coe_inv, ← EReal.coe_mul, Ideal.liftRound_coe]
      rfl
    simp only [kScale, kInv, rScale, rInv, he, hx, if_neg hx0, up2_coe _ hrc]
    refine ⟨by rw [exp2_coe], ?_⟩
    rw [← EReal.coe_neg, exp2_coe]
    have hp : (0 : ℝ) < (2 : ℝ) ^ (((⌊Real.log (r * c) * (Real.log 2)⁻¹⌋ : ℤ) : ℝ) + 1) :=
      Real.rpow_pos_of_pos (by norm_num) _
    unfold Ideal.div
    rw [if_neg (by simpa using hp.ne'), one_mul, ← EReal.coe_inv, Real.rpow_neg (by norm_num)]

theorem rExp_ne_bot (a : EReal) (ha : 0 ≤ a) : rExp a ≠ ⊥ := by
  obtain ⟨c, hc, hC⟩ := C_eq
  rcases cases_nonneg a ha with rfl | rfl | ⟨r, hr, rfl⟩
  · simp [rExp]
  · intro h
    have := congrArg Ideal.exp2 h
    have h2 := (scale_eq ⊤ ha).1
    rw [show rScale ⊤ = Ideal.exp2 (rExp ⊤) from rfl, this] at h2
    have hx : (⊤ : EReal) * C = ⊤ := by rw [hC]; exact EReal.top_mul_coe_of_pos hc
    simp only [kScale, hx, up2_top] at h2
    rw [if_neg (by simp)] at h2
    exact absurd h2 (by show (⊤ : EReal) ≠ 0; simp)
  · intro h
    have h2 := (scale_eq r ha).1
    rw [show rScale (r : EReal) = Ideal.exp2 (rExp (r : EReal)) from rfl, h] at h2
    have hx : (r : EReal) * C = ((r * c : ℝ) : EReal) := by rw [hC, EReal.coe_mul]
    have hx0 : ((r * c : ℝ) : EReal) ≠ 0 := by simpa using ⟨hr.ne', hc.ne'⟩
    simp only [kScale, hx, if_neg hx0, up2_coe _ (mul_pos hr hc)] at h2
    have hp : (0 : ℝ) < (2 : ℝ) ^ (((⌊Real.log (r * c) * (Real.log 2)⁻¹⌋ : ℤ) : ℝ) + 1) :=
      Real.rpow_pos_of_pos (by norm_num) _
    exact absurd h2 (by show _ ≠ (0 : EReal); simpa using hp.ne')

/-- A scale is positive. -/
theorem rScale_pos (a : EReal) (ha : 0 ≤ a) : 0 < rScale a := exp2_pos_of_ne_bot _ (rExp_ne_bot a ha)

/-- A magnitude. -/
theorem abs_nonneg' (x : EReal) : 0 ≤ max x (-x) := by
  rcases le_total 0 x with h | h
  · exact le_max_of_le_left h
  · exact le_max_of_le_right (EReal.neg_nonneg.2 h)

end Cert.Pure

end
-- ==== Proof.Row.lean ====
/- One row of the attention, over the extended reals: the kernel's arithmetic over the keys a window holds against the
   reference's over every key.

   The reference scores every key and masks the keys a query does not see; the kernel scores a window of positions, each of
   which stands for a key or for nothing. Where the window's positions stand for exactly the keys the query sees, once each,
   the two rows are equal: a key not seen weighs nothing, a scaling by a positive factor commutes with the maximum, and
   `2 ^ (x / log 2)` is `e ^ x`. -/
module

public import proofs.«01_k».proof.Proof.Scale

@[expose] public section

noncomputable section

namespace Cert.Pure

open Idealize.ShloMosaic
open scoped BigOperators

/-- `1 / √128`. -/
abbrev SS : EReal := (((Real.sqrt 128)⁻¹ : ℝ) : EReal)

/-- `1 / (√128 · log 2)`. -/
abbrev SL : EReal := (((Real.sqrt 128)⁻¹ * (Real.log 2)⁻¹ : ℝ) : EReal)

/-- The clip to the range of the eight-bit codes. -/
def clip (x : EReal) : EReal := min (Ideal.ofBits .f32 0x43E00000#32) (max (Ideal.ofBits .f32 0xC3E00000#32) x)

theorem clip_hi : Ideal.ofBits .f32 0x43E00000#32 = ((448 : ℝ) : EReal) := by
  simp [Ideal.ofBits, Ideal.ieee]
  norm_num
  rw [← EReal.coe_mul]
  norm_num

theorem clip_lo : Ideal.ofBits .f32 0xC3E00000#32 = ((-448 : ℝ) : EReal) := by
  simp [Ideal.ofBits, Ideal.ieee]
  norm_num
  rw [← EReal.coe_mul]
  norm_num

theorem clip_zero : clip 0 = 0 := by
  unfold clip
  rw [clip_hi, clip_lo, max_eq_right (by rw [← EReal.coe_zero]; exact EReal.coe_le_coe_iff.2 (by norm_num)),
    min_eq_right (by rw [← EReal.coe_zero]; exact EReal.coe_le_coe_iff.2 (by norm_num))]

/-! ### Positive factors -/

theorem mul_mono_pos {c : EReal} (hc : 0 < c) : Monotone fun x : EReal => x * c :=
  fun _ _ h => mul_le_mul_of_nonneg_right h hc.le

/-- A positive factor commutes with a maximum. -/
theorem sup_mul {ι : Type} [Fintype ι] (f : ι → EReal) {c : EReal} (hc : 0 < c) :
    Finset.univ.sup f * c = Finset.univ.sup fun i => f i * c :=
  Finset.comp_sup_eq_sup_comp_of_is_total (fun x : EReal => x * c) (mul_mono_pos hc) (EReal.bot_mul_of_pos hc)

theorem max_mul' (x y : EReal) {c : EReal} (hc : 0 < c) : max x y * c = max (x * c) (y * c) :=
  (mul_mono_pos hc).map_max

/-- A positive real factor distributes over a difference. -/
theorem sub_mul_coe (x y : EReal) {l : ℝ} (hl : 0 < l) : x * (l : EReal) - y * (l : EReal) = (x - y) * (l : EReal) := by
  induction x using EReal.rec <;> induction y using EReal.rec <;>
    simp only [EReal.bot_mul_coe_of_pos hl, EReal.top_mul_coe_of_pos hl, ← EReal.coe_mul, ← EReal.coe_sub, sub_mul,
      EReal.bot_sub, EReal.top_sub_bot, EReal.coe_sub_bot, EReal.top_sub_coe, EReal.sub_top]

theorem exp2_mul_L (x : EReal) : Ideal.exp2 (x * L) = Ideal.exp x := by
  have hl := inv_pos.2 log2_pos
  induction x using EReal.rec with
  | bot => rw [EReal.bot_mul_coe_of_pos hl]; rfl
  | top => rw [EReal.top_mul_coe_of_pos hl]; rfl
  | coe r =>
    rw [← EReal.coe_mul, exp2_coe, exp_coe, Real.rpow_def_of_pos (by norm_num)]
    congr 2
    have := log2_pos.ne'
    field_simp

theorem exp_nonneg (x : EReal) : 0 ≤ Ideal.exp x := by
  induction x using EReal.rec with
  | bot => exact le_rfl
  | top => exact le_top
  | coe r => rw [exp_coe]; exact EReal.coe_nonneg.2 (Real.exp_pos r).le

/-! ### Windows of positions onto keys -/

/-- The positions `r` with `ok r` stand for the keys `j` with `V j`, once each. -/
structure Win {ι K : Type} (V : K → Prop) (ok : ι → Prop) (key : ι → K) : Prop where
  inj : ∀ r r', ok r → ok r' → key r = key r' → r = r'
  mem : ∀ r, ok r → V (key r)
  onto : ∀ j, V j → ∃ r, ok r ∧ key r = j

variable {ι ι' K : Type} [Fintype ι] [Fintype ι'] [Fintype K]
variable {V : K → Prop} [DecidablePred V] {ok : ι → Prop} [DecidablePred ok] {key : ι → K}

theorem Win.sum (h : Win V ok key) (g : K → EReal) :
    (∑ r, if ok r then g (key r) else 0) = ∑ j, if V j then g j else 0 := by
  classical
  rw [← Finset.sum_filter, ← Finset.sum_filter]
  refine Finset.sum_bij (fun r _ => key r) ?_ ?_ ?_ ?_
  · intro r hr
    exact Finset.mem_filter.2 ⟨Finset.mem_univ _, h.mem r (Finset.mem_filter.1 hr).2⟩
  · intro r hr r' hr' e
    exact h.inj r r' (Finset.mem_filter.1 hr).2 (Finset.mem_filter.1 hr').2 e
  · intro j hj
    obtain ⟨r, hr, e⟩ := h.onto j (Finset.mem_filter.1 hj).2
    exact ⟨r, Finset.mem_filter.2 ⟨Finset.mem_univ _, hr⟩, e⟩
  · intro r _; rfl

theorem Win.sup (h : Win V ok key) (g : K → EReal) :
    (Finset.univ.sup fun r => if ok r then g (key r) else ⊥) = Finset.univ.sup fun j => if V j then g j else ⊥ := by
  apply le_antisymm
  · refine Finset.sup_le fun r _ => ?_
    by_cases hr : ok r
    · rw [if_pos hr]
      refine le_trans ?_ (Finset.le_sup (f := fun j => if V j then g j else ⊥) (Finset.mem_univ (key r)))
      simp only [if_pos (h.mem r hr)]; exact le_rfl
    · rw [if_neg hr]; exact bot_le
  · refine Finset.sup_le fun j _ => ?_
    by_cases hj : V j
    · rw [if_pos hj]
      obtain ⟨r, hr, e⟩ := h.onto j hj
      refine le_trans ?_ (Finset.le_sup (f := fun r => if ok r then g (key r) else ⊥) (Finset.mem_univ r))
      simp only [if_pos hr, e]; exact le_rfl
    · rw [if_neg hj]; exact bot_le

/-- Among weights that are not negative, of which one is there, what is left out may count as zero or not at all. -/
theorem sup_zero_bot {p : ι → Prop} [DecidablePred p] (g : ι → EReal) (hg : ∀ i, 0 ≤ g i) (hp : ∃ i, p i) :
    (Finset.univ.sup fun i => if p i then g i else 0) = Finset.univ.sup fun i => if p i then g i else ⊥ := by
  apply le_antisymm
  · refine Finset.sup_le fun i _ => ?_
    by_cases hi : p i
    · rw [if_pos hi]
      refine le_trans ?_ (Finset.le_sup (f := fun i => if p i then g i else ⊥) (Finset.mem_univ i))
      simp only [if_pos hi]; exact le_rfl
    · rw [if_neg hi]
      obtain ⟨k, hk⟩ := hp
      refine le_trans (hg k) ?_
      refine le_trans ?_ (Finset.le_sup (f := fun i => if p i then g i else ⊥) (Finset.mem_univ k))
      simp only [if_pos hk]; exact le_rfl
  · refine Finset.sup_le fun i _ => ?_
    by_cases hi : p i
    · rw [if_pos hi]
      refine le_trans ?_ (Finset.le_sup (f := fun i => if p i then g i else 0) (Finset.mem_univ i))
      simp only [if_pos hi]; exact le_rfl
    · rw [if_neg hi]; exact bot_le

/-! ### The row -/

section Row

variable (d ks vs v : K → EReal) (qs sink : EReal)

/-- The reference's row: scores, maximum, weights, denominator, the weights' greatest magnitude, and one column of the
    result. -/
def rS (V : K → Prop) [DecidablePred V] (j : K) : EReal := if V j then d j * (qs * SS) * ks j else ⊥
def rM (V : K → Prop) [DecidablePred V] : EReal := max (Finset.univ.sup fun j => rS d ks qs V j) sink
def rP (V : K → Prop) [DecidablePred V] (j : K) : EReal := Ideal.exp (rS d ks qs V j - rM d ks qs sink V)
def rL (V : K → Prop) [DecidablePred V] : EReal := (∑ j, rP d ks qs sink V j) + Ideal.exp (sink - rM d ks qs sink V)
def rW (V : K → Prop) [DecidablePred V] (j : K) : EReal := rP d ks qs sink V j * vs j
def rA (V : K → Prop) [DecidablePred V] : EReal :=
  Finset.univ.sup fun j => max (rW d ks vs qs sink V j) (-(rW d ks vs qs sink V j))
def rOut (V : K → Prop) [DecidablePred V] : EReal :=
  (∑ j, clip (rW d ks vs qs sink V j * rInv (rA d ks vs qs sink V)) * v j)
    * Ideal.div (rScale (rA d ks vs qs sink V)) (rL d ks qs sink V)

/-- The kernel's row over a window of positions `ok`, `key` for the scores and `ok'`, `key'` for the result. -/
def kT (ok : ι → Prop) [DecidablePred ok] (key : ι → K) (r : ι) : EReal := if ok r then d (key r) * ks (key r) else ⊥
def kM (ok : ι → Prop) [DecidablePred ok] (key : ι → K) : EReal :=
  max ((Finset.univ.sup fun r => kT d ks ok key r) * (qs * SL)) (sink * L)
def kP (m : EReal) (j : K) : EReal := Ideal.exp2 (d j * ks j * (qs * SL) - m)
def kL (m : EReal) (ok : ι → Prop) [DecidablePred ok] (key : ι → K) : EReal :=
  (∑ r, if ok r then kP d ks qs m (key r) else 0) + Ideal.exp2 (sink * L - m)
def kA (m : EReal) (ok : ι → Prop) [DecidablePred ok] (key : ι → K) : EReal :=
  Finset.univ.sup fun r => if ok r then kP d ks qs m (key r) * vs (key r) else 0
def kOut (m : EReal) (ok : ι → Prop) [DecidablePred ok] (key : ι → K)
    (ok' : ι' → Prop) [DecidablePred ok'] (key' : ι' → K) : EReal :=
  (∑ r, if ok' r then clip (kP d ks qs m (key' r) * vs (key' r) * kInv (kA d ks vs qs m ok key)) * v (key' r) else 0)
    * Ideal.div (kScale (kA d ks vs qs m ok key)) (kL d ks qs sink m ok key)

variable {d ks vs v qs sink}
variable {ok' : ι' → Prop} [DecidablePred ok'] {key' : ι' → K}

theorem SL_eq : SL = SS * L := EReal.coe_mul _ _

theorem SL_pos : 0 < SL :=
  EReal.coe_pos.2 (mul_pos (inv_pos.2 (Real.sqrt_pos.2 (by norm_num))) (inv_pos.2 log2_pos))

theorem score_eq (j : K) : d j * ks j * (qs * SL) = d j * (qs * SS) * ks j * L := by
  rw [SL_eq]; ac_rfl

theorem kM_eq (h : Win V ok key) (hq : 0 < qs) : kM d ks qs sink ok key = rM d ks qs sink V * L := by
  have hl : 0 < L := EReal.coe_pos.2 (inv_pos.2 log2_pos)
  have hc : 0 < qs * SL := EReal.mul_pos hq SL_pos
  unfold kM rM
  rw [max_mul' _ _ hl, sup_mul _ hl]
  congr 1
  unfold kT rS
  rw [h.sup (fun j => d j * ks j), sup_mul _ hc]
  congr 1
  funext j
  by_cases hj : V j
  · simp only [if_pos hj]; exact score_eq j
  · simp only [if_neg hj]; rw [EReal.bot_mul_of_pos hc, EReal.bot_mul_of_pos hl]

theorem kP_eq (j : K) (hj : V j) : kP d ks qs (rM d ks qs sink V * L) j = rP d ks qs sink V j := by
  unfold kP rP rS
  rw [if_pos hj, score_eq, sub_mul_coe _ _ (inv_pos.2 log2_pos), exp2_mul_L]

theorem rP_zero (j : K) (hj : ¬V j) : rP d ks qs sink V j = 0 := by
  unfold rP rS
  rw [if_neg hj, EReal.bot_sub]
  rfl

theorem kL_eq (h : Win V ok key) : kL d ks qs sink (rM d ks qs sink V * L) ok key = rL d ks qs sink V := by
  unfold kL rL
  rw [sub_mul_coe _ _ (inv_pos.2 log2_pos), exp2_mul_L, h.sum (fun j => kP d ks qs (rM d ks qs sink V * L) j)]
  congr 1
  refine Finset.sum_congr rfl fun j _ => ?_
  by_cases hj : V j
  · rw [if_pos hj, kP_eq j hj]
  · rw [if_neg hj, rP_zero j hj]

theorem kA_eq (h : Win V ok key) (hv : ∃ j, V j) (hvs : ∀ j, 0 ≤ vs j) :
    kA d ks vs qs (rM d ks qs sink V * L) ok key = rA d ks vs qs sink V := by
  have hP : ∀ j, 0 ≤ rP d ks qs sink V j := fun j => exp_nonneg _
  have hW : ∀ j, 0 ≤ rW d ks vs qs sink V j := fun j => mul_nonneg (hP j) (hvs j)
  have hr : ∃ r, ok r := by
    obtain ⟨j, hj⟩ := hv
    obtain ⟨r, hr, -⟩ := h.onto j hj
    exact ⟨r, hr⟩
  unfold kA rA
  have e1 : (fun r => if ok r then kP d ks qs (rM d ks qs sink V * L) (key r) * vs (key r) else 0)
      = fun r => if ok r then rW d ks vs qs sink V (key r) else 0 := by
    funext r
    by_cases hr : ok r
    · rw [if_pos hr, if_pos hr, kP_eq _ (h.mem r hr)]; rfl
    · rw [if_neg hr, if_neg hr]
  have e2 : (fun j => max (rW d ks vs qs sink V j) (-(rW d ks vs qs sink V j)))
      = fun j => if V j then rW d ks vs qs sink V j else 0 := by
    funext j
    by_cases hj : V j
    · rw [if_pos hj]
      exact max_eq_left (le_trans (EReal.neg_le_zero.2 (hW j)) (hW j))
    · rw [if_neg hj]
      unfold rW
      rw [rP_zero j hj, zero_mul, neg_zero, max_self]
  rw [e1, e2, sup_zero_bot _ (fun r => hW (key r)) hr, sup_zero_bot _ hW hv, h.sup (fun j => rW d ks vs qs sink V j)]

theorem rA_nonneg (hv : ∃ j, V j) : 0 ≤ rA d ks vs qs sink V := by
  obtain ⟨j, -⟩ := hv
  exact le_trans (abs_nonneg' _) (Finset.le_sup (f := fun j => max (rW d ks vs qs sink V j) (-(rW d ks vs qs sink V j)))
    (Finset.mem_univ j))

/-- The kernel's row is the reference's. -/
theorem kOut_eq (h : Win V ok key) (h' : Win V ok' key') (hv : ∃ j, V j) (hvs : ∀ j, 0 ≤ vs j) (hq : 0 < qs) :
    kOut d ks vs v qs sink (kM d ks qs sink ok key) ok key ok' key' = rOut d ks vs v qs sink V := by
  unfold kOut rOut
  rw [kM_eq h hq, kL_eq h, kA_eq h hv hvs, (scale_eq _ (rA_nonneg hv)).1, (scale_eq _ (rA_nonneg hv)).2]
  congr 1
  rw [h'.sum (fun j => clip (kP d ks qs (rM d ks qs sink V * L) j * vs j * rInv (rA d ks vs qs sink V)) * v j)]
  refine Finset.sum_congr rfl fun j _ => ?_
  by_cases hj : V j
  · rw [if_pos hj, kP_eq j hj]; rfl
  · rw [if_neg hj]
    unfold rW
    rw [rP_zero j hj, zero_mul, zero_mul, clip_zero, zero_mul]

end Row

end Cert.Pure

end
-- ==== Proof.Head.lean ====
/- The kernel's arithmetic on one head's tile of scores, as functions of the loaded vectors, and what they hold at an index.

   A tile has one row per position of the window and one column per query. -/
module

public import proofs.«01_k».proof.Proof.Gen.KernelIdeal.Skeleton
public import proofs.«01_k».proof.Proof.Row
public import Idealize.ShloMosaic.Lib.Pointwise

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

theorem log2e_eq : (Named.named κ "log2e" 0x3FB8AA3B#32 : Ideal .f32) = L :=
  IdealRules.named_const.ideal_named_scalar _ _ _ _ rfl

theorem score_log2e_eq : (Named.named κ "score_log2e" 0x3E0293EE#32 : Ideal .f32) = SL :=
  IdealRules.named_const.ideal_named_scalar _ _ _ _ rfl

/-- The power of two before the zeros are taken out. -/
def upV {s : Shape} (x : FVec Ideal s .f32) : FVec Ideal s .f32 :=
  let e : FVec Ideal s .f32 := extf .f32 (truncf .bf16 (exp2 (addf (floor (mulf (log x)
    (broadcast s (Named.named κ "log2e" 0x3FB8AA3B#32 : Ideal .f32)))) (broadcast s (Scalar.ofBits .f32 0x3F800000#32)))) bitsLt_bf16_f32) bitsLt_bf16_f32
  let u : FVec Ideal s .f32 := select (cmpf .oge x e) (mulf (broadcast s (Scalar.ofBits .f32 0x40000000#32)) e) e
  select (cmpf .olt (mulf (broadcast s (Scalar.ofBits .f32 0x40000000#32)) x) u)
    (mulf (broadcast s (Scalar.ofBits .f32 0x3F000000#32)) u) u

/-- The magnitudes over the greatest code. -/
def overV {s : Shape} (a : FVec Ideal s .f32) : FVec Ideal s .f32 := mulf a (broadcast s (Scalar.ofBits .f32 0x3B124925#32))

/-- The scale of each magnitude, and its reciprocal. -/
def scaleV {s : Shape} (a : FVec Ideal s .f32) : FVec Ideal s .f32 :=
  select (cmpf .oeq (overV a) (broadcast s (Scalar.ofBits .f32 0x00000000#32))) (broadcast s (Scalar.ofBits .f32 0x3F800000#32)) (upV (overV a))
def invV {s : Shape} (a : FVec Ideal s .f32) : FVec Ideal s .f32 :=
  select (cmpf .oeq (overV a) (broadcast s (Scalar.ofBits .f32 0x00000000#32))) (broadcast s (Scalar.ofBits .f32 0x3F800000#32))
    (divf (broadcast s (Scalar.ofBits .f32 0x3F800000#32)) (upV (overV a)))

theorem scaleV_at {s : Shape} (a : FVec Ideal s .f32) (j : s.Idx) : scaleV a j = kScale (a j) := by
  pointwise [scaleV, overV, upV, log2e_eq]
  rfl

theorem invV_at {s : Shape} (a : FVec Ideal s .f32) (j : s.Idx) : invV a j = kInv (a j) := by
  pointwise [invV, overV, upV, log2e_eq]
  rfl

theorem ninf_eq : Ideal.ofBits .f32 0xFF800000#32 = ⊥ := by
  simp [Ideal.ofBits, Ideal.ieee]

/-- A position that stands for no key weighs nothing. -/
theorem exp2_kT {ι K : Type} (d ks : K → EReal) (qs : EReal) (hq : 0 < qs) (ok : ι → Prop) [DecidablePred ok] (key : ι → K)
    (m : EReal) (i : ι) : Ideal.exp2 (kT d ks ok key i * (qs * SL) - m) = if ok i then kP d ks qs m (key i) else 0 := by
  unfold kT kP
  by_cases h : ok i
  · rw [if_pos h, if_pos h]
  · rw [if_neg h, if_neg h, EReal.bot_mul_of_pos (EReal.mul_pos hq SL_pos), EReal.bot_sub]
    rfl

/-! ### Tiles of 128 rows -/

section H128

variable (t vss : FVec Ideal S128x128 .f32) (cb : FVec Ideal S1x128 .f32) (sk : Ideal .f32)

def hM128 : FVec Ideal S1x128 .f32 :=
  maximumf (mulf (shapeCast S1x128 (multiReduction .maximumf [0] S128 t 0xFF800000#32 reduces_S128x128_S128_2 (.inl rfl) rfl) shapeCasts_S128_S1x128) cb)
    (broadcast S1x128 (Scalar.mulf sk (Named.named κ "log2e" 0x3FB8AA3B#32 : Ideal .f32)))
def hP128 : FVec Ideal S128x128 .f32 :=
  exp2 (subf (mulf t (broadcastTo S128x128 cb broadcasts_S1x128_S128x128)) (broadcastTo S128x128 (hM128 t cb sk) broadcasts_S1x128_S128x128))
def hL128 : FVec Ideal S1x128 .f32 :=
  addf (shapeCast S1x128 (multiReduction .add [0] S128 (hP128 t cb sk) 0x00000000#32 reduces_S128x128_S128_2 (.inl rfl) rfl) shapeCasts_S128_S1x128)
    (exp2 (subf (broadcast S1x128 (Scalar.mulf sk (Named.named κ "log2e" 0x3FB8AA3B#32 : Ideal .f32))) (hM128 t cb sk)))
def hW128 : FVec Ideal S128x128 .f32 := mulf (hP128 t cb sk) vss
def hA128 : FVec Ideal S1x128 .f32 :=
  shapeCast S1x128 (multiReduction .maximumf [0] S128 (hW128 t vss cb sk) 0xFF800000#32 reduces_S128x128_S128_2 (.inl rfl) rfl) shapeCasts_S128_S1x128
def hQ128 : FVec Ideal S128x128 .f32 :=
  minimumf (broadcast S128x128 (Scalar.ofBits .f32 0x43E00000#32)) (maximumf (broadcast S128x128 (Scalar.ofBits .f32 0xC3E00000#32))
    (mulf (hW128 t vss cb sk) (broadcastTo S128x128 (invV (hA128 t vss cb sk)) broadcasts_S1x128_S128x128)))
def hF128 : FVec Ideal S1x128 .f32 := divf (scaleV (hA128 t vss cb sk)) (hL128 t cb sk)

theorem hM128_at (r : Fin 128) : hM128 t cb sk (ix2 0 r)
    = max ((Finset.univ.sup fun i : Fin 128 => (t (ix2 i r) : EReal)) * cb (ix2 0 r)) (sk * L) := by
  pointwise [hM128, log2e_eq]
  rw [ninf_eq]
  rfl
theorem hP128_at (i : Fin 128) (r : Fin 128) : hP128 t cb sk (ix2 i r)
    = Ideal.exp2 (t (ix2 i r) * cb (ix2 0 r) - hM128 t cb sk (ix2 0 r)) := by
  pointwise [hP128]
  rfl
theorem hL128_at (r : Fin 128) : hL128 t cb sk (ix2 0 r)
    = (∑ i : Fin 128, hP128 t cb sk (ix2 i r)) + Ideal.exp2 (sk * L - hM128 t cb sk (ix2 0 r)) := by
  pointwise [hL128, log2e_eq]
  rfl
theorem hW128_at (i : Fin 128) (r : Fin 128) : hW128 t vss cb sk (ix2 i r) = hP128 t cb sk (ix2 i r) * vss (ix2 i r) := by
  pointwise [hW128]
theorem hA128_at (r : Fin 128) : hA128 t vss cb sk (ix2 0 r)
    = Finset.univ.sup fun i : Fin 128 => (hW128 t vss cb sk (ix2 i r) : EReal) := by
  pointwise [hA128]
  rw [ninf_eq]
  rfl
theorem hQ128_at (i : Fin 128) (r : Fin 128) : hQ128 t vss cb sk (ix2 i r)
    = clip (hW128 t vss cb sk (ix2 i r) * kInv (hA128 t vss cb sk (ix2 0 r))) := by
  pointwise [hQ128, invV_at, clip]
theorem hF128_at (r : Fin 128) : hF128 t vss cb sk (ix2 0 r)
    = Ideal.div (kScale (hA128 t vss cb sk (ix2 0 r))) (hL128 t cb sk (ix2 0 r)) := by
  pointwise [hF128, scaleV_at]

/-- One column of the tile, once its scores are named: position `i` scores key `key i`, or nothing. -/
theorem head128 {K : Type} [Fintype K] (r : Fin 128) (ok : Fin 128 → Prop) [DecidablePred ok] (key : Fin 128 → K)
    (d ks vs : K → EReal) (qs sink : EReal) (hq : 0 < qs)
    (ht : ∀ i, t (ix2 i r) = kT d ks ok key i) (hv : ∀ i, ok i → vss (ix2 i r) = vs (key i))
    (hc : cb (ix2 0 r) = qs * SL) (hs : sk = sink) :
    (∀ i, hQ128 t vss cb sk (ix2 i r) = if ok i
        then clip (kP d ks qs (kM d ks qs sink ok key) (key i) * vs (key i) * kInv (kA d ks vs qs (kM d ks qs sink ok key) ok key)) else 0)
      ∧ hF128 t vss cb sk (ix2 0 r)
        = Ideal.div (kScale (kA d ks vs qs (kM d ks qs sink ok key) ok key)) (kL d ks qs sink (kM d ks qs sink ok key) ok key) := by
  subst hs
  have hM : hM128 t cb sk (ix2 0 r) = kM d ks qs sk ok key := by
    rw [hM128_at, hc]; simp only [ht]; rfl
  have hP : ∀ i, hP128 t cb sk (ix2 i r) = if ok i then kP d ks qs (kM d ks qs sk ok key) (key i) else 0 := by
    intro i
    rw [hP128_at, ht, hc, hM]
    exact exp2_kT _ _ _ hq _ _ _ _
  have hW : ∀ i, hW128 t vss cb sk (ix2 i r) = if ok i then kP d ks qs (kM d ks qs sk ok key) (key i) * vs (key i) else 0 := by
    intro i
    rw [hW128_at, hP]
    by_cases h : ok i
    · rw [if_pos h, if_pos h, hv i h]
    · rw [if_neg h, if_neg h]; exact zero_mul _
  have hA : hA128 t vss cb sk (ix2 0 r) = kA d ks vs qs (kM d ks qs sk ok key) ok key := by
    rw [hA128_at]; simp only [hW]; rfl
  have hL : hL128 t cb sk (ix2 0 r) = kL d ks qs sk (kM d ks qs sk ok key) ok key := by
    rw [hL128_at]; simp only [hP, hM]; rfl
  refine ⟨fun i => ?_, ?_⟩
  · rw [hQ128_at, hW, hA]
    by_cases h : ok i
    · rw [if_pos h, if_pos h]
    · rw [if_neg h, if_neg h]
      show clip (0 * _) = 0
      rw [zero_mul, clip_zero]
  · rw [hF128_at, hA, hL]

end H128

/-! ### Tiles of 256 rows -/

section H256

variable (t vss : FVec Ideal S256x128 .f32) (cb : FVec Ideal S1x128 .f32) (sk : Ideal .f32)

def hM256 : FVec Ideal S1x128 .f32 :=
  maximumf (mulf (shapeCast S1x128 (multiReduction .maximumf [0] S128 t 0xFF800000#32 reduces_S256x128_S128 (.inl rfl) rfl) shapeCasts_S128_S1x128) cb)
    (broadcast S1x128 (Scalar.mulf sk (Named.named κ "log2e" 0x3FB8AA3B#32 : Ideal .f32)))
def hP256 : FVec Ideal S256x128 .f32 :=
  exp2 (subf (mulf t (broadcastTo S256x128 cb broadcasts_S1x128_S256x128)) (broadcastTo S256x128 (hM256 t cb sk) broadcasts_S1x128_S256x128))
def hL256 : FVec Ideal S1x128 .f32 :=
  addf (shapeCast S1x128 (multiReduction .add [0] S128 (hP256 t cb sk) 0x00000000#32 reduces_S256x128_S128 (.inl rfl) rfl) shapeCasts_S128_S1x128)
    (exp2 (subf (broadcast S1x128 (Scalar.mulf sk (Named.named κ "log2e" 0x3FB8AA3B#32 : Ideal .f32))) (hM256 t cb sk)))
def hW256 : FVec Ideal S256x128 .f32 := mulf (hP256 t cb sk) vss
def hA256 : FVec Ideal S1x128 .f32 :=
  shapeCast S1x128 (multiReduction .maximumf [0] S128 (hW256 t vss cb sk) 0xFF800000#32 reduces_S256x128_S128 (.inl rfl) rfl) shapeCasts_S128_S1x128
def hQ256 : FVec Ideal S256x128 .f32 :=
  minimumf (broadcast S256x128 (Scalar.ofBits .f32 0x43E00000#32)) (maximumf (broadcast S256x128 (Scalar.ofBits .f32 0xC3E00000#32))
    (mulf (hW256 t vss cb sk) (broadcastTo S256x128 (invV (hA256 t vss cb sk)) broadcasts_S1x128_S256x128)))
def hF256 : FVec Ideal S1x128 .f32 := divf (scaleV (hA256 t vss cb sk)) (hL256 t cb sk)

theorem hM256_at (r : Fin 128) : hM256 t cb sk (ix2 0 r)
    = max ((Finset.univ.sup fun i : Fin 256 => (t (ix2 i r) : EReal)) * cb (ix2 0 r)) (sk * L) := by
  pointwise [hM256, log2e_eq]
  rw [ninf_eq]
  rfl
theorem hP256_at (i : Fin 256) (r : Fin 128) : hP256 t cb sk (ix2 i r)
    = Ideal.exp2 (t (ix2 i r) * cb (ix2 0 r) - hM256 t cb sk (ix2 0 r)) := by
  pointwise [hP256]
  rfl
theorem hL256_at (r : Fin 128) : hL256 t cb sk (ix2 0 r)
    = (∑ i : Fin 256, hP256 t cb sk (ix2 i r)) + Ideal.exp2 (sk * L - hM256 t cb sk (ix2 0 r)) := by
  pointwise [hL256, log2e_eq]
  rfl
theorem hW256_at (i : Fin 256) (r : Fin 128) : hW256 t vss cb sk (ix2 i r) = hP256 t cb sk (ix2 i r) * vss (ix2 i r) := by
  pointwise [hW256]
theorem hA256_at (r : Fin 128) : hA256 t vss cb sk (ix2 0 r)
    = Finset.univ.sup fun i : Fin 256 => (hW256 t vss cb sk (ix2 i r) : EReal) := by
  pointwise [hA256]
  rw [ninf_eq]
  rfl
theorem hQ256_at (i : Fin 256) (r : Fin 128) : hQ256 t vss cb sk (ix2 i r)
    = clip (hW256 t vss cb sk (ix2 i r) * kInv (hA256 t vss cb sk (ix2 0 r))) := by
  pointwise [hQ256, invV_at, clip]
theorem hF256_at (r : Fin 128) : hF256 t vss cb sk (ix2 0 r)
    = Ideal.div (kScale (hA256 t vss cb sk (ix2 0 r))) (hL256 t cb sk (ix2 0 r)) := by
  pointwise [hF256, scaleV_at]

/-- One column of the tile, once its scores are named: position `i` scores key `key i`, or nothing. -/
theorem head256 {K : Type} [Fintype K] (r : Fin 128) (ok : Fin 256 → Prop) [DecidablePred ok] (key : Fin 256 → K)
    (d ks vs : K → EReal) (qs sink : EReal) (hq : 0 < qs)
    (ht : ∀ i, t (ix2 i r) = kT d ks ok key i) (hv : ∀ i, ok i → vss (ix2 i r) = vs (key i))
    (hc : cb (ix2 0 r) = qs * SL) (hs : sk = sink) :
    (∀ i, hQ256 t vss cb sk (ix2 i r) = if ok i
        then clip (kP d ks qs (kM d ks qs sink ok key) (key i) * vs (key i) * kInv (kA d ks vs qs (kM d ks qs sink ok key) ok key)) else 0)
      ∧ hF256 t vss cb sk (ix2 0 r)
        = Ideal.div (kScale (kA d ks vs qs (kM d ks qs sink ok key) ok key)) (kL d ks qs sink (kM d ks qs sink ok key) ok key) := by
  subst hs
  have hM : hM256 t cb sk (ix2 0 r) = kM d ks qs sk ok key := by
    rw [hM256_at, hc]; simp only [ht]; rfl
  have hP : ∀ i, hP256 t cb sk (ix2 i r) = if ok i then kP d ks qs (kM d ks qs sk ok key) (key i) else 0 := by
    intro i
    rw [hP256_at, ht, hc, hM]
    exact exp2_kT _ _ _ hq _ _ _ _
  have hW : ∀ i, hW256 t vss cb sk (ix2 i r) = if ok i then kP d ks qs (kM d ks qs sk ok key) (key i) * vs (key i) else 0 := by
    intro i
    rw [hW256_at, hP]
    by_cases h : ok i
    · rw [if_pos h, if_pos h, hv i h]
    · rw [if_neg h, if_neg h]; exact zero_mul _
  have hA : hA256 t vss cb sk (ix2 0 r) = kA d ks vs qs (kM d ks qs sk ok key) ok key := by
    rw [hA256_at]; simp only [hW]; rfl
  have hL : hL256 t cb sk (ix2 0 r) = kL d ks qs sk (kM d ks qs sk ok key) ok key := by
    rw [hL256_at]; simp only [hP, hM]; rfl
  refine ⟨fun i => ?_, ?_⟩
  · rw [hQ256_at, hW, hA]
    by_cases h : ok i
    · rw [if_pos h, if_pos h]
    · rw [if_neg h, if_neg h]
      show clip (0 * _) = 0
      rw [zero_mul, clip_zero]
  · rw [hF256_at, hA, hL]

end H256

/-! ### Tiles of 384 rows -/

section H384

variable (t vss : FVec Ideal S384x128 .f32) (cb : FVec Ideal S1x128 .f32) (sk : Ideal .f32)

def hM384 : FVec Ideal S1x128 .f32 :=
  maximumf (mulf (shapeCast S1x128 (multiReduction .maximumf [0] S128 t 0xFF800000#32 reduces_S384x128_S128 (.inl rfl) rfl) shapeCasts_S128_S1x128) cb)
    (broadcast S1x128 (Scalar.mulf sk (Named.named κ "log2e" 0x3FB8AA3B#32 : Ideal .f32)))
def hP384 : FVec Ideal S384x128 .f32 :=
  exp2 (subf (mulf t (broadcastTo S384x128 cb broadcasts_S1x128_S384x128)) (broadcastTo S384x128 (hM384 t cb sk) broadcasts_S1x128_S384x128))
def hL384 : FVec Ideal S1x128 .f32 :=
  addf (shapeCast S1x128 (multiReduction .add [0] S128 (hP384 t cb sk) 0x00000000#32 reduces_S384x128_S128 (.inl rfl) rfl) shapeCasts_S128_S1x128)
    (exp2 (subf (broadcast S1x128 (Scalar.mulf sk (Named.named κ "log2e" 0x3FB8AA3B#32 : Ideal .f32))) (hM384 t cb sk)))
def hW384 : FVec Ideal S384x128 .f32 := mulf (hP384 t cb sk) vss
def hA384 : FVec Ideal S1x128 .f32 :=
  shapeCast S1x128 (multiReduction .maximumf [0] S128 (hW384 t vss cb sk) 0xFF800000#32 reduces_S384x128_S128 (.inl rfl) rfl) shapeCasts_S128_S1x128
def hQ384 : FVec Ideal S384x128 .f32 :=
  minimumf (broadcast S384x128 (Scalar.ofBits .f32 0x43E00000#32)) (maximumf (broadcast S384x128 (Scalar.ofBits .f32 0xC3E00000#32))
    (mulf (hW384 t vss cb sk) (broadcastTo S384x128 (invV (hA384 t vss cb sk)) broadcasts_S1x128_S384x128)))
def hF384 : FVec Ideal S1x128 .f32 := divf (scaleV (hA384 t vss cb sk)) (hL384 t cb sk)

theorem hM384_at (r : Fin 128) : hM384 t cb sk (ix2 0 r)
    = max ((Finset.univ.sup fun i : Fin 384 => (t (ix2 i r) : EReal)) * cb (ix2 0 r)) (sk * L) := by
  pointwise [hM384, log2e_eq]
  rw [ninf_eq]
  rfl
theorem hP384_at (i : Fin 384) (r : Fin 128) : hP384 t cb sk (ix2 i r)
    = Ideal.exp2 (t (ix2 i r) * cb (ix2 0 r) - hM384 t cb sk (ix2 0 r)) := by
  pointwise [hP384]
  rfl
theorem hL384_at (r : Fin 128) : hL384 t cb sk (ix2 0 r)
    = (∑ i : Fin 384, hP384 t cb sk (ix2 i r)) + Ideal.exp2 (sk * L - hM384 t cb sk (ix2 0 r)) := by
  pointwise [hL384, log2e_eq]
  rfl
theorem hW384_at (i : Fin 384) (r : Fin 128) : hW384 t vss cb sk (ix2 i r) = hP384 t cb sk (ix2 i r) * vss (ix2 i r) := by
  pointwise [hW384]
theorem hA384_at (r : Fin 128) : hA384 t vss cb sk (ix2 0 r)
    = Finset.univ.sup fun i : Fin 384 => (hW384 t vss cb sk (ix2 i r) : EReal) := by
  pointwise [hA384]
  rw [ninf_eq]
  rfl
theorem hQ384_at (i : Fin 384) (r : Fin 128) : hQ384 t vss cb sk (ix2 i r)
    = clip (hW384 t vss cb sk (ix2 i r) * kInv (hA384 t vss cb sk (ix2 0 r))) := by
  pointwise [hQ384, invV_at, clip]
theorem hF384_at (r : Fin 128) : hF384 t vss cb sk (ix2 0 r)
    = Ideal.div (kScale (hA384 t vss cb sk (ix2 0 r))) (hL384 t cb sk (ix2 0 r)) := by
  pointwise [hF384, scaleV_at]

/-- One column of the tile, once its scores are named: position `i` scores key `key i`, or nothing. -/
theorem head384 {K : Type} [Fintype K] (r : Fin 128) (ok : Fin 384 → Prop) [DecidablePred ok] (key : Fin 384 → K)
    (d ks vs : K → EReal) (qs sink : EReal) (hq : 0 < qs)
    (ht : ∀ i, t (ix2 i r) = kT d ks ok key i) (hv : ∀ i, ok i → vss (ix2 i r) = vs (key i))
    (hc : cb (ix2 0 r) = qs * SL) (hs : sk = sink) :
    (∀ i, hQ384 t vss cb sk (ix2 i r) = if ok i
        then clip (kP d ks qs (kM d ks qs sink ok key) (key i) * vs (key i) * kInv (kA d ks vs qs (kM d ks qs sink ok key) ok key)) else 0)
      ∧ hF384 t vss cb sk (ix2 0 r)
        = Ideal.div (kScale (kA d ks vs qs (kM d ks qs sink ok key) ok key)) (kL d ks qs sink (kM d ks qs sink ok key) ok key) := by
  subst hs
  have hM : hM384 t cb sk (ix2 0 r) = kM d ks qs sk ok key := by
    rw [hM384_at, hc]; simp only [ht]; rfl
  have hP : ∀ i, hP384 t cb sk (ix2 i r) = if ok i then kP d ks qs (kM d ks qs sk ok key) (key i) else 0 := by
    intro i
    rw [hP384_at, ht, hc, hM]
    exact exp2_kT _ _ _ hq _ _ _ _
  have hW : ∀ i, hW384 t vss cb sk (ix2 i r) = if ok i then kP d ks qs (kM d ks qs sk ok key) (key i) * vs (key i) else 0 := by
    intro i
    rw [hW384_at, hP]
    by_cases h : ok i
    · rw [if_pos h, if_pos h, hv i h]
    · rw [if_neg h, if_neg h]; exact zero_mul _
  have hA : hA384 t vss cb sk (ix2 0 r) = kA d ks vs qs (kM d ks qs sk ok key) ok key := by
    rw [hA384_at]; simp only [hW]; rfl
  have hL : hL384 t cb sk (ix2 0 r) = kL d ks qs sk (kM d ks qs sk ok key) ok key := by
    rw [hL384_at]; simp only [hP, hM]; rfl
  refine ⟨fun i => ?_, ?_⟩
  · rw [hQ384_at, hW, hA]
    by_cases h : ok i
    · rw [if_pos h, if_pos h]
    · rw [if_neg h, if_neg h]
      show clip (0 * _) = 0
      rw [zero_mul, clip_zero]
  · rw [hF384_at, hA, hL]

end H384

end Cert.KernelIdeal.Out

end
-- ==== Proof.Attend.lean ====
/- The attention of one group of heads over one window, as a function of the loaded vectors, and what it stores at an index.

   Four windows: the first three query tiles see one, two and three tiles of keys, the last of them up to the diagonal; every
   later tile sees four, the first of them beyond the diagonal and the last up to it, and the kernel scores these two as one. -/
module

public import proofs.«01_k».proof.Proof.Head
public import Idealize.ShloMosaic.Lib.Pipeline.ValueKit

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-- The mask of the diagonal tile: the key's position is at most the query's. -/
def IsMask (M : IVec S128x128 1) : Prop := ∀ a b : Fin 128, M (ix2 a b) = BitVec.ofBool (decide ((a : ℕ) ≤ b))

theorem select_decide {α : Type} (P : Prop) [Decidable P] (x y : α) :
    Scalar.select (BitVec.ofBool (decide P)) x y = if P then x else y := by
  by_cases h : P <;> simp [Scalar.select, h]

/-- The positions of an unmerged window that a query sees, and the key of each. -/
abbrev okU (N : ℕ) (r : Fin 128) (i : Fin N) : Prop := (i : ℕ) ≤ N - 128 + r
abbrev keyU {N : ℕ} (h : N ≤ 896) (i : Fin N) : Fin 896 := ⟨i, lt_of_lt_of_le i.isLt h⟩

/-- Row `i` of a merged tile of scores is this position of the window. -/
abbrev pos4 (r : Fin 128) (i : Fin 384) : ℕ := if (i : ℕ) < 256 then 128 + i else if (i : ℕ) - 256 ≤ r then 128 + i else i - 256
theorem pos4_lt (r : Fin 128) (i : Fin 384) : pos4 r i < 512 := by
  unfold pos4; split
  · omega
  · split <;> omega
abbrev ok4 (i : Fin 384) : Prop := True
abbrev key4 (first : ℕ) (h : first + 512 ≤ 896) (r : Fin 128) (i : Fin 384) : Fin 896 := ⟨first + pos4 r i, by have := pos4_lt r i; omega⟩
/-- The positions of the window that a query sees, and the key of each. -/
abbrev ok4' (r : Fin 128) (p : Fin 512) : Prop := (r : ℕ) < p ∧ (p : ℕ) ≤ 384 + r
abbrev key4' (first : ℕ) (h : first + 512 ≤ 896) (p : Fin 512) : Fin 896 := ⟨first + p, by omega⟩

def outG0 (o : FVec Ideal S128x640 .f32) (f : FVec Ideal S1x128 .f32) : FVec Ideal S1x128x128 .bf16 :=
  shapeCast S1x128x128 (transpose S128x128 [1, 0] (truncf .bf16 (mulf (extractStridedSlice S128x128 ![0, 0] o slices_S128x640_o0_0_S128x128)
    (broadcastTo S128x128 f broadcasts_S1x128_S128x128)) bitsLt_bf16_f32 : FVec Ideal S128x128 .bf16) transposes_S128x128_p1_0_S128x128) shapeCasts_S128x128_S1x128x128
theorem outG0_at (o : FVec Ideal S128x640 .f32) (f : FVec Ideal S1x128 .f32) (r c : Fin 128) :
    outG0 o f (ix3 0 r c) = o (ix2 c ⟨0 + r, by omega⟩) * f (ix2 0 r) := by
  pointwise [outG0]
  try rfl
def outG1 (o : FVec Ideal S128x640 .f32) (f : FVec Ideal S1x128 .f32) : FVec Ideal S1x128x128 .bf16 :=
  shapeCast S1x128x128 (transpose S128x128 [1, 0] (truncf .bf16 (mulf (extractStridedSlice S128x128 ![0, 128] o slices_S128x640_o0_128_S128x128)
    (broadcastTo S128x128 f broadcasts_S1x128_S128x128)) bitsLt_bf16_f32 : FVec Ideal S128x128 .bf16) transposes_S128x128_p1_0_S128x128) shapeCasts_S128x128_S1x128x128
theorem outG1_at (o : FVec Ideal S128x640 .f32) (f : FVec Ideal S1x128 .f32) (r c : Fin 128) :
    outG1 o f (ix3 0 r c) = o (ix2 c ⟨128 + r, by omega⟩) * f (ix2 0 r) := by
  pointwise [outG1]
  try rfl
def outG2 (o : FVec Ideal S128x640 .f32) (f : FVec Ideal S1x128 .f32) : FVec Ideal S1x128x128 .bf16 :=
  shapeCast S1x128x128 (transpose S128x128 [1, 0] (truncf .bf16 (mulf (extractStridedSlice S128x128 ![0, 256] o slices_S128x640_o0_256_S128x128)
    (broadcastTo S128x128 f broadcasts_S1x128_S128x128)) bitsLt_bf16_f32 : FVec Ideal S128x128 .bf16) transposes_S128x128_p1_0_S128x128) shapeCasts_S128x128_S1x128x128
theorem outG2_at (o : FVec Ideal S128x640 .f32) (f : FVec Ideal S1x128 .f32) (r c : Fin 128) :
    outG2 o f (ix3 0 r c) = o (ix2 c ⟨256 + r, by omega⟩) * f (ix2 0 r) := by
  pointwise [outG2]
  try rfl
def outG3 (o : FVec Ideal S128x640 .f32) (f : FVec Ideal S1x128 .f32) : FVec Ideal S1x128x128 .bf16 :=
  shapeCast S1x128x128 (transpose S128x128 [1, 0] (truncf .bf16 (mulf (extractStridedSlice S128x128 ![0, 384] o slices_S128x640_o0_384_S128x128)
    (broadcastTo S128x128 f broadcasts_S1x128_S128x128)) bitsLt_bf16_f32 : FVec Ideal S128x128 .bf16) transposes_S128x128_p1_0_S128x128) shapeCasts_S128x128_S1x128x128
theorem outG3_at (o : FVec Ideal S128x640 .f32) (f : FVec Ideal S1x128 .f32) (r c : Fin 128) :
    outG3 o f (ix3 0 r c) = o (ix2 c ⟨384 + r, by omega⟩) * f (ix2 0 r) := by
  pointwise [outG3]
  try rfl
def outG4 (o : FVec Ideal S128x640 .f32) (f : FVec Ideal S1x128 .f32) : FVec Ideal S1x128x128 .bf16 :=
  shapeCast S1x128x128 (transpose S128x128 [1, 0] (truncf .bf16 (mulf (extractStridedSlice S128x128 ![0, 512] o slices_S128x640_o0_512_S128x128)
    (broadcastTo S128x128 f broadcasts_S1x128_S128x128)) bitsLt_bf16_f32 : FVec Ideal S128x128 .bf16) transposes_S128x128_p1_0_S128x128) shapeCasts_S128x128_S1x128x128
theorem outG4_at (o : FVec Ideal S128x640 .f32) (f : FVec Ideal S1x128 .f32) (r c : Fin 128) :
    outG4 o f (ix3 0 r c) = o (ix2 c ⟨512 + r, by omega⟩) * f (ix2 0 r) := by
  pointwise [outG4]
  try rfl

/-! ### The window of 128 keys -/

def rawU1 (K : FVec Ideal S1x128x128 .fp8e4m3) (Q : FVec Ideal S640x128 .fp8e4m3) : FVec Ideal S128x640 .f32 :=
  matmul dot_S128x128_S640x128_S128x640_1_1_0_0_n_n none (shapeCast S128x128 K shapeCasts_S1x128x128_S128x128 : FVec Ideal S128x128 .fp8e4m3) Q (constant S128x640 .f32 0x00000000#32)
def sumU1 (V : FVec Ideal S1x128x128 .fp8e4m3) (w0 w1 w2 w3 w4 : FVec Ideal S128x128 .fp8e4m3) : FVec Ideal S128x640 .f32 :=
  matmul dot_S128x128_S128x640_S128x640_1_0_0_1_n_n none (shapeCast S128x128 V shapeCasts_S1x128x128_S128x128 : FVec Ideal S128x128 .fp8e4m3)
    (concatenate S128x640 1 [⟨S128x128, w0⟩, ⟨S128x128, w1⟩, ⟨S128x128, w2⟩, ⟨S128x128, w3⟩, ⟨S128x128, w4⟩]
      concatenates_S128x128_S128x128_S128x128_S128x128_S128x128_S128x640_d1 : FVec Ideal S128x640 .fp8e4m3) (constant S128x640 .f32 0x00000000#32)

theorem rawU1_at0 (K : FVec Ideal S1x128x128 .fp8e4m3) (Q : FVec Ideal S640x128 .fp8e4m3) (p : Fin 128) (r : Fin 128) :
    extractStridedSlice S128x128 ![0, 0] (rawU1 K Q) slices_S128x640_o0_0_S128x128 (ix2 p r)
      = ∑ e : Fin 128, K (ix3 0 p e) * Q (ix2 ⟨0 + r, by omega⟩ e) := by
  pointwise [rawU1]
  try rfl
theorem sumU1_at0 (V : FVec Ideal S1x128x128 .fp8e4m3) (w0 w1 w2 w3 w4 : FVec Ideal S128x128 .fp8e4m3) (c r : Fin 128) :
    sumU1 V w0 w1 w2 w3 w4 (ix2 c ⟨0 + r, by omega⟩) = ∑ p : Fin 128, V (ix3 0 c p) * w0 (ix2 p r) := by
  pointwise [sumU1]

theorem rawU1_at1 (K : FVec Ideal S1x128x128 .fp8e4m3) (Q : FVec Ideal S640x128 .fp8e4m3) (p : Fin 128) (r : Fin 128) :
    extractStridedSlice S128x128 ![0, 128] (rawU1 K Q) slices_S128x640_o0_128_S128x128 (ix2 p r)
      = ∑ e : Fin 128, K (ix3 0 p e) * Q (ix2 ⟨128 + r, by omega⟩ e) := by
  pointwise [rawU1]
  try rfl
theorem sumU1_at1 (V : FVec Ideal S1x128x128 .fp8e4m3) (w0 w1 w2 w3 w4 : FVec Ideal S128x128 .fp8e4m3) (c r : Fin 128) :
    sumU1 V w0 w1 w2 w3 w4 (ix2 c ⟨128 + r, by omega⟩) = ∑ p : Fin 128, V (ix3 0 c p) * w1 (ix2 p r) := by
  pointwise [sumU1]

theorem rawU1_at2 (K : FVec Ideal S1x128x128 .fp8e4m3) (Q : FVec Ideal S640x128 .fp8e4m3) (p : Fin 128) (r : Fin 128) :
    extractStridedSlice S128x128 ![0, 256] (rawU1 K Q) slices_S128x640_o0_256_S128x128 (ix2 p r)
      = ∑ e : Fin 128, K (ix3 0 p e) * Q (ix2 ⟨256 + r, by omega⟩ e) := by
  pointwise [rawU1]
  try rfl
theorem sumU1_at2 (V : FVec Ideal S1x128x128 .fp8e4m3) (w0 w1 w2 w3 w4 : FVec Ideal S128x128 .fp8e4m3) (c r : Fin 128) :
    sumU1 V w0 w1 w2 w3 w4 (ix2 c ⟨256 + r, by omega⟩) = ∑ p : Fin 128, V (ix3 0 c p) * w2 (ix2 p r) := by
  pointwise [sumU1]
  refine Finset.sum_congr rfl fun p _ => congrArg _ ?_
  rw [dif_neg (by omega), dif_neg (by omega), dif_pos (by omega)]
  exact congrArg (fun a => w2 (ix2 p a)) (Fin.ext (by dsimp only; omega))

theorem rawU1_at3 (K : FVec Ideal S1x128x128 .fp8e4m3) (Q : FVec Ideal S640x128 .fp8e4m3) (p : Fin 128) (r : Fin 128) :
    extractStridedSlice S128x128 ![0, 384] (rawU1 K Q) slices_S128x640_o0_384_S128x128 (ix2 p r)
      = ∑ e : Fin 128, K (ix3 0 p e) * Q (ix2 ⟨384 + r, by omega⟩ e) := by
  pointwise [rawU1]
  try rfl
theorem sumU1_at3 (V : FVec Ideal S1x128x128 .fp8e4m3) (w0 w1 w2 w3 w4 : FVec Ideal S128x128 .fp8e4m3) (c r : Fin 128) :
    sumU1 V w0 w1 w2 w3 w4 (ix2 c ⟨384 + r, by omega⟩) = ∑ p : Fin 128, V (ix3 0 c p) * w3 (ix2 p r) := by
  pointwise [sumU1]
  refine Finset.sum_congr rfl fun p _ => congrArg _ ?_
  rw [dif_neg (by omega), dif_neg (by omega), dif_neg (by omega), dif_pos (by omega)]
  exact congrArg (fun a => w3 (ix2 p a)) (Fin.ext (by dsimp only; omega))

theorem rawU1_at4 (K : FVec Ideal S1x128x128 .fp8e4m3) (Q : FVec Ideal S640x128 .fp8e4m3) (p : Fin 128) (r : Fin 128) :
    extractStridedSlice S128x128 ![0, 512] (rawU1 K Q) slices_S128x640_o0_512_S128x128 (ix2 p r)
      = ∑ e : Fin 128, K (ix3 0 p e) * Q (ix2 ⟨512 + r, by omega⟩ e) := by
  pointwise [rawU1]
  try rfl
theorem sumU1_at4 (V : FVec Ideal S1x128x128 .fp8e4m3) (w0 w1 w2 w3 w4 : FVec Ideal S128x128 .fp8e4m3) (c r : Fin 128) :
    sumU1 V w0 w1 w2 w3 w4 (ix2 c ⟨512 + r, by omega⟩) = ∑ p : Fin 128, V (ix3 0 c p) * w4 (ix2 p r) := by
  pointwise [sumU1]
  refine Finset.sum_congr rfl fun p _ => congrArg _ ?_
  rw [dif_neg (by omega), dif_neg (by omega), dif_neg (by omega), dif_neg (by omega)]
  exact congrArg (fun a => w4 (ix2 p a)) (Fin.ext (by dsimp only; omega))
def tU1 (M : IVec S128x128 1) (KS : FVec Ideal S1x128x128 .f32) (rs : FVec Ideal S128x128 .f32) : FVec Ideal S128x128 .f32 :=
  select M (mulf rs (shapeCast S128x128 KS shapeCasts_S1x128x128_S128x128)) (broadcast S128x128 (Scalar.ofBits .f32 0xFF800000#32))
def vU1 (VS : FVec Ideal S1x128x128 .f32) : FVec Ideal S128x128 .f32 := shapeCast S128x128 VS shapeCasts_S1x128x128_S128x128
def codesU1 (q : FVec Ideal S128x128 .f32) : FVec Ideal S128x128 .fp8e4m3 := truncf .fp8e4m3 q bitsLt_fp8e4m3_f32

theorem tU1_at (M : IVec S128x128 1) (hM : IsMask M) (KS : FVec Ideal S1x128x128 .f32) (rs : FVec Ideal S128x128 .f32) (i : Fin 128) (r : Fin 128) :
    tU1 M KS rs (ix2 i r) = if okU 128 r i then rs (ix2 i r) * KS (ix3 0 i r) else (⊥ : EReal) := by
  pointwise [tU1]
  rw [hM i r, select_decide, ninf_eq]
  simp only [okU, Nat.sub_self, Nat.zero_add]

theorem vU1_at (VS : FVec Ideal S1x128x128 .f32) (i : Fin 128) (r : Fin 128) : vU1 VS (ix2 i r) = VS (ix3 0 i r) := by
  pointwise [vU1]
theorem codesU1_at (q : FVec Ideal S128x128 .f32) (i : Fin 128) (r : Fin 128) : codesU1 q (ix2 i r) = q (ix2 i r) := by
  pointwise [codesU1]

/-- One column of one head: the codes of the weights, and the factor of the result. -/
theorem coreU1 (M : IVec S128x128 1) (hM : IsMask M) (rs : FVec Ideal S128x128 .f32) (KS VS : FVec Ideal S1x128x128 .f32)
    (cb : FVec Ideal S1x128 .f32) (sk : Ideal .f32) (r : Fin 128) (d ksf vsf : Fin 896 → EReal) (qs sink : EReal) (hq : 0 < qs)
    (hd : ∀ p : Fin 128, rs (ix2 p r) = d (keyU (by decide) p)) (hks : ∀ p : Fin 128, KS (ix3 0 p r) = ksf (keyU (by decide) p))
    (hvs : ∀ p : Fin 128, VS (ix3 0 p r) = vsf (keyU (by decide) p)) (hc : cb (ix2 0 r) = qs * SL) (hs : sk = sink) :
    (∀ p : Fin 128, codesU1 (hQ128 (tU1 M KS rs) (vU1 VS) cb sk) (ix2 p r) = if okU 128 r p
        then clip (kP d ksf qs (kM d ksf qs sink (okU 128 r) (keyU (by decide))) (keyU (by decide) p) * vsf (keyU (by decide) p)
          * kInv (kA d ksf vsf qs (kM d ksf qs sink (okU 128 r) (keyU (by decide))) (okU 128 r) (keyU (by decide)))) else 0)
      ∧ hF128 (tU1 M KS rs) (vU1 VS) cb sk (ix2 0 r)
        = Ideal.div (kScale (kA d ksf vsf qs (kM d ksf qs sink (okU 128 r) (keyU (by decide))) (okU 128 r) (keyU (by decide))))
          (kL d ksf qs sink (kM d ksf qs sink (okU 128 r) (keyU (by decide))) (okU 128 r) (keyU (by decide))) := by
  have key := head128 (tU1 M KS rs) (vU1 VS) cb sk r (okU 128 r) (keyU (by decide)) d ksf vsf qs sink hq
    (fun i => by rw [tU1_at M hM, hd, hks]; rfl) (fun i _ => by rw [vU1_at, hvs]) hc hs
  exact ⟨fun p => by rw [codesU1_at]; exact key.1 p, key.2⟩

theorem attU1_0 (M : IVec S128x128 1) (hM : IsMask M) (K : FVec Ideal S1x128x128 .fp8e4m3) (V : FVec Ideal S1x128x128 .fp8e4m3)
    (KS VS : FVec Ideal S1x128x128 .f32) (Q : FVec Ideal S640x128 .fp8e4m3) (cb : FVec Ideal S1x128 .f32) (sk : Ideal .f32)
    (w0 w1 w2 w3 w4 : FVec Ideal S128x128 .fp8e4m3) (r c : Fin 128)
    (kk : Fin 896 → Fin 128 → EReal) (qq : Fin 128 → EReal) (ksf vsf vf : Fin 896 → EReal) (qs sink : EReal) (hq : 0 < qs)
    (hw : w0 = codesU1 (hQ128 (tU1 M KS (extractStridedSlice S128x128 ![0, 0] (rawU1 K Q) slices_S128x640_o0_0_S128x128)) (vU1 VS) cb sk))
    (hk : ∀ (p : Fin 128) e, K (ix3 0 p e) = kk ((keyU (by decide)) p) e) (hv : ∀ p : Fin 128, V (ix3 0 c p) = vf ((keyU (by decide)) p))
    (hks : ∀ p : Fin 128, KS (ix3 0 p r) = ksf ((keyU (by decide)) p)) (hvs : ∀ p : Fin 128, VS (ix3 0 p r) = vsf ((keyU (by decide)) p))
    (hQ : ∀ e, Q (ix2 ⟨0 + r, by omega⟩ e) = qq e) (hc : cb (ix2 0 r) = qs * SL) (hs : sk = sink) :
    outG0 (sumU1 V w0 w1 w2 w3 w4)
        (hF128 (tU1 M KS (extractStridedSlice S128x128 ![0, 0] (rawU1 K Q) slices_S128x640_o0_0_S128x128)) (vU1 VS) cb sk) (ix3 0 r c)
      = kOut (fun j => ∑ e, kk j e * qq e) ksf vsf vf qs sink
          (kM (fun j => ∑ e, kk j e * qq e) ksf qs sink (okU 128 r) (keyU (by decide))) (okU 128 r) (keyU (by decide)) (okU 128 r) (keyU (by decide)) := by
  have key := coreU1 M hM (extractStridedSlice S128x128 ![0, 0] (rawU1 K Q) slices_S128x640_o0_0_S128x128) KS VS cb sk r
    (fun j => ∑ e, kk j e * qq e) ksf vsf qs sink hq (fun p => by rw [rawU1_at0]; simp only [hk, hQ]) hks hvs hc hs
  rw [outG0_at, sumU1_at0, key.2]
  unfold kOut
  refine congrArg (· * _) (Finset.sum_congr rfl fun p _ => ?_)
  rw [hw, key.1, hv, mul_comm, ite_mul, zero_mul]

theorem attU1_1 (M : IVec S128x128 1) (hM : IsMask M) (K : FVec Ideal S1x128x128 .fp8e4m3) (V : FVec Ideal S1x128x128 .fp8e4m3)
    (KS VS : FVec Ideal S1x128x128 .f32) (Q : FVec Ideal S640x128 .fp8e4m3) (cb : FVec Ideal S1x128 .f32) (sk : Ideal .f32)
    (w0 w1 w2 w3 w4 : FVec Ideal S128x128 .fp8e4m3) (r c : Fin 128)
    (kk : Fin 896 → Fin 128 → EReal) (qq : Fin 128 → EReal) (ksf vsf vf : Fin 896 → EReal) (qs sink : EReal) (hq : 0 < qs)
    (hw : w1 = codesU1 (hQ128 (tU1 M KS (extractStridedSlice S128x128 ![0, 128] (rawU1 K Q) slices_S128x640_o0_128_S128x128)) (vU1 VS) cb sk))
    (hk : ∀ (p : Fin 128) e, K (ix3 0 p e) = kk ((keyU (by decide)) p) e) (hv : ∀ p : Fin 128, V (ix3 0 c p) = vf ((keyU (by decide)) p))
    (hks : ∀ p : Fin 128, KS (ix3 0 p r) = ksf ((keyU (by decide)) p)) (hvs : ∀ p : Fin 128, VS (ix3 0 p r) = vsf ((keyU (by decide)) p))
    (hQ : ∀ e, Q (ix2 ⟨128 + r, by omega⟩ e) = qq e) (hc : cb (ix2 0 r) = qs * SL) (hs : sk = sink) :
    outG1 (sumU1 V w0 w1 w2 w3 w4)
        (hF128 (tU1 M KS (extractStridedSlice S128x128 ![0, 128] (rawU1 K Q) slices_S128x640_o0_128_S128x128)) (vU1 VS) cb sk) (ix3 0 r c)
      = kOut (fun j => ∑ e, kk j e * qq e) ksf vsf vf qs sink
          (kM (fun j => ∑ e, kk j e * qq e) ksf qs sink (okU 128 r) (keyU (by decide))) (okU 128 r) (keyU (by decide)) (okU 128 r) (keyU (by decide)) := by
  have key := coreU1 M hM (extractStridedSlice S128x128 ![0, 128] (rawU1 K Q) slices_S128x640_o0_128_S128x128) KS VS cb sk r
    (fun j => ∑ e, kk j e * qq e) ksf vsf qs sink hq (fun p => by rw [rawU1_at1]; simp only [hk, hQ]) hks hvs hc hs
  rw [outG1_at, sumU1_at1, key.2]
  unfold kOut
  refine congrArg (· * _) (Finset.sum_congr rfl fun p _ => ?_)
  rw [hw, key.1, hv, mul_comm, ite_mul, zero_mul]

theorem attU1_2 (M : IVec S128x128 1) (hM : IsMask M) (K : FVec Ideal S1x128x128 .fp8e4m3) (V : FVec Ideal S1x128x128 .fp8e4m3)
    (KS VS : FVec Ideal S1x128x128 .f32) (Q : FVec Ideal S640x128 .fp8e4m3) (cb : FVec Ideal S1x128 .f32) (sk : Ideal .f32)
    (w0 w1 w2 w3 w4 : FVec Ideal S128x128 .fp8e4m3) (r c : Fin 128)
    (kk : Fin 896 → Fin 128 → EReal) (qq : Fin 128 → EReal) (ksf vsf vf : Fin 896 → EReal) (qs sink : EReal) (hq : 0 < qs)
    (hw : w2 = codesU1 (hQ128 (tU1 M KS (extractStridedSlice S128x128 ![0, 256] (rawU1 K Q) slices_S128x640_o0_256_S128x128)) (vU1 VS) cb sk))
    (hk : ∀ (p : Fin 128) e, K (ix3 0 p e) = kk ((keyU (by decide)) p) e) (hv : ∀ p : Fin 128, V (ix3 0 c p) = vf ((keyU (by decide)) p))
    (hks : ∀ p : Fin 128, KS (ix3 0 p r) = ksf ((keyU (by decide)) p)) (hvs : ∀ p : Fin 128, VS (ix3 0 p r) = vsf ((keyU (by decide)) p))
    (hQ : ∀ e, Q (ix2 ⟨256 + r, by omega⟩ e) = qq e) (hc : cb (ix2 0 r) = qs * SL) (hs : sk = sink) :
    outG2 (sumU1 V w0 w1 w2 w3 w4)
        (hF128 (tU1 M KS (extractStridedSlice S128x128 ![0, 256] (rawU1 K Q) slices_S128x640_o0_256_S128x128)) (vU1 VS) cb sk) (ix3 0 r c)
      = kOut (fun j => ∑ e, kk j e * qq e) ksf vsf vf qs sink
          (kM (fun j => ∑ e, kk j e * qq e) ksf qs sink (okU 128 r) (keyU (by decide))) (okU 128 r) (keyU (by decide)) (okU 128 r) (keyU (by decide)) := by
  have key := coreU1 M hM (extractStridedSlice S128x128 ![0, 256] (rawU1 K Q) slices_S128x640_o0_256_S128x128) KS VS cb sk r
    (fun j => ∑ e, kk j e * qq e) ksf vsf qs sink hq (fun p => by rw [rawU1_at2]; simp only [hk, hQ]) hks hvs hc hs
  rw [outG2_at, sumU1_at2, key.2]
  unfold kOut
  refine congrArg (· * _) (Finset.sum_congr rfl fun p _ => ?_)
  rw [hw, key.1, hv, mul_comm, ite_mul, zero_mul]

theorem attU1_3 (M : IVec S128x128 1) (hM : IsMask M) (K : FVec Ideal S1x128x128 .fp8e4m3) (V : FVec Ideal S1x128x128 .fp8e4m3)
    (KS VS : FVec Ideal S1x128x128 .f32) (Q : FVec Ideal S640x128 .fp8e4m3) (cb : FVec Ideal S1x128 .f32) (sk : Ideal .f32)
    (w0 w1 w2 w3 w4 : FVec Ideal S128x128 .fp8e4m3) (r c : Fin 128)
    (kk : Fin 896 → Fin 128 → EReal) (qq : Fin 128 → EReal) (ksf vsf vf : Fin 896 → EReal) (qs sink : EReal) (hq : 0 < qs)
    (hw : w3 = codesU1 (hQ128 (tU1 M KS (extractStridedSlice S128x128 ![0, 384] (rawU1 K Q) slices_S128x640_o0_384_S128x128)) (vU1 VS) cb sk))
    (hk : ∀ (p : Fin 128) e, K (ix3 0 p e) = kk ((keyU (by decide)) p) e) (hv : ∀ p : Fin 128, V (ix3 0 c p) = vf ((keyU (by decide)) p))
    (hks : ∀ p : Fin 128, KS (ix3 0 p r) = ksf ((keyU (by decide)) p)) (hvs : ∀ p : Fin 128, VS (ix3 0 p r) = vsf ((keyU (by decide)) p))
    (hQ : ∀ e, Q (ix2 ⟨384 + r, by omega⟩ e) = qq e) (hc : cb (ix2 0 r) = qs * SL) (hs : sk = sink) :
    outG3 (sumU1 V w0 w1 w2 w3 w4)
        (hF128 (tU1 M KS (extractStridedSlice S128x128 ![0, 384] (rawU1 K Q) slices_S128x640_o0_384_S128x128)) (vU1 VS) cb sk) (ix3 0 r c)
      = kOut (fun j => ∑ e, kk j e * qq e) ksf vsf vf qs sink
          (kM (fun j => ∑ e, kk j e * qq e) ksf qs sink (okU 128 r) (keyU (by decide))) (okU 128 r) (keyU (by decide)) (okU 128 r) (keyU (by decide)) := by
  have key := coreU1 M hM (extractStridedSlice S128x128 ![0, 384] (rawU1 K Q) slices_S128x640_o0_384_S128x128) KS VS cb sk r
    (fun j => ∑ e, kk j e * qq e) ksf vsf qs sink hq (fun p => by rw [rawU1_at3]; simp only [hk, hQ]) hks hvs hc hs
  rw [outG3_at, sumU1_at3, key.2]
  unfold kOut
  refine congrArg (· * _) (Finset.sum_congr rfl fun p _ => ?_)
  rw [hw, key.1, hv, mul_comm, ite_mul, zero_mul]

theorem attU1_4 (M : IVec S128x128 1) (hM : IsMask M) (K : FVec Ideal S1x128x128 .fp8e4m3) (V : FVec Ideal S1x128x128 .fp8e4m3)
    (KS VS : FVec Ideal S1x128x128 .f32) (Q : FVec Ideal S640x128 .fp8e4m3) (cb : FVec Ideal S1x128 .f32) (sk : Ideal .f32)
    (w0 w1 w2 w3 w4 : FVec Ideal S128x128 .fp8e4m3) (r c : Fin 128)
    (kk : Fin 896 → Fin 128 → EReal) (qq : Fin 128 → EReal) (ksf vsf vf : Fin 896 → EReal) (qs sink : EReal) (hq : 0 < qs)
    (hw : w4 = codesU1 (hQ128 (tU1 M KS (extractStridedSlice S128x128 ![0, 512] (rawU1 K Q) slices_S128x640_o0_512_S128x128)) (vU1 VS) cb sk))
    (hk : ∀ (p : Fin 128) e, K (ix3 0 p e) = kk ((keyU (by decide)) p) e) (hv : ∀ p : Fin 128, V (ix3 0 c p) = vf ((keyU (by decide)) p))
    (hks : ∀ p : Fin 128, KS (ix3 0 p r) = ksf ((keyU (by decide)) p)) (hvs : ∀ p : Fin 128, VS (ix3 0 p r) = vsf ((keyU (by decide)) p))
    (hQ : ∀ e, Q (ix2 ⟨512 + r, by omega⟩ e) = qq e) (hc : cb (ix2 0 r) = qs * SL) (hs : sk = sink) :
    outG4 (sumU1 V w0 w1 w2 w3 w4)
        (hF128 (tU1 M KS (extractStridedSlice S128x128 ![0, 512] (rawU1 K Q) slices_S128x640_o0_512_S128x128)) (vU1 VS) cb sk) (ix3 0 r c)
      = kOut (fun j => ∑ e, kk j e * qq e) ksf vsf vf qs sink
          (kM (fun j => ∑ e, kk j e * qq e) ksf qs sink (okU 128 r) (keyU (by decide))) (okU 128 r) (keyU (by decide)) (okU 128 r) (keyU (by decide)) := by
  have key := coreU1 M hM (extractStridedSlice S128x128 ![0, 512] (rawU1 K Q) slices_S128x640_o0_512_S128x128) KS VS cb sk r
    (fun j => ∑ e, kk j e * qq e) ksf vsf qs sink hq (fun p => by rw [rawU1_at4]; simp only [hk, hQ]) hks hvs hc hs
  rw [outG4_at, sumU1_at4, key.2]
  unfold kOut
  refine congrArg (· * _) (Finset.sum_congr rfl fun p _ => ?_)
  rw [hw, key.1, hv, mul_comm, ite_mul, zero_mul]

/-! ### The window of 256 keys -/

def rawU2 (K : FVec Ideal S1x256x128 .fp8e4m3) (Q : FVec Ideal S640x128 .fp8e4m3) : FVec Ideal S256x640 .f32 :=
  matmul dot_S256x128_S640x128_S256x640_1_1_0_0_n_n none (shapeCast S256x128 K shapeCasts_S1x256x128_S256x128 : FVec Ideal S256x128 .fp8e4m3) Q (constant S256x640 .f32 0x00000000#32)
def sumU2 (V : FVec Ideal S1x128x256 .fp8e4m3) (w0 w1 w2 w3 w4 : FVec Ideal S256x128 .fp8e4m3) : FVec Ideal S128x640 .f32 :=
  matmul dot_S128x256_S256x640_S128x640_1_0_0_1_n_n none (shapeCast S128x256 V shapeCasts_S1x128x256_S128x256 : FVec Ideal S128x256 .fp8e4m3)
    (concatenate S256x640 1 [⟨S256x128, w0⟩, ⟨S256x128, w1⟩, ⟨S256x128, w2⟩, ⟨S256x128, w3⟩, ⟨S256x128, w4⟩]
      concatenates_S256x128_S256x128_S256x128_S256x128_S256x128_S256x640_d1 : FVec Ideal S256x640 .fp8e4m3) (constant S128x640 .f32 0x00000000#32)

theorem rawU2_at0 (K : FVec Ideal S1x256x128 .fp8e4m3) (Q : FVec Ideal S640x128 .fp8e4m3) (p : Fin 256) (r : Fin 128) :
    extractStridedSlice S256x128 ![0, 0] (rawU2 K Q) slices_S256x640_o0_0_S256x128 (ix2 p r)
      = ∑ e : Fin 128, K (ix3 0 p e) * Q (ix2 ⟨0 + r, by omega⟩ e) := by
  pointwise [rawU2]
  try rfl
theorem sumU2_at0 (V : FVec Ideal S1x128x256 .fp8e4m3) (w0 w1 w2 w3 w4 : FVec Ideal S256x128 .fp8e4m3) (c r : Fin 128) :
    sumU2 V w0 w1 w2 w3 w4 (ix2 c ⟨0 + r, by omega⟩) = ∑ p : Fin 256, V (ix3 0 c p) * w0 (ix2 p r) := by
  pointwise [sumU2]

theorem rawU2_at1 (K : FVec Ideal S1x256x128 .fp8e4m3) (Q : FVec Ideal S640x128 .fp8e4m3) (p : Fin 256) (r : Fin 128) :
    extractStridedSlice S256x128 ![0, 128] (rawU2 K Q) slices_S256x640_o0_128_S256x128 (ix2 p r)
      = ∑ e : Fin 128, K (ix3 0 p e) * Q (ix2 ⟨128 + r, by omega⟩ e) := by
  pointwise [rawU2]
  try rfl
theorem sumU2_at1 (V : FVec Ideal S1x128x256 .fp8e4m3) (w0 w1 w2 w3 w4 : FVec Ideal S256x128 .fp8e4m3) (c r : Fin 128) :
    sumU2 V w0 w1 w2 w3 w4 (ix2 c ⟨128 + r, by omega⟩) = ∑ p : Fin 256, V (ix3 0 c p) * w1 (ix2 p r) := by
  pointwise [sumU2]

theorem rawU2_at2 (K : FVec Ideal S1x256x128 .fp8e4m3) (Q : FVec Ideal S640x128 .fp8e4m3) (p : Fin 256) (r : Fin 128) :
    extractStridedSlice S256x128 ![0, 256] (rawU2 K Q) slices_S256x640_o0_256_S256x128 (ix2 p r)
      = ∑ e : Fin 128, K (ix3 0 p e) * Q (ix2 ⟨256 + r, by omega⟩ e) := by
  pointwise [rawU2]
  try rfl
theorem sumU2_at2 (V : FVec Ideal S1x128x256 .fp8e4m3) (w0 w1 w2 w3 w4 : FVec Ideal S256x128 .fp8e4m3) (c r : Fin 128) :
    sumU2 V w0 w1 w2 w3 w4 (ix2 c ⟨256 + r, by omega⟩) = ∑ p : Fin 256, V (ix3 0 c p) * w2 (ix2 p r) := by
  pointwise [sumU2]
  refine Finset.sum_congr rfl fun p _ => congrArg _ ?_
  rw [dif_neg (by omega), dif_neg (by omega), dif_pos (by omega)]
  exact congrArg (fun a => w2 (ix2 p a)) (Fin.ext (by dsimp only; omega))

theorem rawU2_at3 (K : FVec Ideal S1x256x128 .fp8e4m3) (Q : FVec Ideal S640x128 .fp8e4m3) (p : Fin 256) (r : Fin 128) :
    extractStridedSlice S256x128 ![0, 384] (rawU2 K Q) slices_S256x640_o0_384_S256x128 (ix2 p r)
      = ∑ e : Fin 128, K (ix3 0 p e) * Q (ix2 ⟨384 + r, by omega⟩ e) := by
  pointwise [rawU2]
  try rfl
theorem sumU2_at3 (V : FVec Ideal S1x128x256 .fp8e4m3) (w0 w1 w2 w3 w4 : FVec Ideal S256x128 .fp8e4m3) (c r : Fin 128) :
    sumU2 V w0 w1 w2 w3 w4 (ix2 c ⟨384 + r, by omega⟩) = ∑ p : Fin 256, V (ix3 0 c p) * w3 (ix2 p r) := by
  pointwise [sumU2]
  refine Finset.sum_congr rfl fun p _ => congrArg _ ?_
  rw [dif_neg (by omega), dif_neg (by omega), dif_neg (by omega), dif_pos (by omega)]
  exact congrArg (fun a => w3 (ix2 p a)) (Fin.ext (by dsimp only; omega))

theorem rawU2_at4 (K : FVec Ideal S1x256x128 .fp8e4m3) (Q : FVec Ideal S640x128 .fp8e4m3) (p : Fin 256) (r : Fin 128) :
    extractStridedSlice S256x128 ![0, 512] (rawU2 K Q) slices_S256x640_o0_512_S256x128 (ix2 p r)
      = ∑ e : Fin 128, K (ix3 0 p e) * Q (ix2 ⟨512 + r, by omega⟩ e) := by
  pointwise [rawU2]
  try rfl
theorem sumU2_at4 (V : FVec Ideal S1x128x256 .fp8e4m3) (w0 w1 w2 w3 w4 : FVec Ideal S256x128 .fp8e4m3) (c r : Fin 128) :
    sumU2 V w0 w1 w2 w3 w4 (ix2 c ⟨512 + r, by omega⟩) = ∑ p : Fin 256, V (ix3 0 c p) * w4 (ix2 p r) := by
  pointwise [sumU2]
  refine Finset.sum_congr rfl fun p _ => congrArg _ ?_
  rw [dif_neg (by omega), dif_neg (by omega), dif_neg (by omega), dif_neg (by omega)]
  exact congrArg (fun a => w4 (ix2 p a)) (Fin.ext (by dsimp only; omega))
def tU2 (M : IVec S128x128 1) (KS : FVec Ideal S1x256x128 .f32) (rs : FVec Ideal S256x128 .f32) : FVec Ideal S256x128 .f32 :=
  let t : FVec Ideal S256x128 .f32 := mulf rs (shapeCast S256x128 KS shapeCasts_S1x256x128_S256x128)
  concatenate S256x128 0 [⟨S128x128, extractStridedSlice S128x128 ![0, 0] t slices_S256x128_o0_0_S128x128⟩,
    ⟨S128x128, select M (extractStridedSlice S128x128 ![128, 0] t slices_S256x128_o128_0_S128x128) (broadcast S128x128 (Scalar.ofBits .f32 0xFF800000#32))⟩]
    concatenates_S128x128_S128x128_S256x128_d0
def vU2 (VS : FVec Ideal S1x256x128 .f32) : FVec Ideal S256x128 .f32 := shapeCast S256x128 VS shapeCasts_S1x256x128_S256x128
def codesU2 (q : FVec Ideal S256x128 .f32) : FVec Ideal S256x128 .fp8e4m3 := truncf .fp8e4m3 q bitsLt_fp8e4m3_f32

theorem tU2_at (M : IVec S128x128 1) (hM : IsMask M) (KS : FVec Ideal S1x256x128 .f32) (rs : FVec Ideal S256x128 .f32) (i : Fin 256) (r : Fin 128) :
    tU2 M KS rs (ix2 i r) = if okU 256 r i then rs (ix2 i r) * KS (ix3 0 i r) else (⊥ : EReal) := by
  pointwise [tU2]
  by_cases h : (i : ℕ) < 128
  · rw [dif_pos h, if_pos (by show (i : ℕ) ≤ _; omega)]
    try rfl
  · rw [dif_neg h, hM ⟨(i : ℕ) - 128, by omega⟩ r, select_decide, ninf_eq]
    have e : 128 + ((i : ℕ) - 128) = i := by omega
    by_cases h' : (i : ℕ) - 128 ≤ r
    · refine (if_pos h').trans (Eq.trans ?_ (if_pos (show okU 256 r i by unfold okU; omega)).symm)
      exact congrArg₂ (· * ·) (congrArg (fun a => rs (ix2 a r)) (Fin.ext e)) (congrArg (fun a => KS (ix3 0 a r)) (Fin.ext e))
    · exact (if_neg h').trans (if_neg (show ¬ okU 256 r i by unfold okU; omega)).symm

theorem vU2_at (VS : FVec Ideal S1x256x128 .f32) (i : Fin 256) (r : Fin 128) : vU2 VS (ix2 i r) = VS (ix3 0 i r) := by
  pointwise [vU2]
theorem codesU2_at (q : FVec Ideal S256x128 .f32) (i : Fin 256) (r : Fin 128) : codesU2 q (ix2 i r) = q (ix2 i r) := by
  pointwise [codesU2]

/-- One column of one head: the codes of the weights, and the factor of the result. -/
theorem coreU2 (M : IVec S128x128 1) (hM : IsMask M) (rs : FVec Ideal S256x128 .f32) (KS VS : FVec Ideal S1x256x128 .f32)
    (cb : FVec Ideal S1x128 .f32) (sk : Ideal .f32) (r : Fin 128) (d ksf vsf : Fin 896 → EReal) (qs sink : EReal) (hq : 0 < qs)
    (hd : ∀ p : Fin 256, rs (ix2 p r) = d (keyU (by decide) p)) (hks : ∀ p : Fin 256, KS (ix3 0 p r) = ksf (keyU (by decide) p))
    (hvs : ∀ p : Fin 256, VS (ix3 0 p r) = vsf (keyU (by decide) p)) (hc : cb (ix2 0 r) = qs * SL) (hs : sk = sink) :
    (∀ p : Fin 256, codesU2 (hQ256 (tU2 M KS rs) (vU2 VS) cb sk) (ix2 p r) = if okU 256 r p
        then clip (kP d ksf qs (kM d ksf qs sink (okU 256 r) (keyU (by decide))) (keyU (by decide) p) * vsf (keyU (by decide) p)
          * kInv (kA d ksf vsf qs (kM d ksf qs sink (okU 256 r) (keyU (by decide))) (okU 256 r) (keyU (by decide)))) else 0)
      ∧ hF256 (tU2 M KS rs) (vU2 VS) cb sk (ix2 0 r)
        = Ideal.div (kScale (kA d ksf vsf qs (kM d ksf qs sink (okU 256 r) (keyU (by decide))) (okU 256 r) (keyU (by decide))))
          (kL d ksf qs sink (kM d ksf qs sink (okU 256 r) (keyU (by decide))) (okU 256 r) (keyU (by decide))) := by
  have key := head256 (tU2 M KS rs) (vU2 VS) cb sk r (okU 256 r) (keyU (by decide)) d ksf vsf qs sink hq
    (fun i => by rw [tU2_at M hM, hd, hks]; rfl) (fun i _ => by rw [vU2_at, hvs]) hc hs
  exact ⟨fun p => by rw [codesU2_at]; exact key.1 p, key.2⟩

theorem attU2_0 (M : IVec S128x128 1) (hM : IsMask M) (K : FVec Ideal S1x256x128 .fp8e4m3) (V : FVec Ideal S1x128x256 .fp8e4m3)
    (KS VS : FVec Ideal S1x256x128 .f32) (Q : FVec Ideal S640x128 .fp8e4m3) (cb : FVec Ideal S1x128 .f32) (sk : Ideal .f32)
    (w0 w1 w2 w3 w4 : FVec Ideal S256x128 .fp8e4m3) (r c : Fin 128)
    (kk : Fin 896 → Fin 128 → EReal) (qq : Fin 128 → EReal) (ksf vsf vf : Fin 896 → EReal) (qs sink : EReal) (hq : 0 < qs)
    (hw : w0 = codesU2 (hQ256 (tU2 M KS (extractStridedSlice S256x128 ![0, 0] (rawU2 K Q) slices_S256x640_o0_0_S256x128)) (vU2 VS) cb sk))
    (hk : ∀ (p : Fin 256) e, K (ix3 0 p e) = kk ((keyU (by decide)) p) e) (hv : ∀ p : Fin 256, V (ix3 0 c p) = vf ((keyU (by decide)) p))
    (hks : ∀ p : Fin 256, KS (ix3 0 p r) = ksf ((keyU (by decide)) p)) (hvs : ∀ p : Fin 256, VS (ix3 0 p r) = vsf ((keyU (by decide)) p))
    (hQ : ∀ e, Q (ix2 ⟨0 + r, by omega⟩ e) = qq e) (hc : cb (ix2 0 r) = qs * SL) (hs : sk = sink) :
    outG0 (sumU2 V w0 w1 w2 w3 w4)
        (hF256 (tU2 M KS (extractStridedSlice S256x128 ![0, 0] (rawU2 K Q) slices_S256x640_o0_0_S256x128)) (vU2 VS) cb sk) (ix3 0 r c)
      = kOut (fun j => ∑ e, kk j e * qq e) ksf vsf vf qs sink
          (kM (fun j => ∑ e, kk j e * qq e) ksf qs sink (okU 256 r) (keyU (by decide))) (okU 256 r) (keyU (by decide)) (okU 256 r) (keyU (by decide)) := by
  have key := coreU2 M hM (extractStridedSlice S256x128 ![0, 0] (rawU2 K Q) slices_S256x640_o0_0_S256x128) KS VS cb sk r
    (fun j => ∑ e, kk j e * qq e) ksf vsf qs sink hq (fun p => by rw [rawU2_at0]; simp only [hk, hQ]) hks hvs hc hs
  rw [outG0_at, sumU2_at0, key.2]
  unfold kOut
  refine congrArg (· * _) (Finset.sum_congr rfl fun p _ => ?_)
  rw [hw, key.1, hv, mul_comm, ite_mul, zero_mul]

theorem attU2_1 (M : IVec S128x128 1) (hM : IsMask M) (K : FVec Ideal S1x256x128 .fp8e4m3) (V : FVec Ideal S1x128x256 .fp8e4m3)
    (KS VS : FVec Ideal S1x256x128 .f32) (Q : FVec Ideal S640x128 .fp8e4m3) (cb : FVec Ideal S1x128 .f32) (sk : Ideal .f32)
    (w0 w1 w2 w3 w4 : FVec Ideal S256x128 .fp8e4m3) (r c : Fin 128)
    (kk : Fin 896 → Fin 128 → EReal) (qq : Fin 128 → EReal) (ksf vsf vf : Fin 896 → EReal) (qs sink : EReal) (hq : 0 < qs)
    (hw : w1 = codesU2 (hQ256 (tU2 M KS (extractStridedSlice S256x128 ![0, 128] (rawU2 K Q) slices_S256x640_o0_128_S256x128)) (vU2 VS) cb sk))
    (hk : ∀ (p : Fin 256) e, K (ix3 0 p e) = kk ((keyU (by decide)) p) e) (hv : ∀ p : Fin 256, V (ix3 0 c p) = vf ((keyU (by decide)) p))
    (hks : ∀ p : Fin 256, KS (ix3 0 p r) = ksf ((keyU (by decide)) p)) (hvs : ∀ p : Fin 256, VS (ix3 0 p r) = vsf ((keyU (by decide)) p))
    (hQ : ∀ e, Q (ix2 ⟨128 + r, by omega⟩ e) = qq e) (hc : cb (ix2 0 r) = qs * SL) (hs : sk = sink) :
    outG1 (sumU2 V w0 w1 w2 w3 w4)
        (hF256 (tU2 M KS (extractStridedSlice S256x128 ![0, 128] (rawU2 K Q) slices_S256x640_o0_128_S256x128)) (vU2 VS) cb sk) (ix3 0 r c)
      = kOut (fun j => ∑ e, kk j e * qq e) ksf vsf vf qs sink
          (kM (fun j => ∑ e, kk j e * qq e) ksf qs sink (okU 256 r) (keyU (by decide))) (okU 256 r) (keyU (by decide)) (okU 256 r) (keyU (by decide)) := by
  have key := coreU2 M hM (extractStridedSlice S256x128 ![0, 128] (rawU2 K Q) slices_S256x640_o0_128_S256x128) KS VS cb sk r
    (fun j => ∑ e, kk j e * qq e) ksf vsf qs sink hq (fun p => by rw [rawU2_at1]; simp only [hk, hQ]) hks hvs hc hs
  rw [outG1_at, sumU2_at1, key.2]
  unfold kOut
  refine congrArg (· * _) (Finset.sum_congr rfl fun p _ => ?_)
  rw [hw, key.1, hv, mul_comm, ite_mul, zero_mul]

theorem attU2_2 (M : IVec S128x128 1) (hM : IsMask M) (K : FVec Ideal S1x256x128 .fp8e4m3) (V : FVec Ideal S1x128x256 .fp8e4m3)
    (KS VS : FVec Ideal S1x256x128 .f32) (Q : FVec Ideal S640x128 .fp8e4m3) (cb : FVec Ideal S1x128 .f32) (sk : Ideal .f32)
    (w0 w1 w2 w3 w4 : FVec Ideal S256x128 .fp8e4m3) (r c : Fin 128)
    (kk : Fin 896 → Fin 128 → EReal) (qq : Fin 128 → EReal) (ksf vsf vf : Fin 896 → EReal) (qs sink : EReal) (hq : 0 < qs)
    (hw : w2 = codesU2 (hQ256 (tU2 M KS (extractStridedSlice S256x128 ![0, 256] (rawU2 K Q) slices_S256x640_o0_256_S256x128)) (vU2 VS) cb sk))
    (hk : ∀ (p : Fin 256) e, K (ix3 0 p e) = kk ((keyU (by decide)) p) e) (hv : ∀ p : Fin 256, V (ix3 0 c p) = vf ((keyU (by decide)) p))
    (hks : ∀ p : Fin 256, KS (ix3 0 p r) = ksf ((keyU (by decide)) p)) (hvs : ∀ p : Fin 256, VS (ix3 0 p r) = vsf ((keyU (by decide)) p))
    (hQ : ∀ e, Q (ix2 ⟨256 + r, by omega⟩ e) = qq e) (hc : cb (ix2 0 r) = qs * SL) (hs : sk = sink) :
    outG2 (sumU2 V w0 w1 w2 w3 w4)
        (hF256 (tU2 M KS (extractStridedSlice S256x128 ![0, 256] (rawU2 K Q) slices_S256x640_o0_256_S256x128)) (vU2 VS) cb sk) (ix3 0 r c)
      = kOut (fun j => ∑ e, kk j e * qq e) ksf vsf vf qs sink
          (kM (fun j => ∑ e, kk j e * qq e) ksf qs sink (okU 256 r) (keyU (by decide))) (okU 256 r) (keyU (by decide)) (okU 256 r) (keyU (by decide)) := by
  have key := coreU2 M hM (extractStridedSlice S256x128 ![0, 256] (rawU2 K Q) slices_S256x640_o0_256_S256x128) KS VS cb sk r
    (fun j => ∑ e, kk j e * qq e) ksf vsf qs sink hq (fun p => by rw [rawU2_at2]; simp only [hk, hQ]) hks hvs hc hs
  rw [outG2_at, sumU2_at2, key.2]
  unfold kOut
  refine congrArg (· * _) (Finset.sum_congr rfl fun p _ => ?_)
  rw [hw, key.1, hv, mul_comm, ite_mul, zero_mul]

theorem attU2_3 (M : IVec S128x128 1) (hM : IsMask M) (K : FVec Ideal S1x256x128 .fp8e4m3) (V : FVec Ideal S1x128x256 .fp8e4m3)
    (KS VS : FVec Ideal S1x256x128 .f32) (Q : FVec Ideal S640x128 .fp8e4m3) (cb : FVec Ideal S1x128 .f32) (sk : Ideal .f32)
    (w0 w1 w2 w3 w4 : FVec Ideal S256x128 .fp8e4m3) (r c : Fin 128)
    (kk : Fin 896 → Fin 128 → EReal) (qq : Fin 128 → EReal) (ksf vsf vf : Fin 896 → EReal) (qs sink : EReal) (hq : 0 < qs)
    (hw : w3 = codesU2 (hQ256 (tU2 M KS (extractStridedSlice S256x128 ![0, 384] (rawU2 K Q) slices_S256x640_o0_384_S256x128)) (vU2 VS) cb sk))
    (hk : ∀ (p : Fin 256) e, K (ix3 0 p e) = kk ((keyU (by decide)) p) e) (hv : ∀ p : Fin 256, V (ix3 0 c p) = vf ((keyU (by decide)) p))
    (hks : ∀ p : Fin 256, KS (ix3 0 p r) = ksf ((keyU (by decide)) p)) (hvs : ∀ p : Fin 256, VS (ix3 0 p r) = vsf ((keyU (by decide)) p))
    (hQ : ∀ e, Q (ix2 ⟨384 + r, by omega⟩ e) = qq e) (hc : cb (ix2 0 r) = qs * SL) (hs : sk = sink) :
    outG3 (sumU2 V w0 w1 w2 w3 w4)
        (hF256 (tU2 M KS (extractStridedSlice S256x128 ![0, 384] (rawU2 K Q) slices_S256x640_o0_384_S256x128)) (vU2 VS) cb sk) (ix3 0 r c)
      = kOut (fun j => ∑ e, kk j e * qq e) ksf vsf vf qs sink
          (kM (fun j => ∑ e, kk j e * qq e) ksf qs sink (okU 256 r) (keyU (by decide))) (okU 256 r) (keyU (by decide)) (okU 256 r) (keyU (by decide)) := by
  have key := coreU2 M hM (extractStridedSlice S256x128 ![0, 384] (rawU2 K Q) slices_S256x640_o0_384_S256x128) KS VS cb sk r
    (fun j => ∑ e, kk j e * qq e) ksf vsf qs sink hq (fun p => by rw [rawU2_at3]; simp only [hk, hQ]) hks hvs hc hs
  rw [outG3_at, sumU2_at3, key.2]
  unfold kOut
  refine congrArg (· * _) (Finset.sum_congr rfl fun p _ => ?_)
  rw [hw, key.1, hv, mul_comm, ite_mul, zero_mul]

theorem attU2_4 (M : IVec S128x128 1) (hM : IsMask M) (K : FVec Ideal S1x256x128 .fp8e4m3) (V : FVec Ideal S1x128x256 .fp8e4m3)
    (KS VS : FVec Ideal S1x256x128 .f32) (Q : FVec Ideal S640x128 .fp8e4m3) (cb : FVec Ideal S1x128 .f32) (sk : Ideal .f32)
    (w0 w1 w2 w3 w4 : FVec Ideal S256x128 .fp8e4m3) (r c : Fin 128)
    (kk : Fin 896 → Fin 128 → EReal) (qq : Fin 128 → EReal) (ksf vsf vf : Fin 896 → EReal) (qs sink : EReal) (hq : 0 < qs)
    (hw : w4 = codesU2 (hQ256 (tU2 M KS (extractStridedSlice S256x128 ![0, 512] (rawU2 K Q) slices_S256x640_o0_512_S256x128)) (vU2 VS) cb sk))
    (hk : ∀ (p : Fin 256) e, K (ix3 0 p e) = kk ((keyU (by decide)) p) e) (hv : ∀ p : Fin 256, V (ix3 0 c p) = vf ((keyU (by decide)) p))
    (hks : ∀ p : Fin 256, KS (ix3 0 p r) = ksf ((keyU (by decide)) p)) (hvs : ∀ p : Fin 256, VS (ix3 0 p r) = vsf ((keyU (by decide)) p))
    (hQ : ∀ e, Q (ix2 ⟨512 + r, by omega⟩ e) = qq e) (hc : cb (ix2 0 r) = qs * SL) (hs : sk = sink) :
    outG4 (sumU2 V w0 w1 w2 w3 w4)
        (hF256 (tU2 M KS (extractStridedSlice S256x128 ![0, 512] (rawU2 K Q) slices_S256x640_o0_512_S256x128)) (vU2 VS) cb sk) (ix3 0 r c)
      = kOut (fun j => ∑ e, kk j e * qq e) ksf vsf vf qs sink
          (kM (fun j => ∑ e, kk j e * qq e) ksf qs sink (okU 256 r) (keyU (by decide))) (okU 256 r) (keyU (by decide)) (okU 256 r) (keyU (by decide)) := by
  have key := coreU2 M hM (extractStridedSlice S256x128 ![0, 512] (rawU2 K Q) slices_S256x640_o0_512_S256x128) KS VS cb sk r
    (fun j => ∑ e, kk j e * qq e) ksf vsf qs sink hq (fun p => by rw [rawU2_at4]; simp only [hk, hQ]) hks hvs hc hs
  rw [outG4_at, sumU2_at4, key.2]
  unfold kOut
  refine congrArg (· * _) (Finset.sum_congr rfl fun p _ => ?_)
  rw [hw, key.1, hv, mul_comm, ite_mul, zero_mul]

/-! ### The window of 384 keys -/

def rawU3 (K : FVec Ideal S1x384x128 .fp8e4m3) (Q : FVec Ideal S640x128 .fp8e4m3) : FVec Ideal S384x640 .f32 :=
  matmul dot_S384x128_S640x128_S384x640_1_1_0_0_n_n none (shapeCast S384x128 K shapeCasts_S1x384x128_S384x128 : FVec Ideal S384x128 .fp8e4m3) Q (constant S384x640 .f32 0x00000000#32)
def sumU3 (V : FVec Ideal S1x128x384 .fp8e4m3) (w0 w1 w2 w3 w4 : FVec Ideal S384x128 .fp8e4m3) : FVec Ideal S128x640 .f32 :=
  matmul dot_S128x384_S384x640_S128x640_1_0_0_1_n_n none (shapeCast S128x384 V shapeCasts_S1x128x384_S128x384 : FVec Ideal S128x384 .fp8e4m3)
    (concatenate S384x640 1 [⟨S384x128, w0⟩, ⟨S384x128, w1⟩, ⟨S384x128, w2⟩, ⟨S384x128, w3⟩, ⟨S384x128, w4⟩]
      concatenates_S384x128_S384x128_S384x128_S384x128_S384x128_S384x640_d1 : FVec Ideal S384x640 .fp8e4m3) (constant S128x640 .f32 0x00000000#32)

theorem rawU3_at0 (K : FVec Ideal S1x384x128 .fp8e4m3) (Q : FVec Ideal S640x128 .fp8e4m3) (p : Fin 384) (r : Fin 128) :
    extractStridedSlice S384x128 ![0, 0] (rawU3 K Q) slices_S384x640_o0_0_S384x128 (ix2 p r)
      = ∑ e : Fin 128, K (ix3 0 p e) * Q (ix2 ⟨0 + r, by omega⟩ e) := by
  pointwise [rawU3]
  try rfl
theorem sumU3_at0 (V : FVec Ideal S1x128x384 .fp8e4m3) (w0 w1 w2 w3 w4 : FVec Ideal S384x128 .fp8e4m3) (c r : Fin 128) :
    sumU3 V w0 w1 w2 w3 w4 (ix2 c ⟨0 + r, by omega⟩) = ∑ p : Fin 384, V (ix3 0 c p) * w0 (ix2 p r) := by
  pointwise [sumU3]

theorem rawU3_at1 (K : FVec Ideal S1x384x128 .fp8e4m3) (Q : FVec Ideal S640x128 .fp8e4m3) (p : Fin 384) (r : Fin 128) :
    extractStridedSlice S384x128 ![0, 128] (rawU3 K Q) slices_S384x640_o0_128_S384x128 (ix2 p r)
      = ∑ e : Fin 128, K (ix3 0 p e) * Q (ix2 ⟨128 + r, by omega⟩ e) := by
  pointwise [rawU3]
  try rfl
theorem sumU3_at1 (V : FVec Ideal S1x128x384 .fp8e4m3) (w0 w1 w2 w3 w4 : FVec Ideal S384x128 .fp8e4m3) (c r : Fin 128) :
    sumU3 V w0 w1 w2 w3 w4 (ix2 c ⟨128 + r, by omega⟩) = ∑ p : Fin 384, V (ix3 0 c p) * w1 (ix2 p r) := by
  pointwise [sumU3]

theorem rawU3_at2 (K : FVec Ideal S1x384x128 .fp8e4m3) (Q : FVec Ideal S640x128 .fp8e4m3) (p : Fin 384) (r : Fin 128) :
    extractStridedSlice S384x128 ![0, 256] (rawU3 K Q) slices_S384x640_o0_256_S384x128 (ix2 p r)
      = ∑ e : Fin 128, K (ix3 0 p e) * Q (ix2 ⟨256 + r, by omega⟩ e) := by
  pointwise [rawU3]
  try rfl
theorem sumU3_at2 (V : FVec Ideal S1x128x384 .fp8e4m3) (w0 w1 w2 w3 w4 : FVec Ideal S384x128 .fp8e4m3) (c r : Fin 128) :
    sumU3 V w0 w1 w2 w3 w4 (ix2 c ⟨256 + r, by omega⟩) = ∑ p : Fin 384, V (ix3 0 c p) * w2 (ix2 p r) := by
  pointwise [sumU3]
  refine Finset.sum_congr rfl fun p _ => congrArg _ ?_
  rw [dif_neg (by omega), dif_neg (by omega), dif_pos (by omega)]
  exact congrArg (fun a => w2 (ix2 p a)) (Fin.ext (by dsimp only; omega))

theorem rawU3_at3 (K : FVec Ideal S1x384x128 .fp8e4m3) (Q : FVec Ideal S640x128 .fp8e4m3) (p : Fin 384) (r : Fin 128) :
    extractStridedSlice S384x128 ![0, 384] (rawU3 K Q) slices_S384x640_o0_384_S384x128 (ix2 p r)
      = ∑ e : Fin 128, K (ix3 0 p e) * Q (ix2 ⟨384 + r, by omega⟩ e) := by
  pointwise [rawU3]
  try rfl
theorem sumU3_at3 (V : FVec Ideal S1x128x384 .fp8e4m3) (w0 w1 w2 w3 w4 : FVec Ideal S384x128 .fp8e4m3) (c r : Fin 128) :
    sumU3 V w0 w1 w2 w3 w4 (ix2 c ⟨384 + r, by omega⟩) = ∑ p : Fin 384, V (ix3 0 c p) * w3 (ix2 p r) := by
  pointwise [sumU3]
  refine Finset.sum_congr rfl fun p _ => congrArg _ ?_
  rw [dif_neg (by omega), dif_neg (by omega), dif_neg (by omega), dif_pos (by omega)]
  exact congrArg (fun a => w3 (ix2 p a)) (Fin.ext (by dsimp only; omega))

theorem rawU3_at4 (K : FVec Ideal S1x384x128 .fp8e4m3) (Q : FVec Ideal S640x128 .fp8e4m3) (p : Fin 384) (r : Fin 128) :
    extractStridedSlice S384x128 ![0, 512] (rawU3 K Q) slices_S384x640_o0_512_S384x128 (ix2 p r)
      = ∑ e : Fin 128, K (ix3 0 p e) * Q (ix2 ⟨512 + r, by omega⟩ e) := by
  pointwise [rawU3]
  try rfl
theorem sumU3_at4 (V : FVec Ideal S1x128x384 .fp8e4m3) (w0 w1 w2 w3 w4 : FVec Ideal S384x128 .fp8e4m3) (c r : Fin 128) :
    sumU3 V w0 w1 w2 w3 w4 (ix2 c ⟨512 + r, by omega⟩) = ∑ p : Fin 384, V (ix3 0 c p) * w4 (ix2 p r) := by
  pointwise [sumU3]
  refine Finset.sum_congr rfl fun p _ => congrArg _ ?_
  rw [dif_neg (by omega), dif_neg (by omega), dif_neg (by omega), dif_neg (by omega)]
  exact congrArg (fun a => w4 (ix2 p a)) (Fin.ext (by dsimp only; omega))
def tU3 (M : IVec S128x128 1) (KS : FVec Ideal S1x384x128 .f32) (rs : FVec Ideal S384x128 .f32) : FVec Ideal S384x128 .f32 :=
  let t : FVec Ideal S384x128 .f32 := mulf rs (shapeCast S384x128 KS shapeCasts_S1x384x128_S384x128)
  concatenate S384x128 0 [⟨S256x128, extractStridedSlice S256x128 ![0, 0] t slices_S384x128_o0_0_S256x128⟩,
    ⟨S128x128, select M (extractStridedSlice S128x128 ![256, 0] t slices_S384x128_o256_0_S128x128) (broadcast S128x128 (Scalar.ofBits .f32 0xFF800000#32))⟩]
    concatenates_S256x128_S128x128_S384x128_d0
def vU3 (VS : FVec Ideal S1x384x128 .f32) : FVec Ideal S384x128 .f32 := shapeCast S384x128 VS shapeCasts_S1x384x128_S384x128
def codesU3 (q : FVec Ideal S384x128 .f32) : FVec Ideal S384x128 .fp8e4m3 := truncf .fp8e4m3 q bitsLt_fp8e4m3_f32

theorem tU3_at (M : IVec S128x128 1) (hM : IsMask M) (KS : FVec Ideal S1x384x128 .f32) (rs : FVec Ideal S384x128 .f32) (i : Fin 384) (r : Fin 128) :
    tU3 M KS rs (ix2 i r) = if okU 384 r i then rs (ix2 i r) * KS (ix3 0 i r) else (⊥ : EReal) := by
  pointwise [tU3]
  by_cases h : (i : ℕ) < 256
  · rw [dif_pos h, if_pos (by show (i : ℕ) ≤ _; omega)]
    try rfl
  · rw [dif_neg h, hM ⟨(i : ℕ) - 256, by omega⟩ r, select_decide, ninf_eq]
    have e : 256 + ((i : ℕ) - 256) = i := by omega
    by_cases h' : (i : ℕ) - 256 ≤ r
    · refine (if_pos h').trans (Eq.trans ?_ (if_pos (show okU 384 r i by unfold okU; omega)).symm)
      exact congrArg₂ (· * ·) (congrArg (fun a => rs (ix2 a r)) (Fin.ext e)) (congrArg (fun a => KS (ix3 0 a r)) (Fin.ext e))
    · exact (if_neg h').trans (if_neg (show ¬ okU 384 r i by unfold okU; omega)).symm

theorem vU3_at (VS : FVec Ideal S1x384x128 .f32) (i : Fin 384) (r : Fin 128) : vU3 VS (ix2 i r) = VS (ix3 0 i r) := by
  pointwise [vU3]
theorem codesU3_at (q : FVec Ideal S384x128 .f32) (i : Fin 384) (r : Fin 128) : codesU3 q (ix2 i r) = q (ix2 i r) := by
  pointwise [codesU3]

/-- One column of one head: the codes of the weights, and the factor of the result. -/
theorem coreU3 (M : IVec S128x128 1) (hM : IsMask M) (rs : FVec Ideal S384x128 .f32) (KS VS : FVec Ideal S1x384x128 .f32)
    (cb : FVec Ideal S1x128 .f32) (sk : Ideal .f32) (r : Fin 128) (d ksf vsf : Fin 896 → EReal) (qs sink : EReal) (hq : 0 < qs)
    (hd : ∀ p : Fin 384, rs (ix2 p r) = d (keyU (by decide) p)) (hks : ∀ p : Fin 384, KS (ix3 0 p r) = ksf (keyU (by decide) p))
    (hvs : ∀ p : Fin 384, VS (ix3 0 p r) = vsf (keyU (by decide) p)) (hc : cb (ix2 0 r) = qs * SL) (hs : sk = sink) :
    (∀ p : Fin 384, codesU3 (hQ384 (tU3 M KS rs) (vU3 VS) cb sk) (ix2 p r) = if okU 384 r p
        then clip (kP d ksf qs (kM d ksf qs sink (okU 384 r) (keyU (by decide))) (keyU (by decide) p) * vsf (keyU (by decide) p)
          * kInv (kA d ksf vsf qs (kM d ksf qs sink (okU 384 r) (keyU (by decide))) (okU 384 r) (keyU (by decide)))) else 0)
      ∧ hF384 (tU3 M KS rs) (vU3 VS) cb sk (ix2 0 r)
        = Ideal.div (kScale (kA d ksf vsf qs (kM d ksf qs sink (okU 384 r) (keyU (by decide))) (okU 384 r) (keyU (by decide))))
          (kL d ksf qs sink (kM d ksf qs sink (okU 384 r) (keyU (by decide))) (okU 384 r) (keyU (by decide))) := by
  have key := head384 (tU3 M KS rs) (vU3 VS) cb sk r (okU 384 r) (keyU (by decide)) d ksf vsf qs sink hq
    (fun i => by rw [tU3_at M hM, hd, hks]; rfl) (fun i _ => by rw [vU3_at, hvs]) hc hs
  exact ⟨fun p => by rw [codesU3_at]; exact key.1 p, key.2⟩

theorem attU3_0 (M : IVec S128x128 1) (hM : IsMask M) (K : FVec Ideal S1x384x128 .fp8e4m3) (V : FVec Ideal S1x128x384 .fp8e4m3)
    (KS VS : FVec Ideal S1x384x128 .f32) (Q : FVec Ideal S640x128 .fp8e4m3) (cb : FVec Ideal S1x128 .f32) (sk : Ideal .f32)
    (w0 w1 w2 w3 w4 : FVec Ideal S384x128 .fp8e4m3) (r c : Fin 128)
    (kk : Fin 896 → Fin 128 → EReal) (qq : Fin 128 → EReal) (ksf vsf vf : Fin 896 → EReal) (qs sink : EReal) (hq : 0 < qs)
    (hw : w0 = codesU3 (hQ384 (tU3 M KS (extractStridedSlice S384x128 ![0, 0] (rawU3 K Q) slices_S384x640_o0_0_S384x128)) (vU3 VS) cb sk))
    (hk : ∀ (p : Fin 384) e, K (ix3 0 p e) = kk ((keyU (by decide)) p) e) (hv : ∀ p : Fin 384, V (ix3 0 c p) = vf ((keyU (by decide)) p))
    (hks : ∀ p : Fin 384, KS (ix3 0 p r) = ksf ((keyU (by decide)) p)) (hvs : ∀ p : Fin 384, VS (ix3 0 p r) = vsf ((keyU (by decide)) p))
    (hQ : ∀ e, Q (ix2 ⟨0 + r, by omega⟩ e) = qq e) (hc : cb (ix2 0 r) = qs * SL) (hs : sk = sink) :
    outG0 (sumU3 V w0 w1 w2 w3 w4)
        (hF384 (tU3 M KS (extractStridedSlice S384x128 ![0, 0] (rawU3 K Q) slices_S384x640_o0_0_S384x128)) (vU3 VS) cb sk) (ix3 0 r c)
      = kOut (fun j => ∑ e, kk j e * qq e) ksf vsf vf qs sink
          (kM (fun j => ∑ e, kk j e * qq e) ksf qs sink (okU 384 r) (keyU (by decide))) (okU 384 r) (keyU (by decide)) (okU 384 r) (keyU (by decide)) := by
  have key := coreU3 M hM (extractStridedSlice S384x128 ![0, 0] (rawU3 K Q) slices_S384x640_o0_0_S384x128) KS VS cb sk r
    (fun j => ∑ e, kk j e * qq e) ksf vsf qs sink hq (fun p => by rw [rawU3_at0]; simp only [hk, hQ]) hks hvs hc hs
  rw [outG0_at, sumU3_at0, key.2]
  unfold kOut
  refine congrArg (· * _) (Finset.sum_congr rfl fun p _ => ?_)
  rw [hw, key.1, hv, mul_comm, ite_mul, zero_mul]

theorem attU3_1 (M : IVec S128x128 1) (hM : IsMask M) (K : FVec Ideal S1x384x128 .fp8e4m3) (V : FVec Ideal S1x128x384 .fp8e4m3)
    (KS VS : FVec Ideal S1x384x128 .f32) (Q : FVec Ideal S640x128 .fp8e4m3) (cb : FVec Ideal S1x128 .f32) (sk : Ideal .f32)
    (w0 w1 w2 w3 w4 : FVec Ideal S384x128 .fp8e4m3) (r c : Fin 128)
    (kk : Fin 896 → Fin 128 → EReal) (qq : Fin 128 → EReal) (ksf vsf vf : Fin 896 → EReal) (qs sink : EReal) (hq : 0 < qs)
    (hw : w1 = codesU3 (hQ384 (tU3 M KS (extractStridedSlice S384x128 ![0, 128] (rawU3 K Q) slices_S384x640_o0_128_S384x128)) (vU3 VS) cb sk))
    (hk : ∀ (p : Fin 384) e, K (ix3 0 p e) = kk ((keyU (by decide)) p) e) (hv : ∀ p : Fin 384, V (ix3 0 c p) = vf ((keyU (by decide)) p))
    (hks : ∀ p : Fin 384, KS (ix3 0 p r) = ksf ((keyU (by decide)) p)) (hvs : ∀ p : Fin 384, VS (ix3 0 p r) = vsf ((keyU (by decide)) p))
    (hQ : ∀ e, Q (ix2 ⟨128 + r, by omega⟩ e) = qq e) (hc : cb (ix2 0 r) = qs * SL) (hs : sk = sink) :
    outG1 (sumU3 V w0 w1 w2 w3 w4)
        (hF384 (tU3 M KS (extractStridedSlice S384x128 ![0, 128] (rawU3 K Q) slices_S384x640_o0_128_S384x128)) (vU3 VS) cb sk) (ix3 0 r c)
      = kOut (fun j => ∑ e, kk j e * qq e) ksf vsf vf qs sink
          (kM (fun j => ∑ e, kk j e * qq e) ksf qs sink (okU 384 r) (keyU (by decide))) (okU 384 r) (keyU (by decide)) (okU 384 r) (keyU (by decide)) := by
  have key := coreU3 M hM (extractStridedSlice S384x128 ![0, 128] (rawU3 K Q) slices_S384x640_o0_128_S384x128) KS VS cb sk r
    (fun j => ∑ e, kk j e * qq e) ksf vsf qs sink hq (fun p => by rw [rawU3_at1]; simp only [hk, hQ]) hks hvs hc hs
  rw [outG1_at, sumU3_at1, key.2]
  unfold kOut
  refine congrArg (· * _) (Finset.sum_congr rfl fun p _ => ?_)
  rw [hw, key.1, hv, mul_comm, ite_mul, zero_mul]

theorem attU3_2 (M : IVec S128x128 1) (hM : IsMask M) (K : FVec Ideal S1x384x128 .fp8e4m3) (V : FVec Ideal S1x128x384 .fp8e4m3)
    (KS VS : FVec Ideal S1x384x128 .f32) (Q : FVec Ideal S640x128 .fp8e4m3) (cb : FVec Ideal S1x128 .f32) (sk : Ideal .f32)
    (w0 w1 w2 w3 w4 : FVec Ideal S384x128 .fp8e4m3) (r c : Fin 128)
    (kk : Fin 896 → Fin 128 → EReal) (qq : Fin 128 → EReal) (ksf vsf vf : Fin 896 → EReal) (qs sink : EReal) (hq : 0 < qs)
    (hw : w2 = codesU3 (hQ384 (tU3 M KS (extractStridedSlice S384x128 ![0, 256] (rawU3 K Q) slices_S384x640_o0_256_S384x128)) (vU3 VS) cb sk))
    (hk : ∀ (p : Fin 384) e, K (ix3 0 p e) = kk ((keyU (by decide)) p) e) (hv : ∀ p : Fin 384, V (ix3 0 c p) = vf ((keyU (by decide)) p))
    (hks : ∀ p : Fin 384, KS (ix3 0 p r) = ksf ((keyU (by decide)) p)) (hvs : ∀ p : Fin 384, VS (ix3 0 p r) = vsf ((keyU (by decide)) p))
    (hQ : ∀ e, Q (ix2 ⟨256 + r, by omega⟩ e) = qq e) (hc : cb (ix2 0 r) = qs * SL) (hs : sk = sink) :
    outG2 (sumU3 V w0 w1 w2 w3 w4)
        (hF384 (tU3 M KS (extractStridedSlice S384x128 ![0, 256] (rawU3 K Q) slices_S384x640_o0_256_S384x128)) (vU3 VS) cb sk) (ix3 0 r c)
      = kOut (fun j => ∑ e, kk j e * qq e) ksf vsf vf qs sink
          (kM (fun j => ∑ e, kk j e * qq e) ksf qs sink (okU 384 r) (keyU (by decide))) (okU 384 r) (keyU (by decide)) (okU 384 r) (keyU (by decide)) := by
  have key := coreU3 M hM (extractStridedSlice S384x128 ![0, 256] (rawU3 K Q) slices_S384x640_o0_256_S384x128) KS VS cb sk r
    (fun j => ∑ e, kk j e * qq e) ksf vsf qs sink hq (fun p => by rw [rawU3_at2]; simp only [hk, hQ]) hks hvs hc hs
  rw [outG2_at, sumU3_at2, key.2]
  unfold kOut
  refine congrArg (· * _) (Finset.sum_congr rfl fun p _ => ?_)
  rw [hw, key.1, hv, mul_comm, ite_mul, zero_mul]

theorem attU3_3 (M : IVec S128x128 1) (hM : IsMask M) (K : FVec Ideal S1x384x128 .fp8e4m3) (V : FVec Ideal S1x128x384 .fp8e4m3)
    (KS VS : FVec Ideal S1x384x128 .f32) (Q : FVec Ideal S640x128 .fp8e4m3) (cb : FVec Ideal S1x128 .f32) (sk : Ideal .f32)
    (w0 w1 w2 w3 w4 : FVec Ideal S384x128 .fp8e4m3) (r c : Fin 128)
    (kk : Fin 896 → Fin 128 → EReal) (qq : Fin 128 → EReal) (ksf vsf vf : Fin 896 → EReal) (qs sink : EReal) (hq : 0 < qs)
    (hw : w3 = codesU3 (hQ384 (tU3 M KS (extractStridedSlice S384x128 ![0, 384] (rawU3 K Q) slices_S384x640_o0_384_S384x128)) (vU3 VS) cb sk))
    (hk : ∀ (p : Fin 384) e, K (ix3 0 p e) = kk ((keyU (by decide)) p) e) (hv : ∀ p : Fin 384, V (ix3 0 c p) = vf ((keyU (by decide)) p))
    (hks : ∀ p : Fin 384, KS (ix3 0 p r) = ksf ((keyU (by decide)) p)) (hvs : ∀ p : Fin 384, VS (ix3 0 p r) = vsf ((keyU (by decide)) p))
    (hQ : ∀ e, Q (ix2 ⟨384 + r, by omega⟩ e) = qq e) (hc : cb (ix2 0 r) = qs * SL) (hs : sk = sink) :
    outG3 (sumU3 V w0 w1 w2 w3 w4)
        (hF384 (tU3 M KS (extractStridedSlice S384x128 ![0, 384] (rawU3 K Q) slices_S384x640_o0_384_S384x128)) (vU3 VS) cb sk) (ix3 0 r c)
      = kOut (fun j => ∑ e, kk j e * qq e) ksf vsf vf qs sink
          (kM (fun j => ∑ e, kk j e * qq e) ksf qs sink (okU 384 r) (keyU (by decide))) (okU 384 r) (keyU (by decide)) (okU 384 r) (keyU (by decide)) := by
  have key := coreU3 M hM (extractStridedSlice S384x128 ![0, 384] (rawU3 K Q) slices_S384x640_o0_384_S384x128) KS VS cb sk r
    (fun j => ∑ e, kk j e * qq e) ksf vsf qs sink hq (fun p => by rw [rawU3_at3]; simp only [hk, hQ]) hks hvs hc hs
  rw [outG3_at, sumU3_at3, key.2]
  unfold kOut
  refine congrArg (· * _) (Finset.sum_congr rfl fun p _ => ?_)
  rw [hw, key.1, hv, mul_comm, ite_mul, zero_mul]

theorem attU3_4 (M : IVec S128x128 1) (hM : IsMask M) (K : FVec Ideal S1x384x128 .fp8e4m3) (V : FVec Ideal S1x128x384 .fp8e4m3)
    (KS VS : FVec Ideal S1x384x128 .f32) (Q : FVec Ideal S640x128 .fp8e4m3) (cb : FVec Ideal S1x128 .f32) (sk : Ideal .f32)
    (w0 w1 w2 w3 w4 : FVec Ideal S384x128 .fp8e4m3) (r c : Fin 128)
    (kk : Fin 896 → Fin 128 → EReal) (qq : Fin 128 → EReal) (ksf vsf vf : Fin 896 → EReal) (qs sink : EReal) (hq : 0 < qs)
    (hw : w4 = codesU3 (hQ384 (tU3 M KS (extractStridedSlice S384x128 ![0, 512] (rawU3 K Q) slices_S384x640_o0_512_S384x128)) (vU3 VS) cb sk))
    (hk : ∀ (p : Fin 384) e, K (ix3 0 p e) = kk ((keyU (by decide)) p) e) (hv : ∀ p : Fin 384, V (ix3 0 c p) = vf ((keyU (by decide)) p))
    (hks : ∀ p : Fin 384, KS (ix3 0 p r) = ksf ((keyU (by decide)) p)) (hvs : ∀ p : Fin 384, VS (ix3 0 p r) = vsf ((keyU (by decide)) p))
    (hQ : ∀ e, Q (ix2 ⟨512 + r, by omega⟩ e) = qq e) (hc : cb (ix2 0 r) = qs * SL) (hs : sk = sink) :
    outG4 (sumU3 V w0 w1 w2 w3 w4)
        (hF384 (tU3 M KS (extractStridedSlice S384x128 ![0, 512] (rawU3 K Q) slices_S384x640_o0_512_S384x128)) (vU3 VS) cb sk) (ix3 0 r c)
      = kOut (fun j => ∑ e, kk j e * qq e) ksf vsf vf qs sink
          (kM (fun j => ∑ e, kk j e * qq e) ksf qs sink (okU 384 r) (keyU (by decide))) (okU 384 r) (keyU (by decide)) (okU 384 r) (keyU (by decide)) := by
  have key := coreU3 M hM (extractStridedSlice S384x128 ![0, 512] (rawU3 K Q) slices_S384x640_o0_512_S384x128) KS VS cb sk r
    (fun j => ∑ e, kk j e * qq e) ksf vsf qs sink hq (fun p => by rw [rawU3_at4]; simp only [hk, hQ]) hks hvs hc hs
  rw [outG4_at, sumU3_at4, key.2]
  unfold kOut
  refine congrArg (· * _) (Finset.sum_congr rfl fun p _ => ?_)
  rw [hw, key.1, hv, mul_comm, ite_mul, zero_mul]

/-! ### The window of 512 keys -/

def rawM4 (K : FVec Ideal S1x512x128 .fp8e4m3) (Q : FVec Ideal S640x128 .fp8e4m3) : FVec Ideal S512x640 .f32 :=
  matmul dot_S512x128_S640x128_S512x640_1_1_0_0_n_n none (shapeCast S512x128 K shapeCasts_S1x512x128_S512x128 : FVec Ideal S512x128 .fp8e4m3) Q (constant S512x640 .f32 0x00000000#32)
def sumM4 (V : FVec Ideal S1x128x512 .fp8e4m3) (w0 w1 w2 w3 w4 : FVec Ideal S512x128 .fp8e4m3) : FVec Ideal S128x640 .f32 :=
  matmul dot_S128x512_S512x640_S128x640_1_0_0_1_n_n none (shapeCast S128x512 V shapeCasts_S1x128x512_S128x512 : FVec Ideal S128x512 .fp8e4m3)
    (concatenate S512x640 1 [⟨S512x128, w0⟩, ⟨S512x128, w1⟩, ⟨S512x128, w2⟩, ⟨S512x128, w3⟩, ⟨S512x128, w4⟩]
      concatenates_S512x128_S512x128_S512x128_S512x128_S512x128_S512x640_d1 : FVec Ideal S512x640 .fp8e4m3) (constant S128x640 .f32 0x00000000#32)

theorem rawM4_at0 (K : FVec Ideal S1x512x128 .fp8e4m3) (Q : FVec Ideal S640x128 .fp8e4m3) (p : Fin 512) (r : Fin 128) :
    extractStridedSlice S512x128 ![0, 0] (rawM4 K Q) slices_S512x640_o0_0_S512x128 (ix2 p r)
      = ∑ e : Fin 128, K (ix3 0 p e) * Q (ix2 ⟨0 + r, by omega⟩ e) := by
  pointwise [rawM4]
  try rfl
theorem sumM4_at0 (V : FVec Ideal S1x128x512 .fp8e4m3) (w0 w1 w2 w3 w4 : FVec Ideal S512x128 .fp8e4m3) (c r : Fin 128) :
    sumM4 V w0 w1 w2 w3 w4 (ix2 c ⟨0 + r, by omega⟩) = ∑ p : Fin 512, V (ix3 0 c p) * w0 (ix2 p r) := by
  pointwise [sumM4]

theorem rawM4_at1 (K : FVec Ideal S1x512x128 .fp8e4m3) (Q : FVec Ideal S640x128 .fp8e4m3) (p : Fin 512) (r : Fin 128) :
    extractStridedSlice S512x128 ![0, 128] (rawM4 K Q) slices_S512x640_o0_128_S512x128 (ix2 p r)
      = ∑ e : Fin 128, K (ix3 0 p e) * Q (ix2 ⟨128 + r, by omega⟩ e) := by
  pointwise [rawM4]
  try rfl
theorem sumM4_at1 (V : FVec Ideal S1x128x512 .fp8e4m3) (w0 w1 w2 w3 w4 : FVec Ideal S512x128 .fp8e4m3) (c r : Fin 128) :
    sumM4 V w0 w1 w2 w3 w4 (ix2 c ⟨128 + r, by omega⟩) = ∑ p : Fin 512, V (ix3 0 c p) * w1 (ix2 p r) := by
  pointwise [sumM4]

theorem rawM4_at2 (K : FVec Ideal S1x512x128 .fp8e4m3) (Q : FVec Ideal S640x128 .fp8e4m3) (p : Fin 512) (r : Fin 128) :
    extractStridedSlice S512x128 ![0, 256] (rawM4 K Q) slices_S512x640_o0_256_S512x128 (ix2 p r)
      = ∑ e : Fin 128, K (ix3 0 p e) * Q (ix2 ⟨256 + r, by omega⟩ e) := by
  pointwise [rawM4]
  try rfl
theorem sumM4_at2 (V : FVec Ideal S1x128x512 .fp8e4m3) (w0 w1 w2 w3 w4 : FVec Ideal S512x128 .fp8e4m3) (c r : Fin 128) :
    sumM4 V w0 w1 w2 w3 w4 (ix2 c ⟨256 + r, by omega⟩) = ∑ p : Fin 512, V (ix3 0 c p) * w2 (ix2 p r) := by
  pointwise [sumM4]
  refine Finset.sum_congr rfl fun p _ => congrArg _ ?_
  rw [dif_neg (by omega), dif_neg (by omega), dif_pos (by omega)]
  exact congrArg (fun a => w2 (ix2 p a)) (Fin.ext (by dsimp only; omega))

theorem rawM4_at3 (K : FVec Ideal S1x512x128 .fp8e4m3) (Q : FVec Ideal S640x128 .fp8e4m3) (p : Fin 512) (r : Fin 128) :
    extractStridedSlice S512x128 ![0, 384] (rawM4 K Q) slices_S512x640_o0_384_S512x128 (ix2 p r)
      = ∑ e : Fin 128, K (ix3 0 p e) * Q (ix2 ⟨384 + r, by omega⟩ e) := by
  pointwise [rawM4]
  try rfl
theorem sumM4_at3 (V : FVec Ideal S1x128x512 .fp8e4m3) (w0 w1 w2 w3 w4 : FVec Ideal S512x128 .fp8e4m3) (c r : Fin 128) :
    sumM4 V w0 w1 w2 w3 w4 (ix2 c ⟨384 + r, by omega⟩) = ∑ p : Fin 512, V (ix3 0 c p) * w3 (ix2 p r) := by
  pointwise [sumM4]
  refine Finset.sum_congr rfl fun p _ => congrArg _ ?_
  rw [dif_neg (by omega), dif_neg (by omega), dif_neg (by omega), dif_pos (by omega)]
  exact congrArg (fun a => w3 (ix2 p a)) (Fin.ext (by dsimp only; omega))

theorem rawM4_at4 (K : FVec Ideal S1x512x128 .fp8e4m3) (Q : FVec Ideal S640x128 .fp8e4m3) (p : Fin 512) (r : Fin 128) :
    extractStridedSlice S512x128 ![0, 512] (rawM4 K Q) slices_S512x640_o0_512_S512x128 (ix2 p r)
      = ∑ e : Fin 128, K (ix3 0 p e) * Q (ix2 ⟨512 + r, by omega⟩ e) := by
  pointwise [rawM4]
  try rfl
theorem sumM4_at4 (V : FVec Ideal S1x128x512 .fp8e4m3) (w0 w1 w2 w3 w4 : FVec Ideal S512x128 .fp8e4m3) (c r : Fin 128) :
    sumM4 V w0 w1 w2 w3 w4 (ix2 c ⟨512 + r, by omega⟩) = ∑ p : Fin 512, V (ix3 0 c p) * w4 (ix2 p r) := by
  pointwise [sumM4]
  refine Finset.sum_congr rfl fun p _ => congrArg _ ?_
  rw [dif_neg (by omega), dif_neg (by omega), dif_neg (by omega), dif_neg (by omega)]
  exact congrArg (fun a => w4 (ix2 p a)) (Fin.ext (by dsimp only; omega))
def m4 (M : IVec S128x128 1) (t : FVec Ideal S512x128 .f32) : FVec Ideal S384x128 .f32 :=
  concatenate S384x128 0 [⟨S256x128, extractStridedSlice S256x128 ![128, 0] t slices_S512x128_o128_0_S256x128⟩,
    ⟨S128x128, select M (extractStridedSlice S128x128 ![384, 0] t slices_S512x128_o384_0_S128x128) (extractStridedSlice S128x128 ![0, 0] t slices_S512x128_o0_0_S128x128)⟩]
    concatenates_S256x128_S128x128_S384x128_d0
def tM4 (M : IVec S128x128 1) (KS : FVec Ideal S1x512x128 .f32) (rs : FVec Ideal S512x128 .f32) : FVec Ideal S384x128 .f32 :=
  mulf (m4 M rs) (m4 M (shapeCast S512x128 KS shapeCasts_S1x512x128_S512x128))
def vM4 (M : IVec S128x128 1) (VS : FVec Ideal S1x512x128 .f32) : FVec Ideal S384x128 .f32 := m4 M (shapeCast S512x128 VS shapeCasts_S1x512x128_S512x128)
def codesM4 (M : IVec S128x128 1) (q : FVec Ideal S384x128 .f32) : FVec Ideal S512x128 .fp8e4m3 :=
  truncf .fp8e4m3 (concatenate S512x128 0 [
    ⟨S128x128, select M (broadcast S128x128 (Scalar.ofBits .f32 0x00000000#32)) (extractStridedSlice S128x128 ![256, 0] q slices_S384x128_o256_0_S128x128)⟩,
    ⟨S256x128, extractStridedSlice S256x128 ![0, 0] q slices_S384x128_o0_0_S256x128⟩,
    ⟨S128x128, select M (extractStridedSlice S128x128 ![256, 0] q slices_S384x128_o256_0_S128x128) (broadcast S128x128 (Scalar.ofBits .f32 0x00000000#32))⟩]
    concatenates_S128x128_S256x128_S128x128_S512x128_d0 : FVec Ideal S512x128 .f32) bitsLt_fp8e4m3_f32

theorem m4_at (M : IVec S128x128 1) (hM : IsMask M) (t : FVec Ideal S512x128 .f32) (i : Fin 384) (r : Fin 128) :
    m4 M t (ix2 i r) = t (ix2 ⟨pos4 r i, pos4_lt r i⟩ r) := by
  pointwise [m4]
  by_cases h : (i : ℕ) < 256
  · rw [dif_pos h]
    congr 2; apply Fin.ext; simp only [pos4, if_pos h]
  · rw [dif_neg h, hM ⟨(i : ℕ) - 256, by omega⟩ r, select_decide]
    by_cases h' : (i : ℕ) - 256 ≤ r
    · rw [if_pos h']
      congr 2; apply Fin.ext; simp only [pos4, if_neg h, if_pos h']; omega
    · rw [if_neg h']
      congr 2; apply Fin.ext; simp only [pos4, if_neg h, if_neg h']; try omega

theorem tM4_at (M : IVec S128x128 1) (hM : IsMask M) (KS : FVec Ideal S1x512x128 .f32) (rs : FVec Ideal S512x128 .f32) (i : Fin 384) (r : Fin 128) :
    tM4 M KS rs (ix2 i r) = rs (ix2 ⟨pos4 r i, pos4_lt r i⟩ r) * KS (ix3 0 ⟨pos4 r i, pos4_lt r i⟩ r) := by
  pointwise [tM4, m4_at M hM]
theorem vM4_at (M : IVec S128x128 1) (hM : IsMask M) (VS : FVec Ideal S1x512x128 .f32) (i : Fin 384) (r : Fin 128) :
    vM4 M VS (ix2 i r) = VS (ix3 0 ⟨pos4 r i, pos4_lt r i⟩ r) := by
  pointwise [vM4, m4_at M hM]

/-- The codes of a merged tile, put back to the window's positions: given as a function of the position. -/
theorem codesM4_at (M : IVec S128x128 1) (hM : IsMask M) (q : FVec Ideal S384x128 .f32) (r : Fin 128) (f : ℕ → EReal)
    (hf : ∀ i : Fin 384, q (ix2 i r) = f (pos4 r i)) (p : Fin 512) :
    codesM4 M q (ix2 p r) = if ok4' r p then f p else 0 := by
  pointwise [codesM4]
  by_cases h : (p : ℕ) < 128
  · rw [dif_pos h, hM ⟨(p : ℕ), h⟩ r, select_decide]
    by_cases h' : (p : ℕ) ≤ r
    · exact (if_pos h').trans (if_neg (show ¬ ok4' r p by unfold ok4'; omega)).symm
    · refine (if_neg h').trans (Eq.trans ?_ (if_pos (show ok4' r p by unfold ok4'; omega)).symm)
      refine (hf _).trans ?_
      congr 1
      simp only [pos4]
      rw [if_neg (by omega), if_neg (by omega)]; omega
  · rw [dif_neg h]
    by_cases h2 : (p : ℕ) - 128 < 256
    · rw [dif_pos h2]
      refine Eq.trans ?_ (if_pos (show ok4' r p by unfold ok4'; omega)).symm
      refine (hf _).trans ?_
      congr 1
      simp only [pos4]
      rw [if_pos (by omega)]; omega
    · rw [dif_neg h2, hM ⟨(p : ℕ) - 128 - 256, by omega⟩ r, select_decide]
      by_cases h' : (p : ℕ) - 128 - 256 ≤ r
      · refine (if_pos h').trans (Eq.trans ?_ (if_pos (show ok4' r p by unfold ok4'; omega)).symm)
        refine (hf _).trans ?_
        congr 1
        simp only [pos4]
        rw [if_neg (by omega), if_pos (by omega)]; omega
      · exact (if_neg h').trans (if_neg (show ¬ ok4' r p by unfold ok4'; omega)).symm

/-- One column of one head: the codes of the weights, and the factor of the result. -/
theorem coreM4 (M : IVec S128x128 1) (hM : IsMask M) (rs : FVec Ideal S512x128 .f32) (KS VS : FVec Ideal S1x512x128 .f32)
    (cb : FVec Ideal S1x128 .f32) (sk : Ideal .f32) (r : Fin 128) (first : ℕ) (hfi : first + 512 ≤ 896)
    (d ksf vsf : Fin 896 → EReal) (qs sink : EReal) (hq : 0 < qs)
    (hd : ∀ p : Fin 512, rs (ix2 p r) = d (key4' first hfi p)) (hks : ∀ p : Fin 512, KS (ix3 0 p r) = ksf (key4' first hfi p))
    (hvs : ∀ p : Fin 512, VS (ix3 0 p r) = vsf (key4' first hfi p)) (hc : cb (ix2 0 r) = qs * SL) (hs : sk = sink) :
    (∀ p : Fin 512, codesM4 M (hQ384 (tM4 M KS rs) (vM4 M VS) cb sk) (ix2 p r) = if ok4' r p
        then clip (kP d ksf qs (kM d ksf qs sink ok4 (key4 first hfi r)) (key4' first hfi p) * vsf (key4' first hfi p)
          * kInv (kA d ksf vsf qs (kM d ksf qs sink ok4 (key4 first hfi r)) ok4 (key4 first hfi r))) else 0)
      ∧ hF384 (tM4 M KS rs) (vM4 M VS) cb sk (ix2 0 r)
        = Ideal.div (kScale (kA d ksf vsf qs (kM d ksf qs sink ok4 (key4 first hfi r)) ok4 (key4 first hfi r)))
          (kL d ksf qs sink (kM d ksf qs sink ok4 (key4 first hfi r)) ok4 (key4 first hfi r)) := by
  have key := head384 (tM4 M KS rs) (vM4 M VS) cb sk r ok4 (key4 first hfi r) d ksf vsf qs sink hq
    (fun i => by rw [tM4_at M hM, hd, hks]; unfold kT; rw [if_pos trivial]) (fun i _ => by rw [vM4_at M hM, hvs]) hc hs
  refine ⟨fun p => ?_, key.2⟩
  refine (codesM4_at M hM _ r (fun n => if h : n < 512 then
    clip (kP d ksf qs (kM d ksf qs sink ok4 (key4 first hfi r)) (key4' first hfi ⟨n, h⟩) * vsf (key4' first hfi ⟨n, h⟩)
          * kInv (kA d ksf vsf qs (kM d ksf qs sink ok4 (key4 first hfi r)) ok4 (key4 first hfi r))) else 0) (fun i => ?_) p).trans ?_
  · rw [key.1 i, if_pos trivial, dif_pos (pos4_lt r i)]
  · rw [dif_pos p.isLt]

theorem attM4_0 (M : IVec S128x128 1) (hM : IsMask M) (K : FVec Ideal S1x512x128 .fp8e4m3) (V : FVec Ideal S1x128x512 .fp8e4m3)
    (KS VS : FVec Ideal S1x512x128 .f32) (Q : FVec Ideal S640x128 .fp8e4m3) (cb : FVec Ideal S1x128 .f32) (sk : Ideal .f32)
    (w0 w1 w2 w3 w4 : FVec Ideal S512x128 .fp8e4m3) (r c : Fin 128) (first : ℕ) (hfi : first + 512 ≤ 896)
    (kk : Fin 896 → Fin 128 → EReal) (qq : Fin 128 → EReal) (ksf vsf vf : Fin 896 → EReal) (qs sink : EReal) (hq : 0 < qs)
    (hw : w0 = codesM4 M (hQ384 (tM4 M KS (extractStridedSlice S512x128 ![0, 0] (rawM4 K Q) slices_S512x640_o0_0_S512x128)) (vM4 M VS) cb sk))
    (hk : ∀ (p : Fin 512) e, K (ix3 0 p e) = kk ((key4' first hfi) p) e) (hv : ∀ p : Fin 512, V (ix3 0 c p) = vf ((key4' first hfi) p))
    (hks : ∀ p : Fin 512, KS (ix3 0 p r) = ksf ((key4' first hfi) p)) (hvs : ∀ p : Fin 512, VS (ix3 0 p r) = vsf ((key4' first hfi) p))
    (hQ : ∀ e, Q (ix2 ⟨0 + r, by omega⟩ e) = qq e) (hc : cb (ix2 0 r) = qs * SL) (hs : sk = sink) :
    outG0 (sumM4 V w0 w1 w2 w3 w4)
        (hF384 (tM4 M KS (extractStridedSlice S512x128 ![0, 0] (rawM4 K Q) slices_S512x640_o0_0_S512x128)) (vM4 M VS) cb sk) (ix3 0 r c)
      = kOut (fun j => ∑ e, kk j e * qq e) ksf vsf vf qs sink
          (kM (fun j => ∑ e, kk j e * qq e) ksf qs sink ok4 (key4 first hfi r)) ok4 (key4 first hfi r) (ok4' r) (key4' first hfi) := by
  have key := coreM4 M hM (extractStridedSlice S512x128 ![0, 0] (rawM4 K Q) slices_S512x640_o0_0_S512x128) KS VS cb sk r first hfi
    (fun j => ∑ e, kk j e * qq e) ksf vsf qs sink hq (fun p => by rw [rawM4_at0]; simp only [hk, hQ]) hks hvs hc hs
  rw [outG0_at, sumM4_at0, key.2]
  unfold kOut
  refine congrArg (· * _) (Finset.sum_congr rfl fun p _ => ?_)
  rw [hw, key.1, hv, mul_comm, ite_mul, zero_mul]

theorem attM4_1 (M : IVec S128x128 1) (hM : IsMask M) (K : FVec Ideal S1x512x128 .fp8e4m3) (V : FVec Ideal S1x128x512 .fp8e4m3)
    (KS VS : FVec Ideal S1x512x128 .f32) (Q : FVec Ideal S640x128 .fp8e4m3) (cb : FVec Ideal S1x128 .f32) (sk : Ideal .f32)
    (w0 w1 w2 w3 w4 : FVec Ideal S512x128 .fp8e4m3) (r c : Fin 128) (first : ℕ) (hfi : first + 512 ≤ 896)
    (kk : Fin 896 → Fin 128 → EReal) (qq : Fin 128 → EReal) (ksf vsf vf : Fin 896 → EReal) (qs sink : EReal) (hq : 0 < qs)
    (hw : w1 = codesM4 M (hQ384 (tM4 M KS (extractStridedSlice S512x128 ![0, 128] (rawM4 K Q) slices_S512x640_o0_128_S512x128)) (vM4 M VS) cb sk))
    (hk : ∀ (p : Fin 512) e, K (ix3 0 p e) = kk ((key4' first hfi) p) e) (hv : ∀ p : Fin 512, V (ix3 0 c p) = vf ((key4' first hfi) p))
    (hks : ∀ p : Fin 512, KS (ix3 0 p r) = ksf ((key4' first hfi) p)) (hvs : ∀ p : Fin 512, VS (ix3 0 p r) = vsf ((key4' first hfi) p))
    (hQ : ∀ e, Q (ix2 ⟨128 + r, by omega⟩ e) = qq e) (hc : cb (ix2 0 r) = qs * SL) (hs : sk = sink) :
    outG1 (sumM4 V w0 w1 w2 w3 w4)
        (hF384 (tM4 M KS (extractStridedSlice S512x128 ![0, 128] (rawM4 K Q) slices_S512x640_o0_128_S512x128)) (vM4 M VS) cb sk) (ix3 0 r c)
      = kOut (fun j => ∑ e, kk j e * qq e) ksf vsf vf qs sink
          (kM (fun j => ∑ e, kk j e * qq e) ksf qs sink ok4 (key4 first hfi r)) ok4 (key4 first hfi r) (ok4' r) (key4' first hfi) := by
  have key := coreM4 M hM (extractStridedSlice S512x128 ![0, 128] (rawM4 K Q) slices_S512x640_o0_128_S512x128) KS VS cb sk r first hfi
    (fun j => ∑ e, kk j e * qq e) ksf vsf qs sink hq (fun p => by rw [rawM4_at1]; simp only [hk, hQ]) hks hvs hc hs
  rw [outG1_at, sumM4_at1, key.2]
  unfold kOut
  refine congrArg (· * _) (Finset.sum_congr rfl fun p _ => ?_)
  rw [hw, key.1, hv, mul_comm, ite_mul, zero_mul]

theorem attM4_2 (M : IVec S128x128 1) (hM : IsMask M) (K : FVec Ideal S1x512x128 .fp8e4m3) (V : FVec Ideal S1x128x512 .fp8e4m3)
    (KS VS : FVec Ideal S1x512x128 .f32) (Q : FVec Ideal S640x128 .fp8e4m3) (cb : FVec Ideal S1x128 .f32) (sk : Ideal .f32)
    (w0 w1 w2 w3 w4 : FVec Ideal S512x128 .fp8e4m3) (r c : Fin 128) (first : ℕ) (hfi : first + 512 ≤ 896)
    (kk : Fin 896 → Fin 128 → EReal) (qq : Fin 128 → EReal) (ksf vsf vf : Fin 896 → EReal) (qs sink : EReal) (hq : 0 < qs)
    (hw : w2 = codesM4 M (hQ384 (tM4 M KS (extractStridedSlice S512x128 ![0, 256] (rawM4 K Q) slices_S512x640_o0_256_S512x128)) (vM4 M VS) cb sk))
    (hk : ∀ (p : Fin 512) e, K (ix3 0 p e) = kk ((key4' first hfi) p) e) (hv : ∀ p : Fin 512, V (ix3 0 c p) = vf ((key4' first hfi) p))
    (hks : ∀ p : Fin 512, KS (ix3 0 p r) = ksf ((key4' first hfi) p)) (hvs : ∀ p : Fin 512, VS (ix3 0 p r) = vsf ((key4' first hfi) p))
    (hQ : ∀ e, Q (ix2 ⟨256 + r, by omega⟩ e) = qq e) (hc : cb (ix2 0 r) = qs * SL) (hs : sk = sink) :
    outG2 (sumM4 V w0 w1 w2 w3 w4)
        (hF384 (tM4 M KS (extractStridedSlice S512x128 ![0, 256] (rawM4 K Q) slices_S512x640_o0_256_S512x128)) (vM4 M VS) cb sk) (ix3 0 r c)
      = kOut (fun j => ∑ e, kk j e * qq e) ksf vsf vf qs sink
          (kM (fun j => ∑ e, kk j e * qq e) ksf qs sink ok4 (key4 first hfi r)) ok4 (key4 first hfi r) (ok4' r) (key4' first hfi) := by
  have key := coreM4 M hM (extractStridedSlice S512x128 ![0, 256] (rawM4 K Q) slices_S512x640_o0_256_S512x128) KS VS cb sk r first hfi
    (fun j => ∑ e, kk j e * qq e) ksf vsf qs sink hq (fun p => by rw [rawM4_at2]; simp only [hk, hQ]) hks hvs hc hs
  rw [outG2_at, sumM4_at2, key.2]
  unfold kOut
  refine congrArg (· * _) (Finset.sum_congr rfl fun p _ => ?_)
  rw [hw, key.1, hv, mul_comm, ite_mul, zero_mul]

theorem attM4_3 (M : IVec S128x128 1) (hM : IsMask M) (K : FVec Ideal S1x512x128 .fp8e4m3) (V : FVec Ideal S1x128x512 .fp8e4m3)
    (KS VS : FVec Ideal S1x512x128 .f32) (Q : FVec Ideal S640x128 .fp8e4m3) (cb : FVec Ideal S1x128 .f32) (sk : Ideal .f32)
    (w0 w1 w2 w3 w4 : FVec Ideal S512x128 .fp8e4m3) (r c : Fin 128) (first : ℕ) (hfi : first + 512 ≤ 896)
    (kk : Fin 896 → Fin 128 → EReal) (qq : Fin 128 → EReal) (ksf vsf vf : Fin 896 → EReal) (qs sink : EReal) (hq : 0 < qs)
    (hw : w3 = codesM4 M (hQ384 (tM4 M KS (extractStridedSlice S512x128 ![0, 384] (rawM4 K Q) slices_S512x640_o0_384_S512x128)) (vM4 M VS) cb sk))
    (hk : ∀ (p : Fin 512) e, K (ix3 0 p e) = kk ((key4' first hfi) p) e) (hv : ∀ p : Fin 512, V (ix3 0 c p) = vf ((key4' first hfi) p))
    (hks : ∀ p : Fin 512, KS (ix3 0 p r) = ksf ((key4' first hfi) p)) (hvs : ∀ p : Fin 512, VS (ix3 0 p r) = vsf ((key4' first hfi) p))
    (hQ : ∀ e, Q (ix2 ⟨384 + r, by omega⟩ e) = qq e) (hc : cb (ix2 0 r) = qs * SL) (hs : sk = sink) :
    outG3 (sumM4 V w0 w1 w2 w3 w4)
        (hF384 (tM4 M KS (extractStridedSlice S512x128 ![0, 384] (rawM4 K Q) slices_S512x640_o0_384_S512x128)) (vM4 M VS) cb sk) (ix3 0 r c)
      = kOut (fun j => ∑ e, kk j e * qq e) ksf vsf vf qs sink
          (kM (fun j => ∑ e, kk j e * qq e) ksf qs sink ok4 (key4 first hfi r)) ok4 (key4 first hfi r) (ok4' r) (key4' first hfi) := by
  have key := coreM4 M hM (extractStridedSlice S512x128 ![0, 384] (rawM4 K Q) slices_S512x640_o0_384_S512x128) KS VS cb sk r first hfi
    (fun j => ∑ e, kk j e * qq e) ksf vsf qs sink hq (fun p => by rw [rawM4_at3]; simp only [hk, hQ]) hks hvs hc hs
  rw [outG3_at, sumM4_at3, key.2]
  unfold kOut
  refine congrArg (· * _) (Finset.sum_congr rfl fun p _ => ?_)
  rw [hw, key.1, hv, mul_comm, ite_mul, zero_mul]

theorem attM4_4 (M : IVec S128x128 1) (hM : IsMask M) (K : FVec Ideal S1x512x128 .fp8e4m3) (V : FVec Ideal S1x128x512 .fp8e4m3)
    (KS VS : FVec Ideal S1x512x128 .f32) (Q : FVec Ideal S640x128 .fp8e4m3) (cb : FVec Ideal S1x128 .f32) (sk : Ideal .f32)
    (w0 w1 w2 w3 w4 : FVec Ideal S512x128 .fp8e4m3) (r c : Fin 128) (first : ℕ) (hfi : first + 512 ≤ 896)
    (kk : Fin 896 → Fin 128 → EReal) (qq : Fin 128 → EReal) (ksf vsf vf : Fin 896 → EReal) (qs sink : EReal) (hq : 0 < qs)
    (hw : w4 = codesM4 M (hQ384 (tM4 M KS (extractStridedSlice S512x128 ![0, 512] (rawM4 K Q) slices_S512x640_o0_512_S512x128)) (vM4 M VS) cb sk))
    (hk : ∀ (p : Fin 512) e, K (ix3 0 p e) = kk ((key4' first hfi) p) e) (hv : ∀ p : Fin 512, V (ix3 0 c p) = vf ((key4' first hfi) p))
    (hks : ∀ p : Fin 512, KS (ix3 0 p r) = ksf ((key4' first hfi) p)) (hvs : ∀ p : Fin 512, VS (ix3 0 p r) = vsf ((key4' first hfi) p))
    (hQ : ∀ e, Q (ix2 ⟨512 + r, by omega⟩ e) = qq e) (hc : cb (ix2 0 r) = qs * SL) (hs : sk = sink) :
    outG4 (sumM4 V w0 w1 w2 w3 w4)
        (hF384 (tM4 M KS (extractStridedSlice S512x128 ![0, 512] (rawM4 K Q) slices_S512x640_o0_512_S512x128)) (vM4 M VS) cb sk) (ix3 0 r c)
      = kOut (fun j => ∑ e, kk j e * qq e) ksf vsf vf qs sink
          (kM (fun j => ∑ e, kk j e * qq e) ksf qs sink ok4 (key4 first hfi r)) ok4 (key4 first hfi r) (ok4' r) (key4' first hfi) := by
  have key := coreM4 M hM (extractStridedSlice S512x128 ![0, 512] (rawM4 K Q) slices_S512x640_o0_512_S512x128) KS VS cb sk r first hfi
    (fun j => ∑ e, kk j e * qq e) ksf vsf qs sink hq (fun p => by rw [rawM4_at4]; simp only [hk, hQ]) hks hvs hc hs
  rw [outG4_at, sumM4_at4, key.2]
  unfold kOut
  refine congrArg (· * _) (Finset.sum_congr rfl fun p _ => ?_)
  rw [hw, key.1, hv, mul_comm, ite_mul, zero_mul]

/-! ### A group of heads in the arrays the loads read -/

theorem rd_at {κ : Kind} {sp : Space} {s : Shape} {e : EltTy} (v : View sig κ sp s e) (X : v.ty.Contents (Elt Ideal)) (R : s.Idx → Elt Ideal e)
    (hR : v.read (Elt Ideal) X = R) {off off' size : Fin s.rank → ℕ} (inb : ∀ a, off a + size a ≤ s.size a) (he : off = off')
    (x : (Rect.unit off size inb).shape.Idx) (y : s.Idx) (hy : ∀ a, (y a : ℕ) = off' a + x a) :
    View.readAt (Elt Ideal) v (Rect.unit off size inb).toLoadRect X x = R y := by
  subst hR he
  exact View.ld_unit_apply_of _ _ _ _ _ _ hy

/-- An index of a rectangle placed at the offsets, given coordinate by coordinate. -/
theorem at3 {n0 n1 n2 m0 m1 m2 : ℕ} {y : (⟨3, ![n0, n1, n2]⟩ : Shape).Idx} {x : (⟨3, ![m0, m1, m2]⟩ : Shape).Idx} {off : Fin 3 → ℕ}
    (h0 : (y 0 : ℕ) = off 0 + x 0) (h1 : (y 1 : ℕ) = off 1 + x 1) (h2 : (y 2 : ℕ) = off 2 + x 2) : ∀ a : Fin 3, (y a : ℕ) = off a + (x a : ℕ)
  | 0 => h0 | 1 => h1 | 2 => h2
theorem at2 {n0 n1 m0 m1 : ℕ} {y : (⟨2, ![n0, n1]⟩ : Shape).Idx} {x : (⟨2, ![m0, m1]⟩ : Shape).Idx} {off : Fin 2 → ℕ}
    (h0 : (y 0 : ℕ) = off 0 + x 0) (h1 : (y 1 : ℕ) = off 1 + x 1) : ∀ a : Fin 2, (y a : ℕ) = off a + (x a : ℕ)
  | 0 => h0 | 1 => h1
theorem at1 {n0 m0 : ℕ} {y : (⟨1, ![n0]⟩ : Shape).Idx} {x : (⟨1, ![m0]⟩ : Shape).Idx} {off : Fin 1 → ℕ}
    (h0 : (y 0 : ℕ) = off 0 + x 0) : ∀ a : Fin 1, (y a : ℕ) = off a + (x a : ℕ)
  | 0 => h0
theorem in3 {n0 n1 n2 m0 m1 m2 : ℕ} {y : (⟨3, ![n0, n1, n2]⟩ : Shape).Idx} {off : Fin 3 → ℕ}
    (h0 : off 0 ≤ y 0 ∧ (y 0 : ℕ) < off 0 + m0) (h1 : off 1 ≤ y 1 ∧ (y 1 : ℕ) < off 1 + m1) (h2 : off 2 ≤ y 2 ∧ (y 2 : ℕ) < off 2 + m2) :
    ∀ a : Fin 3, off a ≤ y a ∧ (y a : ℕ) < off a + (⟨3, ![m0, m1, m2]⟩ : Shape).size a
  | 0 => h0 | 1 => h1 | 2 => h2

abbrev grp (h : Fin 40) : Fin 8 := ⟨(h : ℕ) / 5, by omega⟩
abbrev rowOf (h : Fin 40) (r : Fin 128) : Fin 5120 := ⟨128 * (h : ℕ) + r, by omega⟩
abbrev headOf (z : Fin 5120) : Fin 40 := ⟨(z : ℕ) / 128, by omega⟩
abbrev colOf (z : Fin 5120) : Fin 128 := ⟨(z : ℕ) % 128, by omega⟩

/-- The attention row of head `h`, query row `r`, column `c`, from the arrays read. -/
def attRow {ι ι' : Type} [Fintype ι] [Fintype ι'] (R7 : S40.Idx → EReal) (R11 : S8x896x128.Idx → EReal) (R12 : S8x128x896.Idx → EReal)
    (R13 R14 : S8x896x128.Idx → EReal) (R15 : S5120x128.Idx → EReal) (qs : Fin 40 → Fin 128 → EReal)
    (ok : ι → Prop) [DecidablePred ok] (key : ι → Fin 896) (ok' : ι' → Prop) [DecidablePred ok'] (key' : ι' → Fin 896)
    (h : Fin 40) (r c : Fin 128) : EReal :=
  kOut (fun j => ∑ e, R11 (ix3 (grp h) j e) * R15 (ix2 (rowOf h r) e)) (fun j => R13 (ix3 (grp h) j r)) (fun j => R14 (ix3 (grp h) j r))
    (fun j => R12 (ix3 (grp h) c j)) (qs h r) (R7 (ix1 h))
    (kM (fun j => ∑ e, R11 (ix3 (grp h) j e) * R15 (ix2 (rowOf h r) e)) (fun j => R13 (ix3 (grp h) j r)) (qs h r) (R7 (ix1 h)) ok key)
    ok key ok' key'

end Cert.KernelIdeal.Out

end
-- ==== Proof.Quant.lean ====
/- The quantisation of a block of queries: its codes, the scale of every row of every head, and the factor of the scores,
   as functions of the block, and what they hold at an index. -/
module

public import proofs.«01_k».proof.Proof.Attend

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-! ### One head -/

/-- A head's rows, their greatest magnitudes, and their codes. -/
def xV (x : FVec Ideal S1x128x128 .bf16) : FVec Ideal S128x128 .f32 :=
  extf .f32 (shapeCast S128x128 x shapeCasts_S1x128x128_S128x128 : FVec Ideal S128x128 .bf16) bitsLt_bf16_f32
def topV (x : FVec Ideal S1x128x128 .bf16) : FVec Ideal S128x1 .f32 :=
  shapeCast S128x1 (multiReduction .maximumf [1] S128 (absf (xV x)) 0xFF800000#32 reduces_S128x128_S128 (.inl rfl) rfl) shapeCasts_S128_S128x1
def spreadV (x : FVec Ideal S1x128x128 .bf16) : FVec Ideal S128x128 .f32 :=
  broadcastTo S128x128 (shapeCast S128x1 (topV x) shapeCasts_S128x1_S128x1 : FVec Ideal S128x1 .f32) broadcasts_S128x1_S128x128
def codeV (x : FVec Ideal S1x128x128 .bf16) : FVec Ideal S128x128 .fp8e4m3 :=
  truncf .fp8e4m3 (minimumf (broadcast S128x128 (Scalar.ofBits .f32 0x43E00000#32)) (maximumf (broadcast S128x128 (Scalar.ofBits .f32 0xC3E00000#32))
    (mulf (xV x) (invV (spreadV x))))) bitsLt_fp8e4m3_f32
/-- The codes as the result's block holds them, and as the scratch holds them. -/
def blockV (x : FVec Ideal S1x128x128 .bf16) : FVec Ideal S1x128x128 .fp8e4m3 := shapeCast S1x128x128 (codeV x) shapeCasts_S128x128_S1x128x128
def keptV (x : FVec Ideal S1x128x128 .bf16) : FVec Ideal S128x128 .fp8e4m3 := shapeCast S128x128 (codeV x) shapeCasts_S128x128_S128x128

/-- The greatest magnitude of a row. -/
def top (x : S1x128x128.Idx → EReal) (r : Fin 128) : EReal := Finset.univ.sup fun e : Fin 128 => max (x (ix3 0 r e)) (-(x (ix3 0 r e)))

theorem topV_at (x : FVec Ideal S1x128x128 .bf16) (r : Fin 128) : topV x (ix2 r 0) = top x r := by
  pointwise [topV, xV]
  rw [ninf_eq]
  rfl
theorem spreadV_at (x : FVec Ideal S1x128x128 .bf16) (r l : Fin 128) : spreadV x (ix2 r l) = top x r := by
  pointwise [spreadV, topV_at]
theorem codeV_at (x : FVec Ideal S1x128x128 .bf16) (r l : Fin 128) : codeV x (ix2 r l) = clip (x (ix3 0 r l) * kInv (top x r)) := by
  pointwise [codeV, xV, invV_at, spreadV_at, clip]
theorem blockV_at (x : FVec Ideal S1x128x128 .bf16) (r l : Fin 128) : blockV x (ix3 0 r l) = clip (x (ix3 0 r l) * kInv (top x r)) := by
  pointwise [blockV, codeV_at]
theorem keptV_at (x : FVec Ideal S1x128x128 .bf16) (r l : Fin 128) : keptV x (ix2 r l) = clip (x (ix3 0 r l) * kInv (top x r)) := by
  pointwise [keptV, codeV_at]

/-! ### All the heads -/

theorem head_inb (n : ℕ) : ∀ a : Fin 3, (![0, 0, 128 * (n % 40)] : Fin 3 → ℕ) a + (![1, 128, 128] : Fin 3 → ℕ) a ≤ S1x128x5120.size a
  | 0 => Nat.le_refl 1
  | 1 => Nat.le_refl 128
  | 2 => by show 128 * (n % 40) + 128 ≤ 5120; omega
theorem kept_inb (n : ℕ) : ∀ a : Fin 2, (![128 * (n % 40), 0] : Fin 2 → ℕ) a + (![128, 128] : Fin 2 → ℕ) a ≤ S5120x128.size a
  | 0 => by show 128 * (n % 40) + 128 ≤ 5120; omega
  | 1 => Nat.le_refl 128

abbrev headR (n : ℕ) : Rect S1x128x5120 := Rect.unit (s := S1x128x5120) ![0, 0, 128 * (n % 40)] ![1, 128, 128] (head_inb n)
abbrev keptR (n : ℕ) : Rect S5120x128 := Rect.unit (s := S5120x128) ![128 * (n % 40), 0] ![128, 128] (kept_inb n)

variable (X : FVec Ideal S1x128x5120 .bf16)

def headX (n : ℕ) : FVec Ideal S1x128x128 .bf16 := View.ld (Val := Elt Ideal) (e' := .bf16) X (headR n)

/-- The pieces the block of codes and the scratch of codes are stored in, the last head first. -/
def blockL : ℕ → List (View.Piece (Elt Ideal) S1x128x5120 .fp8e4m3)
  | 0 => []
  | n + 1 => ⟨headR n, blockV (headX X n)⟩ :: blockL n
def keptL : ℕ → List (View.Piece (Elt Ideal) S5120x128 .fp8e4m3)
  | 0 => []
  | n + 1 => ⟨keptR n, keptV (headX X n)⟩ :: keptL n

/-- The greatest magnitudes of the first heads, one head per lane. -/
def amaxV : ℕ → FVec Ideal S128x128 .f32
  | 0 => broadcast S128x128 (Scalar.ofBits .f32 0x00000000#32)
  | n + 1 => select (cmpi .eq (iota .tc S128x128 32 [1] iota_S128x128_d1_w32) (broadcast S128x128 (BitVec.ofNat 32 n)))
      (broadcastTo S128x128 (shapeCast S128x1 (topV (headX X n)) shapeCasts_S128x1_S128x1 : FVec Ideal S128x1 .f32) broadcasts_S128x1_S128x128) (amaxV n)
def scalesV : FVec Ideal S128x128 .f32 := scaleV (transpose S128x128 [1, 0] (amaxV X 40) transposes_S128x128_p1_0_S128x128)
def scaleOutV : FVec Ideal S1x40x128 .f32 :=
  shapeCast S1x40x128 (extractStridedSlice S40x128 ![0, 0] (scalesV X) slices_S128x128_o0_0_S40x128 : FVec Ideal S40x128 .f32) shapeCasts_S40x128_S1x40x128
def factorV : FVec Ideal S128x128 .f32 :=
  shapeCast S128x128 (mulf (scalesV X) (broadcast S128x128 (Named.named κ "score_log2e" 0x3E0293EE#32 : Ideal .f32))) shapeCasts_S128x128_S128x128

/-- The greatest magnitude of a row of a head, and the code of an entry. -/
def topQ (X : S1x128x5120.Idx → EReal) (h : Fin 40) (r : Fin 128) : EReal :=
  Finset.univ.sup fun e : Fin 128 => max (X (ix3 0 r (rowOf h e))) (-(X (ix3 0 r (rowOf h e))))
def codeQ (X : S1x128x5120.Idx → EReal) (r : Fin 128) (z : Fin 5120) : EReal := clip (X (ix3 0 r z) * kInv (topQ X (headOf z) r))

theorem topQ_nonneg (X : S1x128x5120.Idx → EReal) (h : Fin 40) (r : Fin 128) : 0 ≤ topQ X h r :=
  (abs_nonneg' _).trans (Finset.le_sup (f := fun e : Fin 128 => max (X (ix3 0 r (rowOf h e))) (-(X (ix3 0 r (rowOf h e))))) (Finset.mem_univ 0))

theorem headR_emb (n : ℕ) (r e : Fin 128) (z : Fin 5120) (hz : (z : ℕ) = 128 * (n % 40) + e) : (headR n).emb (ix3 0 r e) = ix3 0 r z :=
  funext fun | 0 => Subsingleton.elim (α := Fin 1) _ _
             | 1 => Fin.ext ((Rect.idx_unit_val _ _ _ _ _).trans (Nat.zero_add _))
             | 2 => Fin.ext ((Rect.idx_unit_val _ _ _ _ _).trans hz.symm)

theorem headX_at (n : ℕ) (r e : Fin 128) (z : Fin 5120) (hz : (z : ℕ) = 128 * (n % 40) + e) : headX X n (ix3 0 r e) = X (ix3 0 r z) :=
  congrArg X (headR_emb n r e z hz)

theorem top_headX (n : ℕ) (h : Fin 40) (hn : n % 40 = h) (r : Fin 128) : top (headX X n) r = topQ X h r := by
  unfold top topQ
  refine Finset.sup_congr rfl fun e _ => ?_
  rw [headX_at X n r e (rowOf h e) (by rw [hn])]

theorem code_headX (n : ℕ) (r e : Fin 128) (z : Fin 5120) (hz : (z : ℕ) = 128 * (n % 40) + e) :
    clip (headX X n (ix3 0 r e) * kInv (top (headX X n) r)) = codeQ X r z := by
  have hm := Nat.mod_lt n (show 0 < 40 by decide)
  rw [codeQ, headX_at X n r e z hz, top_headX X n (headOf z) (by show _ = (z : ℕ) / 128; omega)]

theorem mem_blockL {p : View.Piece (Elt Ideal) S1x128x5120 .fp8e4m3} : ∀ {n : ℕ}, p ∈ blockL X n ↔ ∃ k < n, p = ⟨headR k, blockV (headX X k)⟩
  | 0 => by simp [blockL]
  | n + 1 => by
    rw [blockL, List.mem_cons, mem_blockL]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.1 hk with h | rfl
      · exact .inr ⟨k, h, rfl⟩
      · exact .inl rfl
theorem mem_keptL {p : View.Piece (Elt Ideal) S5120x128 .fp8e4m3} : ∀ {n : ℕ}, p ∈ keptL X n ↔ ∃ k < n, p = ⟨keptR k, keptV (headX X k)⟩
  | 0 => by simp [keptL]
  | n + 1 => by
    rw [keptL, List.mem_cons, mem_keptL]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.1 hk with h | rfl
      · exact .inr ⟨k, h, rfl⟩
      · exact .inl rfl

/-- The block of codes at an index. -/
theorem block_at (r : Fin 128) (z : Fin 5120) :
    View.canon (Val := Elt Ideal) (e := .fp8e4m3) (blockL X 40) (ix3 0 r z) = codeQ X r z := by
  have hz := z.isLt
  refine View.canon_apply_of_pieces (Val := Elt Ideal) (e := .fp8e4m3) (fun y : S1x128x5120.Idx => codeQ X (y 1) (y 2)) _ ?_ (ix3 0 r z) ?_
  · intro p hp x
    obtain ⟨k, hk, rfl⟩ := (mem_blockL X).1 hp
    obtain ⟨w, a, e, rfl⟩ : ∃ (w : Fin 1) (a e : Fin 128), x = ix3 w a e := ⟨x 0, x 1, x 2, (ix3_eta x).symm⟩
    obtain rfl : w = 0 := Subsingleton.elim _ _
    have hk' : k % 40 = k := Nat.mod_eq_of_lt hk
    have E := headR_emb k a e ⟨128 * (k % 40) + e, by omega⟩ rfl
    refine ((blockV_at _ a e).trans (code_headX X k a e ⟨128 * (k % 40) + e, by omega⟩ rfl)).trans ?_
    dsimp only
    rw [E]
    rfl
  · refine ⟨_, (mem_blockL X).2 ⟨(z : ℕ) / 128, by omega, rfl⟩, ?_⟩
    rw [Rect.mem_set_unit]
    exact in3 ⟨Nat.le_refl _, Nat.zero_lt_one⟩ ⟨Nat.zero_le _, by show (r : ℕ) < 0 + 128; omega⟩
      ⟨by show 128 * ((z : ℕ) / 128 % 40) ≤ z; omega, by show (z : ℕ) < 128 * ((z : ℕ) / 128 % 40) + 128; omega⟩

/-- The scratch of codes at an index. -/
theorem kept_at (h : Fin 40) (r e : Fin 128) :
    View.canon (Val := Elt Ideal) (e := .fp8e4m3) (keptL X 40) (ix2 (rowOf h r) e) = codeQ X r (rowOf h e) := by
  have hh := h.isLt
  refine (View.canon_apply_of_pieces (Val := Elt Ideal) (e := .fp8e4m3) (fun y : S5120x128.Idx => codeQ X (colOf (y 0)) (rowOf (headOf (y 0)) (y 1))) _ ?_ (ix2 (rowOf h r) e) ?_).trans ?_
  · intro p hp x
    obtain ⟨k, hk, rfl⟩ := (mem_keptL X).1 hp
    obtain ⟨a, e, rfl⟩ : ∃ (a e : Fin 128), x = ix2 a e := ⟨x 0, x 1, (ix2_eta x).symm⟩
    have hk' : k % 40 = k := Nat.mod_eq_of_lt hk
    have e0 : (((keptR k).emb (ix2 a e)) 0 : ℕ) = 128 * (k % 40) + a := Rect.idx_unit_val _ _ _ _ _
    have e1 : ((keptR k).emb (ix2 a e)) 1 = e := Fin.ext ((Rect.idx_unit_val _ _ _ _ _).trans (Nat.zero_add _))
    refine ((keptV_at _ a e).trans (code_headX X k a e ⟨128 * (k % 40) + e, by omega⟩ rfl)).trans ?_
    have ea : colOf (((keptR k).emb (ix2 a e)) 0) = a := Fin.ext (by show _ % 128 = _; rw [e0]; omega)
    have eh : headOf (((keptR k).emb (ix2 a e)) 0) = ⟨k, hk⟩ := Fin.ext (by show _ / 128 = _; rw [e0]; show _ = k; omega)
    dsimp only
    rw [ea, eh, e1]
    exact congrArg (codeQ X a) (Fin.ext (by show 128 * (k % 40) + (e : ℕ) = 128 * k + e; omega))
  · refine ⟨_, (mem_keptL X).2 ⟨h, hh, rfl⟩, ?_⟩
    rw [Rect.mem_set_unit]
    intro a
    match a with
    | 0 => exact ⟨by show 128 * ((h : ℕ) % 40) ≤ 128 * h + r; omega, by show 128 * (h : ℕ) + r < 128 * ((h : ℕ) % 40) + 128; omega⟩
    | 1 => exact ⟨Nat.zero_le _, by show (e : ℕ) < 0 + 128; omega⟩
  · show codeQ X (colOf (rowOf h r)) (rowOf (headOf (rowOf h r)) e) = _
    rw [show colOf (rowOf h r) = r from Fin.ext (by show (128 * (h : ℕ) + r) % 128 = r; omega),
      show headOf (rowOf h r) = h from Fin.ext (by show (128 * (h : ℕ) + r) / 128 = h; omega)]

theorem amaxV_at (r : Fin 128) : ∀ (n : ℕ), n ≤ 40 → ∀ h : Fin 40, (h : ℕ) < n → amaxV X n (ix2 r ⟨h, by omega⟩) = topQ X h r
  | n + 1, hn, h, hh => by
    have step : amaxV X (n + 1) (ix2 r ⟨h, by omega⟩)
        = Scalar.select (Scalar.cmpi .eq (BitVec.ofNat 32 h) (BitVec.ofNat 32 n)) (top (headX X n) r) (amaxV X n (ix2 r ⟨h, by omega⟩)) := by
      rw [amaxV]
      generalize amaxV X n = A
      pointwise [topV_at]
      rfl
    rw [step]
    by_cases e : (h : ℕ) = n
    · rw [show Scalar.cmpi .eq (BitVec.ofNat 32 h) (BitVec.ofNat 32 n) = 1#1 by rw [e]; simp [Scalar.cmpi, IntOp.cmpi]]
      exact top_headX X n h (by rw [← e]; exact Nat.mod_eq_of_lt h.isLt) r
    · have hne : BitVec.ofNat 32 (h : ℕ) ≠ BitVec.ofNat 32 n := fun h' => e (by
        have := congrArg BitVec.toNat h'
        rw [BitVec.toNat_ofNat, BitVec.toNat_ofNat] at this
        have := h.isLt
        omega)
      rw [show Scalar.cmpi .eq (BitVec.ofNat 32 h) (BitVec.ofNat 32 n) = 0#1 by
        show BitVec.ofBool (BitVec.ofNat 32 (h : ℕ) == BitVec.ofNat 32 n) = 0#1
        rw [beq_false_of_ne hne]; rfl]
      exact amaxV_at r n (by omega) h (by omega)

theorem scalesV_at (h : Fin 40) (r : Fin 128) : scalesV X (ix2 ⟨h, by omega⟩ r) = kScale (topQ X h r) := by
  rw [scalesV, scaleV_at]
  refine congrArg kScale (Eq.trans ?_ (amaxV_at X r 40 (Nat.le_refl _) h h.isLt))
  pointwise
theorem scaleOutV_at (h : Fin 40) (r : Fin 128) : scaleOutV X (ix3 0 h r) = kScale (topQ X h r) := by
  refine Eq.trans ?_ (scalesV_at X h r)
  pointwise [scaleOutV]
theorem factorV_at (h : Fin 40) (r : Fin 128) : factorV X (ix2 ⟨h, by omega⟩ r) = kScale (topQ X h r) * SL := by
  rw [← scalesV_at X h r, ← score_log2e_eq]
  pointwise [factorV]

/-- The mask of the diagonal. -/
theorem isMask : IsMask (k0_pay871 : IVec S128x128 1) := by
  intro a b
  pointwise [k0_pay871]
  have ha : (BitVec.ofNat 32 (a : ℕ)).toInt = a := by
    rw [BitVec.toInt_eq_toNat_of_lt] <;> rw [BitVec.toNat_ofNat] <;> omega
  have hb : (BitVec.ofNat 32 (b : ℕ)).toInt = b := by
    rw [BitVec.toInt_eq_toNat_of_lt] <;> rw [BitVec.toNat_ofNat] <;> omega
  show BitVec.ofBool (decide (_ ≤ _)) = _
  rw [ha, hb]
  simp only [Nat.cast_le]

end Cert.KernelIdeal.Out

end
-- ==== Proof.Keep.lean ====
/- The keys, the values and their scales as the kernel keeps them between the query tiles of a batch element: transposed,
   tile by tile, and the scales spread along the lanes; what they hold at an index. -/
module

public import proofs.«01_k».proof.Proof.Attend

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-- The pieces an array is stored in, the last first. -/
def tilesL {s : Shape} {e : EltTy} (R : ℕ → Rect s) (P : (n : ℕ) → (R n).shape.Idx → Elt Ideal e) : ℕ → List (View.Piece (Elt Ideal) s e)
  | 0 => []
  | n + 1 => ⟨R n, P n⟩ :: tilesL R P n

theorem mem_tilesL {s : Shape} {e : EltTy} (R : ℕ → Rect s) (P : (n : ℕ) → (R n).shape.Idx → Elt Ideal e) {p : View.Piece (Elt Ideal) s e} :
    ∀ {n : ℕ}, p ∈ tilesL R P n ↔ ∃ k < n, p = ⟨R k, P k⟩
  | 0 => by simp [tilesL]
  | n + 1 => by
    rw [tilesL, List.mem_cons, mem_tilesL]
    constructor
    · rintro (rfl | ⟨k, hk, rfl⟩)
      · exact ⟨n, Nat.lt_succ_self n, rfl⟩
      · exact ⟨k, Nat.lt_succ_of_lt hk, rfl⟩
    · rintro ⟨k, hk, rfl⟩
      rcases Nat.lt_succ_iff_lt_or_eq.1 hk with h | rfl
      · exact .inr ⟨k, h, rfl⟩
      · exact .inl rfl

/-- Piece `n` is tile `n % 7` of group `n / 7`. -/
theorem keyR_inb (n : ℕ) : ∀ a : Fin 3, (![n / 7 % 8, 128 * (n % 7), 0] : Fin 3 → ℕ) a + (![1, 128, 128] : Fin 3 → ℕ) a ≤ S8x896x128.size a
  | 0 => by show n / 7 % 8 + 1 ≤ 8; omega
  | 1 => by show 128 * (n % 7) + 128 ≤ 896; omega
  | 2 => Nat.le_refl 128
theorem valR_inb (n : ℕ) : ∀ a : Fin 3, (![n / 7 % 8, 0, 128 * (n % 7)] : Fin 3 → ℕ) a + (![1, 128, 128] : Fin 3 → ℕ) a ≤ S8x128x896.size a
  | 0 => by show n / 7 % 8 + 1 ≤ 8; omega
  | 1 => Nat.le_refl 128
  | 2 => by show 128 * (n % 7) + 128 ≤ 896; omega
theorem keyS_inb (n : ℕ) : ∀ a : Fin 4, (![0, n / 7 % 8, 0, 128 * (n % 7)] : Fin 4 → ℕ) a + (![1, 1, 128, 128] : Fin 4 → ℕ) a ≤ S1x8x128x896.size a
  | 0 => Nat.le_refl 1
  | 1 => by show n / 7 % 8 + 1 ≤ 8; omega
  | 2 => Nat.le_refl 128
  | 3 => by show 128 * (n % 7) + 128 ≤ 896; omega
theorem valS_inb (n : ℕ) : ∀ a : Fin 4, (![0, n / 7 % 8, 128 * (n % 7), 0] : Fin 4 → ℕ) a + (![1, 1, 128, 128] : Fin 4 → ℕ) a ≤ S1x8x896x128.size a
  | 0 => Nat.le_refl 1
  | 1 => by show n / 7 % 8 + 1 ≤ 8; omega
  | 2 => by show 128 * (n % 7) + 128 ≤ 896; omega
  | 3 => Nat.le_refl 128
theorem rowS_inb (n : ℕ) : ∀ a : Fin 3, (![0, n / 7 % 8, 128 * (n % 7)] : Fin 3 → ℕ) a + (![1, 1, 128] : Fin 3 → ℕ) a ≤ S1x8x896.size a
  | 0 => Nat.le_refl 1
  | 1 => by show n / 7 % 8 + 1 ≤ 8; omega
  | 2 => by show 128 * (n % 7) + 128 ≤ 896; omega

abbrev keyR (n : ℕ) : Rect S8x896x128 := Rect.unit (s := S8x896x128) ![n / 7 % 8, 128 * (n % 7), 0] ![1, 128, 128] (keyR_inb n)
abbrev valR (n : ℕ) : Rect S8x128x896 := Rect.unit (s := S8x128x896) ![n / 7 % 8, 0, 128 * (n % 7)] ![1, 128, 128] (valR_inb n)
abbrev keyS (n : ℕ) : Rect S1x8x128x896 := Rect.unit (s := S1x8x128x896) ![0, n / 7 % 8, 0, 128 * (n % 7)] ![1, 1, 128, 128] (keyS_inb n)
abbrev valS (n : ℕ) : Rect S1x8x896x128 := Rect.unit (s := S1x8x896x128) ![0, n / 7 % 8, 128 * (n % 7), 0] ![1, 1, 128, 128] (valS_inb n)
abbrev rowS (n : ℕ) : Rect S1x8x896 := Rect.unit (s := S1x8x896) ![0, n / 7 % 8, 128 * (n % 7)] ![1, 1, 128] (rowS_inb n)

/-- A tile of codes, transposed. -/
def turnV (x : FVec Ideal S1x1x128x128 .fp8e4m3) : FVec Ideal S1x128x128 .fp8e4m3 :=
  shapeCast S1x128x128 (truncf .fp8e4m3 (transpose S128x128 [1, 0] (extf .bf16 (shapeCast S128x128 x shapeCasts_S1x1x128x128_S128x128 : FVec Ideal S128x128 .fp8e4m3)
    bitsLt_fp8e4m3_bf16 : FVec Ideal S128x128 .bf16) transposes_S128x128_p1_0_S128x128) bitsLt_fp8e4m3_bf16 : FVec Ideal S128x128 .fp8e4m3) shapeCasts_S128x128_S1x128x128
/-- A row of scales, one per row of a tile, spread along the lanes. -/
def lanesV (x : FVec Ideal S1x1x128 .f32) : FVec Ideal S1x128x128 .f32 :=
  shapeCast S1x128x128 (transpose S128x128 [1, 0] (broadcastTo S128x128 (shapeCast S1x128 (shapeCast S1x128 x shapeCasts_S1x1x128_S1x128 : FVec Ideal S1x128 .f32)
    shapeCasts_S1x128_S1x128 : FVec Ideal S1x128 .f32) broadcasts_S1x128_S128x128) transposes_S128x128_p1_0_S128x128) shapeCasts_S128x128_S1x128x128

theorem turnV_at (x : FVec Ideal S1x1x128x128 .fp8e4m3) (a b : Fin 128) : turnV x (ix3 0 a b) = x (ix4 0 0 b a) := by
  pointwise [turnV]
theorem lanesV_at (x : FVec Ideal S1x1x128 .f32) (a b : Fin 128) : lanesV x (ix3 0 a b) = x (ix3 0 0 a) := by
  pointwise [lanesV]

def keptKeys (X : FVec Ideal S1x8x128x896 .fp8e4m3) : List (View.Piece (Elt Ideal) S8x896x128 .fp8e4m3) :=
  tilesL keyR (fun n => turnV (View.ld (Val := Elt Ideal) (e' := .fp8e4m3) X (keyS n))) 56
def keptVals (X : FVec Ideal S1x8x896x128 .fp8e4m3) : List (View.Piece (Elt Ideal) S8x128x896 .fp8e4m3) :=
  tilesL valR (fun n => turnV (View.ld (Val := Elt Ideal) (e' := .fp8e4m3) X (valS n))) 56
def keptRows (X : FVec Ideal S1x8x896 .f32) : List (View.Piece (Elt Ideal) S8x896x128 .f32) :=
  tilesL keyR (fun n => lanesV (View.ld (Val := Elt Ideal) (e' := .f32) X (rowS n))) 56

theorem keyS_idx (n : ℕ) (a b : Fin 128) (g : Fin 8) (j : Fin 896) (hg : (g : ℕ) = n / 7 % 8) (hj : (j : ℕ) = 128 * (n % 7) + b) :
    (keyS n).emb (ix4 0 0 a b) = ix4 0 g a j :=
  funext fun | 0 => Subsingleton.elim (α := Fin 1) _ _
             | 1 => Fin.ext ((Rect.idx_unit_val _ _ _ _ _).trans hg.symm)
             | 2 => Fin.ext ((Rect.idx_unit_val _ _ _ _ _).trans (Nat.zero_add _))
             | 3 => Fin.ext ((Rect.idx_unit_val _ _ _ _ _).trans hj.symm)
theorem valS_idx (n : ℕ) (a b : Fin 128) (g : Fin 8) (j : Fin 896) (hg : (g : ℕ) = n / 7 % 8) (hj : (j : ℕ) = 128 * (n % 7) + a) :
    (valS n).emb (ix4 0 0 a b) = ix4 0 g j b :=
  funext fun | 0 => Subsingleton.elim (α := Fin 1) _ _
             | 1 => Fin.ext ((Rect.idx_unit_val _ _ _ _ _).trans hg.symm)
             | 2 => Fin.ext ((Rect.idx_unit_val _ _ _ _ _).trans hj.symm)
             | 3 => Fin.ext ((Rect.idx_unit_val _ _ _ _ _).trans (Nat.zero_add _))
theorem rowS_idx (n : ℕ) (a : Fin 128) (g : Fin 8) (j : Fin 896) (hg : (g : ℕ) = n / 7 % 8) (hj : (j : ℕ) = 128 * (n % 7) + a) :
    (rowS n).emb (ix3 0 0 a) = ix3 0 g j :=
  funext fun | 0 => Subsingleton.elim (α := Fin 1) _ _
             | 1 => Fin.ext ((Rect.idx_unit_val _ _ _ _ _).trans hg.symm)
             | 2 => Fin.ext ((Rect.idx_unit_val _ _ _ _ _).trans hj.symm)

theorem keptKeys_at (X : FVec Ideal S1x8x128x896 .fp8e4m3) (g : Fin 8) (j : Fin 896) (d : Fin 128) :
    View.canon (Val := Elt Ideal) (e := .fp8e4m3) (keptKeys X) (ix3 g j d) = X (ix4 0 g d j) := by
  have hg := g.isLt
  have hj := j.isLt
  refine View.canon_apply_of_pieces (Val := Elt Ideal) (e := .fp8e4m3) (fun y : S8x896x128.Idx => X (ix4 0 (y 0) (y 2) (y 1))) _ ?_ (ix3 g j d) ?_
  · intro p hp x
    obtain ⟨k, hk, rfl⟩ := (mem_tilesL _ _).1 hp
    obtain ⟨w, a, b, rfl⟩ : ∃ (w : Fin 1) (a b : Fin 128), x = ix3 w a b := ⟨x 0, x 1, x 2, (ix3_eta x).symm⟩
    obtain rfl : w = 0 := Subsingleton.elim _ _
    have e0 : ((keyR k).emb (ix3 0 a b)) 0 = (⟨k / 7 % 8, by omega⟩ : Fin 8) := Fin.ext (Rect.idx_unit_val _ _ _ _ _)
    have e1 : ((keyR k).emb (ix3 0 a b)) 1 = (⟨128 * (k % 7) + a, by omega⟩ : Fin 896) := Fin.ext (Rect.idx_unit_val _ _ _ _ _)
    have e2 : ((keyR k).emb (ix3 0 a b)) 2 = b := Fin.ext ((Rect.idx_unit_val _ _ _ _ _).trans (Nat.zero_add _))
    refine (turnV_at _ a b).trans ?_
    dsimp only
    rw [e0, e1, e2]
    exact congrArg X (keyS_idx k b a _ _ rfl rfl)
  · refine ⟨_, (mem_tilesL _ _).2 ⟨7 * (g : ℕ) + (j : ℕ) / 128, by omega, rfl⟩, ?_⟩
    rw [Rect.mem_set_unit]
    exact in3 ⟨by show (7 * (g : ℕ) + (j : ℕ) / 128) / 7 % 8 ≤ g; omega, by show (g : ℕ) < (7 * (g : ℕ) + (j : ℕ) / 128) / 7 % 8 + 1; omega⟩
      ⟨by show 128 * ((7 * (g : ℕ) + (j : ℕ) / 128) % 7) ≤ j; omega, by show (j : ℕ) < 128 * ((7 * (g : ℕ) + (j : ℕ) / 128) % 7) + 128; omega⟩
      ⟨Nat.zero_le _, by show (d : ℕ) < 0 + 128; omega⟩

theorem keptVals_at (X : FVec Ideal S1x8x896x128 .fp8e4m3) (g : Fin 8) (d : Fin 128) (j : Fin 896) :
    View.canon (Val := Elt Ideal) (e := .fp8e4m3) (keptVals X) (ix3 g d j) = X (ix4 0 g j d) := by
  have hg := g.isLt
  have hj := j.isLt
  refine View.canon_apply_of_pieces (Val := Elt Ideal) (e := .fp8e4m3) (fun y : S8x128x896.Idx => X (ix4 0 (y 0) (y 2) (y 1))) _ ?_ (ix3 g d j) ?_
  · intro p hp x
    obtain ⟨k, hk, rfl⟩ := (mem_tilesL _ _).1 hp
    obtain ⟨w, a, b, rfl⟩ : ∃ (w : Fin 1) (a b : Fin 128), x = ix3 w a b := ⟨x 0, x 1, x 2, (ix3_eta x).symm⟩
    obtain rfl : w = 0 := Subsingleton.elim _ _
    have e0 : ((valR k).emb (ix3 0 a b)) 0 = (⟨k / 7 % 8, by omega⟩ : Fin 8) := Fin.ext (Rect.idx_unit_val _ _ _ _ _)
    have e1 : ((valR k).emb (ix3 0 a b)) 1 = a := Fin.ext ((Rect.idx_unit_val _ _ _ _ _).trans (Nat.zero_add _))
    have e2 : ((valR k).emb (ix3 0 a b)) 2 = (⟨128 * (k % 7) + b, by omega⟩ : Fin 896) := Fin.ext (Rect.idx_unit_val _ _ _ _ _)
    refine (turnV_at _ a b).trans ?_
    dsimp only
    rw [e0, e1, e2]
    exact congrArg X (valS_idx k b a _ _ rfl rfl)
  · refine ⟨_, (mem_tilesL _ _).2 ⟨7 * (g : ℕ) + (j : ℕ) / 128, by omega, rfl⟩, ?_⟩
    rw [Rect.mem_set_unit]
    exact in3 ⟨by show (7 * (g : ℕ) + (j : ℕ) / 128) / 7 % 8 ≤ g; omega, by show (g : ℕ) < (7 * (g : ℕ) + (j : ℕ) / 128) / 7 % 8 + 1; omega⟩
      ⟨Nat.zero_le _, by show (d : ℕ) < 0 + 128; omega⟩
      ⟨by show 128 * ((7 * (g : ℕ) + (j : ℕ) / 128) % 7) ≤ j; omega, by show (j : ℕ) < 128 * ((7 * (g : ℕ) + (j : ℕ) / 128) % 7) + 128; omega⟩

theorem keptRows_at (X : FVec Ideal S1x8x896 .f32) (g : Fin 8) (j : Fin 896) (d : Fin 128) :
    View.canon (Val := Elt Ideal) (e := .f32) (keptRows X) (ix3 g j d) = X (ix3 0 g j) := by
  have hg := g.isLt
  have hj := j.isLt
  refine View.canon_apply_of_pieces (Val := Elt Ideal) (e := .f32) (fun y : S8x896x128.Idx => X (ix3 0 (y 0) (y 1))) _ ?_ (ix3 g j d) ?_
  · intro p hp x
    obtain ⟨k, hk, rfl⟩ := (mem_tilesL _ _).1 hp
    obtain ⟨w, a, b, rfl⟩ : ∃ (w : Fin 1) (a b : Fin 128), x = ix3 w a b := ⟨x 0, x 1, x 2, (ix3_eta x).symm⟩
    obtain rfl : w = 0 := Subsingleton.elim _ _
    have e0 : ((keyR k).emb (ix3 0 a b)) 0 = (⟨k / 7 % 8, by omega⟩ : Fin 8) := Fin.ext (Rect.idx_unit_val _ _ _ _ _)
    have e1 : ((keyR k).emb (ix3 0 a b)) 1 = (⟨128 * (k % 7) + a, by omega⟩ : Fin 896) := Fin.ext (Rect.idx_unit_val _ _ _ _ _)
    have e2 : ((keyR k).emb (ix3 0 a b)) 2 = b := Fin.ext ((Rect.idx_unit_val _ _ _ _ _).trans (Nat.zero_add _))
    refine (lanesV_at (View.ld (Val := Elt Ideal) (e' := .f32) X (rowS k)) a b).trans ?_
    dsimp only
    rw [e0, e1]
    exact congrArg X (rowS_idx k a _ _ rfl rfl)
  · refine ⟨_, (mem_tilesL _ _).2 ⟨7 * (g : ℕ) + (j : ℕ) / 128, by omega, rfl⟩, ?_⟩
    rw [Rect.mem_set_unit]
    exact in3 ⟨by show (7 * (g : ℕ) + (j : ℕ) / 128) / 7 % 8 ≤ g; omega, by show (g : ℕ) < (7 * (g : ℕ) + (j : ℕ) / 128) / 7 % 8 + 1; omega⟩
      ⟨by show 128 * ((7 * (g : ℕ) + (j : ℕ) / 128) % 7) ≤ j; omega, by show (j : ℕ) < 128 * ((7 * (g : ℕ) + (j : ℕ) / 128) % 7) + 128; omega⟩
      ⟨Nat.zero_le _, by show (d : ℕ) < 0 + 128; omega⟩

end Cert.KernelIdeal.Out

end
-- ==== Proof.Trip1.lean ====
/- One trip of the loop over the groups of heads in the window of 128 keys, as functions of the loaded vectors. -/
module

public import proofs.«01_k».proof.Proof.Attend
public import proofs.«01_k».proof.Proof.Gen.KernelIdeal.Loops

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-- The codes of the weights of head 0 of the group, and its factor. -/
def wU1_0 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S128x128 .fp8e4m3 :=
  codesU1 (hQ128 (tU1 M KS (extractStridedSlice S128x128 ![0, 0] (rawU1 K Q) slices_S128x640_o0_0_S128x128)) (vU1 VS) cb sk)
def fU1_0 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S1x128 .f32 :=
  hF128 (tU1 M KS (extractStridedSlice S128x128 ![0, 0] (rawU1 K Q) slices_S128x640_o0_0_S128x128)) (vU1 VS) cb sk

/-- The codes of the weights of head 1 of the group, and its factor. -/
def wU1_1 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S128x128 .fp8e4m3 :=
  codesU1 (hQ128 (tU1 M KS (extractStridedSlice S128x128 ![0, 128] (rawU1 K Q) slices_S128x640_o0_128_S128x128)) (vU1 VS) cb sk)
def fU1_1 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S1x128 .f32 :=
  hF128 (tU1 M KS (extractStridedSlice S128x128 ![0, 128] (rawU1 K Q) slices_S128x640_o0_128_S128x128)) (vU1 VS) cb sk

/-- The codes of the weights of head 2 of the group, and its factor. -/
def wU1_2 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S128x128 .fp8e4m3 :=
  codesU1 (hQ128 (tU1 M KS (extractStridedSlice S128x128 ![0, 256] (rawU1 K Q) slices_S128x640_o0_256_S128x128)) (vU1 VS) cb sk)
def fU1_2 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S1x128 .f32 :=
  hF128 (tU1 M KS (extractStridedSlice S128x128 ![0, 256] (rawU1 K Q) slices_S128x640_o0_256_S128x128)) (vU1 VS) cb sk

/-- The codes of the weights of head 3 of the group, and its factor. -/
def wU1_3 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S128x128 .fp8e4m3 :=
  codesU1 (hQ128 (tU1 M KS (extractStridedSlice S128x128 ![0, 384] (rawU1 K Q) slices_S128x640_o0_384_S128x128)) (vU1 VS) cb sk)
def fU1_3 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S1x128 .f32 :=
  hF128 (tU1 M KS (extractStridedSlice S128x128 ![0, 384] (rawU1 K Q) slices_S128x640_o0_384_S128x128)) (vU1 VS) cb sk

/-- The codes of the weights of head 4 of the group, and its factor. -/
def wU1_4 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S128x128 .fp8e4m3 :=
  codesU1 (hQ128 (tU1 M KS (extractStridedSlice S128x128 ![0, 512] (rawU1 K Q) slices_S128x640_o0_512_S128x128)) (vU1 VS) cb sk)
def fU1_4 (M : IVec S128x128 1) (K : FVec Ideal S1x128x128 .fp8e4m3) (KS VS : FVec Ideal S1x128x128 .f32) (Q : FVec Ideal S640x128 .fp8e4m3)
    (cb : FVec Ideal S1x128 .f32) (sk : Ideal .f32) : FVec Ideal S1x128 .f32 :=
  hF128 (tU1 M KS (extractStridedSlice S128x128 ![0, 512] (rawU1 K Q) slices_S128x640_o0_512_S128x128)) (vU1 VS) cb sk

/-- What a trip stores for head 0 of the group. -/
def pieceU1_0 (M : IVec S128x128 1) (K : FVec Ideal S1x128x128 .fp8e4m3) (V : FVec Ideal S1x128x128 .fp8e4m3) (KS VS : FVec Ideal S1x128x128 .f32) (Q : FVec Ideal S640x128 .fp8e4m3)
    (c0 c1 c2 c3 c4 : FVec Ideal S1x128 .f32) (s0 s1 s2 s3 s4 : Ideal .f32) : FVec Ideal S1x128x128 .bf16 :=
  outG0 (sumU1 V (wU1_0 M K KS VS Q c0 s0) (wU1_1 M K KS VS Q c1 s1) (wU1_2 M K KS VS Q c2 s2) (wU1_3 M K KS VS Q c3 s3) (wU1_4 M K KS VS Q c4 s4)) (fU1_0 M K KS VS Q c0 s0)

/-- What a trip stores for head 1 of the group. -/
def pieceU1_1 (M : IVec S128x128 1) (K : FVec Ideal S1x128x128 .fp8e4m3) (V : FVec Ideal S1x128x128 .fp8e4m3) (KS VS : FVec Ideal S1x128x128 .f32) (Q : FVec Ideal S640x128 .fp8e4m3)
    (c0 c1 c2 c3 c4 : FVec Ideal S1x128 .f32) (s0 s1 s2 s3 s4 : Ideal .f32) : FVec Ideal S1x128x128 .bf16 :=
  outG1 (sumU1 V (wU1_0 M K KS VS Q c0 s0) (wU1_1 M K KS VS Q c1 s1) (wU1_2 M K KS VS Q c2 s2) (wU1_3 M K KS VS Q c3 s3) (wU1_4 M K KS VS Q c4 s4)) (fU1_1 M K KS VS Q c1 s1)

/-- What a trip stores for head 2 of the group. -/
def pieceU1_2 (M : IVec S128x128 1) (K : FVec Ideal S1x128x128 .fp8e4m3) (V : FVec Ideal S1x128x128 .fp8e4m3) (KS VS : FVec Ideal S1x128x128 .f32) (Q : FVec Ideal S640x128 .fp8e4m3)
    (c0 c1 c2 c3 c4 : FVec Ideal S1x128 .f32) (s0 s1 s2 s3 s4 : Ideal .f32) : FVec Ideal S1x128x128 .bf16 :=
  outG2 (sumU1 V (wU1_0 M K KS VS Q c0 s0) (wU1_1 M K KS VS Q c1 s1) (wU1_2 M K KS VS Q c2 s2) (wU1_3 M K KS VS Q c3 s3) (wU1_4 M K KS VS Q c4 s4)) (fU1_2 M K KS VS Q c2 s2)

/-- What a trip stores for head 3 of the group. -/
def pieceU1_3 (M : IVec S128x128 1) (K : FVec Ideal S1x128x128 .fp8e4m3) (V : FVec Ideal S1x128x128 .fp8e4m3) (KS VS : FVec Ideal S1x128x128 .f32) (Q : FVec Ideal S640x128 .fp8e4m3)
    (c0 c1 c2 c3 c4 : FVec Ideal S1x128 .f32) (s0 s1 s2 s3 s4 : Ideal .f32) : FVec Ideal S1x128x128 .bf16 :=
  outG3 (sumU1 V (wU1_0 M K KS VS Q c0 s0) (wU1_1 M K KS VS Q c1 s1) (wU1_2 M K KS VS Q c2 s2) (wU1_3 M K KS VS Q c3 s3) (wU1_4 M K KS VS Q c4 s4)) (fU1_3 M K KS VS Q c3 s3)

/-- What a trip stores for head 4 of the group. -/
def pieceU1_4 (M : IVec S128x128 1) (K : FVec Ideal S1x128x128 .fp8e4m3) (V : FVec Ideal S1x128x128 .fp8e4m3) (KS VS : FVec Ideal S1x128x128 .f32) (Q : FVec Ideal S640x128 .fp8e4m3)
    (c0 c1 c2 c3 c4 : FVec Ideal S1x128 .f32) (s0 s1 s2 s3 s4 : Ideal .f32) : FVec Ideal S1x128x128 .bf16 :=
  outG4 (sumU1 V (wU1_0 M K KS VS Q c0 s0) (wU1_1 M K KS VS Q c1 s1) (wU1_2 M K KS VS Q c2 s2) (wU1_3 M K KS VS Q c3 s3) (wU1_4 M K KS VS Q c4 s4)) (fU1_4 M K KS VS Q c4 s4)

set_option maxHeartbeats 4000000 in
/-- The pieces one trip stores. -/
theorem trip1_eq (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h2 : k0_cond2 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 k = [⟨Rect.unit (s := S1x128x5120) (k0_off6 k 4#32) S1x128x128.size (k0_off6_inb i k k0_h2 4), pieceU1_4 v2122
      (View.readAt (Elt Ideal) arg11.view (Rect.unit (s := S8x896x128) (k0_off1 k) S1x128x128.size (k0_off1_inb i k k0_h2)).toLoadRect X_arg11)
      (View.readAt (Elt Ideal) arg12.view (Rect.unit (s := S8x128x896) (k0_off2 k) S1x128x128.size (k0_off2_inb i k k0_h2)).toLoadRect X_arg12)
      (View.readAt (Elt Ideal) arg13.view (Rect.unit (s := S8x896x128) (k0_off1 k) S1x128x128.size (k0_off1_inb i k k0_h2)).toLoadRect X_arg13)
      (View.readAt (Elt Ideal) arg14.view (Rect.unit (s := S8x896x128) (k0_off1 k) S1x128x128.size (k0_off1_inb i k k0_h2)).toLoadRect X_arg14)
      (View.readAt (Elt Ideal) arg15.view (Rect.unit (s := S5120x128) (k0_off3 k) S640x128.size (k0_off3_inb i k k0_h2)).toLoadRect X_arg15)
      (View.readAt (Elt Ideal) arg16.view (Rect.unit (s := S128x128) (k0_off4 k 0#32) S1x128.size (k0_off4_inb i k k0_h2 0)).toLoadRect X_arg16) (View.readAt (Elt Ideal) arg16.view (Rect.unit (s := S128x128) (k0_off4 k 1#32) S1x128.size (k0_off4_inb i k k0_h2 1)).toLoadRect X_arg16) (View.readAt (Elt Ideal) arg16.view (Rect.unit (s := S128x128) (k0_off4 k 2#32) S1x128.size (k0_off4_inb i k k0_h2 2)).toLoadRect X_arg16) (View.readAt (Elt Ideal) arg16.view (Rect.unit (s := S128x128) (k0_off4 k 3#32) S1x128.size (k0_off4_inb i k k0_h2 3)).toLoadRect X_arg16) (View.readAt (Elt Ideal) arg16.view (Rect.unit (s := S128x128) (k0_off4 k 4#32) S1x128.size (k0_off4_inb i k k0_h2 4)).toLoadRect X_arg16)
      ((View.readAt (Elt Ideal) arg7.view (Rect.unit (s := S40) (k0_off5 k 0#32) S1.size (k0_off5_inb i k k0_h2 0)).toLoadRect X_arg7) (Shape.Idx.first (show 0 < S1.numel by decide))) ((View.readAt (Elt Ideal) arg7.view (Rect.unit (s := S40) (k0_off5 k 1#32) S1.size (k0_off5_inb i k k0_h2 1)).toLoadRect X_arg7) (Shape.Idx.first (show 0 < S1.numel by decide))) ((View.readAt (Elt Ideal) arg7.view (Rect.unit (s := S40) (k0_off5 k 2#32) S1.size (k0_off5_inb i k k0_h2 2)).toLoadRect X_arg7) (Shape.Idx.first (show 0 < S1.numel by decide))) ((View.readAt (Elt Ideal) arg7.view (Rect.unit (s := S40) (k0_off5 k 3#32) S1.size (k0_off5_inb i k k0_h2 3)).toLoadRect X_arg7) (Shape.Idx.first (show 0 < S1.numel by decide))) ((View.readAt (Elt Ideal) arg7.view (Rect.unit (s := S40) (k0_off5 k 4#32) S1.size (k0_off5_inb i k k0_h2 4)).toLoadRect X_arg7) (Shape.Idx.first (show 0 < S1.numel by decide)))⟩, ⟨Rect.unit (s := S1x128x5120) (k0_off6 k 3#32) S1x128x128.size (k0_off6_inb i k k0_h2 3), pieceU1_3 v2122
      (View.readAt (Elt Ideal) arg11.view (Rect.unit (s := S8x896x128) (k0_off1 k) S1x128x128.size (k0_off1_inb i k k0_h2)).toLoadRect X_arg11)
      (View.readAt (Elt Ideal) arg12.view (Rect.unit (s := S8x128x896) (k0_off2 k) S1x128x128.size (k0_off2_inb i k k0_h2)).toLoadRect X_arg12)
      (View.readAt (Elt Ideal) arg13.view (Rect.unit (s := S8x896x128) (k0_off1 k) S1x128x128.size (k0_off1_inb i k k0_h2)).toLoadRect X_arg13)
      (View.readAt (Elt Ideal) arg14.view (Rect.unit (s := S8x896x128) (k0_off1 k) S1x128x128.size (k0_off1_inb i k k0_h2)).toLoadRect X_arg14)
      (View.readAt (Elt Ideal) arg15.view (Rect.unit (s := S5120x128) (k0_off3 k) S640x128.size (k0_off3_inb i k k0_h2)).toLoadRect X_arg15)
      (View.readAt (Elt Ideal) arg16.view (Rect.unit (s := S128x128) (k0_off4 k 0#32) S1x128.size (k0_off4_inb i k k0_h2 0)).toLoadRect X_arg16) (View.readAt (Elt Ideal) arg16.view (Rect.unit (s := S128x128) (k0_off4 k 1#32) S1x128.size (k0_off4_inb i k k0_h2 1)).toLoadRect X_arg16) (View.readAt (Elt Ideal) arg16.view (Rect.unit (s := S128x128) (k0_off4 k 2#32) S1x128.size (k0_off4_inb i k k0_h2 2)).toLoadRect X_arg16) (View.readAt (Elt Ideal) arg16.view (Rect.unit (s := S128x128) (k0_off4 k 3#32) S1x128.size (k0_off4_inb i k k0_h2 3)).toLoadRect X_arg16) (View.readAt (Elt Ideal) arg16.view (Rect.unit (s := S128x128) (k0_off4 k 4#32) S1x128.size (k0_off4_inb i k k0_h2 4)).toLoadRect X_arg16)
      ((View.readAt (Elt Ideal) arg7.view (Rect.unit (s := S40) (k0_off5 k 0#32) S1.size (k0_off5_inb i k k0_h2 0)).toLoadRect X_arg7) (Shape.Idx.first (show 0 < S1.numel by decide))) ((View.readAt (Elt Ideal) arg7.view (Rect.unit (s := S40) (k0_off5 k 1#32) S1.size (k0_off5_inb i k k0_h2 1)).toLoadRect X_arg7) (Shape.Idx.first (show 0 < S1.numel by decide))) ((View.readAt (Elt Ideal) arg7.view (Rect.unit (s := S40) (k0_off5 k 2#32) S1.size (k0_off5_inb i k k0_h2 2)).toLoadRect X_arg7) (Shape.Idx.first (show 0 < S1.numel by decide))) ((View.readAt (Elt Ideal) arg7.view (Rect.unit (s := S40) (k0_off5 k 3#32) S1.size (k0_off5_inb i k k0_h2 3)).toLoadRect X_arg7) (Shape.Idx.first (show 0 < S1.numel by decide))) ((View.readAt (Elt Ideal) arg7.view (Rect.unit (s := S40) (k0_off5 k 4#32) S1.size (k0_off5_inb i k k0_h2 4)).toLoadRect X_arg7) (Shape.Idx.first (show 0 < S1.numel by decide)))⟩, ⟨Rect.unit (s := S1x128x5120) (k0_off6 k 2#32) S1x128x128.size (k0_off6_inb i k k0_h2 2), pieceU1_2 v2122
      (View.readAt (Elt Ideal) arg11.view (Rect.unit (s := S8x896x128) (k0_off1 k) S1x128x128.size (k0_off1_inb i k k0_h2)).toLoadRect X_arg11)
      (View.readAt (Elt Ideal) arg12.view (Rect.unit (s := S8x128x896) (k0_off2 k) S1x128x128.size (k0_off2_inb i k k0_h2)).toLoadRect X_arg12)
      (View.readAt (Elt Ideal) arg13.view (Rect.unit (s := S8x896x128) (k0_off1 k) S1x128x128.size (k0_off1_inb i k k0_h2)).toLoadRect X_arg13)
      (View.readAt (Elt Ideal) arg14.view (Rect.unit (s := S8x896x128) (k0_off1 k) S1x128x128.size (k0_off1_inb i k k0_h2)).toLoadRect X_arg14)
      (View.readAt (Elt Ideal) arg15.view (Rect.unit (s := S5120x128) (k0_off3 k) S640x128.size (k0_off3_inb i k k0_h2)).toLoadRect X_arg15)
      (View.readAt (Elt Ideal) arg16.view (Rect.unit (s := S128x128) (k0_off4 k 0#32) S1x128.size (k0_off4_inb i k k0_h2 0)).toLoadRect X_arg16) (View.readAt (Elt Ideal) arg16.view (Rect.unit (s := S128x128) (k0_off4 k 1#32) S1x128.size (k0_off4_inb i k k0_h2 1)).toLoadRect X_arg16) (View.readAt (Elt Ideal) arg16.view (Rect.unit (s := S128x128) (k0_off4 k 2#32) S1x128.size (k0_off4_inb i k k0_h2 2)).toLoadRect X_arg16) (View.readAt (Elt Ideal) arg16.view (Rect.unit (s := S128x128) (k0_off4 k 3#32) S1x128.size (k0_off4_inb i k k0_h2 3)).toLoadRect X_arg16) (View.readAt (Elt Ideal) arg16.view (Rect.unit (s := S128x128) (k0_off4 k 4#32) S1x128.size (k0_off4_inb i k k0_h2 4)).toLoadRect X_arg16)
      ((View.readAt (Elt Ideal) arg7.view (Rect.unit (s := S40) (k0_off5 k 0#32) S1.size (k0_off5_inb i k k0_h2 0)).toLoadRect X_arg7) (Shape.Idx.first (show 0 < S1.numel by decide))) ((View.readAt (Elt Ideal) arg7.view (Rect.unit (s := S40) (k0_off5 k 1#32) S1.size (k0_off5_inb i k k0_h2 1)).toLoadRect X_arg7) (Shape.Idx.first (show 0 < S1.numel by decide))) ((View.readAt (Elt Ideal) arg7.view (Rect.unit (s := S40) (k0_off5 k 2#32) S1.size (k0_off5_inb i k k0_h2 2)).toLoadRect X_arg7) (Shape.Idx.first (show 0 < S1.numel by decide))) ((View.readAt (Elt Ideal) arg7.view (Rect.unit (s := S40) (k0_off5 k 3#32) S1.size (k0_off5_inb i k k0_h2 3)).toLoadRect X_arg7) (Shape.Idx.first (show 0 < S1.numel by decide))) ((View.readAt (Elt Ideal) arg7.view (Rect.unit (s := S40) (k0_off5 k 4#32) S1.size (k0_off5_inb i k k0_h2 4)).toLoadRect X_arg7) (Shape.Idx.first (show 0 < S1.numel by decide)))⟩, ⟨Rect.unit (s := S1x128x5120) (k0_off6 k 1#32) S1x128x128.size (k0_off6_inb i k k0_h2 1), pieceU1_1 v2122
      (View.readAt (Elt Ideal) arg11.view (Rect.unit (s := S8x896x128) (k0_off1 k) S1x128x128.size (k0_off1_inb i k k0_h2)).toLoadRect X_arg11)
      (View.readAt (Elt Ideal) arg12.view (Rect.unit (s := S8x128x896) (k0_off2 k) S1x128x128.size (k0_off2_inb i k k0_h2)).toLoadRect X_arg12)
      (View.readAt (Elt Ideal) arg13.view (Rect.unit (s := S8x896x128) (k0_off1 k) S1x128x128.size (k0_off1_inb i k k0_h2)).toLoadRect X_arg13)
      (View.readAt (Elt Ideal) arg14.view (Rect.unit (s := S8x896x128) (k0_off1 k) S1x128x128.size (k0_off1_inb i k k0_h2)).toLoadRect X_arg14)
      (View.readAt (Elt Ideal) arg15.view (Rect.unit (s := S5120x128) (k0_off3 k) S640x128.size (k0_off3_inb i k k0_h2)).toLoadRect X_arg15)
      (View.readAt (Elt Ideal) arg16.view (Rect.unit (s := S128x128) (k0_off4 k 0#32) S1x128.size (k0_off4_inb i k k0_h2 0)).toLoadRect X_arg16) (View.readAt (Elt Ideal) arg16.view (Rect.unit (s := S128x128) (k0_off4 k 1#32) S1x128.size (k0_off4_inb i k k0_h2 1)).toLoadRect X_arg16) (View.readAt (Elt Ideal) arg16.view (Rect.unit (s := S128x128) (k0_off4 k 2#32) S1x128.size (k0_off4_inb i k k0_h2 2)).toLoadRect X_arg16) (View.readAt (Elt Ideal) arg16.view (Rect.unit (s := S128x128) (k0_off4 k 3#32) S1x128.size (k0_off4_inb i k k0_h2 3)).toLoadRect X_arg16) (View.readAt (Elt Ideal) arg16.view (Rect.unit (s := S128x128) (k0_off4 k 4#32) S1x128.size (k0_off4_inb i k k0_h2 4)).toLoadRect X_arg16)
      ((View.readAt (Elt Ideal) arg7.view (Rect.unit (s := S40) (k0_off5 k 0#32) S1.size (k0_off5_inb i k k0_h2 0)).toLoadRect X_arg7) (Shape.Idx.first (show 0 < S1.numel by decide))) ((View.readAt (Elt Ideal) arg7.view (Rect.unit (s := S40) (k0_off5 k 1#32) S1.size (k0_off5_inb i k k0_h2 1)).toLoadRect X_arg7) (Shape.Idx.first (show 0 < S1.numel by decide))) ((View.readAt (Elt Ideal) arg7.view (Rect.unit (s := S40) (k0_off5 k 2#32) S1.size (k0_off5_inb i k k0_h2 2)).toLoadRect X_arg7) (Shape.Idx.first (show 0 < S1.numel by decide))) ((View.readAt (Elt Ideal) arg7.view (Rect.unit (s := S40) (k0_off5 k 3#32) S1.size (k0_off5_inb i k k0_h2 3)).toLoadRect X_arg7) (Shape.Idx.first (show 0 < S1.numel by decide))) ((View.readAt (Elt Ideal) arg7.view (Rect.unit (s := S40) (k0_off5 k 4#32) S1.size (k0_off5_inb i k k0_h2 4)).toLoadRect X_arg7) (Shape.Idx.first (show 0 < S1.numel by decide)))⟩, ⟨Rect.unit (s := S1x128x5120) (k0_off6 k 0#32) S1x128x128.size (k0_off6_inb i k k0_h2 0), pieceU1_0 v2122
      (View.readAt (Elt Ideal) arg11.view (Rect.unit (s := S8x896x128) (k0_off1 k) S1x128x128.size (k0_off1_inb i k k0_h2)).toLoadRect X_arg11)
      (View.readAt (Elt Ideal) arg12.view (Rect.unit (s := S8x128x896) (k0_off2 k) S1x128x128.size (k0_off2_inb i k k0_h2)).toLoadRect X_arg12)
      (View.readAt (Elt Ideal) arg13.view (Rect.unit (s := S8x896x128) (k0_off1 k) S1x128x128.size (k0_off1_inb i k k0_h2)).toLoadRect X_arg13)
      (View.readAt (Elt Ideal) arg14.view (Rect.unit (s := S8x896x128) (k0_off1 k) S1x128x128.size (k0_off1_inb i k k0_h2)).toLoadRect X_arg14)
      (View.readAt (Elt Ideal) arg15.view (Rect.unit (s := S5120x128) (k0_off3 k) S640x128.size (k0_off3_inb i k k0_h2)).toLoadRect X_arg15)
      (View.readAt (Elt Ideal) arg16.view (Rect.unit (s := S128x128) (k0_off4 k 0#32) S1x128.size (k0_off4_inb i k k0_h2 0)).toLoadRect X_arg16) (View.readAt (Elt Ideal) arg16.view (Rect.unit (s := S128x128) (k0_off4 k 1#32) S1x128.size (k0_off4_inb i k k0_h2 1)).toLoadRect X_arg16) (View.readAt (Elt Ideal) arg16.view (Rect.unit (s := S128x128) (k0_off4 k 2#32) S1x128.size (k0_off4_inb i k k0_h2 2)).toLoadRect X_arg16) (View.readAt (Elt Ideal) arg16.view (Rect.unit (s := S128x128) (k0_off4 k 3#32) S1x128.size (k0_off4_inb i k k0_h2 3)).toLoadRect X_arg16) (View.readAt (Elt Ideal) arg16.view (Rect.unit (s := S128x128) (k0_off4 k 4#32) S1x128.size (k0_off4_inb i k k0_h2 4)).toLoadRect X_arg16)
      ((View.readAt (Elt Ideal) arg7.view (Rect.unit (s := S40) (k0_off5 k 0#32) S1.size (k0_off5_inb i k k0_h2 0)).toLoadRect X_arg7) (Shape.Idx.first (show 0 < S1.numel by decide))) ((View.readAt (Elt Ideal) arg7.view (Rect.unit (s := S40) (k0_off5 k 1#32) S1.size (k0_off5_inb i k k0_h2 1)).toLoadRect X_arg7) (Shape.Idx.first (show 0 < S1.numel by decide))) ((View.readAt (Elt Ideal) arg7.view (Rect.unit (s := S40) (k0_off5 k 2#32) S1.size (k0_off5_inb i k k0_h2 2)).toLoadRect X_arg7) (Shape.Idx.first (show 0 < S1.numel by decide))) ((View.readAt (Elt Ideal) arg7.view (Rect.unit (s := S40) (k0_off5 k 3#32) S1.size (k0_off5_inb i k k0_h2 3)).toLoadRect X_arg7) (Shape.Idx.first (show 0 < S1.numel by decide))) ((View.readAt (Elt Ideal) arg7.view (Rect.unit (s := S40) (k0_off5 k 4#32) S1.size (k0_off5_inb i k k0_h2 4)).toLoadRect X_arg7) (Shape.Idx.first (show 0 < S1.numel by decide)))⟩] := by
  unfold tripL_k0_t1 trip_k0_t1
  dsimp only
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · rfl
  · rfl
  · rfl
  · rfl
  · rfl

theorem mem_pb1 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h2 : k0_cond2 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (p : View.Piece (Elt Ideal) S1x128x5120 .bf16) : ∀ n : ℕ, n ≤ k0_t1_loop.trips →
    (p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 n ↔ ∃ k : Fin k0_t1_loop.trips, k.val < n ∧ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 k)
  | 0, _ => by
    constructor
    · intro h; exact absurd h (by unfold pb_k0_t1; exact List.not_mem_nil)
    · rintro ⟨k, hk, _⟩; omega
  | n + 1, hn => by
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 ⟨n, hn⟩, List.mem_append, mem_pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 p n (by omega)]
    constructor
    · rintro (h | ⟨k, hk, h⟩)
      · exact ⟨⟨n, hn⟩, Nat.lt_succ_self n, h⟩
      · exact ⟨k, by omega, h⟩
    · rintro ⟨k, hk, h⟩
      by_cases e : k.val = n
      · left
        have : k = ⟨n, hn⟩ := Fin.ext e
        rw [← this]; exact h
      · right; exact ⟨k, by omega, h⟩

/-- The row a trip's piece stores, as a function of the block's index. -/
def row1 (i : grid0.Coords) (R7 : S40.Idx → EReal) (R11 : S8x896x128.Idx → EReal) (R12 : S8x128x896.Idx → EReal)
    (R13 R14 : S8x896x128.Idx → EReal) (R15 : S5120x128.Idx → EReal) (qs : Fin 40 → Fin 128 → EReal) (r : Fin 128) (z : Fin 5120) : EReal :=
  attRow R7 R11 R12 R13 R14 R15 qs (okU 128 r) (keyU (by decide)) (okU 128 r) (keyU (by decide)) (headOf z) r (colOf z)

set_option maxHeartbeats 4000000 in
theorem piece1_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h2 : k0_cond2 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (p : View.Piece (Elt Ideal) S1x128x5120 .bf16) (hp : p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 k)
    (x : p.1.shape.Idx) : p.2 x = row1 i R7 R11 R12 R13 R14 R15 qs ((p.1.emb x) 1) ((p.1.emb x) 2) := by
  rw [trip1_eq] at hp
  simp only [List.mem_cons, List.not_mem_nil, or_false] at hp
  obtain rfl | rfl | rfl | rfl | rfl := hp
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off6 k 4#32 = ![0, 0, 640 * k.val + 128 * 4] := k0_off6_eq k 4
    have e1 : ((Rect.unit (s := S1x128x5120) (k0_off6 k 4#32) S1x128x128.size (k0_off6_inb i k k0_h2 4)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off6 k 4#32) S1x128x128.size (k0_off6_inb i k k0_h2 4)).emb (ix3 0 r c)) 2 : ℕ) = 640 * k + 128 * 4 + c :=
      (Rect.idx_unit_val _ _ _ _ _).trans (congrArg (· + (c : ℕ)) (congrFun eo 2))
    have e3 : headOf (((Rect.unit (s := S1x128x5120) (k0_off6 k 4#32) S1x128x128.size (k0_off6_inb i k k0_h2 4)).emb (ix3 0 r c)) 2) = ⟨5 * k + 4, by omega⟩ :=
      Fin.ext (by show _ / 128 = _; rw [e2]; show _ = 5 * (k : ℕ) + 4; omega)
    have e4 : colOf (((Rect.unit (s := S1x128x5120) (k0_off6 k 4#32) S1x128x128.size (k0_off6_inb i k k0_h2 4)).emb (ix3 0 r c)) 2) = c :=
      Fin.ext (by show _ % 128 = _; rw [e2]; omega)
    dsimp only
    unfold row1
    rw [e1, e3, e4]
    exact attU1_4 v2122 hM _ _ _ _ _ _ _ _ _ _ _ _ r c (fun j e => R11 (ix3 (grp ⟨5 * k + 4, by omega⟩) j e)) (fun e => R15 (ix2 (rowOf ⟨5 * k + 4, by omega⟩ r) e))
      (fun j => R13 (ix3 (grp ⟨5 * k + 4, by omega⟩) j r)) (fun j => R14 (ix3 (grp ⟨5 * k + 4, by omega⟩) j r)) (fun j => R12 (ix3 (grp ⟨5 * k + 4, by omega⟩) c j))
      (qs ⟨5 * k + 4, by omega⟩ r) (R7 (ix1 ⟨5 * k + 4, by omega⟩)) (hqs _ _) rfl
      (fun p e => rd_at arg11.view X_arg11 R11 h11 _ (k0_off1_eq k) _ _ (at3 (by show (5 * (k : ℕ) + 4) / 5 = k + 0; omega) (Nat.zero_add _).symm (Nat.zero_add _).symm))
      (fun p => rd_at arg12.view X_arg12 R12 h12 _ (k0_off2_eq k) _ _ (at3 (by show (5 * (k : ℕ) + 4) / 5 = k + 0; omega) (Nat.zero_add _).symm (Nat.zero_add _).symm))
      (fun p => rd_at arg13.view X_arg13 R13 h13 _ (k0_off1_eq k) _ _ (at3 (by show (5 * (k : ℕ) + 4) / 5 = k + 0; omega) (Nat.zero_add _).symm (Nat.zero_add _).symm))
      (fun p => rd_at arg14.view X_arg14 R14 h14 _ (k0_off1_eq k) _ _ (at3 (by show (5 * (k : ℕ) + 4) / 5 = k + 0; omega) (Nat.zero_add _).symm (Nat.zero_add _).symm))
      (fun e => rd_at arg15.view X_arg15 R15 h15 _ (k0_off3_eq k) _ _ (at2 (by show 128 * (5 * (k : ℕ) + 4) + (r : ℕ) = 640 * k + (512 + r); omega) (Nat.zero_add _).symm))
      ((rd_at arg16.view X_arg16 R16 h16 _ (k0_off4_eq k 4) (show S1x128.Idx from ix2 0 r) (ix2 ⟨5 * k + 4, by omega⟩ r) (at2 (by show 5 * (k : ℕ) + 4 = (5 * k + 4) + 0; omega) (Nat.zero_add _).symm)).trans (hc ⟨5 * k + 4, by omega⟩ r))
      (rd_at arg7.view X_arg7 R7 h7 _ (k0_off5_eq k 4) _ _ (at1 (by show 5 * (k : ℕ) + 4 = (5 * k + 4) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off6 k 3#32 = ![0, 0, 640 * k.val + 128 * 3] := k0_off6_eq k 3
    have e1 : ((Rect.unit (s := S1x128x5120) (k0_off6 k 3#32) S1x128x128.size (k0_off6_inb i k k0_h2 3)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off6 k 3#32) S1x128x128.size (k0_off6_inb i k k0_h2 3)).emb (ix3 0 r c)) 2 : ℕ) = 640 * k + 128 * 3 + c :=
      (Rect.idx_unit_val _ _ _ _ _).trans (congrArg (· + (c : ℕ)) (congrFun eo 2))
    have e3 : headOf (((Rect.unit (s := S1x128x5120) (k0_off6 k 3#32) S1x128x128.size (k0_off6_inb i k k0_h2 3)).emb (ix3 0 r c)) 2) = ⟨5 * k + 3, by omega⟩ :=
      Fin.ext (by show _ / 128 = _; rw [e2]; show _ = 5 * (k : ℕ) + 3; omega)
    have e4 : colOf (((Rect.unit (s := S1x128x5120) (k0_off6 k 3#32) S1x128x128.size (k0_off6_inb i k k0_h2 3)).emb (ix3 0 r c)) 2) = c :=
      Fin.ext (by show _ % 128 = _; rw [e2]; omega)
    dsimp only
    unfold row1
    rw [e1, e3, e4]
    exact attU1_3 v2122 hM _ _ _ _ _ _ _ _ _ _ _ _ r c (fun j e => R11 (ix3 (grp ⟨5 * k + 3, by omega⟩) j e)) (fun e => R15 (ix2 (rowOf ⟨5 * k + 3, by omega⟩ r) e))
      (fun j => R13 (ix3 (grp ⟨5 * k + 3, by omega⟩) j r)) (fun j => R14 (ix3 (grp ⟨5 * k + 3, by omega⟩) j r)) (fun j => R12 (ix3 (grp ⟨5 * k + 3, by omega⟩) c j))
      (qs ⟨5 * k + 3, by omega⟩ r) (R7 (ix1 ⟨5 * k + 3, by omega⟩)) (hqs _ _) rfl
      (fun p e => rd_at arg11.view X_arg11 R11 h11 _ (k0_off1_eq k) _ _ (at3 (by show (5 * (k : ℕ) + 3) / 5 = k + 0; omega) (Nat.zero_add _).symm (Nat.zero_add _).symm))
      (fun p => rd_at arg12.view X_arg12 R12 h12 _ (k0_off2_eq k) _ _ (at3 (by show (5 * (k : ℕ) + 3) / 5 = k + 0; omega) (Nat.zero_add _).symm (Nat.zero_add _).symm))
      (fun p => rd_at arg13.view X_arg13 R13 h13 _ (k0_off1_eq k) _ _ (at3 (by show (5 * (k : ℕ) + 3) / 5 = k + 0; omega) (Nat.zero_add _).symm (Nat.zero_add _).symm))
      (fun p => rd_at arg14.view X_arg14 R14 h14 _ (k0_off1_eq k) _ _ (at3 (by show (5 * (k : ℕ) + 3) / 5 = k + 0; omega) (Nat.zero_add _).symm (Nat.zero_add _).symm))
      (fun e => rd_at arg15.view X_arg15 R15 h15 _ (k0_off3_eq k) _ _ (at2 (by show 128 * (5 * (k : ℕ) + 3) + (r : ℕ) = 640 * k + (384 + r); omega) (Nat.zero_add _).symm))
      ((rd_at arg16.view X_arg16 R16 h16 _ (k0_off4_eq k 3) (show S1x128.Idx from ix2 0 r) (ix2 ⟨5 * k + 3, by omega⟩ r) (at2 (by show 5 * (k : ℕ) + 3 = (5 * k + 3) + 0; omega) (Nat.zero_add _).symm)).trans (hc ⟨5 * k + 3, by omega⟩ r))
      (rd_at arg7.view X_arg7 R7 h7 _ (k0_off5_eq k 3) _ _ (at1 (by show 5 * (k : ℕ) + 3 = (5 * k + 3) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off6 k 2#32 = ![0, 0, 640 * k.val + 128 * 2] := k0_off6_eq k 2
    have e1 : ((Rect.unit (s := S1x128x5120) (k0_off6 k 2#32) S1x128x128.size (k0_off6_inb i k k0_h2 2)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off6 k 2#32) S1x128x128.size (k0_off6_inb i k k0_h2 2)).emb (ix3 0 r c)) 2 : ℕ) = 640 * k + 128 * 2 + c :=
      (Rect.idx_unit_val _ _ _ _ _).trans (congrArg (· + (c : ℕ)) (congrFun eo 2))
    have e3 : headOf (((Rect.unit (s := S1x128x5120) (k0_off6 k 2#32) S1x128x128.size (k0_off6_inb i k k0_h2 2)).emb (ix3 0 r c)) 2) = ⟨5 * k + 2, by omega⟩ :=
      Fin.ext (by show _ / 128 = _; rw [e2]; show _ = 5 * (k : ℕ) + 2; omega)
    have e4 : colOf (((Rect.unit (s := S1x128x5120) (k0_off6 k 2#32) S1x128x128.size (k0_off6_inb i k k0_h2 2)).emb (ix3 0 r c)) 2) = c :=
      Fin.ext (by show _ % 128 = _; rw [e2]; omega)
    dsimp only
    unfold row1
    rw [e1, e3, e4]
    exact attU1_2 v2122 hM _ _ _ _ _ _ _ _ _ _ _ _ r c (fun j e => R11 (ix3 (grp ⟨5 * k + 2, by omega⟩) j e)) (fun e => R15 (ix2 (rowOf ⟨5 * k + 2, by omega⟩ r) e))
      (fun j => R13 (ix3 (grp ⟨5 * k + 2, by omega⟩) j r)) (fun j => R14 (ix3 (grp ⟨5 * k + 2, by omega⟩) j r)) (fun j => R12 (ix3 (grp ⟨5 * k + 2, by omega⟩) c j))
      (qs ⟨5 * k + 2, by omega⟩ r) (R7 (ix1 ⟨5 * k + 2, by omega⟩)) (hqs _ _) rfl
      (fun p e => rd_at arg11.view X_arg11 R11 h11 _ (k0_off1_eq k) _ _ (at3 (by show (5 * (k : ℕ) + 2) / 5 = k + 0; omega) (Nat.zero_add _).symm (Nat.zero_add _).symm))
      (fun p => rd_at arg12.view X_arg12 R12 h12 _ (k0_off2_eq k) _ _ (at3 (by show (5 * (k : ℕ) + 2) / 5 = k + 0; omega) (Nat.zero_add _).symm (Nat.zero_add _).symm))
      (fun p => rd_at arg13.view X_arg13 R13 h13 _ (k0_off1_eq k) _ _ (at3 (by show (5 * (k : ℕ) + 2) / 5 = k + 0; omega) (Nat.zero_add _).symm (Nat.zero_add _).symm))
      (fun p => rd_at arg14.view X_arg14 R14 h14 _ (k0_off1_eq k) _ _ (at3 (by show (5 * (k : ℕ) + 2) / 5 = k + 0; omega) (Nat.zero_add _).symm (Nat.zero_add _).symm))
      (fun e => rd_at arg15.view X_arg15 R15 h15 _ (k0_off3_eq k) _ _ (at2 (by show 128 * (5 * (k : ℕ) + 2) + (r : ℕ) = 640 * k + (256 + r); omega) (Nat.zero_add _).symm))
      ((rd_at arg16.view X_arg16 R16 h16 _ (k0_off4_eq k 2) (show S1x128.Idx from ix2 0 r) (ix2 ⟨5 * k + 2, by omega⟩ r) (at2 (by show 5 * (k : ℕ) + 2 = (5 * k + 2) + 0; omega) (Nat.zero_add _).symm)).trans (hc ⟨5 * k + 2, by omega⟩ r))
      (rd_at arg7.view X_arg7 R7 h7 _ (k0_off5_eq k 2) _ _ (at1 (by show 5 * (k : ℕ) + 2 = (5 * k + 2) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off6 k 1#32 = ![0, 0, 640 * k.val + 128 * 1] := k0_off6_eq k 1
    have e1 : ((Rect.unit (s := S1x128x5120) (k0_off6 k 1#32) S1x128x128.size (k0_off6_inb i k k0_h2 1)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off6 k 1#32) S1x128x128.size (k0_off6_inb i k k0_h2 1)).emb (ix3 0 r c)) 2 : ℕ) = 640 * k + 128 * 1 + c :=
      (Rect.idx_unit_val _ _ _ _ _).trans (congrArg (· + (c : ℕ)) (congrFun eo 2))
    have e3 : headOf (((Rect.unit (s := S1x128x5120) (k0_off6 k 1#32) S1x128x128.size (k0_off6_inb i k k0_h2 1)).emb (ix3 0 r c)) 2) = ⟨5 * k + 1, by omega⟩ :=
      Fin.ext (by show _ / 128 = _; rw [e2]; show _ = 5 * (k : ℕ) + 1; omega)
    have e4 : colOf (((Rect.unit (s := S1x128x5120) (k0_off6 k 1#32) S1x128x128.size (k0_off6_inb i k k0_h2 1)).emb (ix3 0 r c)) 2) = c :=
      Fin.ext (by show _ % 128 = _; rw [e2]; omega)
    dsimp only
    unfold row1
    rw [e1, e3, e4]
    exact attU1_1 v2122 hM _ _ _ _ _ _ _ _ _ _ _ _ r c (fun j e => R11 (ix3 (grp ⟨5 * k + 1, by omega⟩) j e)) (fun e => R15 (ix2 (rowOf ⟨5 * k + 1, by omega⟩ r) e))
      (fun j => R13 (ix3 (grp ⟨5 * k + 1, by omega⟩) j r)) (fun j => R14 (ix3 (grp ⟨5 * k + 1, by omega⟩) j r)) (fun j => R12 (ix3 (grp ⟨5 * k + 1, by omega⟩) c j))
      (qs ⟨5 * k + 1, by omega⟩ r) (R7 (ix1 ⟨5 * k + 1, by omega⟩)) (hqs _ _) rfl
      (fun p e => rd_at arg11.view X_arg11 R11 h11 _ (k0_off1_eq k) _ _ (at3 (by show (5 * (k : ℕ) + 1) / 5 = k + 0; omega) (Nat.zero_add _).symm (Nat.zero_add _).symm))
      (fun p => rd_at arg12.view X_arg12 R12 h12 _ (k0_off2_eq k) _ _ (at3 (by show (5 * (k : ℕ) + 1) / 5 = k + 0; omega) (Nat.zero_add _).symm (Nat.zero_add _).symm))
      (fun p => rd_at arg13.view X_arg13 R13 h13 _ (k0_off1_eq k) _ _ (at3 (by show (5 * (k : ℕ) + 1) / 5 = k + 0; omega) (Nat.zero_add _).symm (Nat.zero_add _).symm))
      (fun p => rd_at arg14.view X_arg14 R14 h14 _ (k0_off1_eq k) _ _ (at3 (by show (5 * (k : ℕ) + 1) / 5 = k + 0; omega) (Nat.zero_add _).symm (Nat.zero_add _).symm))
      (fun e => rd_at arg15.view X_arg15 R15 h15 _ (k0_off3_eq k) _ _ (at2 (by show 128 * (5 * (k : ℕ) + 1) + (r : ℕ) = 640 * k + (128 + r); omega) (Nat.zero_add _).symm))
      ((rd_at arg16.view X_arg16 R16 h16 _ (k0_off4_eq k 1) (show S1x128.Idx from ix2 0 r) (ix2 ⟨5 * k + 1, by omega⟩ r) (at2 (by show 5 * (k : ℕ) + 1 = (5 * k + 1) + 0; omega) (Nat.zero_add _).symm)).trans (hc ⟨5 * k + 1, by omega⟩ r))
      (rd_at arg7.view X_arg7 R7 h7 _ (k0_off5_eq k 1) _ _ (at1 (by show 5 * (k : ℕ) + 1 = (5 * k + 1) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off6 k 0#32 = ![0, 0, 640 * k.val + 128 * 0] := k0_off6_eq k 0
    have e1 : ((Rect.unit (s := S1x128x5120) (k0_off6 k 0#32) S1x128x128.size (k0_off6_inb i k k0_h2 0)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off6 k 0#32) S1x128x128.size (k0_off6_inb i k k0_h2 0)).emb (ix3 0 r c)) 2 : ℕ) = 640 * k + 128 * 0 + c :=
      (Rect.idx_unit_val _ _ _ _ _).trans (congrArg (· + (c : ℕ)) (congrFun eo 2))
    have e3 : headOf (((Rect.unit (s := S1x128x5120) (k0_off6 k 0#32) S1x128x128.size (k0_off6_inb i k k0_h2 0)).emb (ix3 0 r c)) 2) = ⟨5 * k + 0, by omega⟩ :=
      Fin.ext (by show _ / 128 = _; rw [e2]; show _ = 5 * (k : ℕ) + 0; omega)
    have e4 : colOf (((Rect.unit (s := S1x128x5120) (k0_off6 k 0#32) S1x128x128.size (k0_off6_inb i k k0_h2 0)).emb (ix3 0 r c)) 2) = c :=
      Fin.ext (by show _ % 128 = _; rw [e2]; omega)
    dsimp only
    unfold row1
    rw [e1, e3, e4]
    exact attU1_0 v2122 hM _ _ _ _ _ _ _ _ _ _ _ _ r c (fun j e => R11 (ix3 (grp ⟨5 * k + 0, by omega⟩) j e)) (fun e => R15 (ix2 (rowOf ⟨5 * k + 0, by omega⟩ r) e))
      (fun j => R13 (ix3 (grp ⟨5 * k + 0, by omega⟩) j r)) (fun j => R14 (ix3 (grp ⟨5 * k + 0, by omega⟩) j r)) (fun j => R12 (ix3 (grp ⟨5 * k + 0, by omega⟩) c j))
      (qs ⟨5 * k + 0, by omega⟩ r) (R7 (ix1 ⟨5 * k + 0, by omega⟩)) (hqs _ _) rfl
      (fun p e => rd_at arg11.view X_arg11 R11 h11 _ (k0_off1_eq k) _ _ (at3 (by show (5 * (k : ℕ) + 0) / 5 = k + 0; omega) (Nat.zero_add _).symm (Nat.zero_add _).symm))
      (fun p => rd_at arg12.view X_arg12 R12 h12 _ (k0_off2_eq k) _ _ (at3 (by show (5 * (k : ℕ) + 0) / 5 = k + 0; omega) (Nat.zero_add _).symm (Nat.zero_add _).symm))
      (fun p => rd_at arg13.view X_arg13 R13 h13 _ (k0_off1_eq k) _ _ (at3 (by show (5 * (k : ℕ) + 0) / 5 = k + 0; omega) (Nat.zero_add _).symm (Nat.zero_add _).symm))
      (fun p => rd_at arg14.view X_arg14 R14 h14 _ (k0_off1_eq k) _ _ (at3 (by show (5 * (k : ℕ) + 0) / 5 = k + 0; omega) (Nat.zero_add _).symm (Nat.zero_add _).symm))
      (fun e => rd_at arg15.view X_arg15 R15 h15 _ (k0_off3_eq k) _ _ (at2 (by show 128 * (5 * (k : ℕ) + 0) + (r : ℕ) = 640 * k + (0 + r); omega) (Nat.zero_add _).symm))
      ((rd_at arg16.view X_arg16 R16 h16 _ (k0_off4_eq k 0) (show S1x128.Idx from ix2 0 r) (ix2 ⟨5 * k + 0, by omega⟩ r) (at2 (by show 5 * (k : ℕ) + 0 = (5 * k + 0) + 0; omega) (Nat.zero_add _).symm)).trans (hc ⟨5 * k + 0, by omega⟩ r))
      (rd_at arg7.view X_arg7 R7 h7 _ (k0_off5_eq k 0) _ _ (at1 (by show 5 * (k : ℕ) + 0 = (5 * k + 0) + 0; omega)))

set_option maxHeartbeats 4000000 in
theorem cover1 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h2 : k0_cond2 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t1_loop.trips) (r : Fin 128) (cc : Fin 128) (g : Fin 5) :
    ∃ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 k, (ix3 0 r ⟨640 * k + 128 * g + cc, by have : (k : ℕ) < 8 := k.isLt; omega⟩ : S1x128x5120.Idx) ∈ p.1.set := by
  have hk8 : (k : ℕ) < 8 := k.isLt
  rw [trip1_eq]
  have key : ∀ g : Fin 5, (ix3 0 r ⟨640 * k + 128 * g + cc, by omega⟩ : S1x128x5120.Idx) ∈ (Rect.unit (s := S1x128x5120) (k0_off6 k (BitVec.ofNat 32 g.val)) S1x128x128.size (k0_off6_inb i k k0_h2 g)).set := by
    intro g
    rw [Rect.mem_set_unit, k0_off6_eq k g]
    exact in3 ⟨Nat.le_refl _, Nat.zero_lt_one⟩ ⟨Nat.zero_le _, by show (r : ℕ) < 0 + 128; omega⟩
      ⟨by show 640 * (k : ℕ) + 128 * (g : ℕ) ≤ 640 * k + 128 * g + cc; omega, by show 640 * (k : ℕ) + 128 * (g : ℕ) + (cc : ℕ) < 640 * (k : ℕ) + 128 * (g : ℕ) + 128; omega⟩
  match g with
  | 0 => exact ⟨_, List.mem_cons_of_mem _ (List.mem_cons_of_mem _ (List.mem_cons_of_mem _ (List.mem_cons_of_mem _ List.mem_cons_self))), key 0⟩
  | 1 => exact ⟨_, List.mem_cons_of_mem _ (List.mem_cons_of_mem _ (List.mem_cons_of_mem _ List.mem_cons_self)), key 1⟩
  | 2 => exact ⟨_, List.mem_cons_of_mem _ (List.mem_cons_of_mem _ List.mem_cons_self), key 2⟩
  | 3 => exact ⟨_, List.mem_cons_of_mem _ List.mem_cons_self, key 3⟩
  | 4 => exact ⟨_, List.mem_cons_self, key 4⟩

/-- What the loop leaves in the block of the result, at an index. -/
theorem loop1_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h2 : k0_cond2 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (r : Fin 128) (z : Fin 5120) :
    View.canon (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 k0_t1_loop.trips) (ix3 0 r z) = row1 i R7 R11 R12 R13 R14 R15 qs r z := by
  refine View.canon_apply_of_pieces (Val := Elt Ideal) (e := .bf16) (fun y : S1x128x5120.Idx => row1 i R7 R11 R12 R13 R14 R15 qs (y 1) (y 2)) _ (fun p hp x => ?_) _ ?_
  · obtain ⟨k, _, hk⟩ := (mem_pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 p _ le_rfl).1 hp
    exact piece1_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 k R7 R11 R12 R13 R14 R15 R16 qs hM h7 h11 h12 h13 h14 h15 h16 hqs hc p hk x
  · have hz : (z : ℕ) < 5120 := z.isLt
    have hk : (z : ℕ) / 640 < k0_t1_loop.trips := by show (z : ℕ) / 640 < 8; omega
    obtain ⟨p, hp, hy⟩ := cover1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 ⟨(z : ℕ) / 640, hk⟩ r ⟨(z : ℕ) % 128, by omega⟩ ⟨(z : ℕ) % 640 / 128, by omega⟩
    refine ⟨p, (mem_pb1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h2 X_arg7 X_arg11 X_arg12 X_arg13 X_arg14 X_arg15 X_arg16 p _ le_rfl).2 ⟨_, hk, hp⟩, ?_⟩
    have e : (⟨640 * ((z : ℕ) / 640) + 128 * ((z : ℕ) % 640 / 128) + (z : ℕ) % 128, by omega⟩ : Fin 5120) = z := Fin.ext (by dsimp only; omega)
    exact e ▸ hy

end Cert.KernelIdeal.Out

end
-- ==== Proof.Trip2.lean ====
/- One trip of the loop over the groups of heads in the window of 256 keys, as functions of the loaded vectors. -/
module

public import proofs.«01_k».proof.Proof.Attend
public import proofs.«01_k».proof.Proof.Gen.KernelIdeal.Loops

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-- The codes of the weights of head 0 of the group, and its factor. -/
def wU2_0 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S256x128 .fp8e4m3 :=
  codesU2 (hQ256 (tU2 M KS (extractStridedSlice S256x128 ![0, 0] (rawU2 K Q) slices_S256x640_o0_0_S256x128)) (vU2 VS) cb sk)
def fU2_0 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S1x128 .f32 :=
  hF256 (tU2 M KS (extractStridedSlice S256x128 ![0, 0] (rawU2 K Q) slices_S256x640_o0_0_S256x128)) (vU2 VS) cb sk

/-- The codes of the weights of head 1 of the group, and its factor. -/
def wU2_1 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S256x128 .fp8e4m3 :=
  codesU2 (hQ256 (tU2 M KS (extractStridedSlice S256x128 ![0, 128] (rawU2 K Q) slices_S256x640_o0_128_S256x128)) (vU2 VS) cb sk)
def fU2_1 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S1x128 .f32 :=
  hF256 (tU2 M KS (extractStridedSlice S256x128 ![0, 128] (rawU2 K Q) slices_S256x640_o0_128_S256x128)) (vU2 VS) cb sk

/-- The codes of the weights of head 2 of the group, and its factor. -/
def wU2_2 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S256x128 .fp8e4m3 :=
  codesU2 (hQ256 (tU2 M KS (extractStridedSlice S256x128 ![0, 256] (rawU2 K Q) slices_S256x640_o0_256_S256x128)) (vU2 VS) cb sk)
def fU2_2 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S1x128 .f32 :=
  hF256 (tU2 M KS (extractStridedSlice S256x128 ![0, 256] (rawU2 K Q) slices_S256x640_o0_256_S256x128)) (vU2 VS) cb sk

/-- The codes of the weights of head 3 of the group, and its factor. -/
def wU2_3 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S256x128 .fp8e4m3 :=
  codesU2 (hQ256 (tU2 M KS (extractStridedSlice S256x128 ![0, 384] (rawU2 K Q) slices_S256x640_o0_384_S256x128)) (vU2 VS) cb sk)
def fU2_3 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S1x128 .f32 :=
  hF256 (tU2 M KS (extractStridedSlice S256x128 ![0, 384] (rawU2 K Q) slices_S256x640_o0_384_S256x128)) (vU2 VS) cb sk

/-- The codes of the weights of head 4 of the group, and its factor. -/
def wU2_4 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S256x128 .fp8e4m3 :=
  codesU2 (hQ256 (tU2 M KS (extractStridedSlice S256x128 ![0, 512] (rawU2 K Q) slices_S256x640_o0_512_S256x128)) (vU2 VS) cb sk)
def fU2_4 (M : IVec S128x128 1) (K : FVec Ideal S1x256x128 .fp8e4m3) (KS VS : FVec Ideal S1x256x128 .f32) (Q : FVec Ideal S640x128 .fp8e4m3)
    (cb : FVec Ideal S1x128 .f32) (sk : Ideal .f32) : FVec Ideal S1x128 .f32 :=
  hF256 (tU2 M KS (extractStridedSlice S256x128 ![0, 512] (rawU2 K Q) slices_S256x640_o0_512_S256x128)) (vU2 VS) cb sk

/-- What a trip stores for head 0 of the group. -/
def pieceU2_0 (M : IVec S128x128 1) (K : FVec Ideal S1x256x128 .fp8e4m3) (V : FVec Ideal S1x128x256 .fp8e4m3) (KS VS : FVec Ideal S1x256x128 .f32) (Q : FVec Ideal S640x128 .fp8e4m3)
    (c0 c1 c2 c3 c4 : FVec Ideal S1x128 .f32) (s0 s1 s2 s3 s4 : Ideal .f32) : FVec Ideal S1x128x128 .bf16 :=
  outG0 (sumU2 V (wU2_0 M K KS VS Q c0 s0) (wU2_1 M K KS VS Q c1 s1) (wU2_2 M K KS VS Q c2 s2) (wU2_3 M K KS VS Q c3 s3) (wU2_4 M K KS VS Q c4 s4)) (fU2_0 M K KS VS Q c0 s0)

/-- What a trip stores for head 1 of the group. -/
def pieceU2_1 (M : IVec S128x128 1) (K : FVec Ideal S1x256x128 .fp8e4m3) (V : FVec Ideal S1x128x256 .fp8e4m3) (KS VS : FVec Ideal S1x256x128 .f32) (Q : FVec Ideal S640x128 .fp8e4m3)
    (c0 c1 c2 c3 c4 : FVec Ideal S1x128 .f32) (s0 s1 s2 s3 s4 : Ideal .f32) : FVec Ideal S1x128x128 .bf16 :=
  outG1 (sumU2 V (wU2_0 M K KS VS Q c0 s0) (wU2_1 M K KS VS Q c1 s1) (wU2_2 M K KS VS Q c2 s2) (wU2_3 M K KS VS Q c3 s3) (wU2_4 M K KS VS Q c4 s4)) (fU2_1 M K KS VS Q c1 s1)

/-- What a trip stores for head 2 of the group. -/
def pieceU2_2 (M : IVec S128x128 1) (K : FVec Ideal S1x256x128 .fp8e4m3) (V : FVec Ideal S1x128x256 .fp8e4m3) (KS VS : FVec Ideal S1x256x128 .f32) (Q : FVec Ideal S640x128 .fp8e4m3)
    (c0 c1 c2 c3 c4 : FVec Ideal S1x128 .f32) (s0 s1 s2 s3 s4 : Ideal .f32) : FVec Ideal S1x128x128 .bf16 :=
  outG2 (sumU2 V (wU2_0 M K KS VS Q c0 s0) (wU2_1 M K KS VS Q c1 s1) (wU2_2 M K KS VS Q c2 s2) (wU2_3 M K KS VS Q c3 s3) (wU2_4 M K KS VS Q c4 s4)) (fU2_2 M K KS VS Q c2 s2)

/-- What a trip stores for head 3 of the group. -/
def pieceU2_3 (M : IVec S128x128 1) (K : FVec Ideal S1x256x128 .fp8e4m3) (V : FVec Ideal S1x128x256 .fp8e4m3) (KS VS : FVec Ideal S1x256x128 .f32) (Q : FVec Ideal S640x128 .fp8e4m3)
    (c0 c1 c2 c3 c4 : FVec Ideal S1x128 .f32) (s0 s1 s2 s3 s4 : Ideal .f32) : FVec Ideal S1x128x128 .bf16 :=
  outG3 (sumU2 V (wU2_0 M K KS VS Q c0 s0) (wU2_1 M K KS VS Q c1 s1) (wU2_2 M K KS VS Q c2 s2) (wU2_3 M K KS VS Q c3 s3) (wU2_4 M K KS VS Q c4 s4)) (fU2_3 M K KS VS Q c3 s3)

/-- What a trip stores for head 4 of the group. -/
def pieceU2_4 (M : IVec S128x128 1) (K : FVec Ideal S1x256x128 .fp8e4m3) (V : FVec Ideal S1x128x256 .fp8e4m3) (KS VS : FVec Ideal S1x256x128 .f32) (Q : FVec Ideal S640x128 .fp8e4m3)
    (c0 c1 c2 c3 c4 : FVec Ideal S1x128 .f32) (s0 s1 s2 s3 s4 : Ideal .f32) : FVec Ideal S1x128x128 .bf16 :=
  outG4 (sumU2 V (wU2_0 M K KS VS Q c0 s0) (wU2_1 M K KS VS Q c1 s1) (wU2_2 M K KS VS Q c2 s2) (wU2_3 M K KS VS Q c3 s3) (wU2_4 M K KS VS Q c4 s4)) (fU2_4 M K KS VS Q c4 s4)

set_option maxHeartbeats 4000000 in
/-- The pieces one trip stores. -/
theorem trip2_eq (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h3 : k0_cond3 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 k = [⟨Rect.unit (s := S1x128x5120) (k0_off12 k 4#32) S1x128x128.size (k0_off12_inb i k k0_h3 4), pieceU2_4 v2122
      (View.readAt (Elt Ideal) arg11.view (Rect.unit (s := S8x896x128) (k0_off7 k) S1x256x128.size (k0_off7_inb i k k0_h3)).toLoadRect X_arg11)
      (View.readAt (Elt Ideal) arg12.view (Rect.unit (s := S8x128x896) (k0_off8 k) S1x128x256.size (k0_off8_inb i k k0_h3)).toLoadRect X_arg12)
      (View.readAt (Elt Ideal) arg13.view (Rect.unit (s := S8x896x128) (k0_off7 k) S1x256x128.size (k0_off7_inb i k k0_h3)).toLoadRect X_arg13)
      (View.readAt (Elt Ideal) arg14.view (Rect.unit (s := S8x896x128) (k0_off7 k) S1x256x128.size (k0_off7_inb i k k0_h3)).toLoadRect X_arg14)
      (View.readAt (Elt Ideal) arg15.view (Rect.unit (s := S5120x128) (k0_off9 k) S640x128.size (k0_off9_inb i k k0_h3)).toLoadRect X_arg15)
      (View.readAt (Elt Ideal) arg16.view (Rect.unit (s := S128x128) (k0_off10 k 0#32) S1x128.size (k0_off10_inb i k k0_h3 0)).toLoadRect X_arg16) (View.readAt (Elt Ideal) arg16.view (Rect.unit (s := S128x128) (k0_off10 k 1#32) S1x128.size (k0_off10_inb i k k0_h3 1)).toLoadRect X_arg16) (View.readAt (Elt Ideal) arg16.view (Rect.unit (s := S128x128) (k0_off10 k 2#32) S1x128.size (k0_off10_inb i k k0_h3 2)).toLoadRect X_arg16) (View.readAt (Elt Ideal) arg16.view (Rect.unit (s := S128x128) (k0_off10 k 3#32) S1x128.size (k0_off10_inb i k k0_h3 3)).toLoadRect X_arg16) (View.readAt (Elt Ideal) arg16.view (Rect.unit (s := S128x128) (k0_off10 k 4#32) S1x128.size (k0_off10_inb i k k0_h3 4)).toLoadRect X_arg16)
      ((View.readAt (Elt Ideal) arg7.view (Rect.unit (s := S40) (k0_off11 k 0#32) S1.size (k0_off11_inb i k k0_h3 0)).toLoadRect X_arg7) (Shape.Idx.first (show 0 < S1.numel by decide))) ((View.readAt (Elt Ideal) arg7.view (Rect.unit (s := S40) (k0_off11 k 1#32) S1.size (k0_off11_inb i k k0_h3 1)).toLoadRect X_arg7) (Shape.Idx.first (show 0 < S1.numel by decide))) ((View.readAt (Elt Ideal) arg7.view (Rect.unit (s := S40) (k0_off11 k 2#32) S1.size (k0_off11_inb i k k0_h3 2)).toLoadRect X_arg7) (Shape.Idx.first (show 0 < S1.numel by decide))) ((View.readAt (Elt Ideal) arg7.view (Rect.unit (s := S40) (k0_off11 k 3#32) S1.size (k0_off11_inb i k k0_h3 3)).toLoadRect X_arg7) (Shape.Idx.first (show 0 < S1.numel by decide))) ((View.readAt (Elt Ideal) arg7.view (Rect.unit (s := S40) (k0_off11 k 4#32) S1.size (k0_off11_inb i k k0_h3 4)).toLoadRect X_arg7) (Shape.Idx.first (show 0 < S1.numel by decide)))⟩, ⟨Rect.unit (s := S1x128x5120) (k0_off12 k 3#32) S1x128x128.size (k0_off12_inb i k k0_h3 3), pieceU2_3 v2122
      (View.readAt (Elt Ideal) arg11.view (Rect.unit (s := S8x896x128) (k0_off7 k) S1x256x128.size (k0_off7_inb i k k0_h3)).toLoadRect X_arg11)
      (View.readAt (Elt Ideal) arg12.view (Rect.unit (s := S8x128x896) (k0_off8 k) S1x128x256.size (k0_off8_inb i k k0_h3)).toLoadRect X_arg12)
      (View.readAt (Elt Ideal) arg13.view (Rect.unit (s := S8x896x128) (k0_off7 k) S1x256x128.size (k0_off7_inb i k k0_h3)).toLoadRect X_arg13)
      (View.readAt (Elt Ideal) arg14.view (Rect.unit (s := S8x896x128) (k0_off7 k) S1x256x128.size (k0_off7_inb i k k0_h3)).toLoadRect X_arg14)
      (View.readAt (Elt Ideal) arg15.view (Rect.unit (s := S5120x128) (k0_off9 k) S640x128.size (k0_off9_inb i k k0_h3)).toLoadRect X_arg15)
      (View.readAt (Elt Ideal) arg16.view (Rect.unit (s := S128x128) (k0_off10 k 0#32) S1x128.size (k0_off10_inb i k k0_h3 0)).toLoadRect X_arg16) (View.readAt (Elt Ideal) arg16.view (Rect.unit (s := S128x128) (k0_off10 k 1#32) S1x128.size (k0_off10_inb i k k0_h3 1)).toLoadRect X_arg16) (View.readAt (Elt Ideal) arg16.view (Rect.unit (s := S128x128) (k0_off10 k 2#32) S1x128.size (k0_off10_inb i k k0_h3 2)).toLoadRect X_arg16) (View.readAt (Elt Ideal) arg16.view (Rect.unit (s := S128x128) (k0_off10 k 3#32) S1x128.size (k0_off10_inb i k k0_h3 3)).toLoadRect X_arg16) (View.readAt (Elt Ideal) arg16.view (Rect.unit (s := S128x128) (k0_off10 k 4#32) S1x128.size (k0_off10_inb i k k0_h3 4)).toLoadRect X_arg16)
      ((View.readAt (Elt Ideal) arg7.view (Rect.unit (s := S40) (k0_off11 k 0#32) S1.size (k0_off11_inb i k k0_h3 0)).toLoadRect X_arg7) (Shape.Idx.first (show 0 < S1.numel by decide))) ((View.readAt (Elt Ideal) arg7.view (Rect.unit (s := S40) (k0_off11 k 1#32) S1.size (k0_off11_inb i k k0_h3 1)).toLoadRect X_arg7) (Shape.Idx.first (show 0 < S1.numel by decide))) ((View.readAt (Elt Ideal) arg7.view (Rect.unit (s := S40) (k0_off11 k 2#32) S1.size (k0_off11_inb i k k0_h3 2)).toLoadRect X_arg7) (Shape.Idx.first (show 0 < S1.numel by decide))) ((View.readAt (Elt Ideal) arg7.view (Rect.unit (s := S40) (k0_off11 k 3#32) S1.size (k0_off11_inb i k k0_h3 3)).toLoadRect X_arg7) (Shape.Idx.first (show 0 < S1.numel by decide))) ((View.readAt (Elt Ideal) arg7.view (Rect.unit (s := S40) (k0_off11 k 4#32) S1.size (k0_off11_inb i k k0_h3 4)).toLoadRect X_arg7) (Shape.Idx.first (show 0 < S1.numel by decide)))⟩, ⟨Rect.unit (s := S1x128x5120) (k0_off12 k 2#32) S1x128x128.size (k0_off12_inb i k k0_h3 2), pieceU2_2 v2122
      (View.readAt (Elt Ideal) arg11.view (Rect.unit (s := S8x896x128) (k0_off7 k) S1x256x128.size (k0_off7_inb i k k0_h3)).toLoadRect X_arg11)
      (View.readAt (Elt Ideal) arg12.view (Rect.unit (s := S8x128x896) (k0_off8 k) S1x128x256.size (k0_off8_inb i k k0_h3)).toLoadRect X_arg12)
      (View.readAt (Elt Ideal) arg13.view (Rect.unit (s := S8x896x128) (k0_off7 k) S1x256x128.size (k0_off7_inb i k k0_h3)).toLoadRect X_arg13)
      (View.readAt (Elt Ideal) arg14.view (Rect.unit (s := S8x896x128) (k0_off7 k) S1x256x128.size (k0_off7_inb i k k0_h3)).toLoadRect X_arg14)
      (View.readAt (Elt Ideal) arg15.view (Rect.unit (s := S5120x128) (k0_off9 k) S640x128.size (k0_off9_inb i k k0_h3)).toLoadRect X_arg15)
      (View.readAt (Elt Ideal) arg16.view (Rect.unit (s := S128x128) (k0_off10 k 0#32) S1x128.size (k0_off10_inb i k k0_h3 0)).toLoadRect X_arg16) (View.readAt (Elt Ideal) arg16.view (Rect.unit (s := S128x128) (k0_off10 k 1#32) S1x128.size (k0_off10_inb i k k0_h3 1)).toLoadRect X_arg16) (View.readAt (Elt Ideal) arg16.view (Rect.unit (s := S128x128) (k0_off10 k 2#32) S1x128.size (k0_off10_inb i k k0_h3 2)).toLoadRect X_arg16) (View.readAt (Elt Ideal) arg16.view (Rect.unit (s := S128x128) (k0_off10 k 3#32) S1x128.size (k0_off10_inb i k k0_h3 3)).toLoadRect X_arg16) (View.readAt (Elt Ideal) arg16.view (Rect.unit (s := S128x128) (k0_off10 k 4#32) S1x128.size (k0_off10_inb i k k0_h3 4)).toLoadRect X_arg16)
      ((View.readAt (Elt Ideal) arg7.view (Rect.unit (s := S40) (k0_off11 k 0#32) S1.size (k0_off11_inb i k k0_h3 0)).toLoadRect X_arg7) (Shape.Idx.first (show 0 < S1.numel by decide))) ((View.readAt (Elt Ideal) arg7.view (Rect.unit (s := S40) (k0_off11 k 1#32) S1.size (k0_off11_inb i k k0_h3 1)).toLoadRect X_arg7) (Shape.Idx.first (show 0 < S1.numel by decide))) ((View.readAt (Elt Ideal) arg7.view (Rect.unit (s := S40) (k0_off11 k 2#32) S1.size (k0_off11_inb i k k0_h3 2)).toLoadRect X_arg7) (Shape.Idx.first (show 0 < S1.numel by decide))) ((View.readAt (Elt Ideal) arg7.view (Rect.unit (s := S40) (k0_off11 k 3#32) S1.size (k0_off11_inb i k k0_h3 3)).toLoadRect X_arg7) (Shape.Idx.first (show 0 < S1.numel by decide))) ((View.readAt (Elt Ideal) arg7.view (Rect.unit (s := S40) (k0_off11 k 4#32) S1.size (k0_off11_inb i k k0_h3 4)).toLoadRect X_arg7) (Shape.Idx.first (show 0 < S1.numel by decide)))⟩, ⟨Rect.unit (s := S1x128x5120) (k0_off12 k 1#32) S1x128x128.size (k0_off12_inb i k k0_h3 1), pieceU2_1 v2122
      (View.readAt (Elt Ideal) arg11.view (Rect.unit (s := S8x896x128) (k0_off7 k) S1x256x128.size (k0_off7_inb i k k0_h3)).toLoadRect X_arg11)
      (View.readAt (Elt Ideal) arg12.view (Rect.unit (s := S8x128x896) (k0_off8 k) S1x128x256.size (k0_off8_inb i k k0_h3)).toLoadRect X_arg12)
      (View.readAt (Elt Ideal) arg13.view (Rect.unit (s := S8x896x128) (k0_off7 k) S1x256x128.size (k0_off7_inb i k k0_h3)).toLoadRect X_arg13)
      (View.readAt (Elt Ideal) arg14.view (Rect.unit (s := S8x896x128) (k0_off7 k) S1x256x128.size (k0_off7_inb i k k0_h3)).toLoadRect X_arg14)
      (View.readAt (Elt Ideal) arg15.view (Rect.unit (s := S5120x128) (k0_off9 k) S640x128.size (k0_off9_inb i k k0_h3)).toLoadRect X_arg15)
      (View.readAt (Elt Ideal) arg16.view (Rect.unit (s := S128x128) (k0_off10 k 0#32) S1x128.size (k0_off10_inb i k k0_h3 0)).toLoadRect X_arg16) (View.readAt (Elt Ideal) arg16.view (Rect.unit (s := S128x128) (k0_off10 k 1#32) S1x128.size (k0_off10_inb i k k0_h3 1)).toLoadRect X_arg16) (View.readAt (Elt Ideal) arg16.view (Rect.unit (s := S128x128) (k0_off10 k 2#32) S1x128.size (k0_off10_inb i k k0_h3 2)).toLoadRect X_arg16) (View.readAt (Elt Ideal) arg16.view (Rect.unit (s := S128x128) (k0_off10 k 3#32) S1x128.size (k0_off10_inb i k k0_h3 3)).toLoadRect X_arg16) (View.readAt (Elt Ideal) arg16.view (Rect.unit (s := S128x128) (k0_off10 k 4#32) S1x128.size (k0_off10_inb i k k0_h3 4)).toLoadRect X_arg16)
      ((View.readAt (Elt Ideal) arg7.view (Rect.unit (s := S40) (k0_off11 k 0#32) S1.size (k0_off11_inb i k k0_h3 0)).toLoadRect X_arg7) (Shape.Idx.first (show 0 < S1.numel by decide))) ((View.readAt (Elt Ideal) arg7.view (Rect.unit (s := S40) (k0_off11 k 1#32) S1.size (k0_off11_inb i k k0_h3 1)).toLoadRect X_arg7) (Shape.Idx.first (show 0 < S1.numel by decide))) ((View.readAt (Elt Ideal) arg7.view (Rect.unit (s := S40) (k0_off11 k 2#32) S1.size (k0_off11_inb i k k0_h3 2)).toLoadRect X_arg7) (Shape.Idx.first (show 0 < S1.numel by decide))) ((View.readAt (Elt Ideal) arg7.view (Rect.unit (s := S40) (k0_off11 k 3#32) S1.size (k0_off11_inb i k k0_h3 3)).toLoadRect X_arg7) (Shape.Idx.first (show 0 < S1.numel by decide))) ((View.readAt (Elt Ideal) arg7.view (Rect.unit (s := S40) (k0_off11 k 4#32) S1.size (k0_off11_inb i k k0_h3 4)).toLoadRect X_arg7) (Shape.Idx.first (show 0 < S1.numel by decide)))⟩, ⟨Rect.unit (s := S1x128x5120) (k0_off12 k 0#32) S1x128x128.size (k0_off12_inb i k k0_h3 0), pieceU2_0 v2122
      (View.readAt (Elt Ideal) arg11.view (Rect.unit (s := S8x896x128) (k0_off7 k) S1x256x128.size (k0_off7_inb i k k0_h3)).toLoadRect X_arg11)
      (View.readAt (Elt Ideal) arg12.view (Rect.unit (s := S8x128x896) (k0_off8 k) S1x128x256.size (k0_off8_inb i k k0_h3)).toLoadRect X_arg12)
      (View.readAt (Elt Ideal) arg13.view (Rect.unit (s := S8x896x128) (k0_off7 k) S1x256x128.size (k0_off7_inb i k k0_h3)).toLoadRect X_arg13)
      (View.readAt (Elt Ideal) arg14.view (Rect.unit (s := S8x896x128) (k0_off7 k) S1x256x128.size (k0_off7_inb i k k0_h3)).toLoadRect X_arg14)
      (View.readAt (Elt Ideal) arg15.view (Rect.unit (s := S5120x128) (k0_off9 k) S640x128.size (k0_off9_inb i k k0_h3)).toLoadRect X_arg15)
      (View.readAt (Elt Ideal) arg16.view (Rect.unit (s := S128x128) (k0_off10 k 0#32) S1x128.size (k0_off10_inb i k k0_h3 0)).toLoadRect X_arg16) (View.readAt (Elt Ideal) arg16.view (Rect.unit (s := S128x128) (k0_off10 k 1#32) S1x128.size (k0_off10_inb i k k0_h3 1)).toLoadRect X_arg16) (View.readAt (Elt Ideal) arg16.view (Rect.unit (s := S128x128) (k0_off10 k 2#32) S1x128.size (k0_off10_inb i k k0_h3 2)).toLoadRect X_arg16) (View.readAt (Elt Ideal) arg16.view (Rect.unit (s := S128x128) (k0_off10 k 3#32) S1x128.size (k0_off10_inb i k k0_h3 3)).toLoadRect X_arg16) (View.readAt (Elt Ideal) arg16.view (Rect.unit (s := S128x128) (k0_off10 k 4#32) S1x128.size (k0_off10_inb i k k0_h3 4)).toLoadRect X_arg16)
      ((View.readAt (Elt Ideal) arg7.view (Rect.unit (s := S40) (k0_off11 k 0#32) S1.size (k0_off11_inb i k k0_h3 0)).toLoadRect X_arg7) (Shape.Idx.first (show 0 < S1.numel by decide))) ((View.readAt (Elt Ideal) arg7.view (Rect.unit (s := S40) (k0_off11 k 1#32) S1.size (k0_off11_inb i k k0_h3 1)).toLoadRect X_arg7) (Shape.Idx.first (show 0 < S1.numel by decide))) ((View.readAt (Elt Ideal) arg7.view (Rect.unit (s := S40) (k0_off11 k 2#32) S1.size (k0_off11_inb i k k0_h3 2)).toLoadRect X_arg7) (Shape.Idx.first (show 0 < S1.numel by decide))) ((View.readAt (Elt Ideal) arg7.view (Rect.unit (s := S40) (k0_off11 k 3#32) S1.size (k0_off11_inb i k k0_h3 3)).toLoadRect X_arg7) (Shape.Idx.first (show 0 < S1.numel by decide))) ((View.readAt (Elt Ideal) arg7.view (Rect.unit (s := S40) (k0_off11 k 4#32) S1.size (k0_off11_inb i k k0_h3 4)).toLoadRect X_arg7) (Shape.Idx.first (show 0 < S1.numel by decide)))⟩] := by
  unfold tripL_k0_t2 trip_k0_t2
  dsimp only
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · rfl
  · rfl
  · rfl
  · rfl
  · rfl

theorem mem_pb2 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h3 : k0_cond3 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (p : View.Piece (Elt Ideal) S1x128x5120 .bf16) : ∀ n : ℕ, n ≤ k0_t2_loop.trips →
    (p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 n ↔ ∃ k : Fin k0_t2_loop.trips, k.val < n ∧ p ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 k)
  | 0, _ => by
    constructor
    · intro h; exact absurd h (by unfold pb_k0_t2; exact List.not_mem_nil)
    · rintro ⟨k, hk, _⟩; omega
  | n + 1, hn => by
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 ⟨n, hn⟩, List.mem_append, mem_pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 p n (by omega)]
    constructor
    · rintro (h | ⟨k, hk, h⟩)
      · exact ⟨⟨n, hn⟩, Nat.lt_succ_self n, h⟩
      · exact ⟨k, by omega, h⟩
    · rintro ⟨k, hk, h⟩
      by_cases e : k.val = n
      · left
        have : k = ⟨n, hn⟩ := Fin.ext e
        rw [← this]; exact h
      · right; exact ⟨k, by omega, h⟩

/-- The row a trip's piece stores, as a function of the block's index. -/
def row2 (i : grid0.Coords) (R7 : S40.Idx → EReal) (R11 : S8x896x128.Idx → EReal) (R12 : S8x128x896.Idx → EReal)
    (R13 R14 : S8x896x128.Idx → EReal) (R15 : S5120x128.Idx → EReal) (qs : Fin 40 → Fin 128 → EReal) (r : Fin 128) (z : Fin 5120) : EReal :=
  attRow R7 R11 R12 R13 R14 R15 qs (okU 256 r) (keyU (by decide)) (okU 256 r) (keyU (by decide)) (headOf z) r (colOf z)

set_option maxHeartbeats 4000000 in
theorem piece2_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h3 : k0_cond3 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t2_loop.trips) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (p : View.Piece (Elt Ideal) S1x128x5120 .bf16) (hp : p ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 k)
    (x : p.1.shape.Idx) : p.2 x = row2 i R7 R11 R12 R13 R14 R15 qs ((p.1.emb x) 1) ((p.1.emb x) 2) := by
  rw [trip2_eq] at hp
  simp only [List.mem_cons, List.not_mem_nil, or_false] at hp
  obtain rfl | rfl | rfl | rfl | rfl := hp
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off12 k 4#32 = ![0, 0, 640 * k.val + 128 * 4] := k0_off12_eq k 4
    have e1 : ((Rect.unit (s := S1x128x5120) (k0_off12 k 4#32) S1x128x128.size (k0_off12_inb i k k0_h3 4)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off12 k 4#32) S1x128x128.size (k0_off12_inb i k k0_h3 4)).emb (ix3 0 r c)) 2 : ℕ) = 640 * k + 128 * 4 + c :=
      (Rect.idx_unit_val _ _ _ _ _).trans (congrArg (· + (c : ℕ)) (congrFun eo 2))
    have e3 : headOf (((Rect.unit (s := S1x128x5120) (k0_off12 k 4#32) S1x128x128.size (k0_off12_inb i k k0_h3 4)).emb (ix3 0 r c)) 2) = ⟨5 * k + 4, by omega⟩ :=
      Fin.ext (by show _ / 128 = _; rw [e2]; show _ = 5 * (k : ℕ) + 4; omega)
    have e4 : colOf (((Rect.unit (s := S1x128x5120) (k0_off12 k 4#32) S1x128x128.size (k0_off12_inb i k k0_h3 4)).emb (ix3 0 r c)) 2) = c :=
      Fin.ext (by show _ % 128 = _; rw [e2]; omega)
    dsimp only
    unfold row2
    rw [e1, e3, e4]
    exact attU2_4 v2122 hM _ _ _ _ _ _ _ _ _ _ _ _ r c (fun j e => R11 (ix3 (grp ⟨5 * k + 4, by omega⟩) j e)) (fun e => R15 (ix2 (rowOf ⟨5 * k + 4, by omega⟩ r) e))
      (fun j => R13 (ix3 (grp ⟨5 * k + 4, by omega⟩) j r)) (fun j => R14 (ix3 (grp ⟨5 * k + 4, by omega⟩) j r)) (fun j => R12 (ix3 (grp ⟨5 * k + 4, by omega⟩) c j))
      (qs ⟨5 * k + 4, by omega⟩ r) (R7 (ix1 ⟨5 * k + 4, by omega⟩)) (hqs _ _) rfl
      (fun p e => rd_at arg11.view X_arg11 R11 h11 _ (k0_off7_eq k) _ _ (at3 (by show (5 * (k : ℕ) + 4) / 5 = k + 0; omega) (Nat.zero_add _).symm (Nat.zero_add _).symm))
      (fun p => rd_at arg12.view X_arg12 R12 h12 _ (k0_off8_eq k) _ _ (at3 (by show (5 * (k : ℕ) + 4) / 5 = k + 0; omega) (Nat.zero_add _).symm (Nat.zero_add _).symm))
      (fun p => rd_at arg13.view X_arg13 R13 h13 _ (k0_off7_eq k) _ _ (at3 (by show (5 * (k : ℕ) + 4) / 5 = k + 0; omega) (Nat.zero_add _).symm (Nat.zero_add _).symm))
      (fun p => rd_at arg14.view X_arg14 R14 h14 _ (k0_off7_eq k) _ _ (at3 (by show (5 * (k : ℕ) + 4) / 5 = k + 0; omega) (Nat.zero_add _).symm (Nat.zero_add _).symm))
      (fun e => rd_at arg15.view X_arg15 R15 h15 _ (k0_off9_eq k) _ _ (at2 (by show 128 * (5 * (k : ℕ) + 4) + (r : ℕ) = 640 * k + (512 + r); omega) (Nat.zero_add _).symm))
      ((rd_at arg16.view X_arg16 R16 h16 _ (k0_off10_eq k 4) (show S1x128.Idx from ix2 0 r) (ix2 ⟨5 * k + 4, by omega⟩ r) (at2 (by show 5 * (k : ℕ) + 4 = (5 * k + 4) + 0; omega) (Nat.zero_add _).symm)).trans (hc ⟨5 * k + 4, by omega⟩ r))
      (rd_at arg7.view X_arg7 R7 h7 _ (k0_off11_eq k 4) _ _ (at1 (by show 5 * (k : ℕ) + 4 = (5 * k + 4) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off12 k 3#32 = ![0, 0, 640 * k.val + 128 * 3] := k0_off12_eq k 3
    have e1 : ((Rect.unit (s := S1x128x5120) (k0_off12 k 3#32) S1x128x128.size (k0_off12_inb i k k0_h3 3)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off12 k 3#32) S1x128x128.size (k0_off12_inb i k k0_h3 3)).emb (ix3 0 r c)) 2 : ℕ) = 640 * k + 128 * 3 + c :=
      (Rect.idx_unit_val _ _ _ _ _).trans (congrArg (· + (c : ℕ)) (congrFun eo 2))
    have e3 : headOf (((Rect.unit (s := S1x128x5120) (k0_off12 k 3#32) S1x128x128.size (k0_off12_inb i k k0_h3 3)).emb (ix3 0 r c)) 2) = ⟨5 * k + 3, by omega⟩ :=
      Fin.ext (by show _ / 128 = _; rw [e2]; show _ = 5 * (k : ℕ) + 3; omega)
    have e4 : colOf (((Rect.unit (s := S1x128x5120) (k0_off12 k 3#32) S1x128x128.size (k0_off12_inb i k k0_h3 3)).emb (ix3 0 r c)) 2) = c :=
      Fin.ext (by show _ % 128 = _; rw [e2]; omega)
    dsimp only
    unfold row2
    rw [e1, e3, e4]
    exact attU2_3 v2122 hM _ _ _ _ _ _ _ _ _ _ _ _ r c (fun j e => R11 (ix3 (grp ⟨5 * k + 3, by omega⟩) j e)) (fun e => R15 (ix2 (rowOf ⟨5 * k + 3, by omega⟩ r) e))
      (fun j => R13 (ix3 (grp ⟨5 * k + 3, by omega⟩) j r)) (fun j => R14 (ix3 (grp ⟨5 * k + 3, by omega⟩) j r)) (fun j => R12 (ix3 (grp ⟨5 * k + 3, by omega⟩) c j))
      (qs ⟨5 * k + 3, by omega⟩ r) (R7 (ix1 ⟨5 * k + 3, by omega⟩)) (hqs _ _) rfl
      (fun p e => rd_at arg11.view X_arg11 R11 h11 _ (k0_off7_eq k) _ _ (at3 (by show (5 * (k : ℕ) + 3) / 5 = k + 0; omega) (Nat.zero_add _).symm (Nat.zero_add _).symm))
      (fun p => rd_at arg12.view X_arg12 R12 h12 _ (k0_off8_eq k) _ _ (at3 (by show (5 * (k : ℕ) + 3) / 5 = k + 0; omega) (Nat.zero_add _).symm (Nat.zero_add _).symm))
      (fun p => rd_at arg13.view X_arg13 R13 h13 _ (k0_off7_eq k) _ _ (at3 (by show (5 * (k : ℕ) + 3) / 5 = k + 0; omega) (Nat.zero_add _).symm (Nat.zero_add _).symm))
      (fun p => rd_at arg14.view X_arg14 R14 h14 _ (k0_off7_eq k) _ _ (at3 (by show (5 * (k : ℕ) + 3) / 5 = k + 0; omega) (Nat.zero_add _).symm (Nat.zero_add _).symm))
      (fun e => rd_at arg15.view X_arg15 R15 h15 _ (k0_off9_eq k) _ _ (at2 (by show 128 * (5 * (k : ℕ) + 3) + (r : ℕ) = 640 * k + (384 + r); omega) (Nat.zero_add _).symm))
      ((rd_at arg16.view X_arg16 R16 h16 _ (k0_off10_eq k 3) (show S1x128.Idx from ix2 0 r) (ix2 ⟨5 * k + 3, by omega⟩ r) (at2 (by show 5 * (k : ℕ) + 3 = (5 * k + 3) + 0; omega) (Nat.zero_add _).symm)).trans (hc ⟨5 * k + 3, by omega⟩ r))
      (rd_at arg7.view X_arg7 R7 h7 _ (k0_off11_eq k 3) _ _ (at1 (by show 5 * (k : ℕ) + 3 = (5 * k + 3) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off12 k 2#32 = ![0, 0, 640 * k.val + 128 * 2] := k0_off12_eq k 2
    have e1 : ((Rect.unit (s := S1x128x5120) (k0_off12 k 2#32) S1x128x128.size (k0_off12_inb i k k0_h3 2)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off12 k 2#32) S1x128x128.size (k0_off12_inb i k k0_h3 2)).emb (ix3 0 r c)) 2 : ℕ) = 640 * k + 128 * 2 + c :=
      (Rect.idx_unit_val _ _ _ _ _).trans (congrArg (· + (c : ℕ)) (congrFun eo 2))
    have e3 : headOf (((Rect.unit (s := S1x128x5120) (k0_off12 k 2#32) S1x128x128.size (k0_off12_inb i k k0_h3 2)).emb (ix3 0 r c)) 2) = ⟨5 * k + 2, by omega⟩ :=
      Fin.ext (by show _ / 128 = _; rw [e2]; show _ = 5 * (k : ℕ) + 2; omega)
    have e4 : colOf (((Rect.unit (s := S1x128x5120) (k0_off12 k 2#32) S1x128x128.size (k0_off12_inb i k k0_h3 2)).emb (ix3 0 r c)) 2) = c :=
      Fin.ext (by show _ % 128 = _; rw [e2]; omega)
    dsimp only
    unfold row2
    rw [e1, e3, e4]
    exact attU2_2 v2122 hM _ _ _ _ _ _ _ _ _ _ _ _ r c (fun j e => R11 (ix3 (grp ⟨5 * k + 2, by omega⟩) j e)) (fun e => R15 (ix2 (rowOf ⟨5 * k + 2, by omega⟩ r) e))
      (fun j => R13 (ix3 (grp ⟨5 * k + 2, by omega⟩) j r)) (fun j => R14 (ix3 (grp ⟨5 * k + 2, by omega⟩) j r)) (fun j => R12 (ix3 (grp ⟨5 * k + 2, by omega⟩) c j))
      (qs ⟨5 * k + 2, by omega⟩ r) (R7 (ix1 ⟨5 * k + 2, by omega⟩)) (hqs _ _) rfl
      (fun p e => rd_at arg11.view X_arg11 R11 h11 _ (k0_off7_eq k) _ _ (at3 (by show (5 * (k : ℕ) + 2) / 5 = k + 0; omega) (Nat.zero_add _).symm (Nat.zero_add _).symm))
      (fun p => rd_at arg12.view X_arg12 R12 h12 _ (k0_off8_eq k) _ _ (at3 (by show (5 * (k : ℕ) + 2) / 5 = k + 0; omega) (Nat.zero_add _).symm (Nat.zero_add _).symm))
      (fun p => rd_at arg13.view X_arg13 R13 h13 _ (k0_off7_eq k) _ _ (at3 (by show (5 * (k : ℕ) + 2) / 5 = k + 0; omega) (Nat.zero_add _).symm (Nat.zero_add _).symm))
      (fun p => rd_at arg14.view X_arg14 R14 h14 _ (k0_off7_eq k) _ _ (at3 (by show (5 * (k : ℕ) + 2) / 5 = k + 0; omega) (Nat.zero_add _).symm (Nat.zero_add _).symm))
      (fun e => rd_at arg15.view X_arg15 R15 h15 _ (k0_off9_eq k) _ _ (at2 (by show 128 * (5 * (k : ℕ) + 2) + (r : ℕ) = 640 * k + (256 + r); omega) (Nat.zero_add _).symm))
      ((rd_at arg16.view X_arg16 R16 h16 _ (k0_off10_eq k 2) (show S1x128.Idx from ix2 0 r) (ix2 ⟨5 * k + 2, by omega⟩ r) (at2 (by show 5 * (k : ℕ) + 2 = (5 * k + 2) + 0; omega) (Nat.zero_add _).symm)).trans (hc ⟨5 * k + 2, by omega⟩ r))
      (rd_at arg7.view X_arg7 R7 h7 _ (k0_off11_eq k 2) _ _ (at1 (by show 5 * (k : ℕ) + 2 = (5 * k + 2) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off12 k 1#32 = ![0, 0, 640 * k.val + 128 * 1] := k0_off12_eq k 1
    have e1 : ((Rect.unit (s := S1x128x5120) (k0_off12 k 1#32) S1x128x128.size (k0_off12_inb i k k0_h3 1)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off12 k 1#32) S1x128x128.size (k0_off12_inb i k k0_h3 1)).emb (ix3 0 r c)) 2 : ℕ) = 640 * k + 128 * 1 + c :=
      (Rect.idx_unit_val _ _ _ _ _).trans (congrArg (· + (c : ℕ)) (congrFun eo 2))
    have e3 : headOf (((Rect.unit (s := S1x128x5120) (k0_off12 k 1#32) S1x128x128.size (k0_off12_inb i k k0_h3 1)).emb (ix3 0 r c)) 2) = ⟨5 * k + 1, by omega⟩ :=
      Fin.ext (by show _ / 128 = _; rw [e2]; show _ = 5 * (k : ℕ) + 1; omega)
    have e4 : colOf (((Rect.unit (s := S1x128x5120) (k0_off12 k 1#32) S1x128x128.size (k0_off12_inb i k k0_h3 1)).emb (ix3 0 r c)) 2) = c :=
      Fin.ext (by show _ % 128 = _; rw [e2]; omega)
    dsimp only
    unfold row2
    rw [e1, e3, e4]
    exact attU2_1 v2122 hM _ _ _ _ _ _ _ _ _ _ _ _ r c (fun j e => R11 (ix3 (grp ⟨5 * k + 1, by omega⟩) j e)) (fun e => R15 (ix2 (rowOf ⟨5 * k + 1, by omega⟩ r) e))
      (fun j => R13 (ix3 (grp ⟨5 * k + 1, by omega⟩) j r)) (fun j => R14 (ix3 (grp ⟨5 * k + 1, by omega⟩) j r)) (fun j => R12 (ix3 (grp ⟨5 * k + 1, by omega⟩) c j))
      (qs ⟨5 * k + 1, by omega⟩ r) (R7 (ix1 ⟨5 * k + 1, by omega⟩)) (hqs _ _) rfl
      (fun p e => rd_at arg11.view X_arg11 R11 h11 _ (k0_off7_eq k) _ _ (at3 (by show (5 * (k : ℕ) + 1) / 5 = k + 0; omega) (Nat.zero_add _).symm (Nat.zero_add _).symm))
      (fun p => rd_at arg12.view X_arg12 R12 h12 _ (k0_off8_eq k) _ _ (at3 (by show (5 * (k : ℕ) + 1) / 5 = k + 0; omega) (Nat.zero_add _).symm (Nat.zero_add _).symm))
      (fun p => rd_at arg13.view X_arg13 R13 h13 _ (k0_off7_eq k) _ _ (at3 (by show (5 * (k : ℕ) + 1) / 5 = k + 0; omega) (Nat.zero_add _).symm (Nat.zero_add _).symm))
      (fun p => rd_at arg14.view X_arg14 R14 h14 _ (k0_off7_eq k) _ _ (at3 (by show (5 * (k : ℕ) + 1) / 5 = k + 0; omega) (Nat.zero_add _).symm (Nat.zero_add _).symm))
      (fun e => rd_at arg15.view X_arg15 R15 h15 _ (k0_off9_eq k) _ _ (at2 (by show 128 * (5 * (k : ℕ) + 1) + (r : ℕ) = 640 * k + (128 + r); omega) (Nat.zero_add _).symm))
      ((rd_at arg16.view X_arg16 R16 h16 _ (k0_off10_eq k 1) (show S1x128.Idx from ix2 0 r) (ix2 ⟨5 * k + 1, by omega⟩ r) (at2 (by show 5 * (k : ℕ) + 1 = (5 * k + 1) + 0; omega) (Nat.zero_add _).symm)).trans (hc ⟨5 * k + 1, by omega⟩ r))
      (rd_at arg7.view X_arg7 R7 h7 _ (k0_off11_eq k 1) _ _ (at1 (by show 5 * (k : ℕ) + 1 = (5 * k + 1) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off12 k 0#32 = ![0, 0, 640 * k.val + 128 * 0] := k0_off12_eq k 0
    have e1 : ((Rect.unit (s := S1x128x5120) (k0_off12 k 0#32) S1x128x128.size (k0_off12_inb i k k0_h3 0)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off12 k 0#32) S1x128x128.size (k0_off12_inb i k k0_h3 0)).emb (ix3 0 r c)) 2 : ℕ) = 640 * k + 128 * 0 + c :=
      (Rect.idx_unit_val _ _ _ _ _).trans (congrArg (· + (c : ℕ)) (congrFun eo 2))
    have e3 : headOf (((Rect.unit (s := S1x128x5120) (k0_off12 k 0#32) S1x128x128.size (k0_off12_inb i k k0_h3 0)).emb (ix3 0 r c)) 2) = ⟨5 * k + 0, by omega⟩ :=
      Fin.ext (by show _ / 128 = _; rw [e2]; show _ = 5 * (k : ℕ) + 0; omega)
    have e4 : colOf (((Rect.unit (s := S1x128x5120) (k0_off12 k 0#32) S1x128x128.size (k0_off12_inb i k k0_h3 0)).emb (ix3 0 r c)) 2) = c :=
      Fin.ext (by show _ % 128 = _; rw [e2]; omega)
    dsimp only
    unfold row2
    rw [e1, e3, e4]
    exact attU2_0 v2122 hM _ _ _ _ _ _ _ _ _ _ _ _ r c (fun j e => R11 (ix3 (grp ⟨5 * k + 0, by omega⟩) j e)) (fun e => R15 (ix2 (rowOf ⟨5 * k + 0, by omega⟩ r) e))
      (fun j => R13 (ix3 (grp ⟨5 * k + 0, by omega⟩) j r)) (fun j => R14 (ix3 (grp ⟨5 * k + 0, by omega⟩) j r)) (fun j => R12 (ix3 (grp ⟨5 * k + 0, by omega⟩) c j))
      (qs ⟨5 * k + 0, by omega⟩ r) (R7 (ix1 ⟨5 * k + 0, by omega⟩)) (hqs _ _) rfl
      (fun p e => rd_at arg11.view X_arg11 R11 h11 _ (k0_off7_eq k) _ _ (at3 (by show (5 * (k : ℕ) + 0) / 5 = k + 0; omega) (Nat.zero_add _).symm (Nat.zero_add _).symm))
      (fun p => rd_at arg12.view X_arg12 R12 h12 _ (k0_off8_eq k) _ _ (at3 (by show (5 * (k : ℕ) + 0) / 5 = k + 0; omega) (Nat.zero_add _).symm (Nat.zero_add _).symm))
      (fun p => rd_at arg13.view X_arg13 R13 h13 _ (k0_off7_eq k) _ _ (at3 (by show (5 * (k : ℕ) + 0) / 5 = k + 0; omega) (Nat.zero_add _).symm (Nat.zero_add _).symm))
      (fun p => rd_at arg14.view X_arg14 R14 h14 _ (k0_off7_eq k) _ _ (at3 (by show (5 * (k : ℕ) + 0) / 5 = k + 0; omega) (Nat.zero_add _).symm (Nat.zero_add _).symm))
      (fun e => rd_at arg15.view X_arg15 R15 h15 _ (k0_off9_eq k) _ _ (at2 (by show 128 * (5 * (k : ℕ) + 0) + (r : ℕ) = 640 * k + (0 + r); omega) (Nat.zero_add _).symm))
      ((rd_at arg16.view X_arg16 R16 h16 _ (k0_off10_eq k 0) (show S1x128.Idx from ix2 0 r) (ix2 ⟨5 * k + 0, by omega⟩ r) (at2 (by show 5 * (k : ℕ) + 0 = (5 * k + 0) + 0; omega) (Nat.zero_add _).symm)).trans (hc ⟨5 * k + 0, by omega⟩ r))
      (rd_at arg7.view X_arg7 R7 h7 _ (k0_off11_eq k 0) _ _ (at1 (by show 5 * (k : ℕ) + 0 = (5 * k + 0) + 0; omega)))

set_option maxHeartbeats 4000000 in
theorem cover2 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h3 : k0_cond3 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t2_loop.trips) (r : Fin 128) (cc : Fin 128) (g : Fin 5) :
    ∃ p ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 k, (ix3 0 r ⟨640 * k + 128 * g + cc, by have : (k : ℕ) < 8 := k.isLt; omega⟩ : S1x128x5120.Idx) ∈ p.1.set := by
  have hk8 : (k : ℕ) < 8 := k.isLt
  rw [trip2_eq]
  have key : ∀ g : Fin 5, (ix3 0 r ⟨640 * k + 128 * g + cc, by omega⟩ : S1x128x5120.Idx) ∈ (Rect.unit (s := S1x128x5120) (k0_off12 k (BitVec.ofNat 32 g.val)) S1x128x128.size (k0_off12_inb i k k0_h3 g)).set := by
    intro g
    rw [Rect.mem_set_unit, k0_off12_eq k g]
    exact in3 ⟨Nat.le_refl _, Nat.zero_lt_one⟩ ⟨Nat.zero_le _, by show (r : ℕ) < 0 + 128; omega⟩
      ⟨by show 640 * (k : ℕ) + 128 * (g : ℕ) ≤ 640 * k + 128 * g + cc; omega, by show 640 * (k : ℕ) + 128 * (g : ℕ) + (cc : ℕ) < 640 * (k : ℕ) + 128 * (g : ℕ) + 128; omega⟩
  match g with
  | 0 => exact ⟨_, List.mem_cons_of_mem _ (List.mem_cons_of_mem _ (List.mem_cons_of_mem _ (List.mem_cons_of_mem _ List.mem_cons_self))), key 0⟩
  | 1 => exact ⟨_, List.mem_cons_of_mem _ (List.mem_cons_of_mem _ (List.mem_cons_of_mem _ List.mem_cons_self)), key 1⟩
  | 2 => exact ⟨_, List.mem_cons_of_mem _ (List.mem_cons_of_mem _ List.mem_cons_self), key 2⟩
  | 3 => exact ⟨_, List.mem_cons_of_mem _ List.mem_cons_self, key 3⟩
  | 4 => exact ⟨_, List.mem_cons_self, key 4⟩

/-- What the loop leaves in the block of the result, at an index. -/
theorem loop2_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h3 : k0_cond3 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (r : Fin 128) (z : Fin 5120) :
    View.canon (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 k0_t2_loop.trips) (ix3 0 r z) = row2 i R7 R11 R12 R13 R14 R15 qs r z := by
  refine View.canon_apply_of_pieces (Val := Elt Ideal) (e := .bf16) (fun y : S1x128x5120.Idx => row2 i R7 R11 R12 R13 R14 R15 qs (y 1) (y 2)) _ (fun p hp x => ?_) _ ?_
  · obtain ⟨k, _, hk⟩ := (mem_pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 p _ le_rfl).1 hp
    exact piece2_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 k R7 R11 R12 R13 R14 R15 R16 qs hM h7 h11 h12 h13 h14 h15 h16 hqs hc p hk x
  · have hz : (z : ℕ) < 5120 := z.isLt
    have hk : (z : ℕ) / 640 < k0_t2_loop.trips := by show (z : ℕ) / 640 < 8; omega
    obtain ⟨p, hp, hy⟩ := cover2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 ⟨(z : ℕ) / 640, hk⟩ r ⟨(z : ℕ) % 128, by omega⟩ ⟨(z : ℕ) % 640 / 128, by omega⟩
    refine ⟨p, (mem_pb2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h3 X_arg7 X_arg11 X_arg12 X_arg13 X_arg14 X_arg15 X_arg16 p _ le_rfl).2 ⟨_, hk, hp⟩, ?_⟩
    have e : (⟨640 * ((z : ℕ) / 640) + 128 * ((z : ℕ) % 640 / 128) + (z : ℕ) % 128, by omega⟩ : Fin 5120) = z := Fin.ext (by dsimp only; omega)
    exact e ▸ hy

end Cert.KernelIdeal.Out

end
-- ==== Proof.Trip3.lean ====
/- One trip of the loop over the groups of heads in the window of 384 keys, as functions of the loaded vectors. -/
module

public import proofs.«01_k».proof.Proof.Attend
public import proofs.«01_k».proof.Proof.Gen.KernelIdeal.Loops

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-- The codes of the weights of head 0 of the group, and its factor. -/
def wU3_0 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S384x128 .fp8e4m3 :=
  codesU3 (hQ384 (tU3 M KS (extractStridedSlice S384x128 ![0, 0] (rawU3 K Q) slices_S384x640_o0_0_S384x128)) (vU3 VS) cb sk)
def fU3_0 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S1x128 .f32 :=
  hF384 (tU3 M KS (extractStridedSlice S384x128 ![0, 0] (rawU3 K Q) slices_S384x640_o0_0_S384x128)) (vU3 VS) cb sk

/-- The codes of the weights of head 1 of the group, and its factor. -/
def wU3_1 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S384x128 .fp8e4m3 :=
  codesU3 (hQ384 (tU3 M KS (extractStridedSlice S384x128 ![0, 128] (rawU3 K Q) slices_S384x640_o0_128_S384x128)) (vU3 VS) cb sk)
def fU3_1 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S1x128 .f32 :=
  hF384 (tU3 M KS (extractStridedSlice S384x128 ![0, 128] (rawU3 K Q) slices_S384x640_o0_128_S384x128)) (vU3 VS) cb sk

/-- The codes of the weights of head 2 of the group, and its factor. -/
def wU3_2 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S384x128 .fp8e4m3 :=
  codesU3 (hQ384 (tU3 M KS (extractStridedSlice S384x128 ![0, 256] (rawU3 K Q) slices_S384x640_o0_256_S384x128)) (vU3 VS) cb sk)
def fU3_2 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S1x128 .f32 :=
  hF384 (tU3 M KS (extractStridedSlice S384x128 ![0, 256] (rawU3 K Q) slices_S384x640_o0_256_S384x128)) (vU3 VS) cb sk

/-- The codes of the weights of head 3 of the group, and its factor. -/
def wU3_3 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S384x128 .fp8e4m3 :=
  codesU3 (hQ384 (tU3 M KS (extractStridedSlice S384x128 ![0, 384] (rawU3 K Q) slices_S384x640_o0_384_S384x128)) (vU3 VS) cb sk)
def fU3_3 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S1x128 .f32 :=
  hF384 (tU3 M KS (extractStridedSlice S384x128 ![0, 384] (rawU3 K Q) slices_S384x640_o0_384_S384x128)) (vU3 VS) cb sk

/-- The codes of the weights of head 4 of the group, and its factor. -/
def wU3_4 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S384x128 .fp8e4m3 :=
  codesU3 (hQ384 (tU3 M KS (extractStridedSlice S384x128 ![0, 512] (rawU3 K Q) slices_S384x640_o0_512_S384x128)) (vU3 VS) cb sk)
def fU3_4 (M : IVec S128x128 1) (K : FVec Ideal S1x384x128 .fp8e4m3) (KS VS : FVec Ideal S1x384x128 .f32) (Q : FVec Ideal S640x128 .fp8e4m3)
    (cb : FVec Ideal S1x128 .f32) (sk : Ideal .f32) : FVec Ideal S1x128 .f32 :=
  hF384 (tU3 M KS (extractStridedSlice S384x128 ![0, 512] (rawU3 K Q) slices_S384x640_o0_512_S384x128)) (vU3 VS) cb sk

/-- What a trip stores for head 0 of the group. -/
def pieceU3_0 (M : IVec S128x128 1) (K : FVec Ideal S1x384x128 .fp8e4m3) (V : FVec Ideal S1x128x384 .fp8e4m3) (KS VS : FVec Ideal S1x384x128 .f32) (Q : FVec Ideal S640x128 .fp8e4m3)
    (c0 c1 c2 c3 c4 : FVec Ideal S1x128 .f32) (s0 s1 s2 s3 s4 : Ideal .f32) : FVec Ideal S1x128x128 .bf16 :=
  outG0 (sumU3 V (wU3_0 M K KS VS Q c0 s0) (wU3_1 M K KS VS Q c1 s1) (wU3_2 M K KS VS Q c2 s2) (wU3_3 M K KS VS Q c3 s3) (wU3_4 M K KS VS Q c4 s4)) (fU3_0 M K KS VS Q c0 s0)

/-- What a trip stores for head 1 of the group. -/
def pieceU3_1 (M : IVec S128x128 1) (K : FVec Ideal S1x384x128 .fp8e4m3) (V : FVec Ideal S1x128x384 .fp8e4m3) (KS VS : FVec Ideal S1x384x128 .f32) (Q : FVec Ideal S640x128 .fp8e4m3)
    (c0 c1 c2 c3 c4 : FVec Ideal S1x128 .f32) (s0 s1 s2 s3 s4 : Ideal .f32) : FVec Ideal S1x128x128 .bf16 :=
  outG1 (sumU3 V (wU3_0 M K KS VS Q c0 s0) (wU3_1 M K KS VS Q c1 s1) (wU3_2 M K KS VS Q c2 s2) (wU3_3 M K KS VS Q c3 s3) (wU3_4 M K KS VS Q c4 s4)) (fU3_1 M K KS VS Q c1 s1)

/-- What a trip stores for head 2 of the group. -/
def pieceU3_2 (M : IVec S128x128 1) (K : FVec Ideal S1x384x128 .fp8e4m3) (V : FVec Ideal S1x128x384 .fp8e4m3) (KS VS : FVec Ideal S1x384x128 .f32) (Q : FVec Ideal S640x128 .fp8e4m3)
    (c0 c1 c2 c3 c4 : FVec Ideal S1x128 .f32) (s0 s1 s2 s3 s4 : Ideal .f32) : FVec Ideal S1x128x128 .bf16 :=
  outG2 (sumU3 V (wU3_0 M K KS VS Q c0 s0) (wU3_1 M K KS VS Q c1 s1) (wU3_2 M K KS VS Q c2 s2) (wU3_3 M K KS VS Q c3 s3) (wU3_4 M K KS VS Q c4 s4)) (fU3_2 M K KS VS Q c2 s2)

/-- What a trip stores for head 3 of the group. -/
def pieceU3_3 (M : IVec S128x128 1) (K : FVec Ideal S1x384x128 .fp8e4m3) (V : FVec Ideal S1x128x384 .fp8e4m3) (KS VS : FVec Ideal S1x384x128 .f32) (Q : FVec Ideal S640x128 .fp8e4m3)
    (c0 c1 c2 c3 c4 : FVec Ideal S1x128 .f32) (s0 s1 s2 s3 s4 : Ideal .f32) : FVec Ideal S1x128x128 .bf16 :=
  outG3 (sumU3 V (wU3_0 M K KS VS Q c0 s0) (wU3_1 M K KS VS Q c1 s1) (wU3_2 M K KS VS Q c2 s2) (wU3_3 M K KS VS Q c3 s3) (wU3_4 M K KS VS Q c4 s4)) (fU3_3 M K KS VS Q c3 s3)

/-- What a trip stores for head 4 of the group. -/
def pieceU3_4 (M : IVec S128x128 1) (K : FVec Ideal S1x384x128 .fp8e4m3) (V : FVec Ideal S1x128x384 .fp8e4m3) (KS VS : FVec Ideal S1x384x128 .f32) (Q : FVec Ideal S640x128 .fp8e4m3)
    (c0 c1 c2 c3 c4 : FVec Ideal S1x128 .f32) (s0 s1 s2 s3 s4 : Ideal .f32) : FVec Ideal S1x128x128 .bf16 :=
  outG4 (sumU3 V (wU3_0 M K KS VS Q c0 s0) (wU3_1 M K KS VS Q c1 s1) (wU3_2 M K KS VS Q c2 s2) (wU3_3 M K KS VS Q c3 s3) (wU3_4 M K KS VS Q c4 s4)) (fU3_4 M K KS VS Q c4 s4)

set_option maxHeartbeats 4000000 in
/-- The pieces one trip stores. -/
theorem trip3_eq (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h4 : k0_cond4 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t3_loop.trips) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 k = [⟨Rect.unit (s := S1x128x5120) (k0_off18 k 4#32) S1x128x128.size (k0_off18_inb i k k0_h4 4), pieceU3_4 v2122
      (View.readAt (Elt Ideal) arg11.view (Rect.unit (s := S8x896x128) (k0_off13 k) S1x384x128.size (k0_off13_inb i k k0_h4)).toLoadRect X_arg11)
      (View.readAt (Elt Ideal) arg12.view (Rect.unit (s := S8x128x896) (k0_off14 k) S1x128x384.size (k0_off14_inb i k k0_h4)).toLoadRect X_arg12)
      (View.readAt (Elt Ideal) arg13.view (Rect.unit (s := S8x896x128) (k0_off13 k) S1x384x128.size (k0_off13_inb i k k0_h4)).toLoadRect X_arg13)
      (View.readAt (Elt Ideal) arg14.view (Rect.unit (s := S8x896x128) (k0_off13 k) S1x384x128.size (k0_off13_inb i k k0_h4)).toLoadRect X_arg14)
      (View.readAt (Elt Ideal) arg15.view (Rect.unit (s := S5120x128) (k0_off15 k) S640x128.size (k0_off15_inb i k k0_h4)).toLoadRect X_arg15)
      (View.readAt (Elt Ideal) arg16.view (Rect.unit (s := S128x128) (k0_off16 k 0#32) S1x128.size (k0_off16_inb i k k0_h4 0)).toLoadRect X_arg16) (View.readAt (Elt Ideal) arg16.view (Rect.unit (s := S128x128) (k0_off16 k 1#32) S1x128.size (k0_off16_inb i k k0_h4 1)).toLoadRect X_arg16) (View.readAt (Elt Ideal) arg16.view (Rect.unit (s := S128x128) (k0_off16 k 2#32) S1x128.size (k0_off16_inb i k k0_h4 2)).toLoadRect X_arg16) (View.readAt (Elt Ideal) arg16.view (Rect.unit (s := S128x128) (k0_off16 k 3#32) S1x128.size (k0_off16_inb i k k0_h4 3)).toLoadRect X_arg16) (View.readAt (Elt Ideal) arg16.view (Rect.unit (s := S128x128) (k0_off16 k 4#32) S1x128.size (k0_off16_inb i k k0_h4 4)).toLoadRect X_arg16)
      ((View.readAt (Elt Ideal) arg7.view (Rect.unit (s := S40) (k0_off17 k 0#32) S1.size (k0_off17_inb i k k0_h4 0)).toLoadRect X_arg7) (Shape.Idx.first (show 0 < S1.numel by decide))) ((View.readAt (Elt Ideal) arg7.view (Rect.unit (s := S40) (k0_off17 k 1#32) S1.size (k0_off17_inb i k k0_h4 1)).toLoadRect X_arg7) (Shape.Idx.first (show 0 < S1.numel by decide))) ((View.readAt (Elt Ideal) arg7.view (Rect.unit (s := S40) (k0_off17 k 2#32) S1.size (k0_off17_inb i k k0_h4 2)).toLoadRect X_arg7) (Shape.Idx.first (show 0 < S1.numel by decide))) ((View.readAt (Elt Ideal) arg7.view (Rect.unit (s := S40) (k0_off17 k 3#32) S1.size (k0_off17_inb i k k0_h4 3)).toLoadRect X_arg7) (Shape.Idx.first (show 0 < S1.numel by decide))) ((View.readAt (Elt Ideal) arg7.view (Rect.unit (s := S40) (k0_off17 k 4#32) S1.size (k0_off17_inb i k k0_h4 4)).toLoadRect X_arg7) (Shape.Idx.first (show 0 < S1.numel by decide)))⟩, ⟨Rect.unit (s := S1x128x5120) (k0_off18 k 3#32) S1x128x128.size (k0_off18_inb i k k0_h4 3), pieceU3_3 v2122
      (View.readAt (Elt Ideal) arg11.view (Rect.unit (s := S8x896x128) (k0_off13 k) S1x384x128.size (k0_off13_inb i k k0_h4)).toLoadRect X_arg11)
      (View.readAt (Elt Ideal) arg12.view (Rect.unit (s := S8x128x896) (k0_off14 k) S1x128x384.size (k0_off14_inb i k k0_h4)).toLoadRect X_arg12)
      (View.readAt (Elt Ideal) arg13.view (Rect.unit (s := S8x896x128) (k0_off13 k) S1x384x128.size (k0_off13_inb i k k0_h4)).toLoadRect X_arg13)
      (View.readAt (Elt Ideal) arg14.view (Rect.unit (s := S8x896x128) (k0_off13 k) S1x384x128.size (k0_off13_inb i k k0_h4)).toLoadRect X_arg14)
      (View.readAt (Elt Ideal) arg15.view (Rect.unit (s := S5120x128) (k0_off15 k) S640x128.size (k0_off15_inb i k k0_h4)).toLoadRect X_arg15)
      (View.readAt (Elt Ideal) arg16.view (Rect.unit (s := S128x128) (k0_off16 k 0#32) S1x128.size (k0_off16_inb i k k0_h4 0)).toLoadRect X_arg16) (View.readAt (Elt Ideal) arg16.view (Rect.unit (s := S128x128) (k0_off16 k 1#32) S1x128.size (k0_off16_inb i k k0_h4 1)).toLoadRect X_arg16) (View.readAt (Elt Ideal) arg16.view (Rect.unit (s := S128x128) (k0_off16 k 2#32) S1x128.size (k0_off16_inb i k k0_h4 2)).toLoadRect X_arg16) (View.readAt (Elt Ideal) arg16.view (Rect.unit (s := S128x128) (k0_off16 k 3#32) S1x128.size (k0_off16_inb i k k0_h4 3)).toLoadRect X_arg16) (View.readAt (Elt Ideal) arg16.view (Rect.unit (s := S128x128) (k0_off16 k 4#32) S1x128.size (k0_off16_inb i k k0_h4 4)).toLoadRect X_arg16)
      ((View.readAt (Elt Ideal) arg7.view (Rect.unit (s := S40) (k0_off17 k 0#32) S1.size (k0_off17_inb i k k0_h4 0)).toLoadRect X_arg7) (Shape.Idx.first (show 0 < S1.numel by decide))) ((View.readAt (Elt Ideal) arg7.view (Rect.unit (s := S40) (k0_off17 k 1#32) S1.size (k0_off17_inb i k k0_h4 1)).toLoadRect X_arg7) (Shape.Idx.first (show 0 < S1.numel by decide))) ((View.readAt (Elt Ideal) arg7.view (Rect.unit (s := S40) (k0_off17 k 2#32) S1.size (k0_off17_inb i k k0_h4 2)).toLoadRect X_arg7) (Shape.Idx.first (show 0 < S1.numel by decide))) ((View.readAt (Elt Ideal) arg7.view (Rect.unit (s := S40) (k0_off17 k 3#32) S1.size (k0_off17_inb i k k0_h4 3)).toLoadRect X_arg7) (Shape.Idx.first (show 0 < S1.numel by decide))) ((View.readAt (Elt Ideal) arg7.view (Rect.unit (s := S40) (k0_off17 k 4#32) S1.size (k0_off17_inb i k k0_h4 4)).toLoadRect X_arg7) (Shape.Idx.first (show 0 < S1.numel by decide)))⟩, ⟨Rect.unit (s := S1x128x5120) (k0_off18 k 2#32) S1x128x128.size (k0_off18_inb i k k0_h4 2), pieceU3_2 v2122
      (View.readAt (Elt Ideal) arg11.view (Rect.unit (s := S8x896x128) (k0_off13 k) S1x384x128.size (k0_off13_inb i k k0_h4)).toLoadRect X_arg11)
      (View.readAt (Elt Ideal) arg12.view (Rect.unit (s := S8x128x896) (k0_off14 k) S1x128x384.size (k0_off14_inb i k k0_h4)).toLoadRect X_arg12)
      (View.readAt (Elt Ideal) arg13.view (Rect.unit (s := S8x896x128) (k0_off13 k) S1x384x128.size (k0_off13_inb i k k0_h4)).toLoadRect X_arg13)
      (View.readAt (Elt Ideal) arg14.view (Rect.unit (s := S8x896x128) (k0_off13 k) S1x384x128.size (k0_off13_inb i k k0_h4)).toLoadRect X_arg14)
      (View.readAt (Elt Ideal) arg15.view (Rect.unit (s := S5120x128) (k0_off15 k) S640x128.size (k0_off15_inb i k k0_h4)).toLoadRect X_arg15)
      (View.readAt (Elt Ideal) arg16.view (Rect.unit (s := S128x128) (k0_off16 k 0#32) S1x128.size (k0_off16_inb i k k0_h4 0)).toLoadRect X_arg16) (View.readAt (Elt Ideal) arg16.view (Rect.unit (s := S128x128) (k0_off16 k 1#32) S1x128.size (k0_off16_inb i k k0_h4 1)).toLoadRect X_arg16) (View.readAt (Elt Ideal) arg16.view (Rect.unit (s := S128x128) (k0_off16 k 2#32) S1x128.size (k0_off16_inb i k k0_h4 2)).toLoadRect X_arg16) (View.readAt (Elt Ideal) arg16.view (Rect.unit (s := S128x128) (k0_off16 k 3#32) S1x128.size (k0_off16_inb i k k0_h4 3)).toLoadRect X_arg16) (View.readAt (Elt Ideal) arg16.view (Rect.unit (s := S128x128) (k0_off16 k 4#32) S1x128.size (k0_off16_inb i k k0_h4 4)).toLoadRect X_arg16)
      ((View.readAt (Elt Ideal) arg7.view (Rect.unit (s := S40) (k0_off17 k 0#32) S1.size (k0_off17_inb i k k0_h4 0)).toLoadRect X_arg7) (Shape.Idx.first (show 0 < S1.numel by decide))) ((View.readAt (Elt Ideal) arg7.view (Rect.unit (s := S40) (k0_off17 k 1#32) S1.size (k0_off17_inb i k k0_h4 1)).toLoadRect X_arg7) (Shape.Idx.first (show 0 < S1.numel by decide))) ((View.readAt (Elt Ideal) arg7.view (Rect.unit (s := S40) (k0_off17 k 2#32) S1.size (k0_off17_inb i k k0_h4 2)).toLoadRect X_arg7) (Shape.Idx.first (show 0 < S1.numel by decide))) ((View.readAt (Elt Ideal) arg7.view (Rect.unit (s := S40) (k0_off17 k 3#32) S1.size (k0_off17_inb i k k0_h4 3)).toLoadRect X_arg7) (Shape.Idx.first (show 0 < S1.numel by decide))) ((View.readAt (Elt Ideal) arg7.view (Rect.unit (s := S40) (k0_off17 k 4#32) S1.size (k0_off17_inb i k k0_h4 4)).toLoadRect X_arg7) (Shape.Idx.first (show 0 < S1.numel by decide)))⟩, ⟨Rect.unit (s := S1x128x5120) (k0_off18 k 1#32) S1x128x128.size (k0_off18_inb i k k0_h4 1), pieceU3_1 v2122
      (View.readAt (Elt Ideal) arg11.view (Rect.unit (s := S8x896x128) (k0_off13 k) S1x384x128.size (k0_off13_inb i k k0_h4)).toLoadRect X_arg11)
      (View.readAt (Elt Ideal) arg12.view (Rect.unit (s := S8x128x896) (k0_off14 k) S1x128x384.size (k0_off14_inb i k k0_h4)).toLoadRect X_arg12)
      (View.readAt (Elt Ideal) arg13.view (Rect.unit (s := S8x896x128) (k0_off13 k) S1x384x128.size (k0_off13_inb i k k0_h4)).toLoadRect X_arg13)
      (View.readAt (Elt Ideal) arg14.view (Rect.unit (s := S8x896x128) (k0_off13 k) S1x384x128.size (k0_off13_inb i k k0_h4)).toLoadRect X_arg14)
      (View.readAt (Elt Ideal) arg15.view (Rect.unit (s := S5120x128) (k0_off15 k) S640x128.size (k0_off15_inb i k k0_h4)).toLoadRect X_arg15)
      (View.readAt (Elt Ideal) arg16.view (Rect.unit (s := S128x128) (k0_off16 k 0#32) S1x128.size (k0_off16_inb i k k0_h4 0)).toLoadRect X_arg16) (View.readAt (Elt Ideal) arg16.view (Rect.unit (s := S128x128) (k0_off16 k 1#32) S1x128.size (k0_off16_inb i k k0_h4 1)).toLoadRect X_arg16) (View.readAt (Elt Ideal) arg16.view (Rect.unit (s := S128x128) (k0_off16 k 2#32) S1x128.size (k0_off16_inb i k k0_h4 2)).toLoadRect X_arg16) (View.readAt (Elt Ideal) arg16.view (Rect.unit (s := S128x128) (k0_off16 k 3#32) S1x128.size (k0_off16_inb i k k0_h4 3)).toLoadRect X_arg16) (View.readAt (Elt Ideal) arg16.view (Rect.unit (s := S128x128) (k0_off16 k 4#32) S1x128.size (k0_off16_inb i k k0_h4 4)).toLoadRect X_arg16)
      ((View.readAt (Elt Ideal) arg7.view (Rect.unit (s := S40) (k0_off17 k 0#32) S1.size (k0_off17_inb i k k0_h4 0)).toLoadRect X_arg7) (Shape.Idx.first (show 0 < S1.numel by decide))) ((View.readAt (Elt Ideal) arg7.view (Rect.unit (s := S40) (k0_off17 k 1#32) S1.size (k0_off17_inb i k k0_h4 1)).toLoadRect X_arg7) (Shape.Idx.first (show 0 < S1.numel by decide))) ((View.readAt (Elt Ideal) arg7.view (Rect.unit (s := S40) (k0_off17 k 2#32) S1.size (k0_off17_inb i k k0_h4 2)).toLoadRect X_arg7) (Shape.Idx.first (show 0 < S1.numel by decide))) ((View.readAt (Elt Ideal) arg7.view (Rect.unit (s := S40) (k0_off17 k 3#32) S1.size (k0_off17_inb i k k0_h4 3)).toLoadRect X_arg7) (Shape.Idx.first (show 0 < S1.numel by decide))) ((View.readAt (Elt Ideal) arg7.view (Rect.unit (s := S40) (k0_off17 k 4#32) S1.size (k0_off17_inb i k k0_h4 4)).toLoadRect X_arg7) (Shape.Idx.first (show 0 < S1.numel by decide)))⟩, ⟨Rect.unit (s := S1x128x5120) (k0_off18 k 0#32) S1x128x128.size (k0_off18_inb i k k0_h4 0), pieceU3_0 v2122
      (View.readAt (Elt Ideal) arg11.view (Rect.unit (s := S8x896x128) (k0_off13 k) S1x384x128.size (k0_off13_inb i k k0_h4)).toLoadRect X_arg11)
      (View.readAt (Elt Ideal) arg12.view (Rect.unit (s := S8x128x896) (k0_off14 k) S1x128x384.size (k0_off14_inb i k k0_h4)).toLoadRect X_arg12)
      (View.readAt (Elt Ideal) arg13.view (Rect.unit (s := S8x896x128) (k0_off13 k) S1x384x128.size (k0_off13_inb i k k0_h4)).toLoadRect X_arg13)
      (View.readAt (Elt Ideal) arg14.view (Rect.unit (s := S8x896x128) (k0_off13 k) S1x384x128.size (k0_off13_inb i k k0_h4)).toLoadRect X_arg14)
      (View.readAt (Elt Ideal) arg15.view (Rect.unit (s := S5120x128) (k0_off15 k) S640x128.size (k0_off15_inb i k k0_h4)).toLoadRect X_arg15)
      (View.readAt (Elt Ideal) arg16.view (Rect.unit (s := S128x128) (k0_off16 k 0#32) S1x128.size (k0_off16_inb i k k0_h4 0)).toLoadRect X_arg16) (View.readAt (Elt Ideal) arg16.view (Rect.unit (s := S128x128) (k0_off16 k 1#32) S1x128.size (k0_off16_inb i k k0_h4 1)).toLoadRect X_arg16) (View.readAt (Elt Ideal) arg16.view (Rect.unit (s := S128x128) (k0_off16 k 2#32) S1x128.size (k0_off16_inb i k k0_h4 2)).toLoadRect X_arg16) (View.readAt (Elt Ideal) arg16.view (Rect.unit (s := S128x128) (k0_off16 k 3#32) S1x128.size (k0_off16_inb i k k0_h4 3)).toLoadRect X_arg16) (View.readAt (Elt Ideal) arg16.view (Rect.unit (s := S128x128) (k0_off16 k 4#32) S1x128.size (k0_off16_inb i k k0_h4 4)).toLoadRect X_arg16)
      ((View.readAt (Elt Ideal) arg7.view (Rect.unit (s := S40) (k0_off17 k 0#32) S1.size (k0_off17_inb i k k0_h4 0)).toLoadRect X_arg7) (Shape.Idx.first (show 0 < S1.numel by decide))) ((View.readAt (Elt Ideal) arg7.view (Rect.unit (s := S40) (k0_off17 k 1#32) S1.size (k0_off17_inb i k k0_h4 1)).toLoadRect X_arg7) (Shape.Idx.first (show 0 < S1.numel by decide))) ((View.readAt (Elt Ideal) arg7.view (Rect.unit (s := S40) (k0_off17 k 2#32) S1.size (k0_off17_inb i k k0_h4 2)).toLoadRect X_arg7) (Shape.Idx.first (show 0 < S1.numel by decide))) ((View.readAt (Elt Ideal) arg7.view (Rect.unit (s := S40) (k0_off17 k 3#32) S1.size (k0_off17_inb i k k0_h4 3)).toLoadRect X_arg7) (Shape.Idx.first (show 0 < S1.numel by decide))) ((View.readAt (Elt Ideal) arg7.view (Rect.unit (s := S40) (k0_off17 k 4#32) S1.size (k0_off17_inb i k k0_h4 4)).toLoadRect X_arg7) (Shape.Idx.first (show 0 < S1.numel by decide)))⟩] := by
  unfold tripL_k0_t3 trip_k0_t3
  dsimp only
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · rfl
  · rfl
  · rfl
  · rfl
  · rfl

theorem mem_pb3 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h4 : k0_cond4 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (p : View.Piece (Elt Ideal) S1x128x5120 .bf16) : ∀ n : ℕ, n ≤ k0_t3_loop.trips →
    (p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 n ↔ ∃ k : Fin k0_t3_loop.trips, k.val < n ∧ p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 k)
  | 0, _ => by
    constructor
    · intro h; exact absurd h (by unfold pb_k0_t3; exact List.not_mem_nil)
    · rintro ⟨k, hk, _⟩; omega
  | n + 1, hn => by
    rw [pb_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 ⟨n, hn⟩, List.mem_append, mem_pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 p n (by omega)]
    constructor
    · rintro (h | ⟨k, hk, h⟩)
      · exact ⟨⟨n, hn⟩, Nat.lt_succ_self n, h⟩
      · exact ⟨k, by omega, h⟩
    · rintro ⟨k, hk, h⟩
      by_cases e : k.val = n
      · left
        have : k = ⟨n, hn⟩ := Fin.ext e
        rw [← this]; exact h
      · right; exact ⟨k, by omega, h⟩

/-- The row a trip's piece stores, as a function of the block's index. -/
def row3 (i : grid0.Coords) (R7 : S40.Idx → EReal) (R11 : S8x896x128.Idx → EReal) (R12 : S8x128x896.Idx → EReal)
    (R13 R14 : S8x896x128.Idx → EReal) (R15 : S5120x128.Idx → EReal) (qs : Fin 40 → Fin 128 → EReal) (r : Fin 128) (z : Fin 5120) : EReal :=
  attRow R7 R11 R12 R13 R14 R15 qs (okU 384 r) (keyU (by decide)) (okU 384 r) (keyU (by decide)) (headOf z) r (colOf z)

set_option maxHeartbeats 4000000 in
theorem piece3_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h4 : k0_cond4 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t3_loop.trips) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (p : View.Piece (Elt Ideal) S1x128x5120 .bf16) (hp : p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 k)
    (x : p.1.shape.Idx) : p.2 x = row3 i R7 R11 R12 R13 R14 R15 qs ((p.1.emb x) 1) ((p.1.emb x) 2) := by
  rw [trip3_eq] at hp
  simp only [List.mem_cons, List.not_mem_nil, or_false] at hp
  obtain rfl | rfl | rfl | rfl | rfl := hp
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off18 k 4#32 = ![0, 0, 640 * k.val + 128 * 4] := k0_off18_eq k 4
    have e1 : ((Rect.unit (s := S1x128x5120) (k0_off18 k 4#32) S1x128x128.size (k0_off18_inb i k k0_h4 4)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off18 k 4#32) S1x128x128.size (k0_off18_inb i k k0_h4 4)).emb (ix3 0 r c)) 2 : ℕ) = 640 * k + 128 * 4 + c :=
      (Rect.idx_unit_val _ _ _ _ _).trans (congrArg (· + (c : ℕ)) (congrFun eo 2))
    have e3 : headOf (((Rect.unit (s := S1x128x5120) (k0_off18 k 4#32) S1x128x128.size (k0_off18_inb i k k0_h4 4)).emb (ix3 0 r c)) 2) = ⟨5 * k + 4, by omega⟩ :=
      Fin.ext (by show _ / 128 = _; rw [e2]; show _ = 5 * (k : ℕ) + 4; omega)
    have e4 : colOf (((Rect.unit (s := S1x128x5120) (k0_off18 k 4#32) S1x128x128.size (k0_off18_inb i k k0_h4 4)).emb (ix3 0 r c)) 2) = c :=
      Fin.ext (by show _ % 128 = _; rw [e2]; omega)
    dsimp only
    unfold row3
    rw [e1, e3, e4]
    exact attU3_4 v2122 hM _ _ _ _ _ _ _ _ _ _ _ _ r c (fun j e => R11 (ix3 (grp ⟨5 * k + 4, by omega⟩) j e)) (fun e => R15 (ix2 (rowOf ⟨5 * k + 4, by omega⟩ r) e))
      (fun j => R13 (ix3 (grp ⟨5 * k + 4, by omega⟩) j r)) (fun j => R14 (ix3 (grp ⟨5 * k + 4, by omega⟩) j r)) (fun j => R12 (ix3 (grp ⟨5 * k + 4, by omega⟩) c j))
      (qs ⟨5 * k + 4, by omega⟩ r) (R7 (ix1 ⟨5 * k + 4, by omega⟩)) (hqs _ _) rfl
      (fun p e => rd_at arg11.view X_arg11 R11 h11 _ (k0_off13_eq k) _ _ (at3 (by show (5 * (k : ℕ) + 4) / 5 = k + 0; omega) (Nat.zero_add _).symm (Nat.zero_add _).symm))
      (fun p => rd_at arg12.view X_arg12 R12 h12 _ (k0_off14_eq k) _ _ (at3 (by show (5 * (k : ℕ) + 4) / 5 = k + 0; omega) (Nat.zero_add _).symm (Nat.zero_add _).symm))
      (fun p => rd_at arg13.view X_arg13 R13 h13 _ (k0_off13_eq k) _ _ (at3 (by show (5 * (k : ℕ) + 4) / 5 = k + 0; omega) (Nat.zero_add _).symm (Nat.zero_add _).symm))
      (fun p => rd_at arg14.view X_arg14 R14 h14 _ (k0_off13_eq k) _ _ (at3 (by show (5 * (k : ℕ) + 4) / 5 = k + 0; omega) (Nat.zero_add _).symm (Nat.zero_add _).symm))
      (fun e => rd_at arg15.view X_arg15 R15 h15 _ (k0_off15_eq k) _ _ (at2 (by show 128 * (5 * (k : ℕ) + 4) + (r : ℕ) = 640 * k + (512 + r); omega) (Nat.zero_add _).symm))
      ((rd_at arg16.view X_arg16 R16 h16 _ (k0_off16_eq k 4) (show S1x128.Idx from ix2 0 r) (ix2 ⟨5 * k + 4, by omega⟩ r) (at2 (by show 5 * (k : ℕ) + 4 = (5 * k + 4) + 0; omega) (Nat.zero_add _).symm)).trans (hc ⟨5 * k + 4, by omega⟩ r))
      (rd_at arg7.view X_arg7 R7 h7 _ (k0_off17_eq k 4) _ _ (at1 (by show 5 * (k : ℕ) + 4 = (5 * k + 4) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off18 k 3#32 = ![0, 0, 640 * k.val + 128 * 3] := k0_off18_eq k 3
    have e1 : ((Rect.unit (s := S1x128x5120) (k0_off18 k 3#32) S1x128x128.size (k0_off18_inb i k k0_h4 3)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off18 k 3#32) S1x128x128.size (k0_off18_inb i k k0_h4 3)).emb (ix3 0 r c)) 2 : ℕ) = 640 * k + 128 * 3 + c :=
      (Rect.idx_unit_val _ _ _ _ _).trans (congrArg (· + (c : ℕ)) (congrFun eo 2))
    have e3 : headOf (((Rect.unit (s := S1x128x5120) (k0_off18 k 3#32) S1x128x128.size (k0_off18_inb i k k0_h4 3)).emb (ix3 0 r c)) 2) = ⟨5 * k + 3, by omega⟩ :=
      Fin.ext (by show _ / 128 = _; rw [e2]; show _ = 5 * (k : ℕ) + 3; omega)
    have e4 : colOf (((Rect.unit (s := S1x128x5120) (k0_off18 k 3#32) S1x128x128.size (k0_off18_inb i k k0_h4 3)).emb (ix3 0 r c)) 2) = c :=
      Fin.ext (by show _ % 128 = _; rw [e2]; omega)
    dsimp only
    unfold row3
    rw [e1, e3, e4]
    exact attU3_3 v2122 hM _ _ _ _ _ _ _ _ _ _ _ _ r c (fun j e => R11 (ix3 (grp ⟨5 * k + 3, by omega⟩) j e)) (fun e => R15 (ix2 (rowOf ⟨5 * k + 3, by omega⟩ r) e))
      (fun j => R13 (ix3 (grp ⟨5 * k + 3, by omega⟩) j r)) (fun j => R14 (ix3 (grp ⟨5 * k + 3, by omega⟩) j r)) (fun j => R12 (ix3 (grp ⟨5 * k + 3, by omega⟩) c j))
      (qs ⟨5 * k + 3, by omega⟩ r) (R7 (ix1 ⟨5 * k + 3, by omega⟩)) (hqs _ _) rfl
      (fun p e => rd_at arg11.view X_arg11 R11 h11 _ (k0_off13_eq k) _ _ (at3 (by show (5 * (k : ℕ) + 3) / 5 = k + 0; omega) (Nat.zero_add _).symm (Nat.zero_add _).symm))
      (fun p => rd_at arg12.view X_arg12 R12 h12 _ (k0_off14_eq k) _ _ (at3 (by show (5 * (k : ℕ) + 3) / 5 = k + 0; omega) (Nat.zero_add _).symm (Nat.zero_add _).symm))
      (fun p => rd_at arg13.view X_arg13 R13 h13 _ (k0_off13_eq k) _ _ (at3 (by show (5 * (k : ℕ) + 3) / 5 = k + 0; omega) (Nat.zero_add _).symm (Nat.zero_add _).symm))
      (fun p => rd_at arg14.view X_arg14 R14 h14 _ (k0_off13_eq k) _ _ (at3 (by show (5 * (k : ℕ) + 3) / 5 = k + 0; omega) (Nat.zero_add _).symm (Nat.zero_add _).symm))
      (fun e => rd_at arg15.view X_arg15 R15 h15 _ (k0_off15_eq k) _ _ (at2 (by show 128 * (5 * (k : ℕ) + 3) + (r : ℕ) = 640 * k + (384 + r); omega) (Nat.zero_add _).symm))
      ((rd_at arg16.view X_arg16 R16 h16 _ (k0_off16_eq k 3) (show S1x128.Idx from ix2 0 r) (ix2 ⟨5 * k + 3, by omega⟩ r) (at2 (by show 5 * (k : ℕ) + 3 = (5 * k + 3) + 0; omega) (Nat.zero_add _).symm)).trans (hc ⟨5 * k + 3, by omega⟩ r))
      (rd_at arg7.view X_arg7 R7 h7 _ (k0_off17_eq k 3) _ _ (at1 (by show 5 * (k : ℕ) + 3 = (5 * k + 3) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off18 k 2#32 = ![0, 0, 640 * k.val + 128 * 2] := k0_off18_eq k 2
    have e1 : ((Rect.unit (s := S1x128x5120) (k0_off18 k 2#32) S1x128x128.size (k0_off18_inb i k k0_h4 2)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off18 k 2#32) S1x128x128.size (k0_off18_inb i k k0_h4 2)).emb (ix3 0 r c)) 2 : ℕ) = 640 * k + 128 * 2 + c :=
      (Rect.idx_unit_val _ _ _ _ _).trans (congrArg (· + (c : ℕ)) (congrFun eo 2))
    have e3 : headOf (((Rect.unit (s := S1x128x5120) (k0_off18 k 2#32) S1x128x128.size (k0_off18_inb i k k0_h4 2)).emb (ix3 0 r c)) 2) = ⟨5 * k + 2, by omega⟩ :=
      Fin.ext (by show _ / 128 = _; rw [e2]; show _ = 5 * (k : ℕ) + 2; omega)
    have e4 : colOf (((Rect.unit (s := S1x128x5120) (k0_off18 k 2#32) S1x128x128.size (k0_off18_inb i k k0_h4 2)).emb (ix3 0 r c)) 2) = c :=
      Fin.ext (by show _ % 128 = _; rw [e2]; omega)
    dsimp only
    unfold row3
    rw [e1, e3, e4]
    exact attU3_2 v2122 hM _ _ _ _ _ _ _ _ _ _ _ _ r c (fun j e => R11 (ix3 (grp ⟨5 * k + 2, by omega⟩) j e)) (fun e => R15 (ix2 (rowOf ⟨5 * k + 2, by omega⟩ r) e))
      (fun j => R13 (ix3 (grp ⟨5 * k + 2, by omega⟩) j r)) (fun j => R14 (ix3 (grp ⟨5 * k + 2, by omega⟩) j r)) (fun j => R12 (ix3 (grp ⟨5 * k + 2, by omega⟩) c j))
      (qs ⟨5 * k + 2, by omega⟩ r) (R7 (ix1 ⟨5 * k + 2, by omega⟩)) (hqs _ _) rfl
      (fun p e => rd_at arg11.view X_arg11 R11 h11 _ (k0_off13_eq k) _ _ (at3 (by show (5 * (k : ℕ) + 2) / 5 = k + 0; omega) (Nat.zero_add _).symm (Nat.zero_add _).symm))
      (fun p => rd_at arg12.view X_arg12 R12 h12 _ (k0_off14_eq k) _ _ (at3 (by show (5 * (k : ℕ) + 2) / 5 = k + 0; omega) (Nat.zero_add _).symm (Nat.zero_add _).symm))
      (fun p => rd_at arg13.view X_arg13 R13 h13 _ (k0_off13_eq k) _ _ (at3 (by show (5 * (k : ℕ) + 2) / 5 = k + 0; omega) (Nat.zero_add _).symm (Nat.zero_add _).symm))
      (fun p => rd_at arg14.view X_arg14 R14 h14 _ (k0_off13_eq k) _ _ (at3 (by show (5 * (k : ℕ) + 2) / 5 = k + 0; omega) (Nat.zero_add _).symm (Nat.zero_add _).symm))
      (fun e => rd_at arg15.view X_arg15 R15 h15 _ (k0_off15_eq k) _ _ (at2 (by show 128 * (5 * (k : ℕ) + 2) + (r : ℕ) = 640 * k + (256 + r); omega) (Nat.zero_add _).symm))
      ((rd_at arg16.view X_arg16 R16 h16 _ (k0_off16_eq k 2) (show S1x128.Idx from ix2 0 r) (ix2 ⟨5 * k + 2, by omega⟩ r) (at2 (by show 5 * (k : ℕ) + 2 = (5 * k + 2) + 0; omega) (Nat.zero_add _).symm)).trans (hc ⟨5 * k + 2, by omega⟩ r))
      (rd_at arg7.view X_arg7 R7 h7 _ (k0_off17_eq k 2) _ _ (at1 (by show 5 * (k : ℕ) + 2 = (5 * k + 2) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off18 k 1#32 = ![0, 0, 640 * k.val + 128 * 1] := k0_off18_eq k 1
    have e1 : ((Rect.unit (s := S1x128x5120) (k0_off18 k 1#32) S1x128x128.size (k0_off18_inb i k k0_h4 1)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off18 k 1#32) S1x128x128.size (k0_off18_inb i k k0_h4 1)).emb (ix3 0 r c)) 2 : ℕ) = 640 * k + 128 * 1 + c :=
      (Rect.idx_unit_val _ _ _ _ _).trans (congrArg (· + (c : ℕ)) (congrFun eo 2))
    have e3 : headOf (((Rect.unit (s := S1x128x5120) (k0_off18 k 1#32) S1x128x128.size (k0_off18_inb i k k0_h4 1)).emb (ix3 0 r c)) 2) = ⟨5 * k + 1, by omega⟩ :=
      Fin.ext (by show _ / 128 = _; rw [e2]; show _ = 5 * (k : ℕ) + 1; omega)
    have e4 : colOf (((Rect.unit (s := S1x128x5120) (k0_off18 k 1#32) S1x128x128.size (k0_off18_inb i k k0_h4 1)).emb (ix3 0 r c)) 2) = c :=
      Fin.ext (by show _ % 128 = _; rw [e2]; omega)
    dsimp only
    unfold row3
    rw [e1, e3, e4]
    exact attU3_1 v2122 hM _ _ _ _ _ _ _ _ _ _ _ _ r c (fun j e => R11 (ix3 (grp ⟨5 * k + 1, by omega⟩) j e)) (fun e => R15 (ix2 (rowOf ⟨5 * k + 1, by omega⟩ r) e))
      (fun j => R13 (ix3 (grp ⟨5 * k + 1, by omega⟩) j r)) (fun j => R14 (ix3 (grp ⟨5 * k + 1, by omega⟩) j r)) (fun j => R12 (ix3 (grp ⟨5 * k + 1, by omega⟩) c j))
      (qs ⟨5 * k + 1, by omega⟩ r) (R7 (ix1 ⟨5 * k + 1, by omega⟩)) (hqs _ _) rfl
      (fun p e => rd_at arg11.view X_arg11 R11 h11 _ (k0_off13_eq k) _ _ (at3 (by show (5 * (k : ℕ) + 1) / 5 = k + 0; omega) (Nat.zero_add _).symm (Nat.zero_add _).symm))
      (fun p => rd_at arg12.view X_arg12 R12 h12 _ (k0_off14_eq k) _ _ (at3 (by show (5 * (k : ℕ) + 1) / 5 = k + 0; omega) (Nat.zero_add _).symm (Nat.zero_add _).symm))
      (fun p => rd_at arg13.view X_arg13 R13 h13 _ (k0_off13_eq k) _ _ (at3 (by show (5 * (k : ℕ) + 1) / 5 = k + 0; omega) (Nat.zero_add _).symm (Nat.zero_add _).symm))
      (fun p => rd_at arg14.view X_arg14 R14 h14 _ (k0_off13_eq k) _ _ (at3 (by show (5 * (k : ℕ) + 1) / 5 = k + 0; omega) (Nat.zero_add _).symm (Nat.zero_add _).symm))
      (fun e => rd_at arg15.view X_arg15 R15 h15 _ (k0_off15_eq k) _ _ (at2 (by show 128 * (5 * (k : ℕ) + 1) + (r : ℕ) = 640 * k + (128 + r); omega) (Nat.zero_add _).symm))
      ((rd_at arg16.view X_arg16 R16 h16 _ (k0_off16_eq k 1) (show S1x128.Idx from ix2 0 r) (ix2 ⟨5 * k + 1, by omega⟩ r) (at2 (by show 5 * (k : ℕ) + 1 = (5 * k + 1) + 0; omega) (Nat.zero_add _).symm)).trans (hc ⟨5 * k + 1, by omega⟩ r))
      (rd_at arg7.view X_arg7 R7 h7 _ (k0_off17_eq k 1) _ _ (at1 (by show 5 * (k : ℕ) + 1 = (5 * k + 1) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off18 k 0#32 = ![0, 0, 640 * k.val + 128 * 0] := k0_off18_eq k 0
    have e1 : ((Rect.unit (s := S1x128x5120) (k0_off18 k 0#32) S1x128x128.size (k0_off18_inb i k k0_h4 0)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off18 k 0#32) S1x128x128.size (k0_off18_inb i k k0_h4 0)).emb (ix3 0 r c)) 2 : ℕ) = 640 * k + 128 * 0 + c :=
      (Rect.idx_unit_val _ _ _ _ _).trans (congrArg (· + (c : ℕ)) (congrFun eo 2))
    have e3 : headOf (((Rect.unit (s := S1x128x5120) (k0_off18 k 0#32) S1x128x128.size (k0_off18_inb i k k0_h4 0)).emb (ix3 0 r c)) 2) = ⟨5 * k + 0, by omega⟩ :=
      Fin.ext (by show _ / 128 = _; rw [e2]; show _ = 5 * (k : ℕ) + 0; omega)
    have e4 : colOf (((Rect.unit (s := S1x128x5120) (k0_off18 k 0#32) S1x128x128.size (k0_off18_inb i k k0_h4 0)).emb (ix3 0 r c)) 2) = c :=
      Fin.ext (by show _ % 128 = _; rw [e2]; omega)
    dsimp only
    unfold row3
    rw [e1, e3, e4]
    exact attU3_0 v2122 hM _ _ _ _ _ _ _ _ _ _ _ _ r c (fun j e => R11 (ix3 (grp ⟨5 * k + 0, by omega⟩) j e)) (fun e => R15 (ix2 (rowOf ⟨5 * k + 0, by omega⟩ r) e))
      (fun j => R13 (ix3 (grp ⟨5 * k + 0, by omega⟩) j r)) (fun j => R14 (ix3 (grp ⟨5 * k + 0, by omega⟩) j r)) (fun j => R12 (ix3 (grp ⟨5 * k + 0, by omega⟩) c j))
      (qs ⟨5 * k + 0, by omega⟩ r) (R7 (ix1 ⟨5 * k + 0, by omega⟩)) (hqs _ _) rfl
      (fun p e => rd_at arg11.view X_arg11 R11 h11 _ (k0_off13_eq k) _ _ (at3 (by show (5 * (k : ℕ) + 0) / 5 = k + 0; omega) (Nat.zero_add _).symm (Nat.zero_add _).symm))
      (fun p => rd_at arg12.view X_arg12 R12 h12 _ (k0_off14_eq k) _ _ (at3 (by show (5 * (k : ℕ) + 0) / 5 = k + 0; omega) (Nat.zero_add _).symm (Nat.zero_add _).symm))
      (fun p => rd_at arg13.view X_arg13 R13 h13 _ (k0_off13_eq k) _ _ (at3 (by show (5 * (k : ℕ) + 0) / 5 = k + 0; omega) (Nat.zero_add _).symm (Nat.zero_add _).symm))
      (fun p => rd_at arg14.view X_arg14 R14 h14 _ (k0_off13_eq k) _ _ (at3 (by show (5 * (k : ℕ) + 0) / 5 = k + 0; omega) (Nat.zero_add _).symm (Nat.zero_add _).symm))
      (fun e => rd_at arg15.view X_arg15 R15 h15 _ (k0_off15_eq k) _ _ (at2 (by show 128 * (5 * (k : ℕ) + 0) + (r : ℕ) = 640 * k + (0 + r); omega) (Nat.zero_add _).symm))
      ((rd_at arg16.view X_arg16 R16 h16 _ (k0_off16_eq k 0) (show S1x128.Idx from ix2 0 r) (ix2 ⟨5 * k + 0, by omega⟩ r) (at2 (by show 5 * (k : ℕ) + 0 = (5 * k + 0) + 0; omega) (Nat.zero_add _).symm)).trans (hc ⟨5 * k + 0, by omega⟩ r))
      (rd_at arg7.view X_arg7 R7 h7 _ (k0_off17_eq k 0) _ _ (at1 (by show 5 * (k : ℕ) + 0 = (5 * k + 0) + 0; omega)))

set_option maxHeartbeats 4000000 in
theorem cover3 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h4 : k0_cond4 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t3_loop.trips) (r : Fin 128) (cc : Fin 128) (g : Fin 5) :
    ∃ p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 k, (ix3 0 r ⟨640 * k + 128 * g + cc, by have : (k : ℕ) < 8 := k.isLt; omega⟩ : S1x128x5120.Idx) ∈ p.1.set := by
  have hk8 : (k : ℕ) < 8 := k.isLt
  rw [trip3_eq]
  have key : ∀ g : Fin 5, (ix3 0 r ⟨640 * k + 128 * g + cc, by omega⟩ : S1x128x5120.Idx) ∈ (Rect.unit (s := S1x128x5120) (k0_off18 k (BitVec.ofNat 32 g.val)) S1x128x128.size (k0_off18_inb i k k0_h4 g)).set := by
    intro g
    rw [Rect.mem_set_unit, k0_off18_eq k g]
    exact in3 ⟨Nat.le_refl _, Nat.zero_lt_one⟩ ⟨Nat.zero_le _, by show (r : ℕ) < 0 + 128; omega⟩
      ⟨by show 640 * (k : ℕ) + 128 * (g : ℕ) ≤ 640 * k + 128 * g + cc; omega, by show 640 * (k : ℕ) + 128 * (g : ℕ) + (cc : ℕ) < 640 * (k : ℕ) + 128 * (g : ℕ) + 128; omega⟩
  match g with
  | 0 => exact ⟨_, List.mem_cons_of_mem _ (List.mem_cons_of_mem _ (List.mem_cons_of_mem _ (List.mem_cons_of_mem _ List.mem_cons_self))), key 0⟩
  | 1 => exact ⟨_, List.mem_cons_of_mem _ (List.mem_cons_of_mem _ (List.mem_cons_of_mem _ List.mem_cons_self)), key 1⟩
  | 2 => exact ⟨_, List.mem_cons_of_mem _ (List.mem_cons_of_mem _ List.mem_cons_self), key 2⟩
  | 3 => exact ⟨_, List.mem_cons_of_mem _ List.mem_cons_self, key 3⟩
  | 4 => exact ⟨_, List.mem_cons_self, key 4⟩

/-- What the loop leaves in the block of the result, at an index. -/
theorem loop3_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h4 : k0_cond4 i = 1#1) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (r : Fin 128) (z : Fin 5120) :
    View.canon (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 k0_t3_loop.trips) (ix3 0 r z) = row3 i R7 R11 R12 R13 R14 R15 qs r z := by
  refine View.canon_apply_of_pieces (Val := Elt Ideal) (e := .bf16) (fun y : S1x128x5120.Idx => row3 i R7 R11 R12 R13 R14 R15 qs (y 1) (y 2)) _ (fun p hp x => ?_) _ ?_
  · obtain ⟨k, _, hk⟩ := (mem_pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 p _ le_rfl).1 hp
    exact piece3_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 k R7 R11 R12 R13 R14 R15 R16 qs hM h7 h11 h12 h13 h14 h15 h16 hqs hc p hk x
  · have hz : (z : ℕ) < 5120 := z.isLt
    have hk : (z : ℕ) / 640 < k0_t3_loop.trips := by show (z : ℕ) / 640 < 8; omega
    obtain ⟨p, hp, hy⟩ := cover3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 ⟨(z : ℕ) / 640, hk⟩ r ⟨(z : ℕ) % 128, by omega⟩ ⟨(z : ℕ) % 640 / 128, by omega⟩
    refine ⟨p, (mem_pb3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h4 X_arg7 X_arg11 X_arg12 X_arg13 X_arg14 X_arg15 X_arg16 p _ le_rfl).2 ⟨_, hk, hp⟩, ?_⟩
    have e : (⟨640 * ((z : ℕ) / 640) + 128 * ((z : ℕ) % 640 / 128) + (z : ℕ) % 128, by omega⟩ : Fin 5120) = z := Fin.ext (by dsimp only; omega)
    exact e ▸ hy

end Cert.KernelIdeal.Out

end
-- ==== Proof.Trip4.lean ====
/- One trip of the loop over the groups of heads in the window of 512 keys, as functions of the loaded vectors. -/
module

public import proofs.«01_k».proof.Proof.Attend
public import proofs.«01_k».proof.Proof.Gen.KernelIdeal.Loops

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

/-- The codes of the weights of head 0 of the group, and its factor. -/
def wM4_0 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S512x128 .fp8e4m3 :=
  codesM4 M (hQ384 (tM4 M KS (extractStridedSlice S512x128 ![0, 0] (rawM4 K Q) slices_S512x640_o0_0_S512x128)) (vM4 M VS) cb sk)
def fM4_0 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S1x128 .f32 :=
  hF384 (tM4 M KS (extractStridedSlice S512x128 ![0, 0] (rawM4 K Q) slices_S512x640_o0_0_S512x128)) (vM4 M VS) cb sk

/-- The codes of the weights of head 1 of the group, and its factor. -/
def wM4_1 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S512x128 .fp8e4m3 :=
  codesM4 M (hQ384 (tM4 M KS (extractStridedSlice S512x128 ![0, 128] (rawM4 K Q) slices_S512x640_o0_128_S512x128)) (vM4 M VS) cb sk)
def fM4_1 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S1x128 .f32 :=
  hF384 (tM4 M KS (extractStridedSlice S512x128 ![0, 128] (rawM4 K Q) slices_S512x640_o0_128_S512x128)) (vM4 M VS) cb sk

/-- The codes of the weights of head 2 of the group, and its factor. -/
def wM4_2 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S512x128 .fp8e4m3 :=
  codesM4 M (hQ384 (tM4 M KS (extractStridedSlice S512x128 ![0, 256] (rawM4 K Q) slices_S512x640_o0_256_S512x128)) (vM4 M VS) cb sk)
def fM4_2 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S1x128 .f32 :=
  hF384 (tM4 M KS (extractStridedSlice S512x128 ![0, 256] (rawM4 K Q) slices_S512x640_o0_256_S512x128)) (vM4 M VS) cb sk

/-- The codes of the weights of head 3 of the group, and its factor. -/
def wM4_3 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S512x128 .fp8e4m3 :=
  codesM4 M (hQ384 (tM4 M KS (extractStridedSlice S512x128 ![0, 384] (rawM4 K Q) slices_S512x640_o0_384_S512x128)) (vM4 M VS) cb sk)
def fM4_3 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S1x128 .f32 :=
  hF384 (tM4 M KS (extractStridedSlice S512x128 ![0, 384] (rawM4 K Q) slices_S512x640_o0_384_S512x128)) (vM4 M VS) cb sk

/-- The codes of the weights of head 4 of the group, and its factor. -/
def wM4_4 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S512x128 .fp8e4m3 :=
  codesM4 M (hQ384 (tM4 M KS (extractStridedSlice S512x128 ![0, 512] (rawM4 K Q) slices_S512x640_o0_512_S512x128)) (vM4 M VS) cb sk)
def fM4_4 (M : IVec S128x128 1) (K : FVec Ideal S1x512x128 .fp8e4m3) (KS VS : FVec Ideal S1x512x128 .f32) (Q : FVec Ideal S640x128 .fp8e4m3)
    (cb : FVec Ideal S1x128 .f32) (sk : Ideal .f32) : FVec Ideal S1x128 .f32 :=
  hF384 (tM4 M KS (extractStridedSlice S512x128 ![0, 512] (rawM4 K Q) slices_S512x640_o0_512_S512x128)) (vM4 M VS) cb sk

/-- What a trip stores for head 0 of the group. -/
def pieceM4_0 (M : IVec S128x128 1) (K : FVec Ideal S1x512x128 .fp8e4m3) (V : FVec Ideal S1x128x512 .fp8e4m3) (KS VS : FVec Ideal S1x512x128 .f32) (Q : FVec Ideal S640x128 .fp8e4m3)
    (c0 c1 c2 c3 c4 : FVec Ideal S1x128 .f32) (s0 s1 s2 s3 s4 : Ideal .f32) : FVec Ideal S1x128x128 .bf16 :=
  outG0 (sumM4 V (wM4_0 M K KS VS Q c0 s0) (wM4_1 M K KS VS Q c1 s1) (wM4_2 M K KS VS Q c2 s2) (wM4_3 M K KS VS Q c3 s3) (wM4_4 M K KS VS Q c4 s4)) (fM4_0 M K KS VS Q c0 s0)

/-- What a trip stores for head 1 of the group. -/
def pieceM4_1 (M : IVec S128x128 1) (K : FVec Ideal S1x512x128 .fp8e4m3) (V : FVec Ideal S1x128x512 .fp8e4m3) (KS VS : FVec Ideal S1x512x128 .f32) (Q : FVec Ideal S640x128 .fp8e4m3)
    (c0 c1 c2 c3 c4 : FVec Ideal S1x128 .f32) (s0 s1 s2 s3 s4 : Ideal .f32) : FVec Ideal S1x128x128 .bf16 :=
  outG1 (sumM4 V (wM4_0 M K KS VS Q c0 s0) (wM4_1 M K KS VS Q c1 s1) (wM4_2 M K KS VS Q c2 s2) (wM4_3 M K KS VS Q c3 s3) (wM4_4 M K KS VS Q c4 s4)) (fM4_1 M K KS VS Q c1 s1)

/-- What a trip stores for head 2 of the group. -/
def pieceM4_2 (M : IVec S128x128 1) (K : FVec Ideal S1x512x128 .fp8e4m3) (V : FVec Ideal S1x128x512 .fp8e4m3) (KS VS : FVec Ideal S1x512x128 .f32) (Q : FVec Ideal S640x128 .fp8e4m3)
    (c0 c1 c2 c3 c4 : FVec Ideal S1x128 .f32) (s0 s1 s2 s3 s4 : Ideal .f32) : FVec Ideal S1x128x128 .bf16 :=
  outG2 (sumM4 V (wM4_0 M K KS VS Q c0 s0) (wM4_1 M K KS VS Q c1 s1) (wM4_2 M K KS VS Q c2 s2) (wM4_3 M K KS VS Q c3 s3) (wM4_4 M K KS VS Q c4 s4)) (fM4_2 M K KS VS Q c2 s2)

/-- What a trip stores for head 3 of the group. -/
def pieceM4_3 (M : IVec S128x128 1) (K : FVec Ideal S1x512x128 .fp8e4m3) (V : FVec Ideal S1x128x512 .fp8e4m3) (KS VS : FVec Ideal S1x512x128 .f32) (Q : FVec Ideal S640x128 .fp8e4m3)
    (c0 c1 c2 c3 c4 : FVec Ideal S1x128 .f32) (s0 s1 s2 s3 s4 : Ideal .f32) : FVec Ideal S1x128x128 .bf16 :=
  outG3 (sumM4 V (wM4_0 M K KS VS Q c0 s0) (wM4_1 M K KS VS Q c1 s1) (wM4_2 M K KS VS Q c2 s2) (wM4_3 M K KS VS Q c3 s3) (wM4_4 M K KS VS Q c4 s4)) (fM4_3 M K KS VS Q c3 s3)

/-- What a trip stores for head 4 of the group. -/
def pieceM4_4 (M : IVec S128x128 1) (K : FVec Ideal S1x512x128 .fp8e4m3) (V : FVec Ideal S1x128x512 .fp8e4m3) (KS VS : FVec Ideal S1x512x128 .f32) (Q : FVec Ideal S640x128 .fp8e4m3)
    (c0 c1 c2 c3 c4 : FVec Ideal S1x128 .f32) (s0 s1 s2 s3 s4 : Ideal .f32) : FVec Ideal S1x128x128 .bf16 :=
  outG4 (sumM4 V (wM4_0 M K KS VS Q c0 s0) (wM4_1 M K KS VS Q c1 s1) (wM4_2 M K KS VS Q c2 s2) (wM4_3 M K KS VS Q c3 s3) (wM4_4 M K KS VS Q c4 s4)) (fM4_4 M K KS VS Q c4 s4)

set_option maxHeartbeats 4000000 in
/-- The pieces one trip stores. -/
theorem trip4_eq (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h5 : k0_cond5 i = 1#1) (v2137 : BitVec 32) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t4_loop.trips) :
    tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 k = [⟨Rect.unit (s := S1x128x5120) (k0_off24 k 4#32) S1x128x128.size (k0_off24_inb i k k0_h5 4), pieceM4_4 v2122
      (View.readAt (Elt Ideal) arg11.view (Rect.unit (s := S8x896x128) (k0_off19 i k) S1x512x128.size (k0_off19_inb i k k0_h5)).toLoadRect X_arg11)
      (View.readAt (Elt Ideal) arg12.view (Rect.unit (s := S8x128x896) (k0_off20 i k) S1x128x512.size (k0_off20_inb i k k0_h5)).toLoadRect X_arg12)
      (View.readAt (Elt Ideal) arg13.view (Rect.unit (s := S8x896x128) (k0_off19 i k) S1x512x128.size (k0_off19_inb i k k0_h5)).toLoadRect X_arg13)
      (View.readAt (Elt Ideal) arg14.view (Rect.unit (s := S8x896x128) (k0_off19 i k) S1x512x128.size (k0_off19_inb i k k0_h5)).toLoadRect X_arg14)
      (View.readAt (Elt Ideal) arg15.view (Rect.unit (s := S5120x128) (k0_off21 k) S640x128.size (k0_off21_inb i k k0_h5)).toLoadRect X_arg15)
      (View.readAt (Elt Ideal) arg16.view (Rect.unit (s := S128x128) (k0_off22 k 0#32) S1x128.size (k0_off22_inb i k k0_h5 0)).toLoadRect X_arg16) (View.readAt (Elt Ideal) arg16.view (Rect.unit (s := S128x128) (k0_off22 k 1#32) S1x128.size (k0_off22_inb i k k0_h5 1)).toLoadRect X_arg16) (View.readAt (Elt Ideal) arg16.view (Rect.unit (s := S128x128) (k0_off22 k 2#32) S1x128.size (k0_off22_inb i k k0_h5 2)).toLoadRect X_arg16) (View.readAt (Elt Ideal) arg16.view (Rect.unit (s := S128x128) (k0_off22 k 3#32) S1x128.size (k0_off22_inb i k k0_h5 3)).toLoadRect X_arg16) (View.readAt (Elt Ideal) arg16.view (Rect.unit (s := S128x128) (k0_off22 k 4#32) S1x128.size (k0_off22_inb i k k0_h5 4)).toLoadRect X_arg16)
      ((View.readAt (Elt Ideal) arg7.view (Rect.unit (s := S40) (k0_off23 k 0#32) S1.size (k0_off23_inb i k k0_h5 0)).toLoadRect X_arg7) (Shape.Idx.first (show 0 < S1.numel by decide))) ((View.readAt (Elt Ideal) arg7.view (Rect.unit (s := S40) (k0_off23 k 1#32) S1.size (k0_off23_inb i k k0_h5 1)).toLoadRect X_arg7) (Shape.Idx.first (show 0 < S1.numel by decide))) ((View.readAt (Elt Ideal) arg7.view (Rect.unit (s := S40) (k0_off23 k 2#32) S1.size (k0_off23_inb i k k0_h5 2)).toLoadRect X_arg7) (Shape.Idx.first (show 0 < S1.numel by decide))) ((View.readAt (Elt Ideal) arg7.view (Rect.unit (s := S40) (k0_off23 k 3#32) S1.size (k0_off23_inb i k k0_h5 3)).toLoadRect X_arg7) (Shape.Idx.first (show 0 < S1.numel by decide))) ((View.readAt (Elt Ideal) arg7.view (Rect.unit (s := S40) (k0_off23 k 4#32) S1.size (k0_off23_inb i k k0_h5 4)).toLoadRect X_arg7) (Shape.Idx.first (show 0 < S1.numel by decide)))⟩, ⟨Rect.unit (s := S1x128x5120) (k0_off24 k 3#32) S1x128x128.size (k0_off24_inb i k k0_h5 3), pieceM4_3 v2122
      (View.readAt (Elt Ideal) arg11.view (Rect.unit (s := S8x896x128) (k0_off19 i k) S1x512x128.size (k0_off19_inb i k k0_h5)).toLoadRect X_arg11)
      (View.readAt (Elt Ideal) arg12.view (Rect.unit (s := S8x128x896) (k0_off20 i k) S1x128x512.size (k0_off20_inb i k k0_h5)).toLoadRect X_arg12)
      (View.readAt (Elt Ideal) arg13.view (Rect.unit (s := S8x896x128) (k0_off19 i k) S1x512x128.size (k0_off19_inb i k k0_h5)).toLoadRect X_arg13)
      (View.readAt (Elt Ideal) arg14.view (Rect.unit (s := S8x896x128) (k0_off19 i k) S1x512x128.size (k0_off19_inb i k k0_h5)).toLoadRect X_arg14)
      (View.readAt (Elt Ideal) arg15.view (Rect.unit (s := S5120x128) (k0_off21 k) S640x128.size (k0_off21_inb i k k0_h5)).toLoadRect X_arg15)
      (View.readAt (Elt Ideal) arg16.view (Rect.unit (s := S128x128) (k0_off22 k 0#32) S1x128.size (k0_off22_inb i k k0_h5 0)).toLoadRect X_arg16) (View.readAt (Elt Ideal) arg16.view (Rect.unit (s := S128x128) (k0_off22 k 1#32) S1x128.size (k0_off22_inb i k k0_h5 1)).toLoadRect X_arg16) (View.readAt (Elt Ideal) arg16.view (Rect.unit (s := S128x128) (k0_off22 k 2#32) S1x128.size (k0_off22_inb i k k0_h5 2)).toLoadRect X_arg16) (View.readAt (Elt Ideal) arg16.view (Rect.unit (s := S128x128) (k0_off22 k 3#32) S1x128.size (k0_off22_inb i k k0_h5 3)).toLoadRect X_arg16) (View.readAt (Elt Ideal) arg16.view (Rect.unit (s := S128x128) (k0_off22 k 4#32) S1x128.size (k0_off22_inb i k k0_h5 4)).toLoadRect X_arg16)
      ((View.readAt (Elt Ideal) arg7.view (Rect.unit (s := S40) (k0_off23 k 0#32) S1.size (k0_off23_inb i k k0_h5 0)).toLoadRect X_arg7) (Shape.Idx.first (show 0 < S1.numel by decide))) ((View.readAt (Elt Ideal) arg7.view (Rect.unit (s := S40) (k0_off23 k 1#32) S1.size (k0_off23_inb i k k0_h5 1)).toLoadRect X_arg7) (Shape.Idx.first (show 0 < S1.numel by decide))) ((View.readAt (Elt Ideal) arg7.view (Rect.unit (s := S40) (k0_off23 k 2#32) S1.size (k0_off23_inb i k k0_h5 2)).toLoadRect X_arg7) (Shape.Idx.first (show 0 < S1.numel by decide))) ((View.readAt (Elt Ideal) arg7.view (Rect.unit (s := S40) (k0_off23 k 3#32) S1.size (k0_off23_inb i k k0_h5 3)).toLoadRect X_arg7) (Shape.Idx.first (show 0 < S1.numel by decide))) ((View.readAt (Elt Ideal) arg7.view (Rect.unit (s := S40) (k0_off23 k 4#32) S1.size (k0_off23_inb i k k0_h5 4)).toLoadRect X_arg7) (Shape.Idx.first (show 0 < S1.numel by decide)))⟩, ⟨Rect.unit (s := S1x128x5120) (k0_off24 k 2#32) S1x128x128.size (k0_off24_inb i k k0_h5 2), pieceM4_2 v2122
      (View.readAt (Elt Ideal) arg11.view (Rect.unit (s := S8x896x128) (k0_off19 i k) S1x512x128.size (k0_off19_inb i k k0_h5)).toLoadRect X_arg11)
      (View.readAt (Elt Ideal) arg12.view (Rect.unit (s := S8x128x896) (k0_off20 i k) S1x128x512.size (k0_off20_inb i k k0_h5)).toLoadRect X_arg12)
      (View.readAt (Elt Ideal) arg13.view (Rect.unit (s := S8x896x128) (k0_off19 i k) S1x512x128.size (k0_off19_inb i k k0_h5)).toLoadRect X_arg13)
      (View.readAt (Elt Ideal) arg14.view (Rect.unit (s := S8x896x128) (k0_off19 i k) S1x512x128.size (k0_off19_inb i k k0_h5)).toLoadRect X_arg14)
      (View.readAt (Elt Ideal) arg15.view (Rect.unit (s := S5120x128) (k0_off21 k) S640x128.size (k0_off21_inb i k k0_h5)).toLoadRect X_arg15)
      (View.readAt (Elt Ideal) arg16.view (Rect.unit (s := S128x128) (k0_off22 k 0#32) S1x128.size (k0_off22_inb i k k0_h5 0)).toLoadRect X_arg16) (View.readAt (Elt Ideal) arg16.view (Rect.unit (s := S128x128) (k0_off22 k 1#32) S1x128.size (k0_off22_inb i k k0_h5 1)).toLoadRect X_arg16) (View.readAt (Elt Ideal) arg16.view (Rect.unit (s := S128x128) (k0_off22 k 2#32) S1x128.size (k0_off22_inb i k k0_h5 2)).toLoadRect X_arg16) (View.readAt (Elt Ideal) arg16.view (Rect.unit (s := S128x128) (k0_off22 k 3#32) S1x128.size (k0_off22_inb i k k0_h5 3)).toLoadRect X_arg16) (View.readAt (Elt Ideal) arg16.view (Rect.unit (s := S128x128) (k0_off22 k 4#32) S1x128.size (k0_off22_inb i k k0_h5 4)).toLoadRect X_arg16)
      ((View.readAt (Elt Ideal) arg7.view (Rect.unit (s := S40) (k0_off23 k 0#32) S1.size (k0_off23_inb i k k0_h5 0)).toLoadRect X_arg7) (Shape.Idx.first (show 0 < S1.numel by decide))) ((View.readAt (Elt Ideal) arg7.view (Rect.unit (s := S40) (k0_off23 k 1#32) S1.size (k0_off23_inb i k k0_h5 1)).toLoadRect X_arg7) (Shape.Idx.first (show 0 < S1.numel by decide))) ((View.readAt (Elt Ideal) arg7.view (Rect.unit (s := S40) (k0_off23 k 2#32) S1.size (k0_off23_inb i k k0_h5 2)).toLoadRect X_arg7) (Shape.Idx.first (show 0 < S1.numel by decide))) ((View.readAt (Elt Ideal) arg7.view (Rect.unit (s := S40) (k0_off23 k 3#32) S1.size (k0_off23_inb i k k0_h5 3)).toLoadRect X_arg7) (Shape.Idx.first (show 0 < S1.numel by decide))) ((View.readAt (Elt Ideal) arg7.view (Rect.unit (s := S40) (k0_off23 k 4#32) S1.size (k0_off23_inb i k k0_h5 4)).toLoadRect X_arg7) (Shape.Idx.first (show 0 < S1.numel by decide)))⟩, ⟨Rect.unit (s := S1x128x5120) (k0_off24 k 1#32) S1x128x128.size (k0_off24_inb i k k0_h5 1), pieceM4_1 v2122
      (View.readAt (Elt Ideal) arg11.view (Rect.unit (s := S8x896x128) (k0_off19 i k) S1x512x128.size (k0_off19_inb i k k0_h5)).toLoadRect X_arg11)
      (View.readAt (Elt Ideal) arg12.view (Rect.unit (s := S8x128x896) (k0_off20 i k) S1x128x512.size (k0_off20_inb i k k0_h5)).toLoadRect X_arg12)
      (View.readAt (Elt Ideal) arg13.view (Rect.unit (s := S8x896x128) (k0_off19 i k) S1x512x128.size (k0_off19_inb i k k0_h5)).toLoadRect X_arg13)
      (View.readAt (Elt Ideal) arg14.view (Rect.unit (s := S8x896x128) (k0_off19 i k) S1x512x128.size (k0_off19_inb i k k0_h5)).toLoadRect X_arg14)
      (View.readAt (Elt Ideal) arg15.view (Rect.unit (s := S5120x128) (k0_off21 k) S640x128.size (k0_off21_inb i k k0_h5)).toLoadRect X_arg15)
      (View.readAt (Elt Ideal) arg16.view (Rect.unit (s := S128x128) (k0_off22 k 0#32) S1x128.size (k0_off22_inb i k k0_h5 0)).toLoadRect X_arg16) (View.readAt (Elt Ideal) arg16.view (Rect.unit (s := S128x128) (k0_off22 k 1#32) S1x128.size (k0_off22_inb i k k0_h5 1)).toLoadRect X_arg16) (View.readAt (Elt Ideal) arg16.view (Rect.unit (s := S128x128) (k0_off22 k 2#32) S1x128.size (k0_off22_inb i k k0_h5 2)).toLoadRect X_arg16) (View.readAt (Elt Ideal) arg16.view (Rect.unit (s := S128x128) (k0_off22 k 3#32) S1x128.size (k0_off22_inb i k k0_h5 3)).toLoadRect X_arg16) (View.readAt (Elt Ideal) arg16.view (Rect.unit (s := S128x128) (k0_off22 k 4#32) S1x128.size (k0_off22_inb i k k0_h5 4)).toLoadRect X_arg16)
      ((View.readAt (Elt Ideal) arg7.view (Rect.unit (s := S40) (k0_off23 k 0#32) S1.size (k0_off23_inb i k k0_h5 0)).toLoadRect X_arg7) (Shape.Idx.first (show 0 < S1.numel by decide))) ((View.readAt (Elt Ideal) arg7.view (Rect.unit (s := S40) (k0_off23 k 1#32) S1.size (k0_off23_inb i k k0_h5 1)).toLoadRect X_arg7) (Shape.Idx.first (show 0 < S1.numel by decide))) ((View.readAt (Elt Ideal) arg7.view (Rect.unit (s := S40) (k0_off23 k 2#32) S1.size (k0_off23_inb i k k0_h5 2)).toLoadRect X_arg7) (Shape.Idx.first (show 0 < S1.numel by decide))) ((View.readAt (Elt Ideal) arg7.view (Rect.unit (s := S40) (k0_off23 k 3#32) S1.size (k0_off23_inb i k k0_h5 3)).toLoadRect X_arg7) (Shape.Idx.first (show 0 < S1.numel by decide))) ((View.readAt (Elt Ideal) arg7.view (Rect.unit (s := S40) (k0_off23 k 4#32) S1.size (k0_off23_inb i k k0_h5 4)).toLoadRect X_arg7) (Shape.Idx.first (show 0 < S1.numel by decide)))⟩, ⟨Rect.unit (s := S1x128x5120) (k0_off24 k 0#32) S1x128x128.size (k0_off24_inb i k k0_h5 0), pieceM4_0 v2122
      (View.readAt (Elt Ideal) arg11.view (Rect.unit (s := S8x896x128) (k0_off19 i k) S1x512x128.size (k0_off19_inb i k k0_h5)).toLoadRect X_arg11)
      (View.readAt (Elt Ideal) arg12.view (Rect.unit (s := S8x128x896) (k0_off20 i k) S1x128x512.size (k0_off20_inb i k k0_h5)).toLoadRect X_arg12)
      (View.readAt (Elt Ideal) arg13.view (Rect.unit (s := S8x896x128) (k0_off19 i k) S1x512x128.size (k0_off19_inb i k k0_h5)).toLoadRect X_arg13)
      (View.readAt (Elt Ideal) arg14.view (Rect.unit (s := S8x896x128) (k0_off19 i k) S1x512x128.size (k0_off19_inb i k k0_h5)).toLoadRect X_arg14)
      (View.readAt (Elt Ideal) arg15.view (Rect.unit (s := S5120x128) (k0_off21 k) S640x128.size (k0_off21_inb i k k0_h5)).toLoadRect X_arg15)
      (View.readAt (Elt Ideal) arg16.view (Rect.unit (s := S128x128) (k0_off22 k 0#32) S1x128.size (k0_off22_inb i k k0_h5 0)).toLoadRect X_arg16) (View.readAt (Elt Ideal) arg16.view (Rect.unit (s := S128x128) (k0_off22 k 1#32) S1x128.size (k0_off22_inb i k k0_h5 1)).toLoadRect X_arg16) (View.readAt (Elt Ideal) arg16.view (Rect.unit (s := S128x128) (k0_off22 k 2#32) S1x128.size (k0_off22_inb i k k0_h5 2)).toLoadRect X_arg16) (View.readAt (Elt Ideal) arg16.view (Rect.unit (s := S128x128) (k0_off22 k 3#32) S1x128.size (k0_off22_inb i k k0_h5 3)).toLoadRect X_arg16) (View.readAt (Elt Ideal) arg16.view (Rect.unit (s := S128x128) (k0_off22 k 4#32) S1x128.size (k0_off22_inb i k k0_h5 4)).toLoadRect X_arg16)
      ((View.readAt (Elt Ideal) arg7.view (Rect.unit (s := S40) (k0_off23 k 0#32) S1.size (k0_off23_inb i k k0_h5 0)).toLoadRect X_arg7) (Shape.Idx.first (show 0 < S1.numel by decide))) ((View.readAt (Elt Ideal) arg7.view (Rect.unit (s := S40) (k0_off23 k 1#32) S1.size (k0_off23_inb i k k0_h5 1)).toLoadRect X_arg7) (Shape.Idx.first (show 0 < S1.numel by decide))) ((View.readAt (Elt Ideal) arg7.view (Rect.unit (s := S40) (k0_off23 k 2#32) S1.size (k0_off23_inb i k k0_h5 2)).toLoadRect X_arg7) (Shape.Idx.first (show 0 < S1.numel by decide))) ((View.readAt (Elt Ideal) arg7.view (Rect.unit (s := S40) (k0_off23 k 3#32) S1.size (k0_off23_inb i k k0_h5 3)).toLoadRect X_arg7) (Shape.Idx.first (show 0 < S1.numel by decide))) ((View.readAt (Elt Ideal) arg7.view (Rect.unit (s := S40) (k0_off23 k 4#32) S1.size (k0_off23_inb i k k0_h5 4)).toLoadRect X_arg7) (Shape.Idx.first (show 0 < S1.numel by decide)))⟩] := by
  unfold tripL_k0_t4 trip_k0_t4
  dsimp only
  refine congrArg₂ List.cons (congrArg (Sigma.mk _) ?_) (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  · rfl
  · rfl
  · rfl
  · rfl
  · rfl

theorem first_le (i : grid0.Coords) : 128 * ((i 1 : ℕ) - 3) + 512 ≤ 896 := by have h : (i 1 : ℕ) < 7 := (i 1).isLt; omega
theorem k0_off19_eq : ∀ (i : grid0.Coords), k0_cond5 i = 1#1 → ∀ k : Fin k0_t4_loop.trips, k0_off19 i k = ![k.val, 128 * ((i 1 : ℕ) - 3), 0] := by decide +kernel
theorem k0_off20_eq : ∀ (i : grid0.Coords), k0_cond5 i = 1#1 → ∀ k : Fin k0_t4_loop.trips, k0_off20 i k = ![k.val, 0, 128 * ((i 1 : ℕ) - 3)] := by decide +kernel

theorem mem_pb4 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h5 : k0_cond5 i = 1#1) (v2137 : BitVec 32) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (p : View.Piece (Elt Ideal) S1x128x5120 .bf16) : ∀ n : ℕ, n ≤ k0_t4_loop.trips →
    (p ∈ pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 n ↔ ∃ k : Fin k0_t4_loop.trips, k.val < n ∧ p ∈ tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 k)
  | 0, _ => by
    constructor
    · intro h; exact absurd h (by unfold pb_k0_t4; exact List.not_mem_nil)
    · rintro ⟨k, hk, _⟩; omega
  | n + 1, hn => by
    rw [pb_k0_t4_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 ⟨n, hn⟩, List.mem_append, mem_pb4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 p n (by omega)]
    constructor
    · rintro (h | ⟨k, hk, h⟩)
      · exact ⟨⟨n, hn⟩, Nat.lt_succ_self n, h⟩
      · exact ⟨k, by omega, h⟩
    · rintro ⟨k, hk, h⟩
      by_cases e : k.val = n
      · left
        have : k = ⟨n, hn⟩ := Fin.ext e
        rw [← this]; exact h
      · right; exact ⟨k, by omega, h⟩

/-- The row a trip's piece stores, as a function of the block's index. -/
def row4 (i : grid0.Coords) (R7 : S40.Idx → EReal) (R11 : S8x896x128.Idx → EReal) (R12 : S8x128x896.Idx → EReal)
    (R13 R14 : S8x896x128.Idx → EReal) (R15 : S5120x128.Idx → EReal) (qs : Fin 40 → Fin 128 → EReal) (r : Fin 128) (z : Fin 5120) : EReal :=
  attRow R7 R11 R12 R13 R14 R15 qs ok4 (key4 (128 * ((i 1 : ℕ) - 3)) (first_le i) r) (ok4' r) (key4' (128 * ((i 1 : ℕ) - 3)) (first_le i)) (headOf z) r (colOf z)

set_option maxHeartbeats 4000000 in
theorem piece4_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h5 : k0_cond5 i = 1#1) (v2137 : BitVec 32) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t4_loop.trips) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (p : View.Piece (Elt Ideal) S1x128x5120 .bf16) (hp : p ∈ tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 k)
    (x : p.1.shape.Idx) : p.2 x = row4 i R7 R11 R12 R13 R14 R15 qs ((p.1.emb x) 1) ((p.1.emb x) 2) := by
  rw [trip4_eq] at hp
  simp only [List.mem_cons, List.not_mem_nil, or_false] at hp
  obtain rfl | rfl | rfl | rfl | rfl := hp
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off24 k 4#32 = ![0, 0, 640 * k.val + 128 * 4] := k0_off24_eq k 4
    have e1 : ((Rect.unit (s := S1x128x5120) (k0_off24 k 4#32) S1x128x128.size (k0_off24_inb i k k0_h5 4)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off24 k 4#32) S1x128x128.size (k0_off24_inb i k k0_h5 4)).emb (ix3 0 r c)) 2 : ℕ) = 640 * k + 128 * 4 + c :=
      (Rect.idx_unit_val _ _ _ _ _).trans (congrArg (· + (c : ℕ)) (congrFun eo 2))
    have e3 : headOf (((Rect.unit (s := S1x128x5120) (k0_off24 k 4#32) S1x128x128.size (k0_off24_inb i k k0_h5 4)).emb (ix3 0 r c)) 2) = ⟨5 * k + 4, by omega⟩ :=
      Fin.ext (by show _ / 128 = _; rw [e2]; show _ = 5 * (k : ℕ) + 4; omega)
    have e4 : colOf (((Rect.unit (s := S1x128x5120) (k0_off24 k 4#32) S1x128x128.size (k0_off24_inb i k k0_h5 4)).emb (ix3 0 r c)) 2) = c :=
      Fin.ext (by show _ % 128 = _; rw [e2]; omega)
    dsimp only
    unfold row4
    rw [e1, e3, e4]
    exact attM4_4 v2122 hM _ _ _ _ _ _ _ _ _ _ _ _ r c (128 * ((i 1 : ℕ) - 3)) (first_le i) (fun j e => R11 (ix3 (grp ⟨5 * k + 4, by omega⟩) j e)) (fun e => R15 (ix2 (rowOf ⟨5 * k + 4, by omega⟩ r) e))
      (fun j => R13 (ix3 (grp ⟨5 * k + 4, by omega⟩) j r)) (fun j => R14 (ix3 (grp ⟨5 * k + 4, by omega⟩) j r)) (fun j => R12 (ix3 (grp ⟨5 * k + 4, by omega⟩) c j))
      (qs ⟨5 * k + 4, by omega⟩ r) (R7 (ix1 ⟨5 * k + 4, by omega⟩)) (hqs _ _) rfl
      (fun p e => rd_at arg11.view X_arg11 R11 h11 _ (k0_off19_eq i k0_h5 k) _ _ (at3 (by show (5 * (k : ℕ) + 4) / 5 = k + 0; omega) rfl (Nat.zero_add _).symm))
      (fun p => rd_at arg12.view X_arg12 R12 h12 _ (k0_off20_eq i k0_h5 k) _ _ (at3 (by show (5 * (k : ℕ) + 4) / 5 = k + 0; omega) (Nat.zero_add _).symm rfl))
      (fun p => rd_at arg13.view X_arg13 R13 h13 _ (k0_off19_eq i k0_h5 k) _ _ (at3 (by show (5 * (k : ℕ) + 4) / 5 = k + 0; omega) rfl (Nat.zero_add _).symm))
      (fun p => rd_at arg14.view X_arg14 R14 h14 _ (k0_off19_eq i k0_h5 k) _ _ (at3 (by show (5 * (k : ℕ) + 4) / 5 = k + 0; omega) rfl (Nat.zero_add _).symm))
      (fun e => rd_at arg15.view X_arg15 R15 h15 _ (k0_off21_eq k) _ _ (at2 (by show 128 * (5 * (k : ℕ) + 4) + (r : ℕ) = 640 * k + (512 + r); omega) (Nat.zero_add _).symm))
      ((rd_at arg16.view X_arg16 R16 h16 _ (k0_off22_eq k 4) (show S1x128.Idx from ix2 0 r) (ix2 ⟨5 * k + 4, by omega⟩ r) (at2 (by show 5 * (k : ℕ) + 4 = (5 * k + 4) + 0; omega) (Nat.zero_add _).symm)).trans (hc ⟨5 * k + 4, by omega⟩ r))
      (rd_at arg7.view X_arg7 R7 h7 _ (k0_off23_eq k 4) _ _ (at1 (by show 5 * (k : ℕ) + 4 = (5 * k + 4) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off24 k 3#32 = ![0, 0, 640 * k.val + 128 * 3] := k0_off24_eq k 3
    have e1 : ((Rect.unit (s := S1x128x5120) (k0_off24 k 3#32) S1x128x128.size (k0_off24_inb i k k0_h5 3)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off24 k 3#32) S1x128x128.size (k0_off24_inb i k k0_h5 3)).emb (ix3 0 r c)) 2 : ℕ) = 640 * k + 128 * 3 + c :=
      (Rect.idx_unit_val _ _ _ _ _).trans (congrArg (· + (c : ℕ)) (congrFun eo 2))
    have e3 : headOf (((Rect.unit (s := S1x128x5120) (k0_off24 k 3#32) S1x128x128.size (k0_off24_inb i k k0_h5 3)).emb (ix3 0 r c)) 2) = ⟨5 * k + 3, by omega⟩ :=
      Fin.ext (by show _ / 128 = _; rw [e2]; show _ = 5 * (k : ℕ) + 3; omega)
    have e4 : colOf (((Rect.unit (s := S1x128x5120) (k0_off24 k 3#32) S1x128x128.size (k0_off24_inb i k k0_h5 3)).emb (ix3 0 r c)) 2) = c :=
      Fin.ext (by show _ % 128 = _; rw [e2]; omega)
    dsimp only
    unfold row4
    rw [e1, e3, e4]
    exact attM4_3 v2122 hM _ _ _ _ _ _ _ _ _ _ _ _ r c (128 * ((i 1 : ℕ) - 3)) (first_le i) (fun j e => R11 (ix3 (grp ⟨5 * k + 3, by omega⟩) j e)) (fun e => R15 (ix2 (rowOf ⟨5 * k + 3, by omega⟩ r) e))
      (fun j => R13 (ix3 (grp ⟨5 * k + 3, by omega⟩) j r)) (fun j => R14 (ix3 (grp ⟨5 * k + 3, by omega⟩) j r)) (fun j => R12 (ix3 (grp ⟨5 * k + 3, by omega⟩) c j))
      (qs ⟨5 * k + 3, by omega⟩ r) (R7 (ix1 ⟨5 * k + 3, by omega⟩)) (hqs _ _) rfl
      (fun p e => rd_at arg11.view X_arg11 R11 h11 _ (k0_off19_eq i k0_h5 k) _ _ (at3 (by show (5 * (k : ℕ) + 3) / 5 = k + 0; omega) rfl (Nat.zero_add _).symm))
      (fun p => rd_at arg12.view X_arg12 R12 h12 _ (k0_off20_eq i k0_h5 k) _ _ (at3 (by show (5 * (k : ℕ) + 3) / 5 = k + 0; omega) (Nat.zero_add _).symm rfl))
      (fun p => rd_at arg13.view X_arg13 R13 h13 _ (k0_off19_eq i k0_h5 k) _ _ (at3 (by show (5 * (k : ℕ) + 3) / 5 = k + 0; omega) rfl (Nat.zero_add _).symm))
      (fun p => rd_at arg14.view X_arg14 R14 h14 _ (k0_off19_eq i k0_h5 k) _ _ (at3 (by show (5 * (k : ℕ) + 3) / 5 = k + 0; omega) rfl (Nat.zero_add _).symm))
      (fun e => rd_at arg15.view X_arg15 R15 h15 _ (k0_off21_eq k) _ _ (at2 (by show 128 * (5 * (k : ℕ) + 3) + (r : ℕ) = 640 * k + (384 + r); omega) (Nat.zero_add _).symm))
      ((rd_at arg16.view X_arg16 R16 h16 _ (k0_off22_eq k 3) (show S1x128.Idx from ix2 0 r) (ix2 ⟨5 * k + 3, by omega⟩ r) (at2 (by show 5 * (k : ℕ) + 3 = (5 * k + 3) + 0; omega) (Nat.zero_add _).symm)).trans (hc ⟨5 * k + 3, by omega⟩ r))
      (rd_at arg7.view X_arg7 R7 h7 _ (k0_off23_eq k 3) _ _ (at1 (by show 5 * (k : ℕ) + 3 = (5 * k + 3) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off24 k 2#32 = ![0, 0, 640 * k.val + 128 * 2] := k0_off24_eq k 2
    have e1 : ((Rect.unit (s := S1x128x5120) (k0_off24 k 2#32) S1x128x128.size (k0_off24_inb i k k0_h5 2)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off24 k 2#32) S1x128x128.size (k0_off24_inb i k k0_h5 2)).emb (ix3 0 r c)) 2 : ℕ) = 640 * k + 128 * 2 + c :=
      (Rect.idx_unit_val _ _ _ _ _).trans (congrArg (· + (c : ℕ)) (congrFun eo 2))
    have e3 : headOf (((Rect.unit (s := S1x128x5120) (k0_off24 k 2#32) S1x128x128.size (k0_off24_inb i k k0_h5 2)).emb (ix3 0 r c)) 2) = ⟨5 * k + 2, by omega⟩ :=
      Fin.ext (by show _ / 128 = _; rw [e2]; show _ = 5 * (k : ℕ) + 2; omega)
    have e4 : colOf (((Rect.unit (s := S1x128x5120) (k0_off24 k 2#32) S1x128x128.size (k0_off24_inb i k k0_h5 2)).emb (ix3 0 r c)) 2) = c :=
      Fin.ext (by show _ % 128 = _; rw [e2]; omega)
    dsimp only
    unfold row4
    rw [e1, e3, e4]
    exact attM4_2 v2122 hM _ _ _ _ _ _ _ _ _ _ _ _ r c (128 * ((i 1 : ℕ) - 3)) (first_le i) (fun j e => R11 (ix3 (grp ⟨5 * k + 2, by omega⟩) j e)) (fun e => R15 (ix2 (rowOf ⟨5 * k + 2, by omega⟩ r) e))
      (fun j => R13 (ix3 (grp ⟨5 * k + 2, by omega⟩) j r)) (fun j => R14 (ix3 (grp ⟨5 * k + 2, by omega⟩) j r)) (fun j => R12 (ix3 (grp ⟨5 * k + 2, by omega⟩) c j))
      (qs ⟨5 * k + 2, by omega⟩ r) (R7 (ix1 ⟨5 * k + 2, by omega⟩)) (hqs _ _) rfl
      (fun p e => rd_at arg11.view X_arg11 R11 h11 _ (k0_off19_eq i k0_h5 k) _ _ (at3 (by show (5 * (k : ℕ) + 2) / 5 = k + 0; omega) rfl (Nat.zero_add _).symm))
      (fun p => rd_at arg12.view X_arg12 R12 h12 _ (k0_off20_eq i k0_h5 k) _ _ (at3 (by show (5 * (k : ℕ) + 2) / 5 = k + 0; omega) (Nat.zero_add _).symm rfl))
      (fun p => rd_at arg13.view X_arg13 R13 h13 _ (k0_off19_eq i k0_h5 k) _ _ (at3 (by show (5 * (k : ℕ) + 2) / 5 = k + 0; omega) rfl (Nat.zero_add _).symm))
      (fun p => rd_at arg14.view X_arg14 R14 h14 _ (k0_off19_eq i k0_h5 k) _ _ (at3 (by show (5 * (k : ℕ) + 2) / 5 = k + 0; omega) rfl (Nat.zero_add _).symm))
      (fun e => rd_at arg15.view X_arg15 R15 h15 _ (k0_off21_eq k) _ _ (at2 (by show 128 * (5 * (k : ℕ) + 2) + (r : ℕ) = 640 * k + (256 + r); omega) (Nat.zero_add _).symm))
      ((rd_at arg16.view X_arg16 R16 h16 _ (k0_off22_eq k 2) (show S1x128.Idx from ix2 0 r) (ix2 ⟨5 * k + 2, by omega⟩ r) (at2 (by show 5 * (k : ℕ) + 2 = (5 * k + 2) + 0; omega) (Nat.zero_add _).symm)).trans (hc ⟨5 * k + 2, by omega⟩ r))
      (rd_at arg7.view X_arg7 R7 h7 _ (k0_off23_eq k 2) _ _ (at1 (by show 5 * (k : ℕ) + 2 = (5 * k + 2) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off24 k 1#32 = ![0, 0, 640 * k.val + 128 * 1] := k0_off24_eq k 1
    have e1 : ((Rect.unit (s := S1x128x5120) (k0_off24 k 1#32) S1x128x128.size (k0_off24_inb i k k0_h5 1)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off24 k 1#32) S1x128x128.size (k0_off24_inb i k k0_h5 1)).emb (ix3 0 r c)) 2 : ℕ) = 640 * k + 128 * 1 + c :=
      (Rect.idx_unit_val _ _ _ _ _).trans (congrArg (· + (c : ℕ)) (congrFun eo 2))
    have e3 : headOf (((Rect.unit (s := S1x128x5120) (k0_off24 k 1#32) S1x128x128.size (k0_off24_inb i k k0_h5 1)).emb (ix3 0 r c)) 2) = ⟨5 * k + 1, by omega⟩ :=
      Fin.ext (by show _ / 128 = _; rw [e2]; show _ = 5 * (k : ℕ) + 1; omega)
    have e4 : colOf (((Rect.unit (s := S1x128x5120) (k0_off24 k 1#32) S1x128x128.size (k0_off24_inb i k k0_h5 1)).emb (ix3 0 r c)) 2) = c :=
      Fin.ext (by show _ % 128 = _; rw [e2]; omega)
    dsimp only
    unfold row4
    rw [e1, e3, e4]
    exact attM4_1 v2122 hM _ _ _ _ _ _ _ _ _ _ _ _ r c (128 * ((i 1 : ℕ) - 3)) (first_le i) (fun j e => R11 (ix3 (grp ⟨5 * k + 1, by omega⟩) j e)) (fun e => R15 (ix2 (rowOf ⟨5 * k + 1, by omega⟩ r) e))
      (fun j => R13 (ix3 (grp ⟨5 * k + 1, by omega⟩) j r)) (fun j => R14 (ix3 (grp ⟨5 * k + 1, by omega⟩) j r)) (fun j => R12 (ix3 (grp ⟨5 * k + 1, by omega⟩) c j))
      (qs ⟨5 * k + 1, by omega⟩ r) (R7 (ix1 ⟨5 * k + 1, by omega⟩)) (hqs _ _) rfl
      (fun p e => rd_at arg11.view X_arg11 R11 h11 _ (k0_off19_eq i k0_h5 k) _ _ (at3 (by show (5 * (k : ℕ) + 1) / 5 = k + 0; omega) rfl (Nat.zero_add _).symm))
      (fun p => rd_at arg12.view X_arg12 R12 h12 _ (k0_off20_eq i k0_h5 k) _ _ (at3 (by show (5 * (k : ℕ) + 1) / 5 = k + 0; omega) (Nat.zero_add _).symm rfl))
      (fun p => rd_at arg13.view X_arg13 R13 h13 _ (k0_off19_eq i k0_h5 k) _ _ (at3 (by show (5 * (k : ℕ) + 1) / 5 = k + 0; omega) rfl (Nat.zero_add _).symm))
      (fun p => rd_at arg14.view X_arg14 R14 h14 _ (k0_off19_eq i k0_h5 k) _ _ (at3 (by show (5 * (k : ℕ) + 1) / 5 = k + 0; omega) rfl (Nat.zero_add _).symm))
      (fun e => rd_at arg15.view X_arg15 R15 h15 _ (k0_off21_eq k) _ _ (at2 (by show 128 * (5 * (k : ℕ) + 1) + (r : ℕ) = 640 * k + (128 + r); omega) (Nat.zero_add _).symm))
      ((rd_at arg16.view X_arg16 R16 h16 _ (k0_off22_eq k 1) (show S1x128.Idx from ix2 0 r) (ix2 ⟨5 * k + 1, by omega⟩ r) (at2 (by show 5 * (k : ℕ) + 1 = (5 * k + 1) + 0; omega) (Nat.zero_add _).symm)).trans (hc ⟨5 * k + 1, by omega⟩ r))
      (rd_at arg7.view X_arg7 R7 h7 _ (k0_off23_eq k 1) _ _ (at1 (by show 5 * (k : ℕ) + 1 = (5 * k + 1) + 0; omega)))
  · obtain ⟨z, r, c, rfl⟩ : ∃ (z : Fin 1) (r c : Fin 128), x = ix3 z r c := ⟨x 0, x 1, x 2, (ix3_eta x).symm⟩
    obtain rfl : z = 0 := Subsingleton.elim _ _
    have hk8 : (k : ℕ) < 8 := k.isLt
    have eo : k0_off24 k 0#32 = ![0, 0, 640 * k.val + 128 * 0] := k0_off24_eq k 0
    have e1 : ((Rect.unit (s := S1x128x5120) (k0_off24 k 0#32) S1x128x128.size (k0_off24_inb i k k0_h5 0)).emb (ix3 0 r c)) 1 = r :=
      Fin.ext ((Rect.idx_unit_val _ _ _ _ _).trans ((congrArg (· + (r : ℕ)) (congrFun eo 1)).trans (Nat.zero_add _)))
    have e2 : (((Rect.unit (s := S1x128x5120) (k0_off24 k 0#32) S1x128x128.size (k0_off24_inb i k k0_h5 0)).emb (ix3 0 r c)) 2 : ℕ) = 640 * k + 128 * 0 + c :=
      (Rect.idx_unit_val _ _ _ _ _).trans (congrArg (· + (c : ℕ)) (congrFun eo 2))
    have e3 : headOf (((Rect.unit (s := S1x128x5120) (k0_off24 k 0#32) S1x128x128.size (k0_off24_inb i k k0_h5 0)).emb (ix3 0 r c)) 2) = ⟨5 * k + 0, by omega⟩ :=
      Fin.ext (by show _ / 128 = _; rw [e2]; show _ = 5 * (k : ℕ) + 0; omega)
    have e4 : colOf (((Rect.unit (s := S1x128x5120) (k0_off24 k 0#32) S1x128x128.size (k0_off24_inb i k k0_h5 0)).emb (ix3 0 r c)) 2) = c :=
      Fin.ext (by show _ % 128 = _; rw [e2]; omega)
    dsimp only
    unfold row4
    rw [e1, e3, e4]
    exact attM4_0 v2122 hM _ _ _ _ _ _ _ _ _ _ _ _ r c (128 * ((i 1 : ℕ) - 3)) (first_le i) (fun j e => R11 (ix3 (grp ⟨5 * k + 0, by omega⟩) j e)) (fun e => R15 (ix2 (rowOf ⟨5 * k + 0, by omega⟩ r) e))
      (fun j => R13 (ix3 (grp ⟨5 * k + 0, by omega⟩) j r)) (fun j => R14 (ix3 (grp ⟨5 * k + 0, by omega⟩) j r)) (fun j => R12 (ix3 (grp ⟨5 * k + 0, by omega⟩) c j))
      (qs ⟨5 * k + 0, by omega⟩ r) (R7 (ix1 ⟨5 * k + 0, by omega⟩)) (hqs _ _) rfl
      (fun p e => rd_at arg11.view X_arg11 R11 h11 _ (k0_off19_eq i k0_h5 k) _ _ (at3 (by show (5 * (k : ℕ) + 0) / 5 = k + 0; omega) rfl (Nat.zero_add _).symm))
      (fun p => rd_at arg12.view X_arg12 R12 h12 _ (k0_off20_eq i k0_h5 k) _ _ (at3 (by show (5 * (k : ℕ) + 0) / 5 = k + 0; omega) (Nat.zero_add _).symm rfl))
      (fun p => rd_at arg13.view X_arg13 R13 h13 _ (k0_off19_eq i k0_h5 k) _ _ (at3 (by show (5 * (k : ℕ) + 0) / 5 = k + 0; omega) rfl (Nat.zero_add _).symm))
      (fun p => rd_at arg14.view X_arg14 R14 h14 _ (k0_off19_eq i k0_h5 k) _ _ (at3 (by show (5 * (k : ℕ) + 0) / 5 = k + 0; omega) rfl (Nat.zero_add _).symm))
      (fun e => rd_at arg15.view X_arg15 R15 h15 _ (k0_off21_eq k) _ _ (at2 (by show 128 * (5 * (k : ℕ) + 0) + (r : ℕ) = 640 * k + (0 + r); omega) (Nat.zero_add _).symm))
      ((rd_at arg16.view X_arg16 R16 h16 _ (k0_off22_eq k 0) (show S1x128.Idx from ix2 0 r) (ix2 ⟨5 * k + 0, by omega⟩ r) (at2 (by show 5 * (k : ℕ) + 0 = (5 * k + 0) + 0; omega) (Nat.zero_add _).symm)).trans (hc ⟨5 * k + 0, by omega⟩ r))
      (rd_at arg7.view X_arg7 R7 h7 _ (k0_off23_eq k 0) _ _ (at1 (by show 5 * (k : ℕ) + 0 = (5 * k + 0) + 0; omega)))

set_option maxHeartbeats 4000000 in
theorem cover4 (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h5 : k0_cond5 i = 1#1) (v2137 : BitVec 32) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (k : Fin k0_t4_loop.trips) (r : Fin 128) (cc : Fin 128) (g : Fin 5) :
    ∃ p ∈ tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 k, (ix3 0 r ⟨640 * k + 128 * g + cc, by have : (k : ℕ) < 8 := k.isLt; omega⟩ : S1x128x5120.Idx) ∈ p.1.set := by
  have hk8 : (k : ℕ) < 8 := k.isLt
  rw [trip4_eq]
  have key : ∀ g : Fin 5, (ix3 0 r ⟨640 * k + 128 * g + cc, by omega⟩ : S1x128x5120.Idx) ∈ (Rect.unit (s := S1x128x5120) (k0_off24 k (BitVec.ofNat 32 g.val)) S1x128x128.size (k0_off24_inb i k k0_h5 g)).set := by
    intro g
    rw [Rect.mem_set_unit, k0_off24_eq k g]
    exact in3 ⟨Nat.le_refl _, Nat.zero_lt_one⟩ ⟨Nat.zero_le _, by show (r : ℕ) < 0 + 128; omega⟩
      ⟨by show 640 * (k : ℕ) + 128 * (g : ℕ) ≤ 640 * k + 128 * g + cc; omega, by show 640 * (k : ℕ) + 128 * (g : ℕ) + (cc : ℕ) < 640 * (k : ℕ) + 128 * (g : ℕ) + 128; omega⟩
  match g with
  | 0 => exact ⟨_, List.mem_cons_of_mem _ (List.mem_cons_of_mem _ (List.mem_cons_of_mem _ (List.mem_cons_of_mem _ List.mem_cons_self))), key 0⟩
  | 1 => exact ⟨_, List.mem_cons_of_mem _ (List.mem_cons_of_mem _ (List.mem_cons_of_mem _ List.mem_cons_self)), key 1⟩
  | 2 => exact ⟨_, List.mem_cons_of_mem _ (List.mem_cons_of_mem _ List.mem_cons_self), key 2⟩
  | 3 => exact ⟨_, List.mem_cons_of_mem _ List.mem_cons_self, key 3⟩
  | 4 => exact ⟨_, List.mem_cons_self, key 4⟩

/-- What the loop leaves in the block of the result, at an index. -/
theorem loop4_at (𝒱 : Variants) (c : Dev nD) (bd : Option 𝒱.V) (i : grid0.Coords) (arg2 : Memref sig .tc .vmem S1x128x5120 .bf16) (harg2 : arg2.IsWhole) (arg3 : Memref sig .tc .vmem S1x8x128x896 .fp8e4m3) (harg3 : arg3.IsWhole) (arg4 : Memref sig .tc .vmem S1x8x896 .f32) (harg4 : arg4.IsWhole) (arg5 : Memref sig .tc .vmem S1x8x896x128 .fp8e4m3) (harg5 : arg5.IsWhole) (arg6 : Memref sig .tc .vmem S1x8x896 .f32) (harg6 : arg6.IsWhole) (arg7 : Memref sig .tc .smem S40 .f32) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x40x128 .f32) (harg10 : arg10.IsWhole) (arg11 : Memref sig .tc .vmem S8x896x128 .fp8e4m3) (harg11 : arg11.IsWhole) (arg12 : Memref sig .tc .vmem S8x128x896 .fp8e4m3) (harg12 : arg12.IsWhole) (arg13 : Memref sig .tc .vmem S8x896x128 .f32) (harg13 : arg13.IsWhole) (arg14 : Memref sig .tc .vmem S8x896x128 .f32) (harg14 : arg14.IsWhole) (arg15 : Memref sig .tc .vmem S5120x128 .fp8e4m3) (harg15 : arg15.IsWhole) (arg16 : Memref sig .tc .vmem S128x128 .f32) (harg16 : arg16.IsWhole) (v2122 : IVec S128x128 1) (k0_h5 : k0_cond5 i = 1#1) (v2137 : BitVec 32) (X_arg7 : BufTy.Contents (Elt Ideal) arg7.view.ty) (X_arg11 : BufTy.Contents (Elt Ideal) arg11.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty) (R7 : S40.Idx → EReal) (R11 : S8x896x128.Idx → EReal) (R12 : S8x128x896.Idx → EReal)
    (R13 R14 : S8x896x128.Idx → EReal) (R15 : S5120x128.Idx → EReal) (R16 : S128x128.Idx → EReal) (qs : Fin 40 → Fin 128 → EReal) (hM : IsMask v2122)
    (h7 : arg7.view.read (Elt Ideal) X_arg7 = R7) (h11 : arg11.view.read (Elt Ideal) X_arg11 = R11) (h12 : arg12.view.read (Elt Ideal) X_arg12 = R12)
    (h13 : arg13.view.read (Elt Ideal) X_arg13 = R13) (h14 : arg14.view.read (Elt Ideal) X_arg14 = R14) (h15 : arg15.view.read (Elt Ideal) X_arg15 = R15)
    (h16 : arg16.view.read (Elt Ideal) X_arg16 = R16) (hqs : ∀ h r, 0 < qs h r)
    (hc : ∀ (h : Fin 40) (r : Fin 128), R16 (ix2 ⟨h, by omega⟩ r) = qs h r * SL) (r : Fin 128) (z : Fin 5120) :
    View.canon (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 k0_t4_loop.trips) (ix3 0 r z) = row4 i R7 R11 R12 R13 R14 R15 qs r z := by
  refine View.canon_apply_of_pieces (Val := Elt Ideal) (e := .bf16) (fun y : S1x128x5120.Idx => row4 i R7 R11 R12 R13 R14 R15 qs (y 1) (y 2)) _ (fun p hp x => ?_) _ ?_
  · obtain ⟨k, _, hk⟩ := (mem_pb4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 p _ le_rfl).1 hp
    exact piece4_at 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 k R7 R11 R12 R13 R14 R15 R16 qs hM h7 h11 h12 h13 h14 h15 h16 hqs hc p hk x
  · have hz : (z : ℕ) < 5120 := z.isLt
    have hk : (z : ℕ) / 640 < k0_t4_loop.trips := by show (z : ℕ) / 640 < 8; omega
    obtain ⟨p, hp, hy⟩ := cover4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 ⟨(z : ℕ) / 640, hk⟩ r ⟨(z : ℕ) % 128, by omega⟩ ⟨(z : ℕ) % 640 / 128, by omega⟩
    refine ⟨p, (mem_pb4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v2122 k0_h5 v2137 X_arg7 X_arg11 X_arg12 X_arg13 X_arg14 X_arg15 X_arg16 p _ le_rfl).2 ⟨_, hk, hp⟩, ?_⟩
    have e : (⟨640 * ((z : ℕ) / 640) + 128 * ((z : ℕ) % 640 / 128) + (z : ℕ) % 128, by omega⟩ : Fin 5120) = z := Fin.ext (by dsimp only; omega)
    exact e ▸ hy

end Cert.KernelIdeal.Out

end
-- ==== Proof.Point.lean ====
/- What the kernel leaves at a grid point, as a function of the point's blocks: the result's block, the codes, the scales,
   and the arrays it keeps for the later points of the batch element. -/
module

public import proofs.«01_k».proof.Proof.Quant
public import proofs.«01_k».proof.Proof.Keep
public import proofs.«01_k».proof.Proof.Trip1
public import proofs.«01_k».proof.Proof.Trip2
public import proofs.«01_k».proof.Proof.Trip3
public import proofs.«01_k».proof.Proof.Trip4
public import proofs.«01_k».proof.Proof.Gen.KernelIdeal.Value

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

open Cert.KernelIdeal.Value

variable (m : (ℓ : Loc nD τ sig) → Buf (Elt Ideal) ℓ)

theorem qs_pos (X : S1x128x5120.Idx → EReal) (h : Fin 40) (r : Fin 128) : 0 < kScale (topQ X h r) :=
  (scale_eq _ (topQ_nonneg X h r)).1.symm ▸ rScale_pos _ (topQ_nonneg X h r)

/-- The scratch of the scores' factors, stored whole. -/
abbrev factorR : Rect S128x128 := Rect.unit (s := S128x128) ![0, 0] ![128, 128] (fun | 0 => Nat.le_refl 128 | 1 => Nat.le_refl 128)
theorem factorR_emb (x : S128x128.Idx) : factorR.emb x = x :=
  funext fun | 0 => Fin.ext ((Rect.idx_unit_val _ _ _ _ _).trans (Nat.zero_add _))
             | 1 => Fin.ext ((Rect.idx_unit_val _ _ _ _ _).trans (Nat.zero_add _))
theorem factor_at (X : FVec Ideal S1x128x5120 .bf16) (h : Fin 40) (r : Fin 128) :
    View.canon (Val := Elt Ideal) (e := .f32) [⟨factorR, factorV X⟩] (ix2 ⟨h, by omega⟩ r) = kScale (topQ X h r) * SL := by
  refine (View.canon_apply_of_pieces (Val := Elt Ideal) (e := .f32) (factorV X) _ ?_ (ix2 ⟨h, by omega⟩ r) ?_).trans (factorV_at X h r)
  · intro p hp x
    obtain rfl := List.mem_singleton.1 hp
    exact congrArg (factorV X) (factorR_emb x).symm
  · refine ⟨_, List.mem_singleton.2 rfl, ?_⟩
    rw [Rect.mem_set_unit]
    intro a
    match a with
    | 0 => exact ⟨Nat.zero_le _, by show (h : ℕ) < 0 + 128; omega⟩
    | 1 => exact ⟨Nat.zero_le _, by show (r : ℕ) < 0 + 128; omega⟩

/-! ### The first query tile of a batch element -/

theorem codesA (c : Dev nD) (t : Fin cfg0.N) (h0 : t.val % 7 = 0) (h1 : t.val % 7 = 0) (h2 : ¬t.val % 7 = 1) (h3 : ¬t.val % 7 = 2) (h4 : ¬3 ≤ t.val % 7) :
    (outsAt0 m c t.val t.isLt).2.1 = View.canon (Val := Elt Ideal) (e := .fp8e4m3) (blockL (iblk m c 0 t) 40) := by
  rw [outsAt0_A m c t h0 h1 h2 h3 h4]
  frame_out
  rfl
theorem scaleA (c : Dev nD) (t : Fin cfg0.N) (h0 : t.val % 7 = 0) (h1 : t.val % 7 = 0) (h2 : ¬t.val % 7 = 1) (h3 : ¬t.val % 7 = 2) (h4 : ¬3 ≤ t.val % 7) :
    (outsAt0 m c t.val t.isLt).2.2.1 = scaleOutV (iblk m c 0 t) := by
  rw [outsAt0_A m c t h0 h1 h2 h3 h4]
  funext y
  frame_out
  rfl
theorem keptA0 (c : Dev nD) (t : Fin cfg0.N) (h0 : t.val % 7 = 0) (h1 : t.val % 7 = 0) (h2 : ¬t.val % 7 = 1) (h3 : ¬t.val % 7 = 2) (h4 : ¬3 ≤ t.val % 7) :
    (outsAt0 m c t.val t.isLt).2.2.2.1 = View.canon (Val := Elt Ideal) (e := .fp8e4m3) (keptKeys (iblk m c 1 t)) := by
  rw [outsAt0_A m c t h0 h1 h2 h3 h4]
  frame_out
  rfl
theorem keptA1 (c : Dev nD) (t : Fin cfg0.N) (h0 : t.val % 7 = 0) (h1 : t.val % 7 = 0) (h2 : ¬t.val % 7 = 1) (h3 : ¬t.val % 7 = 2) (h4 : ¬3 ≤ t.val % 7) :
    (outsAt0 m c t.val t.isLt).2.2.2.2.1 = View.canon (Val := Elt Ideal) (e := .fp8e4m3) (keptVals (iblk m c 3 t)) := by
  rw [outsAt0_A m c t h0 h1 h2 h3 h4]
  frame_out
  rfl
theorem keptA2 (c : Dev nD) (t : Fin cfg0.N) (h0 : t.val % 7 = 0) (h1 : t.val % 7 = 0) (h2 : ¬t.val % 7 = 1) (h3 : ¬t.val % 7 = 2) (h4 : ¬3 ≤ t.val % 7) :
    (outsAt0 m c t.val t.isLt).2.2.2.2.2.1 = View.canon (Val := Elt Ideal) (e := .f32) (keptRows (iblk m c 2 t)) := by
  rw [outsAt0_A m c t h0 h1 h2 h3 h4]
  frame_out
  rfl
theorem keptA3 (c : Dev nD) (t : Fin cfg0.N) (h0 : t.val % 7 = 0) (h1 : t.val % 7 = 0) (h2 : ¬t.val % 7 = 1) (h3 : ¬t.val % 7 = 2) (h4 : ¬3 ≤ t.val % 7) :
    (outsAt0 m c t.val t.isLt).2.2.2.2.2.2 = View.canon (Val := Elt Ideal) (e := .f32) (keptRows (iblk m c 4 t)) := by
  rw [outsAt0_A m c t h0 h1 h2 h3 h4]
  frame_out
  rfl

theorem outA (c : Dev nD) (t : Fin cfg0.N) (h0 : t.val % 7 = 0) (h1 : t.val % 7 = 0) (h2 : ¬t.val % 7 = 1) (h3 : ¬t.val % 7 = 2) (h4 : ¬3 ≤ t.val % 7) (r : Fin 128) (z : Fin 5120) :
    (outsAt0 m c t.val t.isLt).1 (ix3 0 r z)
      = row1 (grid0.coords t) (iblk m c 5 t) (View.canon (Val := Elt Ideal) (e := .fp8e4m3) (keptKeys (iblk m c 1 t)))
          (View.canon (Val := Elt Ideal) (e := .fp8e4m3) (keptVals (iblk m c 3 t)))
          (View.canon (Val := Elt Ideal) (e := .f32) (keptRows (iblk m c 2 t)))
          (View.canon (Val := Elt Ideal) (e := .f32) (keptRows (iblk m c 4 t)))
          (View.canon (Val := Elt Ideal) (e := .fp8e4m3) (keptL (iblk m c 0 t) 40)) (fun h r => kScale (topQ (iblk m c 0 t) h r)) r z := by
  rw [outsAt0_A m c t h0 h1 h2 h3 h4]
  frame_out
  exact loop1_at _ _ _ _ _ _ _ _ _ _ _ _ _ _ _ _ _ _ _ _ _ _ _ _ _ _ _ _ _ _ _ _ _ _ _ _ _ _ _ _ _ _ _ _ _ _ _ _ _ (View.canon (Val := Elt Ideal) (e := .f32) [⟨factorR, factorV (iblk m c 0 t)⟩]) _ isMask
    (Memref.IsWhole.read_unread _ _) ((View.read_writes_junk_eq_canon _ _).trans rfl) ((View.read_writes_junk_eq_canon _ _).trans rfl) ((View.read_writes_junk_eq_canon _ _).trans rfl)
    ((View.read_writes_junk_eq_canon _ _).trans rfl) ((View.read_writes_junk_eq_canon _ _).trans rfl) ((View.read_writes_junk_eq_canon _ _).trans rfl)
    (fun h r => qs_pos _ h r) (fun h r => factor_at _ h r) r z

/-! ### The second query tile -/

theorem codesB (c : Dev nD) (t : Fin cfg0.N) (h0 : ¬t.val % 7 = 0) (h1 : ¬t.val % 7 = 0) (h2 : t.val % 7 = 1) (h3 : ¬t.val % 7 = 2) (h4 : ¬3 ≤ t.val % 7) :
    (outsAt0 m c t.val t.isLt).2.1 = View.canon (Val := Elt Ideal) (e := .fp8e4m3) (blockL (iblk m c 0 t) 40) := by
  rw [outsAt0_B m c t h0 h1 h2 h3 h4]
  frame_out
  rfl
theorem scaleB (c : Dev nD) (t : Fin cfg0.N) (h0 : ¬t.val % 7 = 0) (h1 : ¬t.val % 7 = 0) (h2 : t.val % 7 = 1) (h3 : ¬t.val % 7 = 2) (h4 : ¬3 ≤ t.val % 7) :
    (outsAt0 m c t.val t.isLt).2.2.1 = scaleOutV (iblk m c 0 t) := by
  rw [outsAt0_B m c t h0 h1 h2 h3 h4]
  funext y
  frame_out
  rfl
theorem keptB0 (c : Dev nD) (t : Fin cfg0.N) (h0 : ¬t.val % 7 = 0) (h1 : ¬t.val % 7 = 0) (h2 : t.val % 7 = 1) (h3 : ¬t.val % 7 = 2) (h4 : ¬3 ≤ t.val % 7) :
    (outsAt0 m c t.val t.isLt).2.2.2.1 = (outsAt0 m c (t.val - 1) (Nat.lt_of_le_of_lt (Nat.sub_le _ _) t.isLt)).2.2.2.1 := by
  rw [outsAt0_B m c t h0 h1 h2 h3 h4]
  rfl
theorem keptB1 (c : Dev nD) (t : Fin cfg0.N) (h0 : ¬t.val % 7 = 0) (h1 : ¬t.val % 7 = 0) (h2 : t.val % 7 = 1) (h3 : ¬t.val % 7 = 2) (h4 : ¬3 ≤ t.val % 7) :
    (outsAt0 m c t.val t.isLt).2.2.2.2.1 = (outsAt0 m c (t.val - 1) (Nat.lt_of_le_of_lt (Nat.sub_le _ _) t.isLt)).2.2.2.2.1 := by
  rw [outsAt0_B m c t h0 h1 h2 h3 h4]
  rfl
theorem keptB2 (c : Dev nD) (t : Fin cfg0.N) (h0 : ¬t.val % 7 = 0) (h1 : ¬t.val % 7 = 0) (h2 : t.val % 7 = 1) (h3 : ¬t.val % 7 = 2) (h4 : ¬3 ≤ t.val % 7) :
    (outsAt0 m c t.val t.isLt).2.2.2.2.2.1 = (outsAt0 m c (t.val - 1) (Nat.lt_of_le_of_lt (Nat.sub_le _ _) t.isLt)).2.2.2.2.2.1 := by
  rw [outsAt0_B m c t h0 h1 h2 h3 h4]
  rfl
theorem keptB3 (c : Dev nD) (t : Fin cfg0.N) (h0 : ¬t.val % 7 = 0) (h1 : ¬t.val % 7 = 0) (h2 : t.val % 7 = 1) (h3 : ¬t.val % 7 = 2) (h4 : ¬3 ≤ t.val % 7) :
    (outsAt0 m c t.val t.isLt).2.2.2.2.2.2 = (outsAt0 m c (t.val - 1) (Nat.lt_of_le_of_lt (Nat.sub_le _ _) t.isLt)).2.2.2.2.2.2 := by
  rw [outsAt0_B m c t h0 h1 h2 h3 h4]
  rfl

theorem outB (c : Dev nD) (t : Fin cfg0.N) (h0 : ¬t.val % 7 = 0) (h1 : ¬t.val % 7 = 0) (h2 : t.val % 7 = 1) (h3 : ¬t.val % 7 = 2) (h4 : ¬3 ≤ t.val % 7) (r : Fin 128) (z : Fin 5120) :
    (outsAt0 m c t.val t.isLt).1 (ix3 0 r z)
      = row2 (grid0.coords t) (iblk m c 5 t) (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2.1
          (outsAt0 m c (t.val - 1) (Nat.lt_of_le_of_lt (Nat.sub_le _ _) t.isLt)).2.2.2.2.2.2
          (View.canon (Val := Elt Ideal) (e := .fp8e4m3) (keptL (iblk m c 0 t) 40)) (fun h r => kScale (topQ (iblk m c 0 t) h r)) r z := by
  rw [outsAt0_B m c t h0 h1 h2 h3 h4]
  frame_out
  exact loop2_at _ _ _ _ _ _ _ _ _ _ _ _ _ _ _ _ _ _ _ _ _ _ _ _ _ _ _ _ _ _ _ _ _ _ _ _ _ _ _ _ _ _ _ _ _ _ _ _ _ (View.canon (Val := Elt Ideal) (e := .f32) [⟨factorR, factorV (iblk m c 0 t)⟩]) _ isMask
    (Memref.IsWhole.read_unread _ _) (Memref.IsWhole.read_unread _ _) (Memref.IsWhole.read_unread _ _) (Memref.IsWhole.read_unread _ _)
    (Memref.IsWhole.read_unread _ _) ((View.read_writes_junk_eq_canon _ _).trans rfl) ((View.read_writes_junk_eq_canon _ _).trans rfl)
    (fun h r => qs_pos _ h r) (fun h r => factor_at _ h r) r z

/-! ### The third query tile -/

theorem codesC (c : Dev nD) (t : Fin cfg0.N) (h0 : ¬t.val % 7 = 0) (h1 : ¬t.val % 7 = 0) (h2 : ¬t.val % 7 = 1) (h3 : t.val % 7 = 2) (h4 : ¬3 ≤ t.val % 7) :
    (outsAt0 m c t.val t.isLt).2.1 = View.canon (Val := Elt Ideal) (e := .fp8e4m3) (blockL (iblk m c 0 t) 40) := by
  rw [outsAt0_C m c t h0 h1 h2 h3 h4]
  frame_out
  rfl
theorem scaleC (c : Dev nD) (t : Fin cfg0.N) (h0 : ¬t.val % 7 = 0) (h1 : ¬t.val % 7 = 0) (h2 : ¬t.val % 7 = 1) (h3 : t.val % 7 = 2) (h4 : ¬3 ≤ t.val % 7) :
    (outsAt0 m c t.val t.isLt).2.2.1 = scaleOutV (iblk m c 0 t) := by
  rw [outsAt0_C m c t h0 h1 h2 h3 h4]
  funext y
  frame_out
  rfl
theorem keptC0 (c : Dev nD) (t : Fin cfg0.N) (h0 : ¬t.val % 7 = 0) (h1 : ¬t.val % 7 = 0) (h2 : ¬t.val % 7 = 1) (h3 : t.val % 7 = 2) (h4 : ¬3 ≤ t.val % 7) :
    (outsAt0 m c t.val t.isLt).2.2.2.1 = (outsAt0 m c (t.val - 1) (Nat.lt_of_le_of_lt (Nat.sub_le _ _) t.isLt)).2.2.2.1 := by
  rw [outsAt0_C m c t h0 h1 h2 h3 h4]
  rfl
theorem keptC1 (c : Dev nD) (t : Fin cfg0.N) (h0 : ¬t.val % 7 = 0) (h1 : ¬t.val % 7 = 0) (h2 : ¬t.val % 7 = 1) (h3 : t.val % 7 = 2) (h4 : ¬3 ≤ t.val % 7) :
    (outsAt0 m c t.val t.isLt).2.2.2.2.1 = (outsAt0 m c (t.val - 1) (Nat.lt_of_le_of_lt (Nat.sub_le _ _) t.isLt)).2.2.2.2.1 := by
  rw [outsAt0_C m c t h0 h1 h2 h3 h4]
  rfl
theorem keptC2 (c : Dev nD) (t : Fin cfg0.N) (h0 : ¬t.val % 7 = 0) (h1 : ¬t.val % 7 = 0) (h2 : ¬t.val % 7 = 1) (h3 : t.val % 7 = 2) (h4 : ¬3 ≤ t.val % 7) :
    (outsAt0 m c t.val t.isLt).2.2.2.2.2.1 = (outsAt0 m c (t.val - 1) (Nat.lt_of_le_of_lt (Nat.sub_le _ _) t.isLt)).2.2.2.2.2.1 := by
  rw [outsAt0_C m c t h0 h1 h2 h3 h4]
  rfl
theorem keptC3 (c : Dev nD) (t : Fin cfg0.N) (h0 : ¬t.val % 7 = 0) (h1 : ¬t.val % 7 = 0) (h2 : ¬t.val % 7 = 1) (h3 : t.val % 7 = 2) (h4 : ¬3 ≤ t.val % 7) :
    (outsAt0 m c t.val t.isLt).2.2.2.2.2.2 = (outsAt0 m c (t.val - 1) (Nat.lt_of_le_of_lt (Nat.sub_le _ _) t.isLt)).2.2.2.2.2.2 := by
  rw [outsAt0_C m c t h0 h1 h2 h3 h4]
  rfl

theorem outC (c : Dev nD) (t : Fin cfg0.N) (h0 : ¬t.val % 7 = 0) (h1 : ¬t.val % 7 = 0) (h2 : ¬t.val % 7 = 1) (h3 : t.val % 7 = 2) (h4 : ¬3 ≤ t.val % 7) (r : Fin 128) (z : Fin 5120) :
    (outsAt0 m c t.val t.isLt).1 (ix3 0 r z)
      = row3 (grid0.coords t) (iblk m c 5 t) (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2.1
          (outsAt0 m c (t.val - 1) (Nat.lt_of_le_of_lt (Nat.sub_le _ _) t.isLt)).2.2.2.2.2.2
          (View.canon (Val := Elt Ideal) (e := .fp8e4m3) (keptL (iblk m c 0 t) 40)) (fun h r => kScale (topQ (iblk m c 0 t) h r)) r z := by
  rw [outsAt0_C m c t h0 h1 h2 h3 h4]
  frame_out
  exact loop3_at _ _ _ _ _ _ _ _ _ _ _ _ _ _ _ _ _ _ _ _ _ _ _ _ _ _ _ _ _ _ _ _ _ _ _ _ _ _ _ _ _ _ _ _ _ _ _ _ _ (View.canon (Val := Elt Ideal) (e := .f32) [⟨factorR, factorV (iblk m c 0 t)⟩]) _ isMask
    (Memref.IsWhole.read_unread _ _) (Memref.IsWhole.read_unread _ _) (Memref.IsWhole.read_unread _ _) (Memref.IsWhole.read_unread _ _)
    (Memref.IsWhole.read_unread _ _) ((View.read_writes_junk_eq_canon _ _).trans rfl) ((View.read_writes_junk_eq_canon _ _).trans rfl)
    (fun h r => qs_pos _ h r) (fun h r => factor_at _ h r) r z

/-! ### Every later query tile -/

theorem codesD (c : Dev nD) (t : Fin cfg0.N) (h0 : ¬t.val % 7 = 0) (h1 : ¬t.val % 7 = 0) (h2 : ¬t.val % 7 = 1) (h3 : ¬t.val % 7 = 2) (h4 : 3 ≤ t.val % 7) :
    (outsAt0 m c t.val t.isLt).2.1 = View.canon (Val := Elt Ideal) (e := .fp8e4m3) (blockL (iblk m c 0 t) 40) := by
  rw [outsAt0_D m c t h0 h1 h2 h3 h4]
  frame_out
  rfl
theorem scaleD (c : Dev nD) (t : Fin cfg0.N) (h0 : ¬t.val % 7 = 0) (h1 : ¬t.val % 7 = 0) (h2 : ¬t.val % 7 = 1) (h3 : ¬t.val % 7 = 2) (h4 : 3 ≤ t.val % 7) :
    (outsAt0 m c t.val t.isLt).2.2.1 = scaleOutV (iblk m c 0 t) := by
  rw [outsAt0_D m c t h0 h1 h2 h3 h4]
  funext y
  frame_out
  rfl
theorem keptD0 (c : Dev nD) (t : Fin cfg0.N) (h0 : ¬t.val % 7 = 0) (h1 : ¬t.val % 7 = 0) (h2 : ¬t.val % 7 = 1) (h3 : ¬t.val % 7 = 2) (h4 : 3 ≤ t.val % 7) :
    (outsAt0 m c t.val t.isLt).2.2.2.1 = (outsAt0 m c (t.val - 1) (Nat.lt_of_le_of_lt (Nat.sub_le _ _) t.isLt)).2.2.2.1 := by
  rw [outsAt0_D m c t h0 h1 h2 h3 h4]
  rfl
theorem keptD1 (c : Dev nD) (t : Fin cfg0.N) (h0 : ¬t.val % 7 = 0) (h1 : ¬t.val % 7 = 0) (h2 : ¬t.val % 7 = 1) (h3 : ¬t.val % 7 = 2) (h4 : 3 ≤ t.val % 7) :
    (outsAt0 m c t.val t.isLt).2.2.2.2.1 = (outsAt0 m c (t.val - 1) (Nat.lt_of_le_of_lt (Nat.sub_le _ _) t.isLt)).2.2.2.2.1 := by
  rw [outsAt0_D m c t h0 h1 h2 h3 h4]
  rfl
theorem keptD2 (c : Dev nD) (t : Fin cfg0.N) (h0 : ¬t.val % 7 = 0) (h1 : ¬t.val % 7 = 0) (h2 : ¬t.val % 7 = 1) (h3 : ¬t.val % 7 = 2) (h4 : 3 ≤ t.val % 7) :
    (outsAt0 m c t.val t.isLt).2.2.2.2.2.1 = (outsAt0 m c (t.val - 1) (Nat.lt_of_le_of_lt (Nat.sub_le _ _) t.isLt)).2.2.2.2.2.1 := by
  rw [outsAt0_D m c t h0 h1 h2 h3 h4]
  rfl
theorem keptD3 (c : Dev nD) (t : Fin cfg0.N) (h0 : ¬t.val % 7 = 0) (h1 : ¬t.val % 7 = 0) (h2 : ¬t.val % 7 = 1) (h3 : ¬t.val % 7 = 2) (h4 : 3 ≤ t.val % 7) :
    (outsAt0 m c t.val t.isLt).2.2.2.2.2.2 = (outsAt0 m c (t.val - 1) (Nat.lt_of_le_of_lt (Nat.sub_le _ _) t.isLt)).2.2.2.2.2.2 := by
  rw [outsAt0_D m c t h0 h1 h2 h3 h4]
  rfl

theorem outD (c : Dev nD) (t : Fin cfg0.N) (h0 : ¬t.val % 7 = 0) (h1 : ¬t.val % 7 = 0) (h2 : ¬t.val % 7 = 1) (h3 : ¬t.val % 7 = 2) (h4 : 3 ≤ t.val % 7) (r : Fin 128) (z : Fin 5120) :
    (outsAt0 m c t.val t.isLt).1 (ix3 0 r z)
      = row4 (grid0.coords t) (iblk m c 5 t) (outsAt0 m c (t.val - 1) (Nat.lt_of_le_of_lt (Nat.sub_le _ _) t.isLt)).2.2.2.1
          (outsAt0 m c (t.val - 1) (Nat.lt_of_le_of_lt (Nat.sub_le _ _) t.isLt)).2.2.2.2.1
          (outsAt0 m c (t.val - 1) (Nat.lt_of_le_of_lt (Nat.sub_le _ _) t.isLt)).2.2.2.2.2.1
          (outsAt0 m c (t.val - 1) (Nat.lt_of_le_of_lt (Nat.sub_le _ _) t.isLt)).2.2.2.2.2.2
          (View.canon (Val := Elt Ideal) (e := .fp8e4m3) (keptL (iblk m c 0 t) 40)) (fun h r => kScale (topQ (iblk m c 0 t) h r)) r z := by
  rw [outsAt0_D m c t h0 h1 h2 h3 h4]
  frame_out
  exact loop4_at _ _ _ _ _ _ _ _ _ _ _ _ _ _ _ _ _ _ _ _ _ _ _ _ _ _ _ _ _ _ _ _ _ _ _ _ _ _ _ _ _ _ _ _ _ _ _ _ _ _ (View.canon (Val := Elt Ideal) (e := .f32) [⟨factorR, factorV (iblk m c 0 t)⟩]) _ isMask
    (Memref.IsWhole.read_unread _ _) (Memref.IsWhole.read_unread _ _) (Memref.IsWhole.read_unread _ _) (Memref.IsWhole.read_unread _ _)
    (Memref.IsWhole.read_unread _ _) ((View.read_writes_junk_eq_canon _ _).trans rfl) ((View.read_writes_junk_eq_canon _ _).trans rfl)
    (fun h r => qs_pos _ h r) (fun h r => factor_at _ h r) r z

end Cert.KernelIdeal.Out

end
-- ==== Proof.Spec.lean ====
/- The three results as plain functions of the six arguments: the codes of the queries, the powers of two they were divided
   by, and the attention over a window of 384 keys. -/
module

public import proofs.«01_k».proof.Proof.Row

@[expose] public section

noncomputable section

namespace Cert.Pure

open Idealize.ShloMosaic
open scoped BigOperators

/-- The group of keys and values that head `h` reads, and the column of its lane `e` in a row of all heads. -/
abbrev groupOf (h : Fin 40) : Fin 8 := ⟨(h : ℕ) / 5, by omega⟩
abbrev laneOf (h : Fin 40) (e : Fin 128) : Fin 5120 := ⟨128 * (h : ℕ) + e, by omega⟩
abbrev headAt (z : Fin 5120) : Fin 40 := ⟨(z : ℕ) / 128, by omega⟩
abbrev laneAt (z : Fin 5120) : Fin 128 := ⟨(z : ℕ) % 128, by omega⟩
theorem laneOf_at (z : Fin 5120) : laneOf (headAt z) (laneAt z) = z := Fin.ext (Nat.div_add_mod _ _)

/-- Query `p` sees key `j`. -/
abbrev seen (p j : Fin 896) : Prop := (j : ℕ) ≤ p ∧ (p : ℕ) < j + 384
theorem seen_self (p : Fin 896) : ∃ j, seen p j := ⟨p, le_rfl, by omega⟩

variable (x : Fin 2 → Fin 896 → Fin 5120 → EReal) (k : Fin 2 → Fin 8 → Fin 128 → Fin 896 → EReal)
  (ks : Fin 2 → Fin 8 → Fin 896 → EReal) (v : Fin 2 → Fin 8 → Fin 896 → Fin 128 → EReal)
  (vs : Fin 2 → Fin 8 → Fin 896 → EReal) (sk : Fin 40 → EReal)

/-- The largest magnitude of head `h` of query `p`. -/
def sTop (b : Fin 2) (h : Fin 40) (p : Fin 896) : EReal :=
  Finset.univ.sup fun e : Fin 128 => max (x b p (laneOf h e)) (-(x b p (laneOf h e)))
def sCode (b : Fin 2) (h : Fin 40) (p : Fin 896) (e : Fin 128) : EReal := clip (x b p (laneOf h e) * rInv (sTop x b h p))
def sScale (b : Fin 2) (h : Fin 40) (p : Fin 896) : EReal := rScale (sTop x b h p)
def sOut (b : Fin 2) (h : Fin 40) (p : Fin 896) (c : Fin 128) : EReal :=
  rOut (fun j => ∑ e, sCode x b h p e * k b (groupOf h) e j) (fun j => ks b (groupOf h) j) (fun j => vs b (groupOf h) j)
    (fun j => v b (groupOf h) j c) (sScale x b h p) (sk h) (seen p)

theorem sTop_nonneg (b : Fin 2) (h : Fin 40) (p : Fin 896) : 0 ≤ sTop x b h p :=
  le_trans (abs_nonneg' _) (Finset.le_sup (f := fun e : Fin 128 => max (x b p (laneOf h e)) (-(x b p (laneOf h e))))
    (Finset.mem_univ (0 : Fin 128)))

end Cert.Pure

end
-- ==== Proof.Final.lean ====
/- The three arrays the kernel leaves, as the plain functions of the arguments. -/
module

public import proofs.«01_k».proof.Proof.Point
public import proofs.«01_k».proof.Proof.Spec

@[expose] public section

set_option maxRecDepth 16384

noncomputable section

namespace Cert.KernelIdeal.Out

open Cert.KernelIdeal Cert.KernelIdeal.Gen Cert.Pure Idealize.ShloMosaic Idealize.ShloMosaic.TcCoe Idealize.SL.Sem
open scoped BigOperators

open Cert.KernelIdeal.Value

/-! ### The windows of the four loops are the keys a query sees -/

theorem win_U {N : ℕ} (hN : N ≤ 896) (h128 : 128 ≤ N) (h384 : N ≤ 384) (p : Fin 896) (r : Fin 128) (hp : (p : ℕ) = N - 128 + r) :
    Win (seen p) (okU N r) (keyU hN) where
  inj i i' _ _ h := Fin.ext (congrArg (fun j : Fin 896 => (j : ℕ)) h)
  mem i hi := ⟨by show (i : ℕ) ≤ _; rw [hp]; exact hi, by show (p : ℕ) < (i : ℕ) + 384; omega⟩
  onto j hj := ⟨⟨j, by have := hj.1; omega⟩, by show (j : ℕ) ≤ _; have := hj.1; omega, rfl⟩

theorem win_M (first : ℕ) (hf : first + 512 ≤ 896) (p : Fin 896) (r : Fin 128) (hp : (p : ℕ) = first + 384 + r) :
    Win (seen p) ok4 (key4 first hf r) where
  inj i i' _ _ h := by
    have h' : first + pos4 r i = first + pos4 r i' := congrArg Fin.val h
    refine Fin.ext ?_
    unfold pos4 at h'
    split at h' <;> split at h' <;> (try split at h') <;> (try split at h') <;> omega
  mem i _ := by
    show first + pos4 r i ≤ (p : ℕ) ∧ (p : ℕ) < first + pos4 r i + 384
    unfold pos4
    split
    · omega
    · split <;> omega
  onto j hj := by
    obtain ⟨h1, h2⟩ := hj
    by_cases h : (j : ℕ) < first + 128
    · refine ⟨⟨j - first + 256, by omega⟩, trivial, Fin.ext ?_⟩
      show first + pos4 r _ = _
      unfold pos4
      rw [if_neg (by show ¬((j : ℕ) - first + 256 < 256); omega), if_neg (by show ¬((j : ℕ) - first + 256 - 256 ≤ r); omega)]
      show first + ((j : ℕ) - first + 256 - 256) = j
      omega
    · refine ⟨⟨j - first - 128, by omega⟩, trivial, Fin.ext ?_⟩
      show first + pos4 r _ = _
      unfold pos4
      split
      · show first + (128 + ((j : ℕ) - first - 128)) = j
        omega
      · rename_i h3
        have h3 : ¬((j : ℕ) - first - 128 < 256) := h3
        rw [if_pos (by show (j : ℕ) - first - 128 - 256 ≤ r; omega)]
        show first + (128 + ((j : ℕ) - first - 128)) = j
        omega

theorem win_M' (first : ℕ) (hf : first + 512 ≤ 896) (p : Fin 896) (r : Fin 128) (hp : (p : ℕ) = first + 384 + r) :
    Win (seen p) (ok4' r) (key4' first hf) where
  inj i i' _ _ h := by
    have h' : first + (i : ℕ) = first + i' := congrArg Fin.val h
    exact Fin.ext (by omega)
  mem i hi := by
    obtain ⟨h1, h2⟩ := hi
    show first + (i : ℕ) ≤ (p : ℕ) ∧ (p : ℕ) < first + (i : ℕ) + 384
    omega
  onto j hj := by
    obtain ⟨h1, h2⟩ := hj
    refine ⟨⟨j - first, by omega⟩, ?_, Fin.ext ?_⟩
    · show (r : ℕ) < j - first ∧ (j : ℕ) - first ≤ 384 + r
      omega
    · show first + ((j : ℕ) - first) = j
      omega

/-! ### A row of the result from the arrays read -/

variable (x : Fin 2 → Fin 896 → Fin 5120 → EReal) (k : Fin 2 → Fin 8 → Fin 128 → Fin 896 → EReal)
  (ks : Fin 2 → Fin 8 → Fin 896 → EReal) (v : Fin 2 → Fin 8 → Fin 896 → Fin 128 → EReal)
  (vs : Fin 2 → Fin 8 → Fin 896 → EReal) (sk : Fin 40 → EReal)

theorem topQ_eq (X : S1x128x5120.Idx → EReal) (b : Fin 2) (p : Fin 896) (r : Fin 128) (hX : ∀ z, X (ix3 0 r z) = x b p z) (h : Fin 40) :
    topQ X h r = sTop x b h p := Finset.sup_congr rfl fun e _ => by rw [hX]

theorem codeQ_eq (X : S1x128x5120.Idx → EReal) (b : Fin 2) (p : Fin 896) (r : Fin 128) (hX : ∀ z, X (ix3 0 r z) = x b p z) (z : Fin 5120) :
    codeQ X r z = sCode x b (headAt z) p (laneAt z) := by
  unfold codeQ sCode
  rw [topQ_eq x X b p r hX, hX, laneOf_at, (scale_eq _ (sTop_nonneg x b _ p)).2]

theorem codeQ_row (X : S1x128x5120.Idx → EReal) (b : Fin 2) (p : Fin 896) (r : Fin 128) (hX : ∀ z, X (ix3 0 r z) = x b p z)
    (h : Fin 40) (e : Fin 128) : codeQ X r (rowOf h e) = sCode x b h p e := by
  have hh : headOf (rowOf h e) = h := Fin.ext (by show (128 * (h : ℕ) + e) / 128 = h; omega)
  unfold codeQ sCode
  rw [hh, topQ_eq x X b p r hX, hX, (scale_eq _ (sTop_nonneg x b _ p)).2]

theorem scaleQ_eq (X : S1x128x5120.Idx → EReal) (b : Fin 2) (p : Fin 896) (r : Fin 128) (hX : ∀ z, X (ix3 0 r z) = x b p z) (h : Fin 40) :
    kScale (topQ X h r) = sScale x b h p := by
  unfold sScale
  rw [topQ_eq x X b p r hX, (scale_eq _ (sTop_nonneg x b _ p)).1]

theorem attRow_eq {ι ι' : Type} [Fintype ι] [Fintype ι'] (X : S1x128x5120.Idx → EReal) (b : Fin 2) (p : Fin 896) (r : Fin 128)
    (hX : ∀ z, X (ix3 0 r z) = x b p z)
    (R7 : S40.Idx → EReal) (R11 : S8x896x128.Idx → EReal) (R12 : S8x128x896.Idx → EReal) (R13 R14 : S8x896x128.Idx → EReal)
    (R15 : S5120x128.Idx → EReal)
    (h7 : ∀ h, R7 (ix1 h) = sk h) (h11 : ∀ g j e, R11 (ix3 g j e) = k b g e j) (h12 : ∀ g d j, R12 (ix3 g d j) = v b g j d)
    (h13 : ∀ g j d, R13 (ix3 g j d) = ks b g j) (h14 : ∀ g j d, R14 (ix3 g j d) = vs b g j)
    (h15 : ∀ h e, R15 (ix2 (rowOf h r) e) = codeQ X r (rowOf h e)) (hvs : ∀ b g j, 0 ≤ vs b g j)
    (ok : ι → Prop) [DecidablePred ok] (key : ι → Fin 896) (ok' : ι' → Prop) [DecidablePred ok'] (key' : ι' → Fin 896)
    (hw : Win (seen p) ok key) (hw' : Win (seen p) ok' key') (h : Fin 40) (d : Fin 128) :
    attRow R7 R11 R12 R13 R14 R15 (fun h r => kScale (topQ X h r)) ok key ok' key' h r d = sOut x k ks v vs sk b h p d := by
  unfold attRow sOut
  rw [← kOut_eq hw hw' (seen_self p) (fun j => hvs b (groupOf h) j)
    (by rw [← scaleQ_eq x X b p r hX]; exact qs_pos X h r)]
  simp only [h7, h11, h12, h13, h14, h15, codeQ_row x X b p r hX, scaleQ_eq x X b p r hX, mul_comm (k b _ _ _)]

/-! ### The blocks of a grid point -/

section Blocks

variable (m : (ℓ : Loc nD τ sig) → Buf (Elt Ideal) ℓ)

/-- The six arguments by coordinates. -/
abbrev argX (c : Dev nD) : Fin 2 → Fin 896 → Fin 5120 → EReal := fun b p z => m ((c : Thread nD τ).loc main_arg0) (ix3 b p z)
abbrev argK (c : Dev nD) : Fin 2 → Fin 8 → Fin 128 → Fin 896 → EReal := fun b g e j => m ((c : Thread nD τ).loc main_arg1) (ix4 b g e j)
abbrev argKs (c : Dev nD) : Fin 2 → Fin 8 → Fin 896 → EReal := fun b g j => m ((c : Thread nD τ).loc main_arg2) (ix3 b g j)
abbrev argV (c : Dev nD) : Fin 2 → Fin 8 → Fin 896 → Fin 128 → EReal := fun b g j d => m ((c : Thread nD τ).loc main_arg3) (ix4 b g j d)
abbrev argVs (c : Dev nD) : Fin 2 → Fin 8 → Fin 896 → EReal := fun b g j => m ((c : Thread nD τ).loc main_arg4) (ix3 b g j)
abbrev argSk (c : Dev nD) : Fin 40 → EReal := fun h => m ((c : Thread nD τ).loc main_arg5) (ix1 h)

theorem coord1 : ∀ t : Fin cfg0.N, (grid0.coords t 1 : ℕ) = t.val % 7 := (by decide +kernel : ∀ t : Fin grid0.N, _)
theorem idx_in : ∀ t : Fin cfg0.N, win0_0.index t = ![t.val / 7, t.val % 7, 0] ∧ win0_1.index t = ![t.val / 7, 0, 0, 0]
    ∧ win0_2.index t = ![t.val / 7, 0, 0] ∧ win0_3.index t = ![t.val / 7, 0, 0, 0] ∧ win0_4.index t = ![t.val / 7, 0, 0]
    ∧ win0_5.index t = ![0] := (by decide +kernel : ∀ t : Fin grid0.N, _)

abbrev batchOf (t : Fin cfg0.N) : Fin 2 := ⟨t.val / 7, by have := lt_of_lt_of_eq t.isLt N_0; omega⟩
abbrev queryOf (t : Fin cfg0.N) (r : Fin 128) : Fin 896 := ⟨128 * (t.val % 7) + r, by omega⟩

theorem blk0_at (c : Dev nD) (t : Fin cfg0.N) (r : Fin 128) (z : Fin 5120) :
    iblk m c 0 t (ix3 0 r z) = argX m c (batchOf t) (queryOf t r) z := by
  blk_ext [iblk, V, idx_in t]
theorem blk1_eq (c : Dev nD) (t : Fin cfg0.N) :
    iblk m c 1 t = fun y : S1x8x128x896.Idx => m ((c : Thread nD τ).loc main_arg1) (ix4 (batchOf t) (y 1) (y 2) (y 3)) := by
  funext y
  blk_ext [iblk, V, idx_in t]
theorem blk2_eq (c : Dev nD) (t : Fin cfg0.N) :
    iblk m c 2 t = fun y : S1x8x896.Idx => m ((c : Thread nD τ).loc main_arg2) (ix3 (batchOf t) (y 1) (y 2)) := by
  funext y
  blk_ext [iblk, V, idx_in t]
theorem blk3_eq (c : Dev nD) (t : Fin cfg0.N) :
    iblk m c 3 t = fun y : S1x8x896x128.Idx => m ((c : Thread nD τ).loc main_arg3) (ix4 (batchOf t) (y 1) (y 2) (y 3)) := by
  funext y
  blk_ext [iblk, V, idx_in t]
theorem blk4_eq (c : Dev nD) (t : Fin cfg0.N) :
    iblk m c 4 t = fun y : S1x8x896.Idx => m ((c : Thread nD τ).loc main_arg4) (ix3 (batchOf t) (y 1) (y 2)) := by
  funext y
  blk_ext [iblk, V, idx_in t]
theorem blk5_at (c : Dev nD) (t : Fin cfg0.N) (h : Fin 40) : iblk m c 5 t (ix1 h) = argSk m c h := by
  blk_ext [iblk, V, idx_in t]

/-! ### The arrays kept over a batch element -/

/-- What the four kept arrays hold after a grid point. -/
structure Kept (c : Dev nD) (b : Fin 2) (R11 : S8x896x128.Idx → EReal) (R12 : S8x128x896.Idx → EReal)
    (R13 R14 : S8x896x128.Idx → EReal) : Prop where
  keys : ∀ g j e, R11 (ix3 g j e) = argK m c b g e j
  vals : ∀ g d j, R12 (ix3 g d j) = argV m c b g j d
  keyScales : ∀ g j d, R13 (ix3 g j d) = argKs m c b g j
  valScales : ∀ g j d, R14 (ix3 g j d) = argVs m c b g j

theorem kept_new (c : Dev nD) (t : Fin cfg0.N) : Kept m c (batchOf t)
    (View.canon (Val := Elt Ideal) (e := .fp8e4m3) (keptKeys (iblk m c 1 t)))
    (View.canon (Val := Elt Ideal) (e := .fp8e4m3) (keptVals (iblk m c 3 t)))
    (View.canon (Val := Elt Ideal) (e := .f32) (keptRows (iblk m c 2 t)))
    (View.canon (Val := Elt Ideal) (e := .f32) (keptRows (iblk m c 4 t))) where
  keys g j e := (keptKeys_at _ g j e).trans (congrFun (blk1_eq m c t) (ix4 0 g e j))
  vals g d j := (keptVals_at _ g d j).trans (congrFun (blk3_eq m c t) (ix4 0 g j d))
  keyScales g j d := (keptRows_at _ g j d).trans (congrFun (blk2_eq m c t) (ix3 0 g j))
  valScales g j d := (keptRows_at _ g j d).trans (congrFun (blk4_eq m c t) (ix3 0 g j))

theorem kept_all (c : Dev nD) : ∀ (n : ℕ) (hn : n < cfg0.N), Kept m c (batchOf ⟨n, hn⟩)
    (outsAt0 m c n hn).2.2.2.1 (outsAt0 m c n hn).2.2.2.2.1 (outsAt0 m c n hn).2.2.2.2.2.1 (outsAt0 m c n hn).2.2.2.2.2.2 := by
  intro n
  induction n with
  | zero =>
    intro hn
    have h := kept_new m c ⟨0, hn⟩
    have e0 := keptA0 m c ⟨0, hn⟩ (Nat.zero_mod _) (Nat.zero_mod _) (by simp) (by simp) (by simp)
    have e1 := keptA1 m c ⟨0, hn⟩ (Nat.zero_mod _) (Nat.zero_mod _) (by simp) (by simp) (by simp)
    have e2 := keptA2 m c ⟨0, hn⟩ (Nat.zero_mod _) (Nat.zero_mod _) (by simp) (by simp) (by simp)
    have e3 := keptA3 m c ⟨0, hn⟩ (Nat.zero_mod _) (Nat.zero_mod _) (by simp) (by simp) (by simp)
    rw [← e0, ← e1, ← e2, ← e3] at h
    exact h
  | succ n ih =>
    intro hn
    by_cases h0 : (n + 1) % 7 = 0
    · have h := kept_new m c ⟨n + 1, hn⟩
      have e0 := keptA0 m c ⟨n + 1, hn⟩ h0 h0 (by show ¬(n + 1) % 7 = 1; omega) (by show ¬(n + 1) % 7 = 2; omega) (by show ¬3 ≤ (n + 1) % 7; omega)
      have e1 := keptA1 m c ⟨n + 1, hn⟩ h0 h0 (by show ¬(n + 1) % 7 = 1; omega) (by show ¬(n + 1) % 7 = 2; omega) (by show ¬3 ≤ (n + 1) % 7; omega)
      have e2 := keptA2 m c ⟨n + 1, hn⟩ h0 h0 (by show ¬(n + 1) % 7 = 1; omega) (by show ¬(n + 1) % 7 = 2; omega) (by show ¬3 ≤ (n + 1) % 7; omega)
      have e3 := keptA3 m c ⟨n + 1, hn⟩ h0 h0 (by show ¬(n + 1) % 7 = 1; omega) (by show ¬(n + 1) % 7 = 2; omega) (by show ¬3 ≤ (n + 1) % 7; omega)
      rw [← e0, ← e1, ← e2, ← e3] at h
      exact h
    · have h := ih (Nat.lt_of_succ_lt hn)
      have hb : batchOf ⟨n, Nat.lt_of_succ_lt hn⟩ = batchOf ⟨n + 1, hn⟩ := Fin.ext (by show n / 7 = (n + 1) / 7; omega)
      rw [hb] at h
      by_cases h1 : (n + 1) % 7 = 1
      · have e0 := keptB0 m c ⟨n + 1, hn⟩ h0 h0 h1 (by show ¬(n + 1) % 7 = 2; omega) (by show ¬3 ≤ (n + 1) % 7; omega)
        have e1 := keptB1 m c ⟨n + 1, hn⟩ h0 h0 h1 (by show ¬(n + 1) % 7 = 2; omega) (by show ¬3 ≤ (n + 1) % 7; omega)
        have e2 := keptB2 m c ⟨n + 1, hn⟩ h0 h0 h1 (by show ¬(n + 1) % 7 = 2; omega) (by show ¬3 ≤ (n + 1) % 7; omega)
        have e3 := keptB3 m c ⟨n + 1, hn⟩ h0 h0 h1 (by show ¬(n + 1) % 7 = 2; omega) (by show ¬3 ≤ (n + 1) % 7; omega)
        rw [show outsAt0 m c (n + 1) hn = outsAt0 m c (⟨n + 1, hn⟩ : Fin cfg0.N).val (⟨n + 1, hn⟩ : Fin cfg0.N).isLt from rfl, e0, e1, e2, e3]
        exact h
      · by_cases h2 : (n + 1) % 7 = 2
        · have e0 := keptC0 m c ⟨n + 1, hn⟩ h0 h0 h1 h2 (by show ¬3 ≤ (n + 1) % 7; omega)
          have e1 := keptC1 m c ⟨n + 1, hn⟩ h0 h0 h1 h2 (by show ¬3 ≤ (n + 1) % 7; omega)
          have e2 := keptC2 m c ⟨n + 1, hn⟩ h0 h0 h1 h2 (by show ¬3 ≤ (n + 1) % 7; omega)
          have e3 := keptC3 m c ⟨n + 1, hn⟩ h0 h0 h1 h2 (by show ¬3 ≤ (n + 1) % 7; omega)
          rw [show outsAt0 m c (n + 1) hn = outsAt0 m c (⟨n + 1, hn⟩ : Fin cfg0.N).val (⟨n + 1, hn⟩ : Fin cfg0.N).isLt from rfl, e0, e1, e2, e3]
          exact h
        · have e0 := keptD0 m c ⟨n + 1, hn⟩ h0 h0 h1 h2 (by show 3 ≤ (n + 1) % 7; omega)
          have e1 := keptD1 m c ⟨n + 1, hn⟩ h0 h0 h1 h2 (by show 3 ≤ (n + 1) % 7; omega)
          have e2 := keptD2 m c ⟨n + 1, hn⟩ h0 h0 h1 h2 (by show 3 ≤ (n + 1) % 7; omega)
          have e3 := keptD3 m c ⟨n + 1, hn⟩ h0 h0 h1 h2 (by show 3 ≤ (n + 1) % 7; omega)
          rw [show outsAt0 m c (n + 1) hn = outsAt0 m c (⟨n + 1, hn⟩ : Fin cfg0.N).val (⟨n + 1, hn⟩ : Fin cfg0.N).isLt from rfl, e0, e1, e2, e3]
          exact h

/-! ### What a grid point leaves -/

theorem codes_pt (c : Dev nD) (t : Fin cfg0.N) (r : Fin 128) (z : Fin 5120) :
    (outsAt0 m c t.val t.isLt).2.1 (ix3 0 r z) = sCode (argX m c) (batchOf t) (headAt z) (queryOf t r) (laneAt z) := by
  have e : (outsAt0 m c t.val t.isLt).2.1 = View.canon (Val := Elt Ideal) (e := .fp8e4m3) (blockL (iblk m c 0 t) 40) := by
    by_cases h0 : t.val % 7 = 0
    · exact codesA m c t h0 h0 (by omega) (by omega) (by omega)
    · by_cases h1 : t.val % 7 = 1
      · exact codesB m c t h0 h0 h1 (by omega) (by omega)
      · by_cases h2 : t.val % 7 = 2
        · exact codesC m c t h0 h0 h1 h2 (by omega)
        · exact codesD m c t h0 h0 h1 h2 (by omega)
  rw [e]
  exact (block_at _ r z).trans (codeQ_eq _ _ (batchOf t) (queryOf t r) r (fun z => blk0_at m c t r z) z)

theorem scale_pt (c : Dev nD) (t : Fin cfg0.N) (h : Fin 40) (r : Fin 128) :
    (outsAt0 m c t.val t.isLt).2.2.1 (ix3 0 h r) = sScale (argX m c) (batchOf t) h (queryOf t r) := by
  have e : (outsAt0 m c t.val t.isLt).2.2.1 = scaleOutV (iblk m c 0 t) := by
    by_cases h0 : t.val % 7 = 0
    · exact scaleA m c t h0 h0 (by omega) (by omega) (by omega)
    · by_cases h1 : t.val % 7 = 1
      · exact scaleB m c t h0 h0 h1 (by omega) (by omega)
      · by_cases h2 : t.val % 7 = 2
        · exact scaleC m c t h0 h0 h1 h2 (by omega)
        · exact scaleD m c t h0 h0 h1 h2 (by omega)
  rw [e]
  exact (scaleOutV_at _ h r).trans (scaleQ_eq _ _ (batchOf t) (queryOf t r) r (fun z => blk0_at m c t r z) h)

theorem prev_kept (c : Dev nD) (t : Fin cfg0.N) (h0 : ¬t.val % 7 = 0) : Kept m c (batchOf t)
    (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2 := by
  have h := kept_all m c (t.val - 1) (Nat.lt_of_le_of_lt (Nat.sub_le _ _) t.isLt)
  have hb : batchOf ⟨t.val - 1, Nat.lt_of_le_of_lt (Nat.sub_le _ _) t.isLt⟩ = batchOf t := Fin.ext (by show (t.val - 1) / 7 = t.val / 7; omega)
  rw [hb] at h
  exact h

theorem out_pt (c : Dev nD) (hvs : ∀ b g j, 0 ≤ argVs m c b g j) (t : Fin cfg0.N) (r : Fin 128) (z : Fin 5120) :
    (outsAt0 m c t.val t.isLt).1 (ix3 0 r z)
      = sOut (argX m c) (argK m c) (argKs m c) (argV m c) (argVs m c) (argSk m c) (batchOf t) (headAt z) (queryOf t r) (laneAt z) := by
  have hX : ∀ z, iblk m c 0 t (ix3 0 r z) = argX m c (batchOf t) (queryOf t r) z := fun z => blk0_at m c t r z
  have h15 : ∀ h e, View.canon (Val := Elt Ideal) (e := .fp8e4m3) (keptL (iblk m c 0 t) 40) (ix2 (rowOf h r) e) = codeQ (iblk m c 0 t) r (rowOf h e) :=
    fun h e => kept_at _ h r e
  by_cases h0 : t.val % 7 = 0
  · refine (outA m c t h0 h0 (by omega) (by omega) (by omega) r z).trans ?_
    have K := kept_new m c t
    exact attRow_eq _ _ _ _ _ _ _ (batchOf t) (queryOf t r) r hX _ _ _ _ _ _ (fun h => blk5_at m c t h) K.keys K.vals K.keyScales K.valScales h15 hvs _ _ _ _
      (win_U _ (by omega) (by omega) _ _ (by show 128 * (t.val % 7) + (r : ℕ) = _; omega))
      (win_U _ (by omega) (by omega) _ _ (by show 128 * (t.val % 7) + (r : ℕ) = _; omega)) _ _
  · have K := prev_kept m c t h0
    by_cases h1 : t.val % 7 = 1
    · refine (outB m c t h0 h0 h1 (by omega) (by omega) r z).trans ?_
      exact attRow_eq _ _ _ _ _ _ _ (batchOf t) (queryOf t r) r hX _ _ _ _ _ _ (fun h => blk5_at m c t h) K.keys K.vals K.keyScales K.valScales h15 hvs _ _ _ _
        (win_U _ (by omega) (by omega) _ _ (by show 128 * (t.val % 7) + (r : ℕ) = _; omega))
        (win_U _ (by omega) (by omega) _ _ (by show 128 * (t.val % 7) + (r : ℕ) = _; omega)) _ _
    · by_cases h2 : t.val % 7 = 2
      · refine (outC m c t h0 h0 h1 h2 (by omega) r z).trans ?_
        exact attRow_eq _ _ _ _ _ _ _ (batchOf t) (queryOf t r) r hX _ _ _ _ _ _ (fun h => blk5_at m c t h) K.keys K.vals K.keyScales K.valScales h15 hvs _ _ _ _
          (win_U _ (by omega) (by omega) _ _ (by show 128 * (t.val % 7) + (r : ℕ) = _; omega))
          (win_U _ (by omega) (by omega) _ _ (by show 128 * (t.val % 7) + (r : ℕ) = _; omega)) _ _
      · refine (outD m c t h0 h0 h1 h2 (by omega) r z).trans ?_
        have hc := coord1 t
        exact attRow_eq _ _ _ _ _ _ _ (batchOf t) (queryOf t r) r hX _ _ _ _ _ _ (fun h => blk5_at m c t h) K.keys K.vals K.keyScales K.valScales h15 hvs _ _ _ _
          (win_M _ _ _ _ (by show 128 * (t.val % 7) + (r : ℕ) = _; omega))
          (win_M' _ _ _ _ (by show 128 * (t.val % 7) + (r : ℕ) = _; omega)) _ _

/-! ### The arrays -/

theorem idx_out : ∀ t : Fin cfg0.N, win0_6.index t = ![t.val / 7, t.val % 7, 0] ∧ win0_7.index t = ![t.val / 7, t.val % 7, 0]
    ∧ win0_8.index t = ![t.val / 7, 0, t.val % 7] := (by decide +kernel : ∀ t : Fin grid0.N, _)

theorem out_array (c : Dev nD) (hvs : ∀ b g j, 0 ≤ argVs m c b g j) : (dats m 0 c).arrAt 6 cfg0.N
    = fun i : S2x896x5120.Idx => sOut (argX m c) (argK m c) (argKs m c) (argV m c) (argVs m c) (argSk m c) (i 0) (headAt (i 2)) (i 1) (laneAt (i 2)) := by
  refine (dats m 0 c).arrAt_eq_of_covers 6 _ (by decide +kernel) fun t hf y => ?_
  blk_simp
  rw [after0_6]
  have hi := (idx_out t).1
  have hi0 := congrFun hi 0
  have hi1 := congrFun hi 1
  have hi2 := congrFun hi 2
  have hy0 : (y 0).val < 1 := (y 0).isLt
  have b0 : (((cfg0.win 6).blk t).view.emb y 0).val = win0_6.index t (0 : Fin 3) * 1 + 1 * (y 0).val := rfl
  have b1 : (((cfg0.win 6).blk t).view.emb y 1).val = win0_6.index t (1 : Fin 3) * 128 + 1 * (y 1).val := rfl
  have b2 : (((cfg0.win 6).blk t).view.emb y 2).val = win0_6.index t (2 : Fin 3) * 5120 + 1 * (y 2).val := rfl
  rw [hi0] at b0
  rw [hi1] at b1
  rw [hi2] at b2
  have e0 : ((cfg0.win 6).blk t).view.emb y 0 = batchOf t := Fin.ext (b0.trans (by show t.val / 7 * 1 + 1 * (y 0).val = t.val / 7; omega))
  have e1 : ((cfg0.win 6).blk t).view.emb y 1 = queryOf t (y 1) := Fin.ext (b1.trans (by show t.val % 7 * 128 + 1 * (y 1).val = 128 * (t.val % 7) + (y 1).val; omega))
  have e2 : ((cfg0.win 6).blk t).view.emb y 2 = (y 2 : Fin 5120) := Fin.ext (b2.trans (by show 0 * 5120 + 1 * (y 2).val = (y 2).val; omega))
  rw [e0, e1, e2]
  have hy : y = ix3 (n0 := 1) 0 (y 1) (y 2) := (ix3_eta (n0 := 1) y).symm.trans (by rw [show y 0 = (0 : Fin 1) from Fin.ext (by show (y 0).val = 0; omega)]; rfl)
  rw [hy]
  exact out_pt m c hvs t _ _

theorem codes_array (c : Dev nD) : (dats m 0 c).arrAt 7 cfg0.N
    = fun i : S2x896x5120.Idx => sCode (argX m c) (i 0) (headAt (i 2)) (i 1) (laneAt (i 2)) := by
  refine (dats m 0 c).arrAt_eq_of_covers 7 _ (by decide +kernel) fun t hf y => ?_
  blk_simp
  rw [after0_7]
  have hi := (idx_out t).2.1
  have hi0 := congrFun hi 0
  have hi1 := congrFun hi 1
  have hi2 := congrFun hi 2
  have hy0 : (y 0).val < 1 := (y 0).isLt
  have b0 : (((cfg0.win 7).blk t).view.emb y 0).val = win0_7.index t (0 : Fin 3) * 1 + 1 * (y 0).val := rfl
  have b1 : (((cfg0.win 7).blk t).view.emb y 1).val = win0_7.index t (1 : Fin 3) * 128 + 1 * (y 1).val := rfl
  have b2 : (((cfg0.win 7).blk t).view.emb y 2).val = win0_7.index t (2 : Fin 3) * 5120 + 1 * (y 2).val := rfl
  rw [hi0] at b0
  rw [hi1] at b1
  rw [hi2] at b2
  have e0 : ((cfg0.win 7).blk t).view.emb y 0 = batchOf t := Fin.ext (b0.trans (by show t.val / 7 * 1 + 1 * (y 0).val = t.val / 7; omega))
  have e1 : ((cfg0.win 7).blk t).view.emb y 1 = queryOf t (y 1) := Fin.ext (b1.trans (by show t.val % 7 * 128 + 1 * (y 1).val = 128 * (t.val % 7) + (y 1).val; omega))
  have e2 : ((cfg0.win 7).blk t).view.emb y 2 = (y 2 : Fin 5120) := Fin.ext (b2.trans (by show 0 * 5120 + 1 * (y 2).val = (y 2).val; omega))
  rw [e0, e1, e2]
  have hy : y = ix3 (n0 := 1) 0 (y 1) (y 2) := (ix3_eta (n0 := 1) y).symm.trans (by rw [show y 0 = (0 : Fin 1) from Fin.ext (by show (y 0).val = 0; omega)]; rfl)
  rw [hy]
  exact codes_pt m c t _ _

theorem scale_array (c : Dev nD) : (dats m 0 c).arrAt 8 cfg0.N
    = fun i : S2x40x896.Idx => sScale (argX m c) (i 0) (i 1) (i 2) := by
  refine (dats m 0 c).arrAt_eq_of_covers 8 _ (by decide +kernel) fun t hf y => ?_
  blk_simp
  rw [after0_8]
  have hi := (idx_out t).2.2
  have hi0 := congrFun hi 0
  have hi1 := congrFun hi 1
  have hi2 := congrFun hi 2
  have hy0 : (y 0).val < 1 := (y 0).isLt
  have b0 : (((cfg0.win 8).blk t).view.emb y 0).val = win0_8.index t (0 : Fin 3) * 1 + 1 * (y 0).val := rfl
  have b1 : (((cfg0.win 8).blk t).view.emb y 1).val = win0_8.index t (1 : Fin 3) * 40 + 1 * (y 1).val := rfl
  have b2 : (((cfg0.win 8).blk t).view.emb y 2).val = win0_8.index t (2 : Fin 3) * 128 + 1 * (y 2).val := rfl
  rw [hi0] at b0
  rw [hi1] at b1
  rw [hi2] at b2
  have e0 : ((cfg0.win 8).blk t).view.emb y 0 = batchOf t := Fin.ext (b0.trans (by show t.val / 7 * 1 + 1 * (y 0).val = t.val / 7; omega))
  have e1 : ((cfg0.win 8).blk t).view.emb y 1 = (y 1 : Fin 40) := Fin.ext (b1.trans (by show 0 * 40 + 1 * (y 1).val = (y 1).val; omega))
  have e2 : ((cfg0.win 8).blk t).view.emb y 2 = queryOf t (y 2) := Fin.ext (b2.trans (by show t.val % 7 * 128 + 1 * (y 2).val = 128 * (t.val % 7) + (y 2).val; omega))
  rw [e0, e1, e2]
  have hy : y = ix3 (n0 := 1) 0 (y 1) (y 2) := (ix3_eta (n0 := 1) y).symm.trans (by rw [show y 0 = (0 : Fin 1) from Fin.ext (by show (y 0).val = 0; omega)]; rfl)
  rw [hy]
  exact scale_pt m c t _ _

end Blocks

end Cert.KernelIdeal.Out

end
-- ==== Proof.Ref.lean ====
/- The reference's body on the arrays it is handed: the codes, the scales and the attention row by row. -/
module

public import proofs.«01_k».proof.Proof.Gen.ReferenceIdeal.Value
public import proofs.«01_k».proof.Proof.Spec
public import Idealize.ShloMosaic.Lib.Pipeline.ValueKit
public import Idealize.ShloMosaic.Lib.Pointwise

@[expose] public section

set_option maxRecDepth 16384

noncomputable section

namespace Cert.ReferenceIdeal.Out

open Cert.ReferenceIdeal Cert.ReferenceIdeal.Gen Cert.Pure Idealize.ShloMosaic Idealize.ShloMosaic.TcCoe Idealize.SL.Sem
open scoped BigOperators

/-- The row of batch element `b` and head `h` among all of them. -/
abbrev rowAt (b : Fin 2) (h : Fin 40) : Fin 80 := ⟨40 * (b : ℕ) + h, by omega⟩

/-! ### The queries, quantised -/

def topR (q : S2x40x896x128.Idx → EReal) (b : Fin 2) (h : Fin 40) (p : Fin 896) : EReal :=
  Finset.univ.sup fun e : Fin 128 => max (q (ix4 b h p e)) (-(q (ix4 b h p e)))

theorem ninf_eq : Ideal.ofBits .f32 0xFF800000#32 = ⊥ := by simp [Ideal.ofBits, Ideal.ieee]
theorem select_decide {α : Type} (P : Prop) [Decidable P] (x y : α) :
    Scalar.select (BitVec.ofBool (decide P)) x y = if P then x else y := by
  by_cases h : P <;> simp [Scalar.select, h]

theorem exp2_at (s : Shape) (E : FVec Ideal s .f32) (i : s.Idx) : exp2 E i = Ideal.exp2 (E i) := rfl
theorem select_at {α : Type} (s : Shape) (M : IVec s 1) (A B : s.Idx → α) (i : s.Idx) : select M A B i = Scalar.select (M i) (A i) (B i) := rfl

/-- The exponent of a magnitude, on an array of them. -/
def expE (s : Shape) (A : FVec Ideal s .f32) : FVec Ideal s .f32 :=
  select (cmpf .oeq A (broadcast s (Scalar.ofBits .f32 0x00000000#32))) (broadcast s (Scalar.ofBits .f32 0x00000000#32))
    (addf (floor (divf (log (mulf A (broadcast s (Scalar.ofBits .f32 0x3B124925#32)))) (broadcast s (Named.named κ "ln2" 0x3F317218#32))))
      (broadcast s (Scalar.ofBits .f32 0x3F800000#32)))
theorem expE_at (s : Shape) (A : FVec Ideal s .f32) (i : s.Idx) : expE s A i = rExp (A i) := by
  pointwise [expE, rExp]
  rfl

def topE (q : FVec Ideal S2x40x896x128 .f32) : FVec Ideal S2x40x896x1 .f32 :=
  shapeCast S2x40x896x1 (multiReduction .maximumf [3] S2x40x896 (absf q) 0xFF800000#32 reduces_S2x40x896x128_S2x40x896 (.inl rfl) rfl)
    shapeCasts_S2x40x896_S2x40x896x1
theorem topE_at (q : FVec Ideal S2x40x896x128 .f32) (b : Fin 2) (h : Fin 40) (p : Fin 896) :
    topE q (ix4 b h p 0) = topR q b h p := by
  pointwise [topE]
  rw [ninf_eq]
  rfl
theorem pay2_eq (q : FVec Ideal S2x40x896x128 .bf16) : k0_pay2 (F := Ideal) q = q := shapeCast_self q _
theorem pay3_eq (q : FVec Ideal S2x40x896x128 .bf16) : k0_pay3 (F := Ideal) q = expE S2x40x896x1 (topE (k0_pay2 (F := Ideal) q)) := rfl

def codeE (q : FVec Ideal S2x40x896x128 .f32) (E : FVec Ideal S2x40x896x1 .f32) : FVec Ideal S2x40x896x128 .fp8e4m3 :=
  truncf .fp8e4m3 (minimumf (broadcast S2x40x896x128 (Scalar.ofBits .f32 0x43E00000#32)) (maximumf (broadcast S2x40x896x128 (Scalar.ofBits .f32 0xC3E00000#32))
    (mulf q (broadcastTo S2x40x896x128 (exp2 (subf (broadcast S2x40x896x1 (Scalar.ofBits .f32 0x00000000#32)) E)) broadcasts_S2x40x896x1_S2x40x896x128)))) bitsLt_fp8e4m3_f32
theorem codeE_at (q : FVec Ideal S2x40x896x128 .f32) (E : FVec Ideal S2x40x896x1 .f32) (b : Fin 2) (h : Fin 40) (p : Fin 896) (e : Fin 128) :
    codeE q E (ix4 b h p e) = clip (q (ix4 b h p e) * Ideal.exp2 (-(E (ix4 b h p 0)))) := by
  rw [← zero_sub]
  pointwise [codeE, clip]
  rfl
theorem pay4_eq (q : FVec Ideal S2x40x896x128 .bf16) : k0_pay4 (F := Ideal) q = codeE (k0_pay2 (F := Ideal) q) (k0_pay3 (F := Ideal) q) := rfl

theorem exp_at (q : FVec Ideal S2x40x896x128 .bf16) (b : Fin 2) (h : Fin 40) (p : Fin 896) :
    k0_pay3 (F := Ideal) q (ix4 b h p 0) = rExp (topR q b h p) := by
  rw [pay3_eq, expE_at, topE_at, pay2_eq]
theorem code_at (q : FVec Ideal S2x40x896x128 .bf16) (b : Fin 2) (h : Fin 40) (p : Fin 896) (e : Fin 128) :
    k0_pay4 (F := Ideal) q (ix4 b h p e) = clip (q (ix4 b h p e) * rInv (topR q b h p)) := by
  rw [pay4_eq, codeE_at, exp_at, pay2_eq]
  rfl
theorem codes_at (q : FVec Ideal S2x40x896x128 .bf16) (b : Fin 2) (p : Fin 896) (z : Fin 5120) :
    k0_pay6 (F := Ideal) q (ix3 b p z) = k0_pay4 (F := Ideal) q (ix4 b (headAt z) p (laneAt z)) := by
  pointwise [k0_pay6]
theorem pay5_eq (q : FVec Ideal S2x40x896x128 .bf16) : k0_pay5 (F := Ideal) q = exp2 (k0_pay3 (F := Ideal) q) := rfl
theorem scale_at (q : FVec Ideal S2x40x896x128 .bf16) (b : Fin 2) (h : Fin 40) (p : Fin 896) :
    k0_pay5 (F := Ideal) q (ix4 b h p 0) = rScale (topR q b h p) := by
  rw [pay5_eq, exp2_at, exp_at]
  rfl
theorem dropQ_at (a : FVec Ideal S2x40x896x1 .f32) (b : Fin 2) (h : Fin 40) (p : Fin 896) :
    shapeCast S2x40x896 a shapeCasts_S2x40x896x1_S2x40x896 (ix3 b h p) = a (ix4 b h p 0) := by
  pointwise
theorem pay7_eq (q : FVec Ideal S2x40x896x128 .bf16) :
    k0_pay7 (F := Ideal) q = shapeCast S2x40x896 (k0_pay5 (F := Ideal) q) shapeCasts_S2x40x896x1_S2x40x896 := rfl
theorem scales_at (q : FVec Ideal S2x40x896x128 .bf16) (b : Fin 2) (h : Fin 40) (p : Fin 896) :
    k0_pay7 (F := Ideal) q (ix3 b h p) = rScale (topR q b h p) := by
  rw [pay7_eq, dropQ_at, scale_at]
theorem rows_at (q : FVec Ideal S2x40x896x128 .bf16) (b : Fin 2) (h : Fin 40) (p : Fin 896) (e : Fin 128) :
    k0_pay8 (F := Ideal) q (ix3 (rowAt b h) p e) = k0_pay4 (F := Ideal) q (ix4 b h p e) := by
  pointwise [k0_pay8]
  have e0 : (⟨(40 * (b : ℕ) + h) / 40, by omega⟩ : Fin 2) = b := Fin.ext (by show (40 * (b : ℕ) + h) / 40 = b; omega)
  have e1 : (⟨(40 * (b : ℕ) + h) % 40, by omega⟩ : Fin 40) = h := Fin.ext (by show (40 * (b : ℕ) + h) % 40 = h; omega)
  rw [e0, e1]

/-! ### The attention of one row -/

def rawE (c : FVec Ideal S80x896x128 .fp8e4m3) (K : FVec Ideal S80x128x896 .fp8e4m3) : FVec Ideal S80x896x896 .f32 :=
  matmul dot_S80x896x128_S80x128x896_S80x896x896_2_1_1_2_0_0 none c (shapeCast S80x128x896 K shapeCasts_S80x128x896_S80x128x896 : FVec Ideal S80x128x896 .fp8e4m3) (constant S80x896x896 .f32 0x00000000#32)
theorem rawE_at (c : FVec Ideal S80x896x128 .fp8e4m3) (K : FVec Ideal S80x128x896 .fp8e4m3) (i : Fin 80) (p j : Fin 896) :
    rawE c K (ix3 i p j) = ∑ e : Fin 128, c (ix3 i p e) * K (ix3 i e j) := by
  pointwise [rawE]
def scoreE (raw : FVec Ideal S80x896x896 .f32) (qs : FVec Ideal S2x40x896x1 .f32) (KS : FVec Ideal S80x1x896 .f32) : FVec Ideal S80x896x896 .f32 :=
  mulf (mulf raw (broadcastTo S80x896x896 (mulf (shapeCast S80x896x1 qs shapeCasts_S2x40x896x1_S80x896x1) (broadcast S80x896x1 (Named.named κ "score_scale" 0x3DB504F3#32))) broadcasts_S80x896x1_S80x896x896))
    (broadcastTo S80x896x896 (shapeCast S80x1x896 KS shapeCasts_S80x1x896_S80x1x896) broadcasts_S80x1x896_S80x896x896)
theorem scoreE_at (raw : FVec Ideal S80x896x896 .f32) (qs : FVec Ideal S2x40x896x1 .f32) (KS : FVec Ideal S80x1x896 .f32) (b : Fin 2) (h : Fin 40) (p j : Fin 896) :
    scoreE raw qs KS (ix3 (rowAt b h) p j) = raw (ix3 (rowAt b h) p j) * (qs (ix4 b h p 0) * SS) * KS (ix3 (rowAt b h) 0 j) := by
  pointwise [scoreE]
  rfl
def visE : IVec S80x896x896 1 :=
  andi (cmpi .sle (iota .tc S80x896x896 32 [2] iota_S80x896x896_d2_w32) (iota .tc S80x896x896 32 [1] iota_S80x896x896_d1_w32))
    (cmpi .sgt (iota .tc S80x896x896 32 [2] iota_S80x896x896_d2_w32) (subi (iota .tc S80x896x896 32 [1] iota_S80x896x896_d1_w32) (broadcast S80x896x896 384#32)))
theorem bit_decide {c : BitVec 1} {P : Prop} [Decidable P] (h : c = 1#1 ↔ P) : c = BitVec.ofBool (decide P) := by
  by_cases hp : P
  · rw [h.2 hp]; simp [hp]
  · have : c = 0#1 := by have h' := fun e => hp (h.1 e); clear h; revert h'; revert c; decide
    rw [this]; simp [hp]
theorem word_int (n : ℕ) (h : n < 1000) : (BitVec.ofNat 32 n).toInt = n := by
  have hn : (BitVec.ofNat 32 n).toNat = n := (BitVec.toNat_ofNat n 32).trans (Nat.mod_eq_of_lt (by omega))
  rw [BitVec.toInt_eq_toNat_of_lt (by rw [hn]; omega), hn]
theorem visE_at (i : Fin 80) (p j : Fin 896) : visE (ix3 i p j) = BitVec.ofBool (decide (seen p j)) := by
  pointwise [visE]
  have hp : (BitVec.ofNat 32 (p : ℕ)).toInt = (p : ℕ) := word_int _ (by have := p.isLt; omega)
  have hj : (BitVec.ofNat 32 (j : ℕ)).toInt = (j : ℕ) := word_int _ (by have := j.isLt; omega)
  have hd : (BitVec.ofNat 32 (p : ℕ) - 384#32).toInt = (p : ℕ) - 384 := by
    rw [BitVec.toInt_sub, hp]; have := p.isLt; exact Int.bmod_eq_of_le (by show -_ ≤ ((p : ℕ) : Int) - 384; omega) (by show ((p : ℕ) : Int) - 384 < _; omega)
  refine (bit_decide ((IntOp.andi_eq_one.trans (and_congr (IntOp.cmpi_sle (x := BitVec.ofNat 32 (j : ℕ)) (y := BitVec.ofNat 32 (p : ℕ)))
    (IntOp.cmpi_sgt (x := BitVec.ofNat 32 (j : ℕ)) (y := BitVec.ofNat 32 (p : ℕ) - 384#32)))).trans ?_))
  rw [hp, hj, hd]
  constructor <;> intro ⟨a, b⟩ <;> exact ⟨by omega, by omega⟩
theorem pay10_eq (qs : FVec Ideal S2x40x896x1 .f32) (c : FVec Ideal S80x896x128 .fp8e4m3) (K : FVec Ideal S80x128x896 .fp8e4m3) (KS : FVec Ideal S80x1x896 .f32) :
    k0_pay10 (F := Ideal) qs c K KS = select visE (scoreE (rawE c K) qs KS) (broadcast S80x896x896 (Scalar.ofBits .f32 0xFF800000#32)) := rfl

/-- The steps after the scores, each on whole arrays. -/
def rowMaxE (A : FVec Ideal S80x896x896 .f32) : FVec Ideal S80x896x1 .f32 :=
  shapeCast S80x896x1 (multiReduction .maximumf [2] S80x896 A 0xFF800000#32 reduces_S80x896x896_S80x896 (.inl rfl) rfl) shapeCasts_S80x896_S80x896x1
theorem rowMaxE_at (A : FVec Ideal S80x896x896 .f32) (i : Fin 80) (p : Fin 896) :
    rowMaxE A (ix3 i p 0) = Finset.univ.sup fun j : Fin 896 => A (ix3 i p j) := by
  pointwise [rowMaxE]
  rw [ninf_eq]
  rfl
def rowSumE (A : FVec Ideal S80x896x896 .f32) : FVec Ideal S80x896x1 .f32 :=
  shapeCast S80x896x1 (multiReduction .add [2] S80x896 A 0x00000000#32 reduces_S80x896x896_S80x896 (.inl rfl) rfl) shapeCasts_S80x896_S80x896x1
theorem rowSumE_at (A : FVec Ideal S80x896x896 .f32) (i : Fin 80) (p : Fin 896) :
    rowSumE A (ix3 i p 0) = ∑ j : Fin 896, A (ix3 i p j) := by
  pointwise [rowSumE]
def mE (R : FVec Ideal S80x896x1 .f32) (SK : FVec Ideal S80x1x1 .f32) : FVec Ideal S80x896x1 .f32 :=
  maximumf R (broadcastTo S80x896x1 SK broadcasts_S80x1x1_S80x896x1)
theorem mE_at (R : FVec Ideal S80x896x1 .f32) (SK : FVec Ideal S80x1x1 .f32) (i : Fin 80) (p : Fin 896) :
    mE R SK (ix3 i p 0) = max (R (ix3 i p 0)) (SK (ix3 i 0 0)) := by
  pointwise [mE]
def pE (S : FVec Ideal S80x896x896 .f32) (M : FVec Ideal S80x896x1 .f32) : FVec Ideal S80x896x896 .f32 :=
  exp (subf S (broadcastTo S80x896x896 M broadcasts_S80x896x1_S80x896x896))
theorem pE_at (S : FVec Ideal S80x896x896 .f32) (M : FVec Ideal S80x896x1 .f32) (i : Fin 80) (p j : Fin 896) :
    pE S M (ix3 i p j) = Ideal.exp (S (ix3 i p j) - M (ix3 i p 0)) := by
  pointwise [pE]
def lE (R : FVec Ideal S80x896x1 .f32) (SK : FVec Ideal S80x1x1 .f32) (M : FVec Ideal S80x896x1 .f32) : FVec Ideal S80x896x1 .f32 :=
  addf R (exp (subf (broadcastTo S80x896x1 SK broadcasts_S80x1x1_S80x896x1) M))
theorem lE_at (R : FVec Ideal S80x896x1 .f32) (SK : FVec Ideal S80x1x1 .f32) (M : FVec Ideal S80x896x1 .f32) (i : Fin 80) (p : Fin 896) :
    lE R SK M (ix3 i p 0) = R (ix3 i p 0) + Ideal.exp (SK (ix3 i 0 0) - M (ix3 i p 0)) := by
  pointwise [lE]
def wE (P : FVec Ideal S80x896x896 .f32) (VS : FVec Ideal S80x1x896 .f32) : FVec Ideal S80x896x896 .f32 :=
  mulf P (broadcastTo S80x896x896 (shapeCast S80x1x896 VS shapeCasts_S80x1x896_S80x1x896) broadcasts_S80x1x896_S80x896x896)
theorem wE_at (P : FVec Ideal S80x896x896 .f32) (VS : FVec Ideal S80x1x896 .f32) (i : Fin 80) (p j : Fin 896) :
    wE P VS (ix3 i p j) = P (ix3 i p j) * VS (ix3 i 0 j) := by
  pointwise [wE]
def aE (W : FVec Ideal S80x896x896 .f32) : FVec Ideal S80x896x1 .f32 := rowMaxE (absf W)
theorem aE_at (W : FVec Ideal S80x896x896 .f32) (i : Fin 80) (p : Fin 896) :
    aE W (ix3 i p 0) = Finset.univ.sup fun j : Fin 896 => max (W (ix3 i p j)) (-(W (ix3 i p j))) := by
  rw [aE, rowMaxE_at]
  rfl
def wcE (W : FVec Ideal S80x896x896 .f32) (E : FVec Ideal S80x896x1 .f32) : FVec Ideal S80x896x896 .fp8e4m3 :=
  truncf .fp8e4m3 (minimumf (broadcast S80x896x896 (Scalar.ofBits .f32 0x43E00000#32)) (maximumf (broadcast S80x896x896 (Scalar.ofBits .f32 0xC3E00000#32))
    (mulf W (broadcastTo S80x896x896 (exp2 (subf (broadcast S80x896x1 (Scalar.ofBits .f32 0x00000000#32)) E)) broadcasts_S80x896x1_S80x896x896)))) bitsLt_fp8e4m3_f32
theorem wcE_at (W : FVec Ideal S80x896x896 .f32) (E : FVec Ideal S80x896x1 .f32) (i : Fin 80) (p j : Fin 896) :
    wcE W E (ix3 i p j) = clip (W (ix3 i p j) * Ideal.exp2 (-(E (ix3 i p 0)))) := by
  rw [← zero_sub]
  pointwise [wcE, clip]
  rfl
def mixE (C : FVec Ideal S80x896x896 .fp8e4m3) (V : FVec Ideal S80x896x128 .fp8e4m3) (E l : FVec Ideal S80x896x1 .f32) : FVec Ideal S80x896x128 .bf16 :=
  truncf .bf16 (mulf (matmul dot_S80x896x896_S80x896x128_S80x896x128_2_1_1_2_0_0 none C (shapeCast S80x896x128 V shapeCasts_S80x896x128_S80x896x128 : FVec Ideal S80x896x128 .fp8e4m3) (constant S80x896x128 .f32 0x00000000#32))
    (broadcastTo S80x896x128 (divf (exp2 E) l) broadcasts_S80x896x1_S80x896x128)) bitsLt_bf16_f32
theorem mixE_at (C : FVec Ideal S80x896x896 .fp8e4m3) (V : FVec Ideal S80x896x128 .fp8e4m3) (E l : FVec Ideal S80x896x1 .f32) (i : Fin 80) (p : Fin 896) (e : Fin 128) :
    mixE C V E l (ix3 i p e) = (∑ j : Fin 896, C (ix3 i p j) * V (ix3 i j e)) * Ideal.div (Ideal.exp2 (E (ix3 i p 0))) (l (ix3 i p 0)) := by
  pointwise [mixE]
  rfl
def layE (o : FVec Ideal S80x896x128 .bf16) : FVec Ideal S2x896x5120 .bf16 :=
  shapeCast S2x896x5120 (transpose S2x896x40x128 [0, 2, 1, 3] (shapeCast S2x40x896x128 o shapeCasts_S80x896x128_S2x40x896x128)
    transposes_S2x40x896x128_p0_2_1_3_S2x896x40x128) shapeCasts_S2x896x40x128_S2x896x5120
theorem layE_at (o : FVec Ideal S80x896x128 .bf16) (b : Fin 2) (p : Fin 896) (z : Fin 5120) :
    layE o (ix3 b p z) = o (ix3 (rowAt b (headAt z)) p (laneAt z)) := by
  pointwise [layE]
  exact congrArg (fun i : Fin 80 => o (ix3 i p (laneAt z))) (Fin.ext (by show (b : ℕ) * 40 + (z : ℕ) / 128 = 40 * (b : ℕ) + (z : ℕ) / 128; omega))

section Row

variable (qs : FVec Ideal S2x40x896x1 .f32) (c : FVec Ideal S80x896x128 .fp8e4m3) (K : FVec Ideal S80x128x896 .fp8e4m3)
  (KS VS : FVec Ideal S80x1x896 .f32) (SK : FVec Ideal S80x1x1 .f32) (V : FVec Ideal S80x896x128 .fp8e4m3) (b : Fin 2) (h : Fin 40) (p : Fin 896)

abbrev dotR (j : Fin 896) : EReal := ∑ e : Fin 128, c (ix3 (rowAt b h) p e) * K (ix3 (rowAt b h) e j)
abbrev keyR (j : Fin 896) : EReal := KS (ix3 (rowAt b h) 0 j)
abbrev sinkR : EReal := SK (ix3 (rowAt b h) 0 0)

theorem pay10_at (j : Fin 896) : k0_pay10 (F := Ideal) qs c K KS (ix3 (rowAt b h) p j)
    = rS (dotR c K b h p) (keyR KS b h) (qs (ix4 b h p 0)) (seen p) j := by
  rw [pay10_eq, select_at, visE_at, select_decide, scoreE_at, rawE_at]
  show ite _ _ (Ideal.ofBits .f32 0xFF800000#32) = _
  rw [ninf_eq]
  rfl

theorem pay9_eq : k0_pay9 (F := Ideal) SK = SK := shapeCast_self SK _
theorem pay11_eq : k0_pay11 (F := Ideal) qs c K KS SK = mE (rowMaxE (k0_pay10 (F := Ideal) qs c K KS)) (k0_pay9 (F := Ideal) SK) := rfl
theorem pay11_at : k0_pay11 (F := Ideal) qs c K KS SK (ix3 (rowAt b h) p 0)
    = rM (dotR c K b h p) (keyR KS b h) (qs (ix4 b h p 0)) (sinkR SK b h) (seen p) := by
  rw [pay11_eq, mE_at, rowMaxE_at, pay9_eq]
  exact congrArg (fun f : Fin 896 → EReal => max (Finset.univ.sup f) (SK (ix3 (rowAt b h) 0 0))) (funext fun j => pay10_at qs c K KS b h p j)
theorem pay12_eq : k0_pay12 (F := Ideal) qs c K KS SK = pE (k0_pay10 (F := Ideal) qs c K KS) (k0_pay11 (F := Ideal) qs c K KS SK) := rfl
theorem pay12_at (j : Fin 896) : k0_pay12 (F := Ideal) qs c K KS SK (ix3 (rowAt b h) p j)
    = rP (dotR c K b h p) (keyR KS b h) (qs (ix4 b h p 0)) (sinkR SK b h) (seen p) j := by
  rw [pay12_eq, pE_at, pay10_at, pay11_at]
  rfl
theorem pay13_eq : k0_pay13 (F := Ideal) qs c K KS SK = lE (rowSumE (k0_pay12 (F := Ideal) qs c K KS SK)) (k0_pay9 (F := Ideal) SK) (k0_pay11 (F := Ideal) qs c K KS SK) := rfl
theorem pay13_at : k0_pay13 (F := Ideal) qs c K KS SK (ix3 (rowAt b h) p 0)
    = rL (dotR c K b h p) (keyR KS b h) (qs (ix4 b h p 0)) (sinkR SK b h) (seen p) := by
  rw [pay13_eq, lE_at, rowSumE_at, pay9_eq, pay11_at, Finset.sum_congr rfl fun j _ => pay12_at qs c K KS SK b h p j]
  rfl
theorem pay14_eq : k0_pay14 (F := Ideal) qs c K KS SK VS = wE (k0_pay12 (F := Ideal) qs c K KS SK) VS := rfl
theorem pay14_at (j : Fin 896) : k0_pay14 (F := Ideal) qs c K KS SK VS (ix3 (rowAt b h) p j)
    = rW (dotR c K b h p) (keyR KS b h) (keyR VS b h) (qs (ix4 b h p 0)) (sinkR SK b h) (seen p) j := by
  rw [pay14_eq, wE_at, pay12_at]
  rfl
theorem pay15_eq : k0_pay15 (F := Ideal) qs c K KS SK VS = aE (k0_pay14 (F := Ideal) qs c K KS SK VS) := rfl
theorem pay15_at : k0_pay15 (F := Ideal) qs c K KS SK VS (ix3 (rowAt b h) p 0)
    = rA (dotR c K b h p) (keyR KS b h) (keyR VS b h) (qs (ix4 b h p 0)) (sinkR SK b h) (seen p) := by
  rw [pay15_eq, aE_at]
  exact congrArg (fun f : Fin 896 → EReal => Finset.univ.sup f) (funext fun j => by rw [pay14_at])

theorem pay1_eq (l : FVec Ideal S80x896x1 .f32) (w : FVec Ideal S80x896x896 .f32) (a : FVec Ideal S80x896x1 .f32) :
    k0_pay1 (F := Ideal) l w a (k0_pay16 (F := Ideal)) V = layE (mixE (wcE w (expE S80x896x1 a)) V (expE S80x896x1 a) l) := rfl

theorem out_at (z : Fin 5120) :
    k0_pay1 (F := Ideal) (k0_pay13 (F := Ideal) qs c K KS SK) (k0_pay14 (F := Ideal) qs c K KS SK VS) (k0_pay15 (F := Ideal) qs c K KS SK VS) (k0_pay16 (F := Ideal)) V (ix3 b p z)
      = rOut (dotR c K b (headAt z) p) (keyR KS b (headAt z)) (keyR VS b (headAt z)) (fun j => V (ix3 (rowAt b (headAt z)) j (laneAt z)))
          (qs (ix4 b (headAt z) p 0)) (sinkR SK b (headAt z)) (seen p) := by
  rw [pay1_eq, layE_at, mixE_at, expE_at, pay13_at, pay15_at]
  refine congrArg₂ (fun x y : EReal => x * y) (Finset.sum_congr rfl fun j _ => ?_) rfl
  rw [wcE_at, expE_at, pay14_at, pay15_at]
  rfl

end Row

end Cert.ReferenceIdeal.Out

end
-- ==== Proof.RefArg.lean ====
/- The three arrays the reference leaves, as the plain functions of the arguments. -/
module

public import proofs.«01_k».proof.Proof.Ref

@[expose] public section

set_option maxRecDepth 16384

noncomputable section

namespace Cert.ReferenceIdeal.Out

open Cert.ReferenceIdeal Cert.ReferenceIdeal.Gen Cert.Pure Idealize.ShloMosaic Idealize.ShloMosaic.TcCoe Idealize.SL.Sem
open scoped BigOperators

variable (m : (ℓ : Loc nD τ sig) → Buf (Elt Ideal) ℓ) (c : Dev nD)

/-- The six arguments as plain functions. -/
abbrev argX (b : Fin 2) (p : Fin 896) (z : Fin 5120) : EReal := m ((c : Thread nD τ).loc main_arg0) (ix3 b p z)
abbrev argK (b : Fin 2) (g : Fin 8) (e : Fin 128) (j : Fin 896) : EReal := m ((c : Thread nD τ).loc main_arg1) (ix4 b g e j)
abbrev argKs (b : Fin 2) (g : Fin 8) (j : Fin 896) : EReal := m ((c : Thread nD τ).loc main_arg2) (ix3 b g j)
abbrev argV (b : Fin 2) (g : Fin 8) (j : Fin 896) (d : Fin 128) : EReal := m ((c : Thread nD τ).loc main_arg3) (ix4 b g j d)
abbrev argVs (b : Fin 2) (g : Fin 8) (j : Fin 896) : EReal := m ((c : Thread nD τ).loc main_arg4) (ix3 b g j)
abbrev argSk (h : Fin 40) : EReal := m ((c : Thread nD τ).loc main_arg5) (ix1 h)

theorem idx_in : ∀ t : Fin cfg0.N, win0_0.index t = ![0, 0, 0, 0] ∧ win0_1.index t = ![0, 0, 0] ∧ win0_2.index t = ![0, 0, 0]
    ∧ win0_3.index t = ![0, 0, 0] ∧ win0_4.index t = ![0, 0, 0] ∧ win0_5.index t = ![0, 0, 0] := (by decide +kernel : ∀ t : Fin grid0.N, _)

theorem blk0_at (b : Fin 2) (h : Fin 40) (p : Fin 896) (e : Fin 128) : iblk m c 0 t0_0 (ix4 b h p e) = argX m c b p (laneOf h e) := by
  have hv : iblk m c 0 t0_0 (ix4 b h p e) = V m c main_v1 (ix4 b h p e) := by blk_ext [iblk, idx_in t0_0]
  rw [hv]
  entry_read
  pointwise
  blk_ext
theorem blk1_at (b : Fin 2) (h : Fin 40) (e : Fin 128) (j : Fin 896) : iblk m c 1 t0_0 (ix3 (rowAt b h) e j) = argK m c b (groupOf h) e j := by
  have hv : iblk m c 1 t0_0 (ix3 (rowAt b h) e j) = V m c main_v4 (ix3 (rowAt b h) e j) := by blk_ext [iblk, idx_in t0_0]
  rw [hv]
  entry_read
  pointwise
  blk_ext
theorem blk2_at (b : Fin 2) (h : Fin 40) (j : Fin 896) : iblk m c 2 t0_0 (ix3 (rowAt b h) 0 j) = argKs m c b (groupOf h) j := by
  have hv : iblk m c 2 t0_0 (ix3 (rowAt b h) 0 j) = V m c main_v7 (ix3 (rowAt b h) 0 j) := by blk_ext [iblk, idx_in t0_0]
  rw [hv]
  entry_read
  pointwise
  blk_ext
theorem blk3_at (b : Fin 2) (h : Fin 40) (j : Fin 896) (d : Fin 128) : iblk m c 3 t0_0 (ix3 (rowAt b h) j d) = argV m c b (groupOf h) j d := by
  have hv : iblk m c 3 t0_0 (ix3 (rowAt b h) j d) = V m c main_v10 (ix3 (rowAt b h) j d) := by blk_ext [iblk, idx_in t0_0]
  rw [hv]
  entry_read
  pointwise
  blk_ext
theorem blk4_at (b : Fin 2) (h : Fin 40) (j : Fin 896) : iblk m c 4 t0_0 (ix3 (rowAt b h) 0 j) = argVs m c b (groupOf h) j := by
  have hv : iblk m c 4 t0_0 (ix3 (rowAt b h) 0 j) = V m c main_v13 (ix3 (rowAt b h) 0 j) := by blk_ext [iblk, idx_in t0_0]
  rw [hv]
  entry_read
  pointwise
  blk_ext
theorem blk5_at (b : Fin 2) (h : Fin 40) : iblk m c 5 t0_0 (ix3 (rowAt b h) 0 0) = argSk m c h := by
  have hv : iblk m c 5 t0_0 (ix3 (rowAt b h) 0 0) = V m c main_v16 (ix3 (rowAt b h) 0 0) := by blk_ext [iblk, idx_in t0_0]
  rw [hv]
  entry_read
  pointwise
  blk_ext

end Cert.ReferenceIdeal.Out

end
-- ==== Proof.RefOut.lean ====
/- The three arrays the reference leaves, as the plain functions of the arguments. -/
module

public import proofs.«01_k».proof.Proof.RefArg

@[expose] public section

set_option maxRecDepth 16384

noncomputable section

namespace Cert.ReferenceIdeal.Out

open Cert.ReferenceIdeal Cert.ReferenceIdeal.Gen Cert.Pure Idealize.ShloMosaic Idealize.ShloMosaic.TcCoe Idealize.SL.Sem
open scoped BigOperators

section Body

variable (x0 : Vec Ideal S2x40x896x128 .bf16) (x1 : Vec Ideal S80x128x896 .fp8e4m3) (x2 : Vec Ideal S80x1x896 .f32)
  (x3 : Vec Ideal S80x896x128 .fp8e4m3) (x4 : Vec Ideal S80x1x896 .f32) (x5 : Vec Ideal S80x1x1 .f32)

theorem out7_eq : out0_7 (F := Ideal) x0 x1 x2 x3 x4 x5 = k0_pay6 (F := Ideal) x0 := by
  unfold out0_7
  rw [View.canon_cons_unit_zero (View.eq_zero_of_forall (by decide)), View.ld_unit_zero (View.eq_zero_of_forall (by decide))]
theorem out8_eq : out0_8 (F := Ideal) x0 x1 x2 x3 x4 x5 = k0_pay7 (F := Ideal) x0 := by
  unfold out0_8
  rw [View.canon_cons_unit_zero (View.eq_zero_of_forall (by decide)), View.ld_unit_zero (View.eq_zero_of_forall (by decide))]
theorem out6_eq : out0_6 (F := Ideal) x0 x1 x2 x3 x4 x5
    = k0_pay1 (F := Ideal) (k0_pay13 (F := Ideal) (k0_pay5 (F := Ideal) x0) (k0_pay8 (F := Ideal) x0) x1 x2 x5)
        (k0_pay14 (F := Ideal) (k0_pay5 (F := Ideal) x0) (k0_pay8 (F := Ideal) x0) x1 x2 x5 x4)
        (k0_pay15 (F := Ideal) (k0_pay5 (F := Ideal) x0) (k0_pay8 (F := Ideal) x0) x1 x2 x5 x4) (k0_pay16 (F := Ideal)) x3 := by
  unfold out0_6 k0_pay17 k0_pay18
  rw [View.canon_cons_unit_zero (View.eq_zero_of_forall (by decide)), View.ld_unit_zero (X := x0) (View.eq_zero_of_forall (by decide)),
    View.ld_unit_zero (X := x1) (View.eq_zero_of_forall (by decide)), View.ld_unit_zero (X := x2) (View.eq_zero_of_forall (by decide)),
    View.ld_unit_zero (X := x3) (View.eq_zero_of_forall (by decide)), View.ld_unit_zero (X := x4) (View.eq_zero_of_forall (by decide)),
    View.ld_unit_zero (X := x5) (View.eq_zero_of_forall (by decide))]

end Body

variable (m : (ℓ : Loc nD τ sig) → Buf (Elt Ideal) ℓ) (c : Dev nD)

theorem top_pt (b : Fin 2) (h : Fin 40) (p : Fin 896) : topR (iblk m c 0 t0_0) b h p = sTop (argX m c) b h p :=
  Finset.sup_congr rfl fun e _ => by rw [blk0_at]
theorem code_pt (b : Fin 2) (h : Fin 40) (p : Fin 896) (e : Fin 128) :
    k0_pay4 (F := Ideal) (iblk m c 0 t0_0) (ix4 b h p e) = sCode (argX m c) b h p e := by
  rw [code_at, top_pt, blk0_at]
  rfl
theorem codes_pt (b : Fin 2) (p : Fin 896) (z : Fin 5120) :
    k0_pay6 (F := Ideal) (iblk m c 0 t0_0) (ix3 b p z) = sCode (argX m c) b (headAt z) p (laneAt z) := by
  rw [codes_at, code_pt]
theorem scales_pt (b : Fin 2) (h : Fin 40) (p : Fin 896) :
    k0_pay7 (F := Ideal) (iblk m c 0 t0_0) (ix3 b h p) = sScale (argX m c) b h p := by
  rw [scales_at, top_pt]
  rfl
theorem out_pt (b : Fin 2) (p : Fin 896) (z : Fin 5120) :
    out0_6 (F := Ideal) (iblk m c 0 t0_0) (iblk m c 1 t0_0) (iblk m c 2 t0_0) (iblk m c 3 t0_0) (iblk m c 4 t0_0) (iblk m c 5 t0_0) (ix3 b p z)
      = sOut (argX m c) (argK m c) (argKs m c) (argV m c) (argVs m c) (argSk m c) b (headAt z) p (laneAt z) := by
  rw [out6_eq, out_at]
  have hd : dotR (k0_pay8 (F := Ideal) (iblk m c 0 t0_0)) (iblk m c 1 t0_0) b (headAt z) p
      = fun j => ∑ e, sCode (argX m c) b (headAt z) p e * argK m c b (groupOf (headAt z)) e j :=
    funext fun j => Finset.sum_congr rfl fun e _ => by rw [rows_at, code_pt, blk1_at]
  have hk : keyR (iblk m c 2 t0_0) b (headAt z) = fun j => argKs m c b (groupOf (headAt z)) j := funext fun j => blk2_at m c b (headAt z) j
  have hv : keyR (iblk m c 4 t0_0) b (headAt z) = fun j => argVs m c b (groupOf (headAt z)) j := funext fun j => blk4_at m c b (headAt z) j
  have hw : (fun j => iblk m c 3 t0_0 (ix3 (rowAt b (headAt z)) j (laneAt z))) = fun j => argV m c b (groupOf (headAt z)) j (laneAt z) :=
    funext fun j => blk3_at m c b (headAt z) j (laneAt z)
  have hq : k0_pay5 (F := Ideal) (iblk m c 0 t0_0) (ix4 b (headAt z) p 0) = sScale (argX m c) b (headAt z) p := by
    rw [scale_at, top_pt]
    rfl
  have hs : sinkR (iblk m c 5 t0_0) b (headAt z) = argSk m c (headAt z) := blk5_at m c b (headAt z)
  rw [hd, hk, hv, hw, hq, hs]
  rfl

theorem ix3_exists {n0 n1 n2 : ℕ} (y : (⟨3, ![n0, n1, n2]⟩ : Shape).Idx) : ∃ a b d, y = ix3 a b d :=
  ⟨y 0, y 1, y 2, (ix3_eta y).symm⟩

theorem out_array : (dats m 0 c).arrAt 6 cfg0.N
    = fun i : S2x896x5120.Idx => sOut (argX m c) (argK m c) (argKs m c) (argV m c) (argVs m c) (argSk m c) (i 0) (headAt (i 2)) (i 1) (laneAt (i 2)) := by
  refine (dats m 0 c).arrAt_eq_of_after_last 6 t0_0 (by decide +kernel) _ fun j => ?_
  blk_simp
  rw [after0_6]
  obtain ⟨b, p, z, rfl⟩ := ix3_exists (n0 := 2) (n1 := 896) (n2 := 5120) j
  exact out_pt m c b p z

theorem codes_array : (dats m 0 c).arrAt 7 cfg0.N
    = fun i : S2x896x5120.Idx => sCode (argX m c) (i 0) (headAt (i 2)) (i 1) (laneAt (i 2)) := by
  refine (dats m 0 c).arrAt_eq_of_after_last 7 t0_0 (by decide +kernel) _ fun j => ?_
  blk_simp
  rw [after0_7, out7_eq]
  obtain ⟨b, p, z, rfl⟩ := ix3_exists (n0 := 2) (n1 := 896) (n2 := 5120) j
  exact codes_pt m c b p z

theorem scale_array : (dats m 0 c).arrAt 8 cfg0.N
    = fun i : S2x40x896.Idx => sScale (argX m c) (i 0) (i 1) (i 2) := by
  refine (dats m 0 c).arrAt_eq_of_after_last 8 t0_0 (by decide +kernel) _ fun j => ?_
  blk_simp
  rw [after0_8, out8_eq]
  obtain ⟨b, h, p, rfl⟩ := ix3_exists (n0 := 2) (n1 := 40) (n2 := 896) j
  exact scales_pt m c b h p

end Cert.ReferenceIdeal.Out

end
-- ==== Proof.lean ====
/- The proof of the certificate's claims: the frames and the named constants of the four programs, and the equality of the
   kernel's three results with the reference's. Both sides are the same plain functions of the six arguments
   (`Cert.Pure.sOut`, `sCode`, `sScale`): Proof/Final.lean says so of the kernel, Proof/RefOut.lean of the reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_scales_nonneg
public import proofs.«01_k».proof.Proof.Final
public import proofs.«01_k».proof.Proof.RefOut
public import Idealize.ShloMosaic.Adequacy
public import Idealize.ShloMosaic.Init

@[expose] public section

noncomputable section

namespace Cert.Proof

open Idealize.ShloMosaic Idealize.SL.Sem Cert.Kernel

/-- The precondition read at one element: a scale of the values is not negative. -/
theorem scale_nonneg (m : (ℓ : Loc Cert.KernelIdeal.nD Cert.KernelIdeal.τ Cert.KernelIdeal.sig) → Buf (Elt Ideal) ℓ)
    (h : Cert.Pre_KernelIdeal_scales_nonneg (hPre_scales_nonneg := Cert.Pre_scales_nonneg.Gen.facts) m) (c : Dev Cert.KernelIdeal.nD)
    (b : Fin 2) (g : Fin 8) (j : Fin 896) : 0 ≤ Cert.KernelIdeal.Out.argVs m c b g j := by
  have hb := congrFun (h c) (ix3 b g j)
  have hb' : BitVec.ofBool (decide (Ideal.ofBits .f32 0x00000000#32 ≤ Cert.KernelIdeal.Out.argVs m c b g j)) = 1#1 := hb
  have h0 : Ideal.ofBits .f32 0x00000000#32 = 0 := by simp [Ideal.ofBits, Ideal.ieee]
  rw [h0] at hb'
  by_contra hn
  rw [decide_eq_false hn] at hb'
  exact absurd hb' (by decide)

theorem algebraic : Cert.algebraic_KernelIdeal_ReferenceIdeal_pre_scales_nonneg (hKernelIdeal := Cert.KernelIdeal.Gen.facts)
    (hReferenceIdeal := Cert.ReferenceIdeal.Gen.facts) (hPre_scales_nonneg := Cert.Pre_scales_nonneg.Gen.facts) := by
  intro m g m' g' hpre hargs
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, ?_, ?_⟩
  · refine (θ_run _ _ _).mono (fun r h c => ?_) (Cert.KernelIdeal.Value.run (F := Ideal) m g)
    obtain ⟨h0, h1, h2, hk⟩ := h c
    exact ⟨h0.trans (Cert.KernelIdeal.Value.final6 m c).symm, h1.trans (Cert.KernelIdeal.Value.final7 m c).symm,
      h2.trans (Cert.KernelIdeal.Value.final8 m c).symm, hk⟩
  · refine (θ_run _ _ _).mono (fun r h c => ?_) (Cert.ReferenceIdeal.Value.run_blocks (F := Ideal) m' g')
    obtain ⟨h0, h1, h2, hk⟩ := h c
    obtain ⟨a0, a1, a2, a3, a4, a5⟩ := hargs c
    have e0 : Cert.ReferenceIdeal.Out.argX m' c = Cert.KernelIdeal.Out.argX m c := funext fun b => funext fun p => funext fun z => congrFun a0 (ix3 b p z)
    have e1 : Cert.ReferenceIdeal.Out.argK m' c = Cert.KernelIdeal.Out.argK m c :=
      funext fun b => funext fun q => funext fun e => funext fun j => congrFun a1 (ix4 b q e j)
    have e2 : Cert.ReferenceIdeal.Out.argKs m' c = Cert.KernelIdeal.Out.argKs m c := funext fun b => funext fun q => funext fun j => congrFun a2 (ix3 b q j)
    have e3 : Cert.ReferenceIdeal.Out.argV m' c = Cert.KernelIdeal.Out.argV m c :=
      funext fun b => funext fun q => funext fun j => funext fun d => congrFun a3 (ix4 b q j d)
    have e4 : Cert.ReferenceIdeal.Out.argVs m' c = Cert.KernelIdeal.Out.argVs m c := funext fun b => funext fun q => funext fun j => congrFun a4 (ix3 b q j)
    have e5 : Cert.ReferenceIdeal.Out.argSk m' c = Cert.KernelIdeal.Out.argSk m c := funext fun q => congrFun a5 (ix1 q)
    refine ⟨h0.trans ?_, h1.trans ?_, h2.trans ?_, hk⟩
    · refine (Cert.ReferenceIdeal.Out.out_array m' c).trans (Eq.trans ?_ (Cert.KernelIdeal.Out.out_array m c (scale_nonneg m hpre c)).symm)
      rw [e0, e1, e2, e3, e4, e5]
    · refine (Cert.ReferenceIdeal.Out.codes_array m' c).trans (Eq.trans ?_ (Cert.KernelIdeal.Out.codes_array m c).symm)
      rw [e0]
    · refine (Cert.ReferenceIdeal.Out.scale_array m' c).trans (Eq.trans ?_ (Cert.KernelIdeal.Out.scale_array m c).symm)
      rw [e0]

theorem claim : Cert.Claim := ⟨Cert.Kernel.Gen.facts, Cert.KernelIdeal.Gen.facts, Cert.ReferenceIdeal.Gen.facts, Cert.Reference.Gen.facts, Cert.Pre_scales_nonneg.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, fun m ρ _ => Cert.Reference.Gen.frame m ρ,
  ⟨IdealRules.named_const.statement Cert.KernelIdeal.κ "log2e" .f32 0x3FB8AA3B#32 _ rfl,
    IdealRules.named_const.statement Cert.KernelIdeal.κ "score_log2e" .f32 0x3E0293EE#32 _ rfl⟩,
  ⟨IdealRules.named_const.statement Cert.ReferenceIdeal.κ "ln2" .f32 0x3F317218#32 _ rfl,
    IdealRules.named_const.statement Cert.ReferenceIdeal.κ "score_scale" .f32 0x3DB504F3#32 _ rfl⟩, algebraic⟩

end Cert.Proof

end
